-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_padded [hPre_padded : Cert.Pre_padded.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_padded.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_padded [hPre_padded : Cert.Pre_padded.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_padded.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Kernel4Ideal_pre_padded [hKernel4Ideal : Cert.Kernel4Ideal.Facts] [hPre_padded : Cert.Pre_padded.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_padded m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Reference4Ideal_pre_padded [hReference4Ideal : Cert.Reference4Ideal.Facts] [hPre_padded : Cert.Pre_padded.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_padded m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_on_tokens_pre_finite [hKernelIdeal : Cert.KernelIdeal.Facts] [hReferenceIdeal : Cert.ReferenceIdeal.Facts] [hPre_finite : Cert.Pre_finite.Facts] [hOn_tokens : Cert.On_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![8, 4224, 1024]⟩ : Shape).Idx, (Cert.On_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.KernelIdeal.nD Cert.KernelIdeal.τ).loc Cert.KernelIdeal.main_v8) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![8, 4224, 1024]⟩ : Shape).Idx, (Cert.On_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.ReferenceIdeal.nD Cert.ReferenceIdeal.τ).loc Cert.ReferenceIdeal.main_v57) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  IdealRules.named_const.Statement Cert.Kernel3Ideal.κ "q_scale" .f32 0x3E38AA3B#32 (((Real.log 256)⁻¹ : ℝ) : EReal)

def algebraic_Kernel3Ideal_Reference3Ideal_on_tokens3 [hKernel3Ideal : Cert.Kernel3Ideal.Facts] [hReference3Ideal : Cert.Reference3Ideal.Facts] [hOn_tokens3 : Cert.On_tokens3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v73_0)) (v1 : (c : Dev Cert.Kernel3Ideal.nD) → Buf (Elt Ideal) ((c.tc : Thread Cert.Kernel3Ideal.nD Cert.Kernel3Ideal.τ).loc Cert.Kernel3Ideal.main_v73_1)) (v2 : (c : Dev Cert.Kernel3Ideal.nD) → Buf (Elt Ideal) ((c.tc : Thread Cert.Kernel3Ideal.nD Cert.Kernel3Ideal.τ).loc Cert.Kernel3Ideal.main_v73_2)) (v3 : (c : Dev Cert.Kernel3Ideal.nD) → Buf (Elt Ideal) ((c.tc : Thread Cert.Kernel3Ideal.nD Cert.Kernel3Ideal.τ).loc Cert.Kernel3Ideal.main_v73_3)) (v4 : (c : Dev Cert.Kernel3Ideal.nD) → Buf (Elt Ideal) ((c.tc : Thread Cert.Kernel3Ideal.nD Cert.Kernel3Ideal.τ).loc Cert.Kernel3Ideal.main_v73_4)) (v5 : (c : Dev Cert.Kernel3Ideal.nD) → Buf (Elt Ideal) ((c.tc : Thread Cert.Kernel3Ideal.nD Cert.Kernel3Ideal.τ).loc Cert.Kernel3Ideal.main_v73_5)) (v6 : (c : Dev Cert.Kernel3Ideal.nD) → Buf (Elt Ideal) ((c.tc : Thread Cert.Kernel3Ideal.nD Cert.Kernel3Ideal.τ).loc Cert.Kernel3Ideal.main_v73_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨3, ![8, 4224, 1024]⟩ : Shape).Idx, (Cert.On_tokens3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 i = 1#1 → r.2.mem ((c.tc : Thread Cert.Kernel3Ideal.nD Cert.Kernel3Ideal.τ).loc Cert.Kernel3Ideal.main_v73_0) i = v0 c i)
          ∧ (∀ i : (⟨3, ![8, 4224, 256]⟩ : Shape).Idx, (Cert.On_tokens3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 i = 1#1 → r.2.mem ((c.tc : Thread Cert.Kernel3Ideal.nD Cert.Kernel3Ideal.τ).loc Cert.Kernel3Ideal.main_v73_1) i = v1 c i)
          ∧ (∀ i : (⟨3, ![8, 4224, 256]⟩ : Shape).Idx, (Cert.On_tokens3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 i = 1#1 → r.2.mem ((c.tc : Thread Cert.Kernel3Ideal.nD Cert.Kernel3Ideal.τ).loc Cert.Kernel3Ideal.main_v73_2) i = v2 c i)
          ∧ (∀ i : (⟨3, ![8, 4224, 1024]⟩ : Shape).Idx, (Cert.On_tokens3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.1 i = 1#1 → r.2.mem ((c.tc : Thread Cert.Kernel3Ideal.nD Cert.Kernel3Ideal.τ).loc Cert.Kernel3Ideal.main_v73_3) i = v3 c i)
          ∧ (∀ i : (⟨3, ![8, 4224, 1024]⟩ : Shape).Idx, (Cert.On_tokens3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.1 i = 1#1 → r.2.mem ((c.tc : Thread Cert.Kernel3Ideal.nD Cert.Kernel3Ideal.τ).loc Cert.Kernel3Ideal.main_v73_4) i = v4 c i)
          ∧ (∀ i : (⟨3, ![8, 4224, 1024]⟩ : Shape).Idx, (Cert.On_tokens3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.2.1 i = 1#1 → r.2.mem ((c.tc : Thread Cert.Kernel3Ideal.nD Cert.Kernel3Ideal.τ).loc Cert.Kernel3Ideal.main_v73_5) i = v5 c i)
          ∧ (∀ i : (⟨3, ![8, 4224, 1024]⟩ : Shape).Idx, (Cert.On_tokens3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.2.2 i = 1#1 → r.2.mem ((c.tc : Thread Cert.Kernel3Ideal.nD Cert.Kernel3Ideal.τ).loc Cert.Kernel3Ideal.main_v73_6) i = v6 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨3, ![8, 4224, 1024]⟩ : Shape).Idx, (Cert.On_tokens3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 i = 1#1 → r.2.mem ((c.tc : Thread Cert.Reference3Ideal.nD Cert.Reference3Ideal.τ).loc Cert.Reference3Ideal.main_v137) i = v0 c i)
          ∧ (∀ i : (⟨3, ![8, 4224, 256]⟩ : Shape).Idx, (Cert.On_tokens3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 i = 1#1 → r.2.mem ((c.tc : Thread Cert.Reference3Ideal.nD Cert.Reference3Ideal.τ).loc Cert.Reference3Ideal.main_v142) i = v1 c i)
          ∧ (∀ i : (⟨3, ![8, 4224, 256]⟩ : Shape).Idx, (Cert.On_tokens3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 i = 1#1 → r.2.mem ((c.tc : Thread Cert.Reference3Ideal.nD Cert.Reference3Ideal.τ).loc Cert.Reference3Ideal.main_v147) i = v2 c i)
          ∧ (∀ i : (⟨3, ![8, 4224, 1024]⟩ : Shape).Idx, (Cert.On_tokens3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.1 i = 1#1 → r.2.mem ((c.tc : Thread Cert.Reference3Ideal.nD Cert.Reference3Ideal.τ).loc Cert.Reference3Ideal.main_v152) i = v3 c i)
          ∧ (∀ i : (⟨3, ![8, 4224, 1024]⟩ : Shape).Idx, (Cert.On_tokens3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.1 i = 1#1 → r.2.mem ((c.tc : Thread Cert.Reference3Ideal.nD Cert.Reference3Ideal.τ).loc Cert.Reference3Ideal.main_v157) i = v4 c i)
          ∧ (∀ i : (⟨3, ![8, 4224, 1024]⟩ : Shape).Idx, (Cert.On_tokens3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.2.1 i = 1#1 → r.2.mem ((c.tc : Thread Cert.Reference3Ideal.nD Cert.Reference3Ideal.τ).loc Cert.Reference3Ideal.main_v162) i = v5 c i)
          ∧ (∀ i : (⟨3, ![8, 4224, 1024]⟩ : Shape).Idx, (Cert.On_tokens3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.2.2 i = 1#1 → r.2.mem ((c.tc : Thread Cert.Reference3Ideal.nD Cert.Reference3Ideal.τ).loc Cert.Reference3Ideal.main_v167) i = v6 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_on_tokens4_pre_padded [hKernel4Ideal : Cert.Kernel4Ideal.Facts] [hReference4Ideal : Cert.Reference4Ideal.Facts] [hPre_padded : Cert.Pre_padded.Facts] [hOn_tokens4 : Cert.On_tokens4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_padded m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v19_0)) (v1 : (c : Dev Cert.Kernel4Ideal.nD) → Buf (Elt Ideal) ((c.tc : Thread Cert.Kernel4Ideal.nD Cert.Kernel4Ideal.τ).loc Cert.Kernel4Ideal.main_v19_1)) (v2 : (c : Dev Cert.Kernel4Ideal.nD) → Buf (Elt Ideal) ((c.tc : Thread Cert.Kernel4Ideal.nD Cert.Kernel4Ideal.τ).loc Cert.Kernel4Ideal.main_v19_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          (∀ i : (⟨3, ![8, 4224, 1024]⟩ : Shape).Idx, (Cert.On_tokens4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).1 i = 1#1 → r.2.mem ((c.tc : Thread Cert.Kernel4Ideal.nD Cert.Kernel4Ideal.τ).loc Cert.Kernel4Ideal.main_v19_0) i = v0 c i)
          ∧ (∀ i : (⟨3, ![8, 4224, 1024]⟩ : Shape).Idx, (Cert.On_tokens4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.1 i = 1#1 → r.2.mem ((c.tc : Thread Cert.Kernel4Ideal.nD Cert.Kernel4Ideal.τ).loc Cert.Kernel4Ideal.main_v19_1) i = v1 c i)
          ∧ (∀ i : (⟨3, ![8, 16, 4224]⟩ : Shape).Idx, (Cert.On_tokens4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.2 i = 1#1 → r.2.mem ((c.tc : Thread Cert.Kernel4Ideal.nD Cert.Kernel4Ideal.τ).loc Cert.Kernel4Ideal.main_v19_2) i = v2 c i)
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          (∀ i : (⟨3, ![8, 4224, 1024]⟩ : Shape).Idx, (Cert.On_tokens4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).1 i = 1#1 → r.2.mem ((c.tc : Thread Cert.Reference4Ideal.nD Cert.Reference4Ideal.τ).loc Cert.Reference4Ideal.main_v89) i = v0 c i)
          ∧ (∀ i : (⟨3, ![8, 4224, 1024]⟩ : Shape).Idx, (Cert.On_tokens4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.1 i = 1#1 → r.2.mem ((c.tc : Thread Cert.Reference4Ideal.nD Cert.Reference4Ideal.τ).loc Cert.Reference4Ideal.main_v94) i = v1 c i)
          ∧ (∀ i : (⟨3, ![8, 16, 4224]⟩ : Shape).Idx, (Cert.On_tokens4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.2 i = 1#1 → r.2.mem ((c.tc : Thread Cert.Reference4Ideal.nD Cert.Reference4Ideal.τ).loc Cert.Reference4Ideal.main_v99) i = v2 c i)
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_padded : Cert.Pre_padded.Facts) (hOn_tokens : Cert.On_tokens.Facts) (hOn_tokens3 : Cert.On_tokens3.Facts) (hOn_tokens4 : Cert.On_tokens4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_padded (hKernel4Ideal := hKernel4Ideal) (hPre_padded := hPre_padded)
    ∧ quiescent_Reference4Ideal (hReference4Ideal := hReference4Ideal)
    ∧ quiescent_Reference4Ideal_pre_padded (hReference4Ideal := hReference4Ideal) (hPre_padded := hPre_padded)
    ∧ preserves_Kernel_KernelIdeal
    ∧ algebraic_KernelIdeal_ReferenceIdeal_on_tokens_pre_finite (hKernelIdeal := hKernelIdeal) (hReferenceIdeal := hReferenceIdeal) (hPre_finite := hPre_finite) (hOn_tokens := hOn_tokens)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_on_tokens3 (hKernel3Ideal := hKernel3Ideal) (hReference3Ideal := hReference3Ideal) (hOn_tokens3 := hOn_tokens3)
    ∧ preserves_Kernel4_Kernel4Ideal
    ∧ algebraic_Kernel4Ideal_Reference4Ideal_on_tokens4_pre_padded (hKernel4Ideal := hKernel4Ideal) (hReference4Ideal := hReference4Ideal) (hPre_padded := hPre_padded) (hOn_tokens4 := hOn_tokens4)
-- ==== On_tokens.lean ====
abbrev S8x4224x1024 : Shape := ⟨3, ![8, 4224, 1024]⟩
abbrev S8x4224x256 : Shape := ⟨3, ![8, 4224, 256]⟩
abbrev S16 : Shape := ⟨1, ![16]⟩
abbrev S_ : Shape := ⟨0, ![]⟩

class Facts : Prop where
  bcast_S_S8x4224x1024 : S_.BroadcastsInDim S8x4224x1024 (![] : Fin 0 → Fin S8x4224x1024.rank)

variable [Facts]

def fn {F : FTy → Type} [FloatOps F] (main_arg0 : FVec F S8x4224x1024 .bf16) (main_arg1 : FVec F S8x4224x256 .bf16) (main_arg2 : FVec F S8x4224x256 .bf16) (main_arg3 : FVec F S16 .f32) : IVec S8x4224x1024 1 :=
  let main_v0 : IVec S8x4224x1024 32 := iotaInDim S8x4224x1024 32 1
  let main_c : IVec S_ 32 := constantI S_ 32 4096#32
  let main_v1 : IVec S8x4224x1024 32 := broadcastInDim S8x4224x1024 ![] bcast_S_S8x4224x1024 main_c
  let main_v2 : IVec S8x4224x1024 1 := cmpi .slt main_v0 main_v1
  let main_c_0 : IVec S_ 32 := constantI S_ 32 4208#32
  let main_v3 : IVec S8x4224x1024 32 := broadcastInDim S8x4224x1024 ![] bcast_S_S8x4224x1024 main_c_0
  let main_v4 : IVec S8x4224x1024 1 := cmpi .sge main_v0 main_v3
  let main_v5 : IVec S8x4224x1024 1 := ori main_v2 main_v4
  main_v5
-- ==== On_tokens3.lean ====
abbrev S8x4096x1024 : Shape := ⟨3, ![8, 4096, 1024]⟩
abbrev S16x1024 : Shape := ⟨2, ![16, 1024]⟩
abbrev S1x1024 : Shape := ⟨2, ![1, 1024]⟩
abbrev S1x1024x6656 : Shape := ⟨3, ![1, 1024, 6656]⟩
abbrev S1x64 : Shape := ⟨2, ![1, 64]⟩
abbrev S8x4224x1024 : Shape := ⟨3, ![8, 4224, 1024]⟩
abbrev S_ : Shape := ⟨0, ![]⟩
abbrev S8x4224x256 : Shape := ⟨3, ![8, 4224, 256]⟩

class Facts : Prop where
  bcast_S_S8x4224x1024 : S_.BroadcastsInDim S8x4224x1024 (![] : Fin 0 → Fin S8x4224x1024.rank)
  bcast_S_S8x4224x256 : S_.BroadcastsInDim S8x4224x256 (![] : Fin 0 → Fin S8x4224x256.rank)

variable [Facts]

def fn_part2 {F : FTy → Type} [FloatOps F] (main_v5 : IVec S8x4224x1024 1) (main_v11 : IVec S8x4224x256 1) (main_v17 : IVec S8x4224x256 1) (main_v23 : IVec S8x4224x1024 1) (main_v29 : IVec S8x4224x1024 1) (main_v35 : IVec S8x4224x1024 1) : IVec S8x4224x1024 1 × IVec S8x4224x256 1 × IVec S8x4224x256 1 × IVec S8x4224x1024 1 × IVec S8x4224x1024 1 × IVec S8x4224x1024 1 × IVec S8x4224x1024 1 :=
  let main_v36 : IVec S8x4224x1024 32 := iotaInDim S8x4224x1024 32 1
  let main_c_11 : IVec S_ 32 := constantI S_ 32 4096#32
  let main_v37 : IVec S8x4224x1024 32 := broadcastInDim S8x4224x1024 ![] bcast_S_S8x4224x1024 main_c_11
  let main_v38 : IVec S8x4224x1024 1 := cmpi .slt main_v36 main_v37
  let main_c_12 : IVec S_ 32 := constantI S_ 32 4208#32
  let main_v39 : IVec S8x4224x1024 32 := broadcastInDim S8x4224x1024 ![] bcast_S_S8x4224x1024 main_c_12
  let main_v40 : IVec S8x4224x1024 1 := cmpi .sge main_v36 main_v39
  let main_v41 : IVec S8x4224x1024 1 := ori main_v38 main_v40
  (main_v5, main_v11, main_v17, main_v23, main_v29, main_v35, main_v41)

def fn_part1 {F : FTy → Type} [FloatOps F] (main_v5 : IVec S8x4224x1024 1) (main_v11 : IVec S8x4224x256 1) (main_v17 : IVec S8x4224x256 1) : IVec S8x4224x1024 1 × IVec S8x4224x256 1 × IVec S8x4224x256 1 × IVec S8x4224x1024 1 × IVec S8x4224x1024 1 × IVec S8x4224x1024 1 × IVec S8x4224x1024 1 :=
  let main_v18 : IVec S8x4224x1024 32 := iotaInDim S8x4224x1024 32 1
  let main_c_5 : IVec S_ 32 := constantI S_ 32 4096#32
  let main_v19 : IVec S8x4224x1024 32 := broadcastInDim S8x4224x1024 ![] bcast_S_S8x4224x1024 main_c_5
  let main_v20 : IVec S8x4224x1024 1 := cmpi .slt main_v18 main_v19
  let main_c_6 : IVec S_ 32 := constantI S_ 32 4208#32
  let main_v21 : IVec S8x4224x1024 32 := broadcastInDim S8x4224x1024 ![] bcast_S_S8x4224x1024 main_c_6
  let main_v22 : IVec S8x4224x1024 1 := cmpi .sge main_v18 main_v21
  let main_v23 : IVec S8x4224x1024 1 := ori main_v20 main_v22
  let main_v24 : IVec S8x4224x1024 32 := iotaInDim S8x4224x1024 32 1
  let main_c_7 : IVec S_ 32 := constantI S_ 32 4096#32
  let main_v25 : IVec S8x4224x1024 32 := broadcastInDim S8x4224x1024 ![] bcast_S_S8x4224x1024 main_c_7
  let main_v26 : IVec S8x4224x1024 1 := cmpi .slt main_v24 main_v25
  let main_c_8 : IVec S_ 32 := constantI S_ 32 4208#32
  let main_v27 : IVec S8x4224x1024 32 := broadcastInDim S8x4224x1024 ![] bcast_S_S8x4224x1024 main_c_8
  let main_v28 : IVec S8x4224x1024 1 := cmpi .sge main_v24 main_v27
  let main_v29 : IVec S8x4224x1024 1 := ori main_v26 main_v28
  let main_v30 : IVec S8x4224x1024 32 := iotaInDim S8x4224x1024 32 1
  let main_c_9 : IVec S_ 32 := constantI S_ 32 4096#32
  let main_v31 : IVec S8x4224x1024 32 := broadcastInDim S8x4224x1024 ![] bcast_S_S8x4224x1024 main_c_9
  let main_v32 : IVec S8x4224x1024 1 := cmpi .slt main_v30 main_v31
  let main_c_10 : IVec S_ 32 := constantI S_ 32 4208#32
  let main_v33 : IVec S8x4224x1024 32 := broadcastInDim S8x4224x1024 ![] bcast_S_S8x4224x1024 main_c_10
  let main_v34 : IVec S8x4224x1024 1 := cmpi .sge main_v30 main_v33
  let main_v35 : IVec S8x4224x1024 1 := ori main_v32 main_v34
  fn_part2 (F := F) main_v5 main_v11 main_v17 main_v23 main_v29 main_v35

def fn {F : FTy → Type} [FloatOps F] (main_arg0 : FVec F S8x4096x1024 .f32) (main_arg1 : FVec F S16x1024 .f32) (main_arg2 : FVec F S1x1024 .f32) (main_arg3 : FVec F S1x1024x6656 .f32) (main_arg4 : FVec F S1x64 .f32) (main_arg5 : FVec F S1x64 .f32) : IVec S8x4224x1024 1 × IVec S8x4224x256 1 × IVec S8x4224x256 1 × IVec S8x4224x1024 1 × IVec S8x4224x1024 1 × IVec S8x4224x1024 1 × IVec S8x4224x1024 1 :=
  let main_v0 : IVec S8x4224x1024 32 := iotaInDim S8x4224x1024 32 1
  let main_c : IVec S_ 32 := constantI S_ 32 4096#32
  let main_v1 : IVec S8x4224x1024 32 := broadcastInDim S8x4224x1024 ![] bcast_S_S8x4224x1024 main_c
  let main_v2 : IVec S8x4224x1024 1 := cmpi .slt main_v0 main_v1
  let main_c_0 : IVec S_ 32 := constantI S_ 32 4208#32
  let main_v3 : IVec S8x4224x1024 32 := broadcastInDim S8x4224x1024 ![] bcast_S_S8x4224x1024 main_c_0
  let main_v4 : IVec S8x4224x1024 1 := cmpi .sge main_v0 main_v3
  let main_v5 : IVec S8x4224x1024 1 := ori main_v2 main_v4
  let main_v6 : IVec S8x4224x256 32 := iotaInDim S8x4224x256 32 1
  let main_c_1 : IVec S_ 32 := constantI S_ 32 4096#32
  let main_v7 : IVec S8x4224x256 32 := broadcastInDim S8x4224x256 ![] bcast_S_S8x4224x256 main_c_1
  let main_v8 : IVec S8x4224x256 1 := cmpi .slt main_v6 main_v7
  let main_c_2 : IVec S_ 32 := constantI S_ 32 4208#32
  let main_v9 : IVec S8x4224x256 32 := broadcastInDim S8x4224x256 ![] bcast_S_S8x4224x256 main_c_2
  let main_v10 : IVec S8x4224x256 1 := cmpi .sge main_v6 main_v9
  let main_v11 : IVec S8x4224x256 1 := ori main_v8 main_v10
  let main_v12 : IVec S8x4224x256 32 := iotaInDim S8x4224x256 32 1
  let main_c_3 : IVec S_ 32 := constantI S_ 32 4096#32
  let main_v13 : IVec S8x4224x256 32 := broadcastInDim S8x4224x256 ![] bcast_S_S8x4224x256 main_c_3
  let main_v14 : IVec S8x4224x256 1 := cmpi .slt main_v12 main_v13
  let main_c_4 : IVec S_ 32 := constantI S_ 32 4208#32
  let main_v15 : IVec S8x4224x256 32 := broadcastInDim S8x4224x256 ![] bcast_S_S8x4224x256 main_c_4
  let main_v16 : IVec S8x4224x256 1 := cmpi .sge main_v12 main_v15
  let main_v17 : IVec S8x4224x256 1 := ori main_v14 main_v16
  fn_part1 (F := F) main_v5 main_v11 main_v17
-- ==== On_tokens4.lean ====
abbrev S8x4096x1024 : Shape := ⟨3, ![8, 4096, 1024]⟩
abbrev S16x1024 : Shape := ⟨2, ![16, 1024]⟩
abbrev S8x4224x1024 : Shape := ⟨3, ![8, 4224, 1024]⟩
abbrev S1x3x1024 : Shape := ⟨3, ![1, 3, 1024]⟩
abbrev S1x1024x1024 : Shape := ⟨3, ![1, 1024, 1024]⟩
abbrev S1x1024 : Shape := ⟨2, ![1, 1024]⟩
abbrev S1x1024x16 : Shape := ⟨3, ![1, 1024, 16]⟩
abbrev S_ : Shape := ⟨0, ![]⟩
abbrev S8x16x4224 : Shape := ⟨3, ![8, 16, 4224]⟩

class Facts : Prop where
  bcast_S_S8x4224x1024 : S_.BroadcastsInDim S8x4224x1024 (![] : Fin 0 → Fin S8x4224x1024.rank)
  bcast_S_S8x16x4224 : S_.BroadcastsInDim S8x16x4224 (![] : Fin 0 → Fin S8x16x4224.rank)

variable [Facts]

def fn {F : FTy → Type} [FloatOps F] (main_arg0 : FVec F S8x4096x1024 .f32) (main_arg1 : FVec F S16x1024 .f32) (main_arg2 : FVec F S8x4224x1024 .bf16) (main_arg3 : FVec F S8x4224x1024 .bf16) (main_arg4 : FVec F S8x4224x1024 .bf16) (main_arg5 : FVec F S8x4224x1024 .bf16) (main_arg6 : FVec F S8x4224x1024 .bf16) (main_arg7 : FVec F S1x3x1024 .f32) (main_arg8 : FVec F S1x1024x1024 .f32) (main_arg9 : FVec F S1x1024x1024 .f32) (main_arg10 : FVec F S1x1024x1024 .f32) (main_arg11 : FVec F S1x1024 .f32) (main_arg12 : FVec F S1x1024x16 .f32) : IVec S8x4224x1024 1 × IVec S8x4224x1024 1 × IVec S8x16x4224 1 :=
  let main_v0 : IVec S8x4224x1024 32 := iotaInDim S8x4224x1024 32 1
  let main_c : IVec S_ 32 := constantI S_ 32 4096#32
  let main_v1 : IVec S8x4224x1024 32 := broadcastInDim S8x4224x1024 ![] bcast_S_S8x4224x1024 main_c
  let main_v2 : IVec S8x4224x1024 1 := cmpi .slt main_v0 main_v1
  let main_c_0 : IVec S_ 32 := constantI S_ 32 4208#32
  let main_v3 : IVec S8x4224x1024 32 := broadcastInDim S8x4224x1024 ![] bcast_S_S8x4224x1024 main_c_0
  let main_v4 : IVec S8x4224x1024 1 := cmpi .sge main_v0 main_v3
  let main_v5 : IVec S8x4224x1024 1 := ori main_v2 main_v4
  let main_v6 : IVec S8x4224x1024 32 := iotaInDim S8x4224x1024 32 1
  let main_c_1 : IVec S_ 32 := constantI S_ 32 4096#32
  let main_v7 : IVec S8x4224x1024 32 := broadcastInDim S8x4224x1024 ![] bcast_S_S8x4224x1024 main_c_1
  let main_v8 : IVec S8x4224x1024 1 := cmpi .slt main_v6 main_v7
  let main_c_2 : IVec S_ 32 := constantI S_ 32 4208#32
  let main_v9 : IVec S8x4224x1024 32 := broadcastInDim S8x4224x1024 ![] bcast_S_S8x4224x1024 main_c_2
  let main_v10 : IVec S8x4224x1024 1 := cmpi .sge main_v6 main_v9
  let main_v11 : IVec S8x4224x1024 1 := ori main_v8 main_v10
  let main_v12 : IVec S8x16x4224 32 := iotaInDim S8x16x4224 32 2
  let main_c_3 : IVec S_ 32 := constantI S_ 32 4096#32
  let main_v13 : IVec S8x16x4224 32 := broadcastInDim S8x16x4224 ![] bcast_S_S8x16x4224 main_c_3
  let main_v14 : IVec S8x16x4224 1 := cmpi .slt main_v12 main_v13
  let main_c_4 : IVec S_ 32 := constantI S_ 32 4208#32
  let main_v15 : IVec S8x16x4224 32 := broadcastInDim S8x16x4224 ![] bcast_S_S8x16x4224 main_c_4
  let main_v16 : IVec S8x16x4224 1 := cmpi .sge main_v12 main_v15
  let main_v17 : IVec S8x16x4224 1 := ori main_v14 main_v16
  (main_v5, main_v11, main_v17)
-- ==== Pre_finite.lean ====
abbrev S8x4224x1024 : Shape := ⟨3, ![8, 4224, 1024]⟩
abbrev S8x4224x256 : Shape := ⟨3, ![8, 4224, 256]⟩
abbrev S16 : Shape := ⟨1, ![16]⟩
abbrev S_ : Shape := ⟨0, ![]⟩

class Facts : Prop where
  bitsLt_bf16_f32 : FTy.bits .bf16 < FTy.bits .f32
  bcast_S_S8x4224x1024 : S_.BroadcastsInDim S8x4224x1024 (![] : Fin 0 → Fin S8x4224x1024.rank)
  bcast_S_S8x4224x256 : S_.BroadcastsInDim S8x4224x256 (![] : Fin 0 → Fin S8x4224x256.rank)
  bcast_S_S16 : S_.BroadcastsInDim S16 (![] : Fin 0 → Fin S16.rank)

variable [Facts]

def fn {F : FTy → Type} [FloatOps F] (main_arg0 : FVec F S8x4224x1024 .bf16) (main_arg1 : FVec F S8x4224x256 .bf16) (main_arg2 : FVec F S8x4224x256 .bf16) (main_arg3 : FVec F S16 .f32) : IVec S8x4224x1024 1 × IVec S8x4224x256 1 × IVec S16 1 :=
  let main_v0 : FVec F S8x4224x1024 .f32 := (extf .f32 · bitsLt_bf16_f32) main_arg0
  let main_v1 : FVec F S8x4224x1024 .f32 := Host.absf main_v0
  let main_cst : FVec F S_ .f32 := constant S_ .f32 0x7F800000#32
  let main_v2 : FVec F S8x4224x1024 .f32 := broadcastInDim S8x4224x1024 ![] bcast_S_S8x4224x1024 main_cst
  let main_v3 : IVec S8x4224x1024 1 := cmpf .olt main_v1 main_v2
  let main_v4 : FVec F S8x4224x256 .f32 := (extf .f32 · bitsLt_bf16_f32) main_arg1
  let main_v5 : FVec F S8x4224x256 .f32 := Host.absf main_v4
  let main_cst_0 : FVec F S_ .f32 := constant S_ .f32 0x7F800000#32
  let main_v6 : FVec F S8x4224x256 .f32 := broadcastInDim S8x4224x256 ![] bcast_S_S8x4224x256 main_cst_0
  let main_v7 : IVec S8x4224x256 1 := cmpf .olt main_v5 main_v6
  let main_v8 : FVec F S16 .f32 := Host.absf main_arg3
  let main_cst_1 : FVec F S_ .f32 := constant S_ .f32 0x7F800000#32
  let main_v9 : FVec F S16 .f32 := broadcastInDim S16 ![] bcast_S_S16 main_cst_1
  let main_v10 : IVec S16 1 := cmpf .olt main_v8 main_v9
  (main_v3, main_v7, main_v10)
-- ==== Pre_padded.lean ====
abbrev S8x4096x1024 : Shape := ⟨3, ![8, 4096, 1024]⟩
abbrev S16x1024 : Shape := ⟨2, ![16, 1024]⟩
abbrev S8x4224x1024 : Shape := ⟨3, ![8, 4224, 1024]⟩
abbrev S1x3x1024 : Shape := ⟨3, ![1, 3, 1024]⟩
abbrev S1x1024x1024 : Shape := ⟨3, ![1, 1024, 1024]⟩
abbrev S1x1024 : Shape := ⟨2, ![1, 1024]⟩
abbrev S1x1024x16 : Shape := ⟨3, ![1, 1024, 16]⟩
abbrev S_ : Shape := ⟨0, ![]⟩

class Facts : Prop where
  bcast_S_S8x4224x1024 : S_.BroadcastsInDim S8x4224x1024 (![] : Fin 0 → Fin S8x4224x1024.rank)
  bitsLt_bf16_f32 : FTy.bits .bf16 < FTy.bits .f32

variable [Facts]

def fn {F : FTy → Type} [FloatOps F] (main_arg0 : FVec F S8x4096x1024 .f32) (main_arg1 : FVec F S16x1024 .f32) (main_arg2 : FVec F S8x4224x1024 .bf16) (main_arg3 : FVec F S8x4224x1024 .bf16) (main_arg4 : FVec F S8x4224x1024 .bf16) (main_arg5 : FVec F S8x4224x1024 .bf16) (main_arg6 : FVec F S8x4224x1024 .bf16) (main_arg7 : FVec F S1x3x1024 .f32) (main_arg8 : FVec F S1x1024x1024 .f32) (main_arg9 : FVec F S1x1024x1024 .f32) (main_arg10 : FVec F S1x1024x1024 .f32) (main_arg11 : FVec F S1x1024 .f32) (main_arg12 : FVec F S1x1024x16 .f32) : IVec S8x4224x1024 1 :=
  let main_v0 : IVec S8x4224x1024 32 := iotaInDim S8x4224x1024 32 1
  let main_c : IVec S_ 32 := constantI S_ 32 4096#32
  let main_v1 : IVec S8x4224x1024 32 := broadcastInDim S8x4224x1024 ![] bcast_S_S8x4224x1024 main_c
  let main_v2 : IVec S8x4224x1024 1 := cmpi .slt main_v0 main_v1
  let main_c_0 : IVec S_ 32 := constantI S_ 32 4208#32
  let main_v3 : IVec S8x4224x1024 32 := broadcastInDim S8x4224x1024 ![] bcast_S_S8x4224x1024 main_c_0
  let main_v4 : IVec S8x4224x1024 1 := cmpi .sge main_v0 main_v3
  let main_v5 : IVec S8x4224x1024 1 := ori main_v2 main_v4
  let main_v6 : FVec F S8x4224x1024 .f32 := (extf .f32 · bitsLt_bf16_f32) main_arg4
  let main_cst : FVec F S_ .f32 := constant S_ .f32 0x00000000#32
  let main_v7 : FVec F S8x4224x1024 .f32 := broadcastInDim S8x4224x1024 ![] bcast_S_S8x4224x1024 main_cst
  let main_v8 : IVec S8x4224x1024 1 := cmpf .oeq main_v6 main_v7
  let main_v9 : IVec S8x4224x1024 1 := ori main_v5 main_v8
  main_v9
-- ==== Kernel.lean ====
abbrev S8x4224x1024 : Shape := ⟨3, ![8, 4224, 1024]⟩
abbrev S8x4224x256 : Shape := ⟨3, ![8, 4224, 256]⟩
abbrev S16 : Shape := ⟨1, ![16]⟩
abbrev S2x8 : Shape := ⟨2, ![2, 8]⟩
abbrev S_ : Shape := ⟨0, ![]⟩
abbrev S2x8x1 : Shape := ⟨3, ![2, 8, 1]⟩
abbrev S2x8x128 : Shape := ⟨3, ![2, 8, 128]⟩
abbrev S2x1024 : Shape := ⟨2, ![2, 1024]⟩
abbrev S2x1x1024 : Shape := ⟨3, ![2, 1, 1024]⟩
abbrev S1x128x1024 : Shape := ⟨3, ![1, 128, 1024]⟩
abbrev S1x128x256 : Shape := ⟨3, ![1, 128, 256]⟩
abbrev S1x384x1024 : Shape := ⟨3, ![1, 384, 1024]⟩
abbrev S384x128 : Shape := ⟨2, ![384, 128]⟩
abbrev S1x128 : Shape := ⟨2, ![1, 128]⟩
abbrev S128x1 : Shape := ⟨2, ![128, 1]⟩
abbrev S384x256 : Shape := ⟨2, ![384, 256]⟩
abbrev S1x128x128 : Shape := ⟨3, ![1, 128, 128]⟩
abbrev S128x128 : Shape := ⟨2, ![128, 128]⟩
abbrev S128x384 : Shape := ⟨2, ![128, 384]⟩
abbrev S16x384 : Shape := ⟨2, ![16, 384]⟩
abbrev S144x384 : Shape := ⟨2, ![144, 384]⟩
abbrev S256x128 : Shape := ⟨2, ![256, 128]⟩
abbrev S1x1x256 : Shape := ⟨3, ![1, 1, 256]⟩
abbrev S1x256 : Shape := ⟨2, ![1, 256]⟩
abbrev S256 : Shape := ⟨1, ![256]⟩
abbrev S144x256 : Shape := ⟨2, ![144, 256]⟩
abbrev S128x256 : Shape := ⟨2, ![128, 256]⟩

abbrev nBuf : Space → Nat
  | .hbm => 16
  | .vmem => 29
  | .smem => 0
  | _ => 0

abbrev bufTy : (tb : Table) → Fin (tcTables nBuf tb) → BufTy
  | .hbm, ⟨0, _⟩ => ⟨S8x4224x1024, .bf16⟩
  | .hbm, ⟨1, _⟩ => ⟨S8x4224x256, .bf16⟩
  | .hbm, ⟨2, _⟩ => ⟨S8x4224x256, .bf16⟩
  | .hbm, ⟨3, _⟩ => ⟨S16, .f32⟩
  | .hbm, ⟨4, _⟩ => ⟨S2x8, .i32⟩
  | .hbm, ⟨5, _⟩ => ⟨S2x8, .i1⟩
  | .hbm, ⟨6, _⟩ => ⟨S_, .i32⟩
  | .hbm, ⟨7, _⟩ => ⟨S2x8, .i32⟩
  | .hbm, ⟨8, _⟩ => ⟨S2x8, .i32⟩
  | .hbm, ⟨9, _⟩ => ⟨S2x8, .i32⟩
  | .hbm, ⟨10, _⟩ => ⟨S2x8x1, .i32⟩
  | .hbm, ⟨11, _⟩ => ⟨S2x8, .f32⟩
  | .hbm, ⟨12, _⟩ => ⟨S2x8x128, .f32⟩
  | .hbm, ⟨13, _⟩ => ⟨S2x1024, .f32⟩
  | .hbm, ⟨14, _⟩ => ⟨S2x1x1024, .f32⟩
  | .hbm, ⟨15, _⟩ => ⟨S8x4224x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x128x256, .bf16⟩
  | .local _ .vmem, ⟨11, _⟩ => ⟨S1x128x256, .bf16⟩
  | .local _ .vmem, ⟨12, _⟩ => ⟨S1x128x256, .bf16⟩
  | .local _ .vmem, ⟨13, _⟩ => ⟨S1x128x256, .bf16⟩
  | .local _ .vmem, ⟨14, _⟩ => ⟨S1x128x256, .bf16⟩
  | .local _ .vmem, ⟨15, _⟩ => ⟨S1x128x256, .bf16⟩
  | .local _ .vmem, ⟨16, _⟩ => ⟨S1x128x256, .bf16⟩
  | .local _ .vmem, ⟨17, _⟩ => ⟨S1x128x256, .bf16⟩
  | .local _ .vmem, ⟨18, _⟩ => ⟨S1x128x256, .bf16⟩
  | .local _ .vmem, ⟨19, _⟩ => ⟨S1x128x256, .bf16⟩
  | .local _ .vmem, ⟨20, _⟩ => ⟨S1x128x256, .bf16⟩
  | .local _ .vmem, ⟨21, _⟩ => ⟨S1x128x256, .bf16⟩
  | .local _ .vmem, ⟨22, _⟩ => ⟨S1x128x256, .bf16⟩
  | .local _ .vmem, ⟨23, _⟩ => ⟨S1x128x256, .bf16⟩
  | .local _ .vmem, ⟨24, _⟩ => ⟨S1x128x256, .bf16⟩
  | .local _ .vmem, ⟨25, _⟩ => ⟨S1x128x256, .bf16⟩
  | .local _ .vmem, ⟨26, _⟩ => ⟨S2x1x1024, .f32⟩
  | .local _ .vmem, ⟨27, _⟩ => ⟨S1x384x1024, .bf16⟩
  | .local _ .vmem, ⟨28, _⟩ => ⟨S1x384x1024, .bf16⟩
  | _, _ => ⟨S8x4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg14_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨2, ![8, 11], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c32_i32 : BitVec 32 := 32#32
  let v2 : BitVec 32 := Scalar.minsi v1 c32_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c32_i32 : BitVec 32 := 32#32
  let v2 : BitVec 32 := Scalar.minsi v1 c32_i32
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c32_i32 : BitVec 32 := 32#32
  let v2 : BitVec 32 := Scalar.minsi v1 c32_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c33_i32 : BitVec 32 := 33#32
  let v2 : BitVec 32 := Scalar.addi v1 c33_i32
  let c1_i32 : BitVec 32 := 1#32
  let v3 : BitVec 32 := Scalar.subi v2 c1_i32
  let c33_i32_0 : BitVec 32 := 33#32
  let c0_i32_1 : BitVec 32 := 0#32
  let v4 : BitVec 1 := Scalar.cmpi .eq c33_i32_0 c0_i32_1
  let c1_i32_2 : BitVec 32 := 1#32
  let v5 : BitVec 32 := Scalar.select v4 c1_i32_2 c33_i32_0
  let v6 : BitVec 32 := Scalar.remsi v3 v5
  let c0_i32_3 : BitVec 32 := 0#32
  let v7 : BitVec 1 := Scalar.cmpi .ne v6 c0_i32_3
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let v11 : BitVec 1 := Scalar.andi v10 v7
  let v12 : BitVec 32 := Scalar.addi v6 v5
  let v13 : BitVec 32 := Scalar.select v11 v12 v6
  let c0_i32_6 : BitVec 32 := 0#32
  let c0_i32_7 : BitVec 32 := 0#32
  ![arg0.toNat, v13.toNat, c0_i32_6.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c33_i32 : BitVec 32 := 33#32
  let v2 : BitVec 32 := Scalar.addi v1 c33_i32
  let c1_i32_0 : BitVec 32 := 1#32
  let v3 : BitVec 32 := Scalar.subi v2 c1_i32_0
  let c33_i32_1 : BitVec 32 := 33#32
  let c0_i32 : BitVec 32 := 0#32
  let v4 : BitVec 1 := Scalar.cmpi .eq c33_i32_1 c0_i32
  let c1_i32_2 : BitVec 32 := 1#32
  let v5 : BitVec 32 := Scalar.select v4 c1_i32_2 c33_i32_1
  let v6 : BitVec 32 := Scalar.remsi v3 v5
  let c0_i32_3 : BitVec 32 := 0#32
  let v7 : BitVec 1 := Scalar.cmpi .ne v6 c0_i32_3
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let v11 : BitVec 1 := Scalar.andi v10 v7
  let v12 : BitVec 32 := Scalar.addi v6 v5
  let v13 : BitVec 32 := Scalar.select v11 v12 v6
  let c0_i32_6 : BitVec 32 := 0#32
  let c0_i32_7 : BitVec 32 := 0#32
  ![arg0.toNat, v13.toNat, c0_i32_6.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c33_i32 : BitVec 32 := 33#32
  let v2 : BitVec 32 := Scalar.addi v1 c33_i32
  let c1_i32 : BitVec 32 := 1#32
  let v3 : BitVec 32 := Scalar.subi v2 c1_i32
  let c33_i32_0 : BitVec 32 := 33#32
  let c0_i32 : BitVec 32 := 0#32
  let v4 : BitVec 1 := Scalar.cmpi .eq c33_i32_0 c0_i32
  let c1_i32_1 : BitVec 32 := 1#32
  let v5 : BitVec 32 := Scalar.select v4 c1_i32_1 c33_i32_0
  let v6 : BitVec 32 := Scalar.remsi v3 v5
  let c0_i32_2 : BitVec 32 := 0#32
  let v7 : BitVec 1 := Scalar.cmpi .ne v6 c0_i32_2
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let v11 : BitVec 1 := Scalar.andi v10 v7
  let v12 : BitVec 32 := Scalar.addi v6 v5
  let v13 : BitVec 32 := Scalar.select v11 v12 v6
  let c0_i32_5 : BitVec 32 := 0#32
  let c0_i32_6 : BitVec 32 := 0#32
  ![arg0.toNat, v13.toNat, c0_i32_5.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c3_i32_0 : BitVec 32 := 3#32
  let v1 : BitVec 32 := Scalar.addi v0 c3_i32_0
  let c33_i32 : BitVec 32 := 33#32
  let v2 : BitVec 32 := Scalar.addi v1 c33_i32
  let c1_i32 : BitVec 32 := 1#32
  let v3 : BitVec 32 := Scalar.subi v2 c1_i32
  let c33_i32_1 : BitVec 32 := 33#32
  let c0_i32 : BitVec 32 := 0#32
  let v4 : BitVec 1 := Scalar.cmpi .eq c33_i32_1 c0_i32
  let c1_i32_2 : BitVec 32 := 1#32
  let v5 : BitVec 32 := Scalar.select v4 c1_i32_2 c33_i32_1
  let v6 : BitVec 32 := Scalar.remsi v3 v5
  let c0_i32_3 : BitVec 32 := 0#32
  let v7 : BitVec 1 := Scalar.cmpi .ne v6 c0_i32_3
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let v11 : BitVec 1 := Scalar.andi v10 v7
  let v12 : BitVec 32 := Scalar.addi v6 v5
  let v13 : BitVec 32 := Scalar.select v11 v12 v6
  let c0_i32_6 : BitVec 32 := 0#32
  let c0_i32_7 : BitVec 32 := 0#32
  ![arg0.toNat, v13.toNat, c0_i32_6.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c4_i32 : BitVec 32 := 4#32
  let v1 : BitVec 32 := Scalar.addi v0 c4_i32
  let c33_i32 : BitVec 32 := 33#32
  let v2 : BitVec 32 := Scalar.addi v1 c33_i32
  let c1_i32 : BitVec 32 := 1#32
  let v3 : BitVec 32 := Scalar.subi v2 c1_i32
  let c33_i32_0 : BitVec 32 := 33#32
  let c0_i32 : BitVec 32 := 0#32
  let v4 : BitVec 1 := Scalar.cmpi .eq c33_i32_0 c0_i32
  let c1_i32_1 : BitVec 32 := 1#32
  let v5 : BitVec 32 := Scalar.select v4 c1_i32_1 c33_i32_0
  let v6 : BitVec 32 := Scalar.remsi v3 v5
  let c0_i32_2 : BitVec 32 := 0#32
  let v7 : BitVec 1 := Scalar.cmpi .ne v6 c0_i32_2
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let v11 : BitVec 1 := Scalar.andi v10 v7
  let v12 : BitVec 32 := Scalar.addi v6 v5
  let v13 : BitVec 32 := Scalar.select v11 v12 v6
  let c0_i32_5 : BitVec 32 := 0#32
  let c0_i32_6 : BitVec 32 := 0#32
  ![arg0.toNat, v13.toNat, c0_i32_5.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c33_i32 : BitVec 32 := 33#32
  let v2 : BitVec 32 := Scalar.addi v1 c33_i32
  let c1_i32 : BitVec 32 := 1#32
  let v3 : BitVec 32 := Scalar.subi v2 c1_i32
  let c33_i32_0 : BitVec 32 := 33#32
  let c0_i32_1 : BitVec 32 := 0#32
  let v4 : BitVec 1 := Scalar.cmpi .eq c33_i32_0 c0_i32_1
  let c1_i32_2 : BitVec 32 := 1#32
  let v5 : BitVec 32 := Scalar.select v4 c1_i32_2 c33_i32_0
  let v6 : BitVec 32 := Scalar.remsi v3 v5
  let c0_i32_3 : BitVec 32 := 0#32
  let v7 : BitVec 1 := Scalar.cmpi .ne v6 c0_i32_3
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let v11 : BitVec 1 := Scalar.andi v10 v7
  let v12 : BitVec 32 := Scalar.addi v6 v5
  let v13 : BitVec 32 := Scalar.select v11 v12 v6
  let c0_i32_6 : BitVec 32 := 0#32
  let c0_i32_7 : BitVec 32 := 0#32
  ![arg0.toNat, v13.toNat, c0_i32_6.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.addi v0 c1_i32
  let c33_i32 : BitVec 32 := 33#32
  let v2 : BitVec 32 := Scalar.addi v1 c33_i32
  let c1_i32_0 : BitVec 32 := 1#32
  let v3 : BitVec 32 := Scalar.subi v2 c1_i32_0
  let c33_i32_1 : BitVec 32 := 33#32
  let c0_i32 : BitVec 32 := 0#32
  let v4 : BitVec 1 := Scalar.cmpi .eq c33_i32_1 c0_i32
  let c1_i32_2 : BitVec 32 := 1#32
  let v5 : BitVec 32 := Scalar.select v4 c1_i32_2 c33_i32_1
  let v6 : BitVec 32 := Scalar.remsi v3 v5
  let c0_i32_3 : BitVec 32 := 0#32
  let v7 : BitVec 1 := Scalar.cmpi .ne v6 c0_i32_3
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let v11 : BitVec 1 := Scalar.andi v10 v7
  let v12 : BitVec 32 := Scalar.addi v6 v5
  let v13 : BitVec 32 := Scalar.select v11 v12 v6
  let c0_i32_6 : BitVec 32 := 0#32
  let c0_i32_7 : BitVec 32 := 0#32
  ![arg0.toNat, v13.toNat, c0_i32_6.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c2_i32 : BitVec 32 := 2#32
  let v1 : BitVec 32 := Scalar.addi v0 c2_i32
  let c33_i32 : BitVec 32 := 33#32
  let v2 : BitVec 32 := Scalar.addi v1 c33_i32
  let c1_i32 : BitVec 32 := 1#32
  let v3 : BitVec 32 := Scalar.subi v2 c1_i32
  let c33_i32_0 : BitVec 32 := 33#32
  let c0_i32 : BitVec 32 := 0#32
  let v4 : BitVec 1 := Scalar.cmpi .eq c33_i32_0 c0_i32
  let c1_i32_1 : BitVec 32 := 1#32
  let v5 : BitVec 32 := Scalar.select v4 c1_i32_1 c33_i32_0
  let v6 : BitVec 32 := Scalar.remsi v3 v5
  let c0_i32_2 : BitVec 32 := 0#32
  let v7 : BitVec 1 := Scalar.cmpi .ne v6 c0_i32_2
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let v11 : BitVec 1 := Scalar.andi v10 v7
  let v12 : BitVec 32 := Scalar.addi v6 v5
  let v13 : BitVec 32 := Scalar.select v11 v12 v6
  let c0_i32_5 : BitVec 32 := 0#32
  let c0_i32_6 : BitVec 32 := 0#32
  ![arg0.toNat, v13.toNat, c0_i32_5.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c3_i32_0 : BitVec 32 := 3#32
  let v1 : BitVec 32 := Scalar.addi v0 c3_i32_0
  let c33_i32 : BitVec 32 := 33#32
  let v2 : BitVec 32 := Scalar.addi v1 c33_i32
  let c1_i32 : BitVec 32 := 1#32
  let v3 : BitVec 32 := Scalar.subi v2 c1_i32
  let c33_i32_1 : BitVec 32 := 33#32
  let c0_i32 : BitVec 32 := 0#32
  let v4 : BitVec 1 := Scalar.cmpi .eq c33_i32_1 c0_i32
  let c1_i32_2 : BitVec 32 := 1#32
  let v5 : BitVec 32 := Scalar.select v4 c1_i32_2 c33_i32_1
  let v6 : BitVec 32 := Scalar.remsi v3 v5
  let c0_i32_3 : BitVec 32 := 0#32
  let v7 : BitVec 1 := Scalar.cmpi .ne v6 c0_i32_3
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let v11 : BitVec 1 := Scalar.andi v10 v7
  let v12 : BitVec 32 := Scalar.addi v6 v5
  let v13 : BitVec 32 := Scalar.select v11 v12 v6
  let c0_i32_6 : BitVec 32 := 0#32
  let c0_i32_7 : BitVec 32 := 0#32
  ![arg0.toNat, v13.toNat, c0_i32_6.toNat]

def cc0_transform_12 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c4_i32 : BitVec 32 := 4#32
  let v1 : BitVec 32 := Scalar.addi v0 c4_i32
  let c33_i32 : BitVec 32 := 33#32
  let v2 : BitVec 32 := Scalar.addi v1 c33_i32
  let c1_i32 : BitVec 32 := 1#32
  let v3 : BitVec 32 := Scalar.subi v2 c1_i32
  let c33_i32_0 : BitVec 32 := 33#32
  let c0_i32 : BitVec 32 := 0#32
  let v4 : BitVec 1 := Scalar.cmpi .eq c33_i32_0 c0_i32
  let c1_i32_1 : BitVec 32 := 1#32
  let v5 : BitVec 32 := Scalar.select v4 c1_i32_1 c33_i32_0
  let v6 : BitVec 32 := Scalar.remsi v3 v5
  let c0_i32_2 : BitVec 32 := 0#32
  let v7 : BitVec 1 := Scalar.cmpi .ne v6 c0_i32_2
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let v11 : BitVec 1 := Scalar.andi v10 v7
  let v12 : BitVec 32 := Scalar.addi v6 v5
  let v13 : BitVec 32 := Scalar.select v11 v12 v6
  let c0_i32_5 : BitVec 32 := 0#32
  let c0_i32_6 : BitVec 32 := 0#32
  ![arg0.toNat, v13.toNat, c0_i32_5.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S2x1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x384x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8x4224x1024 : Shape := ⟨3, ![8, 4224, 1024]⟩
abbrev S8x4224x256 : Shape := ⟨3, ![8, 4224, 256]⟩
abbrev S16 : Shape := ⟨1, ![16]⟩
abbrev S8x16x1024 : Shape := ⟨3, ![8, 16, 1024]⟩
abbrev S8x4096x1024 : Shape := ⟨3, ![8, 4096, 1024]⟩
abbrev S8x4112x1024 : Shape := ⟨3, ![8, 4112, 1024]⟩
abbrev S8x16x256 : Shape := ⟨3, ![8, 16, 256]⟩
abbrev S8x4096x256 : Shape := ⟨3, ![8, 4096, 256]⟩
abbrev S8x4112x256 : Shape := ⟨3, ![8, 4112, 256]⟩
abbrev S8x4112x2x4x2x64 : Shape := ⟨6, ![8, 4112, 2, 4, 2, 64]⟩
abbrev S8x4112x2x2x4x64 : Shape := ⟨6, ![8, 4112, 2, 2, 4, 64]⟩
abbrev S8x4112x4x4x64 : Shape := ⟨5, ![8, 4112, 4, 4, 64]⟩
abbrev S8x4112x4x64 : Shape := ⟨4, ![8, 4112, 4, 64]⟩
abbrev S1x4x4x1x1 : Shape := ⟨5, ![1, 4, 4, 1, 1]⟩
abbrev S4112 : Shape := ⟨1, ![4112]⟩
abbrev S4112x1 : Shape := ⟨2, ![4112, 1]⟩
abbrev S1x4112 : Shape := ⟨2, ![1, 4112]⟩
abbrev S4112x4112 : Shape := ⟨2, ![4112, 4112]⟩
abbrev S_ : Shape := ⟨0, ![]⟩
abbrev S8x4x4112x4112x4 : Shape := ⟨5, ![8, 4, 4112, 4112, 4]⟩
abbrev S8x4x4x4112x4112 : Shape := ⟨5, ![8, 4, 4, 4112, 4112]⟩
abbrev S8x4x4x4112 : Shape := ⟨4, ![8, 4, 4, 4112]⟩
abbrev S8x4x4x4112x1 : Shape := ⟨5, ![8, 4, 4, 4112, 1]⟩
abbrev S8x4x64x4x4112 : Shape := ⟨5, ![8, 4, 64, 4, 4112]⟩
abbrev S8x112x1024 : Shape := ⟨3, ![8, 112, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8x4224x1024, .bf16⟩
  | .hbm, ⟨1, _⟩ => ⟨S8x4224x256, .bf16⟩
  | .hbm, ⟨2, _⟩ => ⟨S8x4224x256, .bf16⟩
  | .hbm, ⟨3, _⟩ => ⟨S16, .f32⟩
  | .hbm, ⟨4, _⟩ => ⟨S8x16x1024, .bf16⟩
  | .hbm, ⟨5, _⟩ => ⟨S8x4096x1024, .bf16⟩
  | .hbm, ⟨6, _⟩ => ⟨S8x4112x1024, .bf16⟩
  | .hbm, ⟨7, _⟩ => ⟨S8x4112x1024, .f32⟩
  | .hbm, ⟨8, _⟩ => ⟨S8x16x256, .bf16⟩
  | .hbm, ⟨9, _⟩ => ⟨S8x4096x256, .bf16⟩
  | .hbm, ⟨10, _⟩ => ⟨S8x4112x256, .bf16⟩
  | .hbm, ⟨11, _⟩ => ⟨S8x4112x256, .f32⟩
  | .hbm, ⟨12, _⟩ => ⟨S8x16x256, .bf16⟩
  | .hbm, ⟨13, _⟩ => ⟨S8x4096x256, .bf16⟩
  | .hbm, ⟨14, _⟩ => ⟨S8x4112x256, .bf16⟩
  | .hbm, ⟨15, _⟩ => ⟨S8x4112x256, .f32⟩
  | .hbm, ⟨16, _⟩ => ⟨S8x4112x2x4x2x64, .f32⟩
  | .hbm, ⟨17, _⟩ => ⟨S8x4112x2x2x4x64, .f32⟩
  | .hbm, ⟨18, _⟩ => ⟨S8x4112x4x4x64, .f32⟩
  | .hbm, ⟨19, _⟩ => ⟨S8x4112x4x64, .f32⟩
  | .hbm, ⟨20, _⟩ => ⟨S8x4112x4x64, .f32⟩
  | .hbm, ⟨21, _⟩ => ⟨S1x4x4x1x1, .f32⟩
  | .hbm, ⟨22, _⟩ => ⟨S4112, .i32⟩
  | .hbm, ⟨23, _⟩ => ⟨S4112x1, .i32⟩
  | .hbm, ⟨24, _⟩ => ⟨S1x4112, .i32⟩
  | .hbm, ⟨25, _⟩ => ⟨S4112x4112, .i32⟩
  | .hbm, ⟨26, _⟩ => ⟨S4112x4112, .i32⟩
  | .hbm, ⟨27, _⟩ => ⟨S4112x4112, .i32⟩
  | .hbm, ⟨28, _⟩ => ⟨S4112x4112, .i32⟩
  | .hbm, ⟨29, _⟩ => ⟨S_, .i32⟩
  | .hbm, ⟨30, _⟩ => ⟨S4112x4112, .i32⟩
  | .hbm, ⟨31, _⟩ => ⟨S4112x4112, .i1⟩
  | .hbm, ⟨32, _⟩ => ⟨S8x4x4112x4112x4, .f32⟩
  | .hbm, ⟨33, _⟩ => ⟨S8x4x4x4112x4112, .f32⟩
  | .hbm, ⟨34, _⟩ => ⟨S_, .f32⟩
  | .hbm, ⟨35, _⟩ => ⟨S_, .f32⟩
  | .hbm, ⟨36, _⟩ => ⟨S8x4x4x4112x4112, .f32⟩
  | .hbm, ⟨37, _⟩ => ⟨S8x4x4x4112x4112, .f32⟩
  | .hbm, ⟨38, _⟩ => ⟨S_, .f32⟩
  | .hbm, ⟨39, _⟩ => ⟨S_, .f32⟩
  | .hbm, ⟨40, _⟩ => ⟨S8x4x4x4112x4112, .i1⟩
  | .hbm, ⟨41, _⟩ => ⟨S8x4x4x4112x4112, .f32⟩
  | .hbm, ⟨42, _⟩ => ⟨S8x4x4x4112x4112, .f32⟩
  | .hbm, ⟨43, _⟩ => ⟨S_, .f32⟩
  | .hbm, ⟨44, _⟩ => ⟨S8x4x4x4112, .f32⟩
  | .hbm, ⟨45, _⟩ => ⟨S8x4x4x4112x1, .f32⟩
  | .hbm, ⟨46, _⟩ => ⟨S8x4x4x4112x1, .f32⟩
  | .hbm, ⟨47, _⟩ => ⟨S8x4x4x4112x1, .f32⟩
  | .hbm, ⟨48, _⟩ => ⟨S8x4x4x4112x4112, .f32⟩
  | .hbm, ⟨49, _⟩ => ⟨S8x4x4x4112x4112, .f32⟩
  | .hbm, ⟨50, _⟩ => ⟨S8x4x4x4112x4112, .f32⟩
  | .hbm, ⟨51, _⟩ => ⟨S_, .f32⟩
  | .hbm, ⟨52, _⟩ => ⟨S8x4x4x4112, .f32⟩
  | .hbm, ⟨53, _⟩ => ⟨S8x4x4x4112x1, .f32⟩
  | .hbm, ⟨54, _⟩ => ⟨S8x4x4x4112x1, .f32⟩
  | .hbm, ⟨55, _⟩ => ⟨S8x4x4x4112x1, .f32⟩
  | .hbm, ⟨56, _⟩ => ⟨S8x4x4x4112x1, .f32⟩
  | .hbm, ⟨57, _⟩ => ⟨S8x4x4x4112x1, .f32⟩
  | .hbm, ⟨58, _⟩ => ⟨S8x4x4x4112x4112, .f32⟩
  | .hbm, ⟨59, _⟩ => ⟨S8x4x4x4112x4112, .f32⟩
  | .hbm, ⟨60, _⟩ => ⟨S8x4x64x4x4112, .f32⟩
  | .hbm, ⟨61, _⟩ => ⟨S8x4112x4x4x64, .f32⟩
  | .hbm, ⟨62, _⟩ => ⟨S8x4112x2x2x4x64, .f32⟩
  | .hbm, ⟨63, _⟩ => ⟨S8x4112x2x4x2x64, .f32⟩
  | .hbm, ⟨64, _⟩ => ⟨S8x4112x1024, .f32⟩
  | .hbm, ⟨65, _⟩ => ⟨S_, .f32⟩
  | .hbm, ⟨66, _⟩ => ⟨S8x112x1024, .f32⟩
  | .hbm, ⟨67, _⟩ => ⟨S8x4096x1024, .f32⟩
  | .hbm, ⟨68, _⟩ => ⟨S8x16x1024, .f32⟩
  | .hbm, ⟨69, _⟩ => ⟨S8x4224x1024, .f32⟩
  | .hbm, ⟨70, _⟩ => ⟨S8x4224x1024, .bf16⟩
  | _, _ => ⟨S8x4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_c : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_0 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v32 : Ref sig .tc := ⟨.hbm, 42, rfl⟩
abbrev main_cst_1 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_2 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_3 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩

abbrev nD : Nat := 1
abbrev τ : Topo := Topo.v7x

variable {F : FTy → Type} [FloatOps F]
-- ==== Kernel2.lean ====
abbrev S16x8448x1024 : Shape := ⟨3, ![16, 8448, 1024]⟩
abbrev S16x1024x2048 : Shape := ⟨3, ![16, 1024, 2048]⟩
abbrev S16x2048x1024 : Shape := ⟨3, ![16, 2048, 1024]⟩
abbrev S1x1056x1024 : Shape := ⟨3, ![1, 1056, 1024]⟩
abbrev S1x1024x2048 : Shape := ⟨3, ![1, 1024, 2048]⟩
abbrev S1x2048x1024 : Shape := ⟨3, ![1, 2048, 1024]⟩
abbrev S1056x1024 : Shape := ⟨2, ![1056, 1024]⟩
abbrev S1024x2048 : Shape := ⟨2, ![1024, 2048]⟩
abbrev S1056x2048 : Shape := ⟨2, ![1056, 2048]⟩
abbrev S2048x1024 : Shape := ⟨2, ![2048, 1024]⟩

abbrev nBuf : Space → Nat
  | .hbm => 5
  | .vmem => 10
  | .smem => 0
  | _ => 0

abbrev bufTy : (tb : Table) → Fin (tcTables nBuf tb) → BufTy
  | .hbm, ⟨0, _⟩ => ⟨S16x8448x1024, .bf16⟩
  | .hbm, ⟨1, _⟩ => ⟨S16x1024x2048, .bf16⟩
  | .hbm, ⟨2, _⟩ => ⟨S16x1024x2048, .bf16⟩
  | .hbm, ⟨3, _⟩ => ⟨S16x2048x1024, .bf16⟩
  | .hbm, ⟨4, _⟩ => ⟨S16x8448x1024, .bf16⟩
  | .local _ .vmem, ⟨0, _⟩ => ⟨S1x1056x1024, .bf16⟩
  | .local _ .vmem, ⟨1, _⟩ => ⟨S1x1056x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1x1056x1024, .bf16⟩
  | .local _ .vmem, ⟨9, _⟩ => ⟨S1x1056x1024, .bf16⟩
  | _, _ => ⟨S16x8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1056x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S16x8448x1024 : Shape := ⟨3, ![16, 8448, 1024]⟩
abbrev S16x1024x2048 : Shape := ⟨3, ![16, 1024, 2048]⟩
abbrev S16x2048x1024 : Shape := ⟨3, ![16, 2048, 1024]⟩
abbrev S16x8448x2048 : Shape := ⟨3, ![16, 8448, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16x8448x1024, .bf16⟩
  | .hbm, ⟨1, _⟩ => ⟨S16x1024x2048, .bf16⟩
  | .hbm, ⟨2, _⟩ => ⟨S16x1024x2048, .bf16⟩
  | .hbm, ⟨3, _⟩ => ⟨S16x2048x1024, .bf16⟩
  | .hbm, ⟨4, _⟩ => ⟨S16x8448x1024, .f32⟩
  | .hbm, ⟨5, _⟩ => ⟨S16x1024x2048, .f32⟩
  | .hbm, ⟨6, _⟩ => ⟨S16x1024x2048, .f32⟩
  | .hbm, ⟨7, _⟩ => ⟨S16x2048x1024, .f32⟩
  | .hbm, ⟨8, _⟩ => ⟨S16x8448x2048, .f32⟩
  | .hbm, ⟨9, _⟩ => ⟨S16x8448x2048, .f32⟩
  | .hbm, ⟨10, _⟩ => ⟨S16x8448x2048, .f32⟩
  | .hbm, ⟨11, _⟩ => ⟨S_, .f32⟩
  | .hbm, ⟨12, _⟩ => ⟨S16x8448x2048, .f32⟩
  | .hbm, ⟨13, _⟩ => ⟨S16x8448x2048, .f32⟩
  | .hbm, ⟨14, _⟩ => ⟨S_, .f32⟩
  | .hbm, ⟨15, _⟩ => ⟨S16x8448x2048, .f32⟩
  | .hbm, ⟨16, _⟩ => ⟨S16x8448x2048, .f32⟩
  | .hbm, ⟨17, _⟩ => ⟨S16x8448x2048, .f32⟩
  | .hbm, ⟨18, _⟩ => ⟨S16x8448x2048, .f32⟩
  | .hbm, ⟨19, _⟩ => ⟨S16x8448x2048, .f32⟩
  | .hbm, ⟨20, _⟩ => ⟨S16x8448x1024, .f32⟩
  | .hbm, ⟨21, _⟩ => ⟨S16x8448x1024, .bf16⟩
  | _, _ => ⟨S16x8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== Kernel3.lean ====
abbrev S8x4096x1024 : Shape := ⟨3, ![8, 4096, 1024]⟩
abbrev S16x1024 : Shape := ⟨2, ![16, 1024]⟩
abbrev S1x1024 : Shape := ⟨2, ![1, 1024]⟩
abbrev S1x1024x6656 : Shape := ⟨3, ![1, 1024, 6656]⟩
abbrev S1x64 : Shape := ⟨2, ![1, 64]⟩
abbrev S1024 : Shape := ⟨1, ![1024]⟩
abbrev S1024x6656 : Shape := ⟨2, ![1024, 6656]⟩
abbrev S128 : Shape := ⟨1, ![128]⟩
abbrev S1024x1024 : Shape := ⟨2, ![1024, 1024]⟩
abbrev S_ : Shape := ⟨0, ![]⟩
abbrev S1024x1 : Shape := ⟨2, ![1024, 1]⟩
abbrev S1024x5632 : Shape := ⟨2, ![1024, 5632]⟩
abbrev S64 : Shape := ⟨1, ![64]⟩
abbrev S2x64 : Shape := ⟨2, ![2, 64]⟩
abbrev S1x128 : Shape := ⟨2, ![1, 128]⟩
abbrev S128x1 : Shape := ⟨2, ![128, 1]⟩
abbrev S128x128 : Shape := ⟨2, ![128, 128]⟩
abbrev S112x1024 : Shape := ⟨2, ![112, 1024]⟩
abbrev S128x1024 : Shape := ⟨2, ![128, 1024]⟩
abbrev S4096 : Shape := ⟨1, ![4096]⟩
abbrev S112 : Shape := ⟨1, ![112]⟩
abbrev S16 : Shape := ⟨1, ![16]⟩
abbrev S4224 : Shape := ⟨1, ![4224]⟩
abbrev S32 : Shape := ⟨1, ![32]⟩
abbrev S4224x1 : Shape := ⟨2, ![4224, 1]⟩
abbrev S1x32 : Shape := ⟨2, ![1, 32]⟩
abbrev S4224x32 : Shape := ⟨2, ![4224, 32]⟩
abbrev S1x4224x1x32 : Shape := ⟨4, ![1, 4224, 1, 32]⟩
abbrev S1x4224x4x32 : Shape := ⟨4, ![1, 4224, 4, 32]⟩
abbrev S4224x128 : Shape := ⟨2, ![4224, 128]⟩
abbrev S8x4224x1024 : Shape := ⟨3, ![8, 4224, 1024]⟩
abbrev S8x4224x256 : Shape := ⟨3, ![8, 4224, 256]⟩
abbrev S1x512x1024 : Shape := ⟨3, ![1, 512, 1024]⟩
abbrev S512x128 : Shape := ⟨2, ![512, 128]⟩
abbrev S1x512x256 : Shape := ⟨3, ![1, 512, 256]⟩
abbrev S512x1024 : Shape := ⟨2, ![512, 1024]⟩
abbrev S512 : Shape := ⟨1, ![512]⟩
abbrev S512x1 : Shape := ⟨2, ![512, 1]⟩
abbrev S1024x1280 : Shape := ⟨2, ![1024, 1280]⟩
abbrev S512x1280 : Shape := ⟨2, ![512, 1280]⟩
abbrev S1024x256 : Shape := ⟨2, ![1024, 256]⟩
abbrev S512x256 : Shape := ⟨2, ![512, 256]⟩
abbrev S1x512x128 : Shape := ⟨3, ![1, 512, 128]⟩
abbrev S128x1280 : Shape := ⟨2, ![128, 1280]⟩
abbrev S128x256 : Shape := ⟨2, ![128, 256]⟩
abbrev S1x128x256 : Shape := ⟨3, ![1, 128, 256]⟩
abbrev S1x128x1024 : Shape := ⟨3, ![1, 128, 1024]⟩
abbrev S1x128x128 : Shape := ⟨3, ![1, 128, 128]⟩

abbrev nBuf : Space → Nat
  | .hbm => 124
  | .vmem => 26
  | .smem => 0
  | _ => 0

abbrev bufTy : (tb : Table) → Fin (tcTables nBuf tb) → BufTy
  | .hbm, ⟨0, _⟩ => ⟨S8x4096x1024, .f32⟩
  | .hbm, ⟨1, _⟩ => ⟨S16x1024, .f32⟩
  | .hbm, ⟨2, _⟩ => ⟨S1x1024, .f32⟩
  | .hbm, ⟨3, _⟩ => ⟨S1x1024x6656, .f32⟩
  | .hbm, ⟨4, _⟩ => ⟨S1x64, .f32⟩
  | .hbm, ⟨5, _⟩ => ⟨S1x64, .f32⟩
  | .hbm, ⟨6, _⟩ => ⟨S1024, .i32⟩
  | .hbm, ⟨7, _⟩ => ⟨S1024, .i1⟩
  | .hbm, ⟨8, _⟩ => ⟨S1024x6656, .f32⟩
  | .hbm, ⟨9, _⟩ => ⟨S128, .i32⟩
  | .hbm, ⟨10, _⟩ => ⟨S1024x1024, .f32⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S1024, .i32⟩
  | .hbm, ⟨15, _⟩ => ⟨S1024x1, .i32⟩
  | .hbm, ⟨16, _⟩ => ⟨S1024x1024, .f32⟩
  | .hbm, ⟨17, _⟩ => ⟨S1024x5632, .f32⟩
  | .hbm, ⟨18, _⟩ => ⟨S1024x6656, .f32⟩
  | .hbm, ⟨19, _⟩ => ⟨S1024x6656, .bf16⟩
  | .hbm, ⟨20, _⟩ => ⟨S1024, .f32⟩
  | .hbm, ⟨21, _⟩ => ⟨S1x1024, .f32⟩
  | .hbm, ⟨22, _⟩ => ⟨S64, .f32⟩
  | .hbm, ⟨23, _⟩ => ⟨S1x64, .f32⟩
  | .hbm, ⟨24, _⟩ => ⟨S2x64, .f32⟩
  | .hbm, ⟨25, _⟩ => ⟨S128, .f32⟩
  | .hbm, ⟨26, _⟩ => ⟨S1x128, .f32⟩
  | .hbm, ⟨27, _⟩ => ⟨S64, .f32⟩
  | .hbm, ⟨28, _⟩ => ⟨S1x64, .f32⟩
  | .hbm, ⟨29, _⟩ => ⟨S2x64, .f32⟩
  | .hbm, ⟨30, _⟩ => ⟨S128, .f32⟩
  | .hbm, ⟨31, _⟩ => ⟨S1x128, .f32⟩
  | .hbm, ⟨32, _⟩ => ⟨S128x1, .i32⟩
  | .hbm, ⟨33, _⟩ => ⟨S_, .i32⟩
  | .hbm, ⟨34, _⟩ => ⟨S128x1, .i32⟩
  | .hbm, ⟨35, _⟩ => ⟨S128x1, .i1⟩
  | .hbm, ⟨36, _⟩ => ⟨S1x128, .i32⟩
  | .hbm, ⟨37, _⟩ => ⟨S_, .i32⟩
  | .hbm, ⟨38, _⟩ => ⟨S1x128, .i32⟩
  | .hbm, ⟨39, _⟩ => ⟨S1x128, .i1⟩
  | .hbm, ⟨40, _⟩ => ⟨S128x128, .i1⟩
  | .hbm, ⟨41, _⟩ => ⟨S128x128, .i1⟩
  | .hbm, ⟨42, _⟩ => ⟨S128x128, .i1⟩
  | .hbm, ⟨43, _⟩ => ⟨S128x128, .bf16⟩
  | .hbm, ⟨44, _⟩ => ⟨S_, .f32⟩
  | .hbm, ⟨45, _⟩ => ⟨S112x1024, .f32⟩
  | .hbm, ⟨46, _⟩ => ⟨S128x1024, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S_, .f32⟩
  | .hbm, ⟨52, _⟩ => ⟨S112, .f32⟩
  | .hbm, ⟨53, _⟩ => ⟨S16, .f32⟩
  | .hbm, ⟨54, _⟩ => ⟨S4224, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S_, .f32⟩
  | .hbm, ⟨60, _⟩ => ⟨S32, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S_, .f32⟩
  | .hbm, ⟨67, _⟩ => ⟨S32, .f32⟩
  | .hbm, ⟨68, _⟩ => ⟨S32, .f32⟩
  | .hbm, ⟨69, _⟩ => ⟨S4224x1, .f32⟩
  | .hbm, ⟨70, _⟩ => ⟨S1x32, .f32⟩
  | .hbm, ⟨71, _⟩ => ⟨S4224x32, .f32⟩
  | .hbm, ⟨72, _⟩ => ⟨S4224x32, .f32⟩
  | .hbm, ⟨73, _⟩ => ⟨S4224x32, .f32⟩
  | .hbm, ⟨74, _⟩ => ⟨S4224x32, .f32⟩
  | .hbm, ⟨75, _⟩ => ⟨S1x4224x1x32, .f32⟩
  | .hbm, ⟨76, _⟩ => ⟨S1x4224x4x32, .f32⟩
  | .hbm, ⟨77, _⟩ => ⟨S4224x128, .f32⟩
  | .hbm, ⟨78, _⟩ => ⟨S128, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i1⟩
  | .hbm, ⟨83, _⟩ => ⟨S_, .i32⟩
  | .hbm, ⟨84, _⟩ => ⟨S_, .i32⟩
  | .hbm, ⟨85, _⟩ => ⟨S128, .i32⟩
  | .hbm, ⟨86, _⟩ => ⟨S128, .i32⟩
  | .hbm, ⟨87, _⟩ => ⟨S_, .i32⟩
  | .hbm, ⟨88, _⟩ => ⟨S128, .i32⟩
  | .hbm, ⟨89, _⟩ => ⟨S128, .i1⟩
  | .hbm, ⟨90, _⟩ => ⟨S_, .i32⟩
  | .hbm, ⟨91, _⟩ => ⟨S128, .i32⟩
  | .hbm, ⟨92, _⟩ => ⟨S128, .i1⟩
  | .hbm, ⟨93, _⟩ => ⟨S_, .i32⟩
  | .hbm, ⟨94, _⟩ => ⟨S_, .i1⟩
  | .hbm, ⟨95, _⟩ => ⟨S128, .i1⟩
  | .hbm, ⟨96, _⟩ => ⟨S128, .i1⟩
  | .hbm, ⟨97, _⟩ => ⟨S128, .i1⟩
  | .hbm, ⟨98, _⟩ => ⟨S128, .i32⟩
  | .hbm, ⟨99, _⟩ => ⟨S128, .i32⟩
  | .hbm, ⟨100, _⟩ => ⟨S128, .i32⟩
  | .hbm, ⟨101, _⟩ => ⟨S_, .i32⟩
  | .hbm, ⟨102, _⟩ => ⟨S128, .i32⟩
  | .hbm, ⟨103, _⟩ => ⟨S128, .i1⟩
  | .hbm, ⟨104, _⟩ => ⟨S_, .f32⟩
  | .hbm, ⟨105, _⟩ => ⟨S_, .f32⟩
  | .hbm, ⟨106, _⟩ => ⟨S128, .f32⟩
  | .hbm, ⟨107, _⟩ => ⟨S128, .f32⟩
  | .hbm, ⟨108, _⟩ => ⟨S128, .f32⟩
  | .hbm, ⟨109, _⟩ => ⟨S128, .f32⟩
  | .hbm, ⟨110, _⟩ => ⟨S4224x32, .f32⟩
  | .hbm, ⟨111, _⟩ => ⟨S1x4224x1x32, .f32⟩
  | .hbm, ⟨112, _⟩ => ⟨S1x4224x4x32, .f32⟩
  | .hbm, ⟨113, _⟩ => ⟨S4224x128, .f32⟩
  | .hbm, ⟨114, _⟩ => ⟨S1x128, .f32⟩
  | .hbm, ⟨115, _⟩ => ⟨S4224x128, .f32⟩
  | .hbm, ⟨116, _⟩ => ⟨S4224x128, .f32⟩
  | .hbm, ⟨117, _⟩ => ⟨S8x4224x1024, .bf16⟩
  | .hbm, ⟨118, _⟩ => ⟨S8x4224x256, .bf16⟩
  | .hbm, ⟨119, _⟩ => ⟨S8x4224x256, .bf16⟩
  | .hbm, ⟨120, _⟩ => ⟨S8x4224x1024, .bf16⟩
  | .hbm, ⟨121, _⟩ => ⟨S8x4224x1024, .bf16⟩
  | .hbm, ⟨122, _⟩ => ⟨S8x4224x1024, .bf16⟩
  | .hbm, ⟨123, _⟩ => ⟨S8x4224x1024, .bf16⟩
  | .local _ .vmem, ⟨0, _⟩ => ⟨S1x512x1024, .f32⟩
  | .local _ .vmem, ⟨1, _⟩ => ⟨S1x512x1024, .f32⟩
  | .local _ .vmem, ⟨2, _⟩ => ⟨S128x1024, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S1x1024, .f32⟩
  | .local _ .vmem, ⟨8, _⟩ => ⟨S1x128, .f32⟩
  | .local _ .vmem, ⟨9, _⟩ => ⟨S1x128, .f32⟩
  | .local _ .vmem, ⟨10, _⟩ => ⟨S128x128, .bf16⟩
  | .local _ .vmem, ⟨11, _⟩ => ⟨S1024x6656, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x256, .bf16⟩
  | .local _ .vmem, ⟨15, _⟩ => ⟨S1x512x256, .bf16⟩
  | .local _ .vmem, ⟨16, _⟩ => ⟨S1x512x256, .bf16⟩
  | .local _ .vmem, ⟨17, _⟩ => ⟨S1x512x256, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x512x1024, .bf16⟩
  | .local _ .vmem, ⟨25, _⟩ => ⟨S1x512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_10 : Ref sig .tc := ⟨.hbm, 79, rfl⟩
abbrev main_call0_v0 : Ref sig .tc := ⟨.hbm, 80, rfl⟩
abbrev main_call0_c : Ref sig .tc := ⟨.hbm, 81, rfl⟩
abbrev main_call0_v1 : Ref sig .tc := ⟨.hbm, 82, rfl⟩
abbrev main_call0_c_0 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_c_1 : Ref sig .tc := ⟨.hbm, 87, rfl⟩
abbrev main_call0_v5 : Ref sig .tc := ⟨.hbm, 88, rfl⟩
abbrev main_call0_v6 : Ref sig .tc := ⟨.hbm, 89, rfl⟩
abbrev main_call0_c_2 : Ref sig .tc := ⟨.hbm, 90, rfl⟩
abbrev main_call0_v7 : Ref sig .tc := ⟨.hbm, 91, rfl⟩
abbrev main_call0_v8 : Ref sig .tc := ⟨.hbm, 92, rfl⟩
abbrev main_call0_c_3 : Ref sig .tc := ⟨.hbm, 93, rfl⟩
abbrev main_call0_v9 : Ref sig .tc := ⟨.hbm, 94, rfl⟩
abbrev main_call0_v10 : Ref sig .tc := ⟨.hbm, 95, rfl⟩
abbrev main_call0_v11 : Ref sig .tc := ⟨.hbm, 96, rfl⟩
abbrev main_call0_v12 : Ref sig .tc := ⟨.hbm, 97, rfl⟩
abbrev main_call0_v13 : Ref sig .tc := ⟨.hbm, 98, rfl⟩
abbrev main_call0_v14 : Ref sig .tc := ⟨.hbm, 99, rfl⟩
abbrev main_v61 : Ref sig .tc := ⟨.hbm, 100, rfl⟩
abbrev main_c_11 : Ref sig .tc := ⟨.hbm, 101, rfl⟩
abbrev main_v62 : Ref sig .tc := ⟨.hbm, 102, rfl⟩
abbrev main_v63 : Ref sig .tc := ⟨.hbm, 103, rfl⟩
abbrev main_cst_12 : Ref sig .tc := ⟨.hbm, 104, rfl⟩
abbrev main_cst_13 : Ref sig .tc := ⟨.hbm, 105, rfl⟩
abbrev main_call1_v0 : Ref sig .tc := ⟨.hbm, 106, rfl⟩
abbrev main_call1_v1 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73_0 : Ref sig .tc := ⟨.hbm, 117, rfl⟩
abbrev main_v73_1 : Ref sig .tc := ⟨.hbm, 118, rfl⟩
abbrev main_v73_2 : Ref sig .tc := ⟨.hbm, 119, rfl⟩
abbrev main_v73_3 : Ref sig .tc := ⟨.hbm, 120, rfl⟩
abbrev main_v73_4 : Ref sig .tc := ⟨.hbm, 121, rfl⟩
abbrev main_v73_5 : Ref sig .tc := ⟨.hbm, 122, rfl⟩
abbrev main_v73_6 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![8, 9], ![false, false]⟩

def k0_cond1 (i : grid0.Coords) : BitVec 1 :=
  let arg1 : BitVec 32 := BitVec.ofNat 32 (i 1).val
  let c8_i32 : BitVec 32 := 8#32
  let v5 : BitVec 1 := Scalar.cmpi .slt arg1 c8_i32
  let v6 : BitVec 32 := Scalar.extui v5
  let c0_i32 : BitVec 32 := 0#32
  let v7 : BitVec 1 := Scalar.cmpi .ne v6 c0_i32
  v7

def k0_cond2 (i : grid0.Coords) : BitVec 1 :=
  let arg1 : BitVec 32 := BitVec.ofNat 32 (i 1).val
  let c8_i32_0 : BitVec 32 := 8#32
  let v8 : BitVec 1 := Scalar.cmpi .eq arg1 c8_i32_0
  let v9 : BitVec 32 := Scalar.extui v8
  let c0_i32_1 : BitVec 32 := 0#32
  let v10 : BitVec 1 := Scalar.cmpi .ne v9 c0_i32_1
  v10

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x6656 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Kernel3Ideal.lean ====
variable {F : FTy → Type} [FloatOps F] [Named F]
def κ : String → Option EReal := fun
  | "q_scale" => some (((Real.log 256)⁻¹ : ℝ) : EReal)
  | _ => none
-- ==== Reference3Ideal.lean ====
abbrev S8x4096x1024 : Shape := ⟨3, ![8, 4096, 1024]⟩
abbrev S16x1024 : Shape := ⟨2, ![16, 1024]⟩
abbrev S1x1024 : Shape := ⟨2, ![1, 1024]⟩
abbrev S1x1024x6656 : Shape := ⟨3, ![1, 1024, 6656]⟩
abbrev S1x64 : Shape := ⟨2, ![1, 64]⟩
abbrev S1x16x1024 : Shape := ⟨3, ![1, 16, 1024]⟩
abbrev S8x16x1024 : Shape := ⟨3, ![8, 16, 1024]⟩
abbrev S8x4112x1024 : Shape := ⟨3, ![8, 4112, 1024]⟩
abbrev S32 : Shape := ⟨1, ![32]⟩
abbrev S_ : Shape := ⟨0, ![]⟩
abbrev S4112 : Shape := ⟨1, ![4112]⟩
abbrev S4112x1 : Shape := ⟨2, ![4112, 1]⟩
abbrev S1x32 : Shape := ⟨2, ![1, 32]⟩
abbrev S4112x32 : Shape := ⟨2, ![4112, 32]⟩
abbrev S4112x1x32 : Shape := ⟨3, ![4112, 1, 32]⟩
abbrev S1024 : Shape := ⟨1, ![1024]⟩
abbrev S8x4112 : Shape := ⟨2, ![8, 4112]⟩
abbrev S8x4112x1 : Shape := ⟨3, ![8, 4112, 1]⟩
abbrev S1x1x1024 : Shape := ⟨3, ![1, 1, 1024]⟩
abbrev S1024x6656 : Shape := ⟨2, ![1024, 6656]⟩
abbrev S8x4112x6656 : Shape := ⟨3, ![8, 4112, 6656]⟩
abbrev S8x4112x256 : Shape := ⟨3, ![8, 4112, 256]⟩
abbrev S8x4112x16x64 : Shape := ⟨4, ![8, 4112, 16, 64]⟩
abbrev S64 : Shape := ⟨1, ![64]⟩
abbrev S8x4112x16 : Shape := ⟨3, ![8, 4112, 16]⟩
abbrev S8x4112x16x1 : Shape := ⟨4, ![8, 4112, 16, 1]⟩
abbrev S1x1x1x64 : Shape := ⟨4, ![1, 1, 1, 64]⟩
abbrev S8x4112x16x32 : Shape := ⟨4, ![8, 4112, 16, 32]⟩
abbrev S1x4112x1x32 : Shape := ⟨4, ![1, 4112, 1, 32]⟩
abbrev S8x4112x4x64 : Shape := ⟨4, ![8, 4112, 4, 64]⟩
abbrev S8x4112x4 : Shape := ⟨3, ![8, 4112, 4]⟩
abbrev S8x4112x4x1 : Shape := ⟨4, ![8, 4112, 4, 1]⟩
abbrev S8x4112x4x32 : Shape := ⟨4, ![8, 4112, 4, 32]⟩
abbrev S8x4112x2x2x4x64 : Shape := ⟨6, ![8, 4112, 2, 2, 4, 64]⟩
abbrev S8x4112x2x4x2x64 : Shape := ⟨6, ![8, 4112, 2, 4, 2, 64]⟩
abbrev S8x112x1024 : Shape := ⟨3, ![8, 112, 1024]⟩
abbrev S8x4224x1024 : Shape := ⟨3, ![8, 4224, 1024]⟩
abbrev S8x112x256 : Shape := ⟨3, ![8, 112, 256]⟩
abbrev S8x4096x256 : Shape := ⟨3, ![8, 4096, 256]⟩
abbrev S8x16x256 : Shape := ⟨3, ![8, 16, 256]⟩
abbrev S8x4224x256 : Shape := ⟨3, ![8, 4224, 256]⟩

abbrev nBuf : Space → Nat
  | .hbm => 200
  | .vmem => 0
  | .smem => 0
  | _ => 0

abbrev hbmTy0_0 (i : Nat) : BufTy := match i % 128 with
  | 0 => ⟨S8x4096x1024, .f32⟩
  | 1 => ⟨S16x1024, .f32⟩
  | 2 => ⟨S1x1024, .f32⟩
  | 3 => ⟨S1x1024x6656, .f32⟩
  | 4 => ⟨S1x64, .f32⟩
  | 5 => ⟨S1x64, .f32⟩
  | 6 => ⟨S1x16x1024, .f32⟩
  | 7 => ⟨S8x16x1024, .f32⟩
  | 8 => ⟨S8x4112x1024, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S4112, .f32⟩
  | 24 => ⟨S4112x1, .f32⟩
  | 25 => ⟨S1x32, .f32⟩
  | 26 => ⟨S4112x32, .f32⟩
  | 27 => ⟨S4112x32, .f32⟩
  | 28 => ⟨S4112x32, .f32⟩
  | 29 => ⟨S4112x32, .f32⟩
  | 30 => ⟨S4112x1x32, .f32⟩
  | 31 => ⟨S4112x32, .f32⟩
  | 32 => ⟨S4112x1x32, .f32⟩
  | 33 => ⟨S1024, .f32⟩
  | 34 => ⟨S8x4112x1024, .f32⟩
  | 35 => ⟨S_, .f32⟩
  | 36 => ⟨S8x4112, .f32⟩
  | 37 => ⟨S8x4112x1, .f32⟩
  | 38 => ⟨S_, .f32⟩
  | 39 => ⟨S8x4112x1, .f32⟩
  | 40 => ⟨S8x4112x1, .f32⟩
  | 41 => ⟨S_, .f32⟩
  | 42 => ⟨S8x4112x1, .f32⟩
  | 43 => ⟨S8x4112x1, .f32⟩
  | 44 => ⟨S8x4112x1, .f32⟩
  | 45 => ⟨S8x4112x1024, .f32⟩
  | 46 => ⟨S8x4112x1024, .f32⟩
  | 47 => ⟨S1x1x1024, .f32⟩
  | 48 => ⟨S8x4112x1024, .f32⟩
  | 49 => ⟨S8x4112x1024, .f32⟩
  | 50 => ⟨S1024x6656, .f32⟩
  | 51 => ⟨S8x4112x6656, .f32⟩
  | 52 => ⟨S8x4112x1024, .f32⟩
  | 53 => ⟨S8x4112x256, .f32⟩
  | 54 => ⟨S8x4112x256, .f32⟩
  | 55 => ⟨S8x4112x1024, .f32⟩
  | 56 => ⟨S8x4112x1024, .f32⟩
  | 57 => ⟨S8x4112x1024, .f32⟩
  | 58 => ⟨S8x4112x1024, .f32⟩
  | 59 => ⟨S8x4112x1024, .f32⟩
  | 60 => ⟨S8x4112x16x64, .f32⟩
  | 61 => ⟨S64, .f32⟩
  | 62 => ⟨S8x4112x16x64, .f32⟩
  | 63 => ⟨S_, .f32⟩
  | 64 => ⟨S8x4112x16, .f32⟩
  | 65 => ⟨S8x4112x16x1, .f32⟩
  | 66 => ⟨S_, .f32⟩
  | 67 => ⟨S8x4112x16x1, .f32⟩
  | 68 => ⟨S8x4112x16x1, .f32⟩
  | 69 => ⟨S_, .f32⟩
  | 70 => ⟨S8x4112x16x1, .f32⟩
  | 71 => ⟨S8x4112x16x1, .f32⟩
  | 72 => ⟨S8x4112x16x1, .f32⟩
  | 73 => ⟨S8x4112x16x64, .f32⟩
  | 74 => ⟨S8x4112x16x64, .f32⟩
  | 75 => ⟨S1x1x1x64, .f32⟩
  | 76 => ⟨S8x4112x16x64, .f32⟩
  | 77 => ⟨S8x4112x16x64, .f32⟩
  | 78 => ⟨S8x4112x16x32, .f32⟩
  | 79 => ⟨S8x4112x16x32, .f32⟩
  | 80 => ⟨S1x4112x1x32, .f32⟩
  | 81 => ⟨S8x4112x16x32, .f32⟩
  | 82 => ⟨S8x4112x16x32, .f32⟩
  | 83 => ⟨S1x4112x1x32, .f32⟩
  | 84 => ⟨S8x4112x16x32, .f32⟩
  | 85 => ⟨S8x4112x16x32, .f32⟩
  | 86 => ⟨S8x4112x16x32, .f32⟩
  | 87 => ⟨S1x4112x1x32, .f32⟩
  | 88 => ⟨S8x4112x16x32, .f32⟩
  | 89 => ⟨S8x4112x16x32, .f32⟩
  | 90 => ⟨S1x4112x1x32, .f32⟩
  | 91 => ⟨S8x4112x16x32, .f32⟩
  | 92 => ⟨S8x4112x16x32, .f32⟩
  | 93 => ⟨S8x4112x16x32, .f32⟩
  | 94 => ⟨S8x4112x16x64, .f32⟩
  | 95 => ⟨S8x4112x4x64, .f32⟩
  | 96 => ⟨S64, .f32⟩
  | 97 => ⟨S8x4112x4x64, .f32⟩
  | 98 => ⟨S_, .f32⟩
  | 99 => ⟨S8x4112x4, .f32⟩
  | 100 => ⟨S8x4112x4x1, .f32⟩
  | 101 => ⟨S_, .f32⟩
  | 102 => ⟨S8x4112x4x1, .f32⟩
  | 103 => ⟨S8x4112x4x1, .f32⟩
  | 104 => ⟨S_, .f32⟩
  | 105 => ⟨S8x4112x4x1, .f32⟩
  | 106 => ⟨S8x4112x4x1, .f32⟩
  | 107 => ⟨S8x4112x4x1, .f32⟩
  | 108 => ⟨S8x4112x4x64, .f32⟩
  | 109 => ⟨S8x4112x4x64, .f32⟩
  | 110 => ⟨S1x1x1x64, .f32⟩
  | 111 => ⟨S8x4112x4x64, .f32⟩
  | 112 => ⟨S8x4112x4x64, .f32⟩
  | 113 => ⟨S8x4112x4x32, .f32⟩
  | 114 => ⟨S8x4112x4x32, .f32⟩
  | 115 => ⟨S1x4112x1x32, .f32⟩
  | 116 => ⟨S8x4112x4x32, .f32⟩
  | 117 => ⟨S8x4112x4x32, .f32⟩
  | 118 => ⟨S1x4112x1x32, .f32⟩
  | 119 => ⟨S8x4112x4x32, .f32⟩
  | 120 => ⟨S8x4112x4x32, .f32⟩
  | 121 => ⟨S8x4112x4x32, .f32⟩
  | 122 => ⟨S1x4112x1x32, .f32⟩
  | 123 => ⟨S8x4112x4x32, .f32⟩
  | 124 => ⟨S8x4112x4x32, .f32⟩
  | 125 => ⟨S1x4112x1x32, .f32⟩
  | 126 => ⟨S8x4112x4x32, .f32⟩
  | 127 => ⟨S8x4112x4x32, .f32⟩
  | _ => ⟨S8x4096x1024, .f32⟩

abbrev hbmTy0_1 (i : Nat) : BufTy := match i % 128 with
  | 0 => ⟨S8x4112x4x32, .f32⟩
  | 1 => ⟨S8x4112x4x64, .f32⟩
  | 2 => ⟨S_, .f32⟩
  | 3 => ⟨S8x4112x16x64, .f32⟩
  | 4 => ⟨S8x4112x16x64, .f32⟩
  | 5 => ⟨S_, .f32⟩
  | 6 => ⟨S_, .f32⟩
  | 7 => ⟨S8x4112x16x64, .f32⟩
  | 8 => ⟨S8x4112x16x64, .f32⟩
  | 9 => ⟨S8x4112x2x2x4x64, .f32⟩
  | 10 => ⟨S8x4112x2x4x2x64, .f32⟩
  | 11 => ⟨S8x4112x1024, .f32⟩
  | 12 => ⟨S8x4112x256, .f32⟩
  | 13 => ⟨S8x4112x1024, .f32⟩
  | 14 => ⟨S8x4112x1024, .f32⟩
  | 15 => ⟨S8x4112x1024, .f32⟩
  | 16 => ⟨S_, .f32⟩
  | 17 => ⟨S8x4112x1024, .f32⟩
  | 18 => ⟨S8x4112x1024, .f32⟩
  | 19 => ⟨S_, .f32⟩
  | 20 => ⟨S8x4112x1024, .f32⟩
  | 21 => ⟨S8x4112x1024, .f32⟩
  | 22 => ⟨S8x4112x1024, .f32⟩
  | 23 => ⟨S8x4112x1024, .f32⟩
  | 24 => ⟨S_, .f32⟩
  | 25 => ⟨S8x4112x1024, .f32⟩
  | 26 => ⟨S8x4112x1024, .f32⟩
  | 27 => ⟨S_, .f32⟩
  | 28 => ⟨S8x4112x1024, .f32⟩
  | 29 => ⟨S8x4112x1024, .f32⟩
  | 30 => ⟨S_, .f32⟩
  | 31 => ⟨S8x112x1024, .f32⟩
  | 32 => ⟨S8x4096x1024, .f32⟩
  | 33 => ⟨S8x16x1024, .f32⟩
  | 34 => ⟨S8x4224x1024, .f32⟩
  | 35 => ⟨S8x4224x1024, .bf16⟩
  | 36 => ⟨S_, .f32⟩
  | 37 => ⟨S8x112x256, .f32⟩
  | 38 => ⟨S8x4096x256, .f32⟩
  | 39 => ⟨S8x16x256, .f32⟩
  | 40 => ⟨S8x4224x256, .f32⟩
  | 41 => ⟨S8x4224x256, .bf16⟩
  | 42 => ⟨S_, .f32⟩
  | 43 => ⟨S8x112x256, .f32⟩
  | 44 => ⟨S8x4096x256, .f32⟩
  | 45 => ⟨S8x16x256, .f32⟩
  | 46 => ⟨S8x4224x256, .f32⟩
  | 47 => ⟨S8x4224x256, .bf16⟩
  | 48 => ⟨S_, .f32⟩
  | 49 => ⟨S8x112x1024, .f32⟩
  | 50 => ⟨S8x4096x1024, .f32⟩
  | 51 => ⟨S8x16x1024, .f32⟩
  | 52 => ⟨S8x4224x1024, .f32⟩
  | 53 => ⟨S8x4224x1024, .bf16⟩
  | 54 => ⟨S_, .f32⟩
  | 55 => ⟨S8x112x1024, .f32⟩
  | 56 => ⟨S8x4096x1024, .f32⟩
  | 57 => ⟨S8x16x1024, .f32⟩
  | 58 => ⟨S8x4224x1024, .f32⟩
  | 59 => ⟨S8x4224x1024, .bf16⟩
  | 60 => ⟨S_, .f32⟩
  | 61 => ⟨S8x112x1024, .f32⟩
  | 62 => ⟨S8x4096x1024, .f32⟩
  | 63 => ⟨S8x16x1024, .f32⟩
  | 64 => ⟨S8x4224x1024, .f32⟩
  | 65 => ⟨S8x4224x1024, .bf16⟩
  | 66 => ⟨S_, .f32⟩
  | 67 => ⟨S8x112x1024, .f32⟩
  | 68 => ⟨S8x4096x1024, .f32⟩
  | 69 => ⟨S8x16x1024, .f32⟩
  | 70 => ⟨S8x4224x1024, .f32⟩
  | 71 => ⟨S8x4224x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_cst_7 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_cst_9 : Ref sig .tc := ⟨.hbm, 98, rfl⟩
abbrev main_v82 : Ref sig .tc := ⟨.hbm, 99, rfl⟩
abbrev main_v83 : Ref sig .tc := ⟨.hbm, 100, rfl⟩
abbrev main_cst_10 : Ref sig .tc := ⟨.hbm, 101, rfl⟩
abbrev main_v84 : Ref sig .tc := ⟨.hbm, 102, rfl⟩
abbrev main_v85 : Ref sig .tc := ⟨.hbm, 103, rfl⟩
abbrev main_cst_11 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_cst_12 : Ref sig .tc := ⟨.hbm, 130, rfl⟩
abbrev main_v111 : Ref sig .tc := ⟨.hbm, 131, rfl⟩
abbrev main_v112 : Ref sig .tc := ⟨.hbm, 132, rfl⟩
abbrev main_cst_13 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_cst_14 : Ref sig .tc := ⟨.hbm, 144, rfl⟩
abbrev main_v123 : Ref sig .tc := ⟨.hbm, 145, rfl⟩
abbrev main_v124 : Ref sig .tc := ⟨.hbm, 146, rfl⟩
abbrev main_cst_15 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_cst_16 : Ref sig .tc := ⟨.hbm, 152, rfl⟩
abbrev main_v129 : Ref sig .tc := ⟨.hbm, 153, rfl⟩
abbrev main_v130 : Ref sig .tc := ⟨.hbm, 154, rfl⟩
abbrev main_cst_17 : Ref sig .tc := ⟨.hbm, 155, rfl⟩
abbrev main_v131 : Ref sig .tc := ⟨.hbm, 156, rfl⟩
abbrev main_v132 : Ref sig .tc := ⟨.hbm, 157, rfl⟩
abbrev main_cst_18 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_cst_19 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_cst_20 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_cst_21 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_cst_22 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_cst_23 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_cst_24 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩

abbrev nD : Nat := 1
abbrev τ : Topo := Topo.v7x

variable {F : FTy → Type} [FloatOps F]
-- ==== Kernel4.lean ====
abbrev S8x4096x1024 : Shape := ⟨3, ![8, 4096, 1024]⟩
abbrev S16x1024 : Shape := ⟨2, ![16, 1024]⟩
abbrev S8x4224x1024 : Shape := ⟨3, ![8, 4224, 1024]⟩
abbrev S1x3x1024 : Shape := ⟨3, ![1, 3, 1024]⟩
abbrev S1x1024x1024 : Shape := ⟨3, ![1, 1024, 1024]⟩
abbrev S1x1024 : Shape := ⟨2, ![1, 1024]⟩
abbrev S1x1024x16 : Shape := ⟨3, ![1, 1024, 16]⟩
abbrev S1024 : Shape := ⟨1, ![1024]⟩
abbrev S3x1024 : Shape := ⟨2, ![3, 1024]⟩
abbrev S1024x1024 : Shape := ⟨2, ![1024, 1024]⟩
abbrev S_ : Shape := ⟨0, ![]⟩
abbrev S1024x1 : Shape := ⟨2, ![1024, 1]⟩
abbrev S1024x16 : Shape := ⟨2, ![1024, 16]⟩
abbrev S112x1024 : Shape := ⟨2, ![112, 1024]⟩
abbrev S128x1024 : Shape := ⟨2, ![128, 1024]⟩
abbrev S8x16x4224 : Shape := ⟨3, ![8, 16, 4224]⟩
abbrev S1x512x1024 : Shape := ⟨3, ![1, 512, 1024]⟩
abbrev S1x16x1024 : Shape := ⟨3, ![1, 16, 1024]⟩
abbrev S1x16x512 : Shape := ⟨3, ![1, 16, 512]⟩
abbrev S512x1024 : Shape := ⟨2, ![512, 1024]⟩
abbrev S512x1 : Shape := ⟨2, ![512, 1]⟩
abbrev S1x1x1024 : Shape := ⟨3, ![1, 1, 1024]⟩
abbrev S512 : Shape := ⟨1, ![512]⟩
abbrev S16x512 : Shape := ⟨2, ![16, 512]⟩
abbrev S1x512 : Shape := ⟨2, ![1, 512]⟩
abbrev S1x128x1024 : Shape := ⟨3, ![1, 128, 1024]⟩
abbrev S128x1 : Shape := ⟨2, ![128, 1]⟩
abbrev S128 : Shape := ⟨1, ![128]⟩
abbrev S16x128 : Shape := ⟨2, ![16, 128]⟩
abbrev S1x128 : Shape := ⟨2, ![1, 128]⟩
abbrev S1x16x128 : Shape := ⟨3, ![1, 16, 128]⟩

abbrev nBuf : Space → Nat
  | .hbm => 39
  | .vmem => 29
  | .smem => 0
  | _ => 0

abbrev bufTy : (tb : Table) → Fin (tcTables nBuf tb) → BufTy
  | .hbm, ⟨0, _⟩ => ⟨S8x4096x1024, .f32⟩
  | .hbm, ⟨1, _⟩ => ⟨S16x1024, .f32⟩
  | .hbm, ⟨2, _⟩ => ⟨S8x4224x1024, .bf16⟩
  | .hbm, ⟨3, _⟩ => ⟨S8x4224x1024, .bf16⟩
  | .hbm, ⟨4, _⟩ => ⟨S8x4224x1024, .bf16⟩
  | .hbm, ⟨5, _⟩ => ⟨S8x4224x1024, .bf16⟩
  | .hbm, ⟨6, _⟩ => ⟨S8x4224x1024, .bf16⟩
  | .hbm, ⟨7, _⟩ => ⟨S1x3x1024, .f32⟩
  | .hbm, ⟨8, _⟩ => ⟨S1x1024x1024, .f32⟩
  | .hbm, ⟨9, _⟩ => ⟨S1x1024x1024, .f32⟩
  | .hbm, ⟨10, _⟩ => ⟨S1x1024x1024, .f32⟩
  | .hbm, ⟨11, _⟩ => ⟨S1x1024, .f32⟩
  | .hbm, ⟨12, _⟩ => ⟨S1x1024x16, .f32⟩
  | .hbm, ⟨13, _⟩ => ⟨S1024, .i32⟩
  | .hbm, ⟨14, _⟩ => ⟨S1024, .i1⟩
  | .hbm, ⟨15, _⟩ => ⟨S3x1024, .f32⟩
  | .hbm, ⟨16, _⟩ => ⟨S1024, .f32⟩
  | .hbm, ⟨17, _⟩ => ⟨S1x1024, .f32⟩
  | .hbm, ⟨18, _⟩ => ⟨S1024x1024, .f32⟩
  | .hbm, ⟨19, _⟩ => ⟨S_, .i32⟩
  | .hbm, ⟨20, _⟩ => ⟨S1024, .i32⟩
  | .hbm, ⟨21, _⟩ => ⟨S1024, .i32⟩
  | .hbm, ⟨22, _⟩ => ⟨S1024, .i32⟩
  | .hbm, ⟨23, _⟩ => ⟨S1024x1, .i32⟩
  | .hbm, ⟨24, _⟩ => ⟨S1024x1024, .f32⟩
  | .hbm, ⟨25, _⟩ => ⟨S1024x1024, .bf16⟩
  | .hbm, ⟨26, _⟩ => ⟨S1024x1024, .f32⟩
  | .hbm, ⟨27, _⟩ => ⟨S1024x1024, .bf16⟩
  | .hbm, ⟨28, _⟩ => ⟨S1024x1024, .f32⟩
  | .hbm, ⟨29, _⟩ => ⟨S1024x1024, .bf16⟩
  | .hbm, ⟨30, _⟩ => ⟨S1024x16, .f32⟩
  | .hbm, ⟨31, _⟩ => ⟨S16x1024, .f32⟩
  | .hbm, ⟨32, _⟩ => ⟨S16x1024, .bf16⟩
  | .hbm, ⟨33, _⟩ => ⟨S_, .f32⟩
  | .hbm, ⟨34, _⟩ => ⟨S112x1024, .f32⟩
  | .hbm, ⟨35, _⟩ => ⟨S128x1024, .f32⟩
  | .hbm, ⟨36, _⟩ => ⟨S8x4224x1024, .f32⟩
  | .hbm, ⟨37, _⟩ => ⟨S8x4224x1024, .bf16⟩
  | .hbm, ⟨38, _⟩ => ⟨S8x16x4224, .f32⟩
  | .local _ .vmem, ⟨0, _⟩ => ⟨S1x512x1024, .f32⟩
  | .local _ .vmem, ⟨1, _⟩ => ⟨S1x512x1024, .f32⟩
  | .local _ .vmem, ⟨2, _⟩ => ⟨S128x1024, .f32⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x16x1024, .bf16⟩
  | .local _ .vmem, ⟨10, _⟩ => ⟨S1x16x1024, .bf16⟩
  | .local _ .vmem, ⟨11, _⟩ => ⟨S1x16x1024, .bf16⟩
  | .local _ .vmem, ⟨12, _⟩ => ⟨S1x16x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S3x1024, .f32⟩
  | .local _ .vmem, ⟨18, _⟩ => ⟨S1x1024, .f32⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S16x1024, .bf16⟩
  | .local _ .vmem, ⟨23, _⟩ => ⟨S1x512x1024, .f32⟩
  | .local _ .vmem, ⟨24, _⟩ => ⟨S1x512x1024, .f32⟩
  | .local _ .vmem, ⟨25, _⟩ => ⟨S1x512x1024, .bf16⟩
  | .local _ .vmem, ⟨26, _⟩ => ⟨S1x512x1024, .bf16⟩
  | .local _ .vmem, ⟨27, _⟩ => ⟨S1x16x512, .f32⟩
  | .local _ .vmem, ⟨28, _⟩ => ⟨S1x16x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19_0 : Ref sig .tc := ⟨.hbm, 36, rfl⟩
abbrev main_v19_1 : Ref sig .tc := ⟨.hbm, 37, rfl⟩
abbrev main_v19_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨2, ![8, 9], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c8_i32_0 : BitVec 32 := 8#32
  let v3 : BitVec 1 := Scalar.cmpi .eq arg1 c8_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c264_i32 : BitVec 32 := 264#32
  let v1 : BitVec 32 := Scalar.addi v0 c264_i32
  let c1_i32 : BitVec 32 := 1#32
  let v2 : BitVec 32 := Scalar.subi v1 c1_i32
  let c264_i32_0 : BitVec 32 := 264#32
  let c0_i32 : BitVec 32 := 0#32
  let v3 : BitVec 1 := Scalar.cmpi .eq c264_i32_0 c0_i32
  let c1_i32_1 : BitVec 32 := 1#32
  let v4 : BitVec 32 := Scalar.select v3 c1_i32_1 c264_i32_0
  let v5 : BitVec 32 := Scalar.remsi v2 v4
  let c0_i32_2 : BitVec 32 := 0#32
  let v6 : BitVec 1 := Scalar.cmpi .ne v5 c0_i32_2
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let v10 : BitVec 1 := Scalar.andi v9 v6
  let v11 : BitVec 32 := Scalar.addi v5 v4
  let v12 : BitVec 32 := Scalar.select v10 v11 v5
  let c0_i32_5 : BitVec 32 := 0#32
  let c0_i32_6 : BitVec 32 := 0#32
  ![arg0.toNat, v12.toNat, c0_i32_5.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg1 c8_i32
  let c1_i32 : BitVec 32 := 1#32
  let v1 : BitVec 32 := Scalar.addi arg1 c1_i32
  let c32_i32 : BitVec 32 := 32#32
  let v2 : BitVec 32 := Scalar.muli v1 c32_i32
  let c0_i32 : BitVec 32 := 0#32
  let v3 : BitVec 32 := Scalar.select v0 c0_i32 v2
  let c0_i32_0 : BitVec 32 := 0#32
  let c0_i32_1 : BitVec 32 := 0#32
  ![arg0.toNat, v3.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S16x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x16x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference4Ideal.lean ====
abbrev S8x4096x1024 : Shape := ⟨3, ![8, 4096, 1024]⟩
abbrev S16x1024 : Shape := ⟨2, ![16, 1024]⟩
abbrev S8x4224x1024 : Shape := ⟨3, ![8, 4224, 1024]⟩
abbrev S1x3x1024 : Shape := ⟨3, ![1, 3, 1024]⟩
abbrev S1x1024x1024 : Shape := ⟨3, ![1, 1024, 1024]⟩
abbrev S1x1024 : Shape := ⟨2, ![1, 1024]⟩
abbrev S1x1024x16 : Shape := ⟨3, ![1, 1024, 16]⟩
abbrev S1x16x1024 : Shape := ⟨3, ![1, 16, 1024]⟩
abbrev S8x16x1024 : Shape := ⟨3, ![8, 16, 1024]⟩
abbrev S8x4112x1024 : Shape := ⟨3, ![8, 4112, 1024]⟩
abbrev S8x4112x2x4x2x64 : Shape := ⟨6, ![8, 4112, 2, 4, 2, 64]⟩
abbrev S8x4112x2x2x4x64 : Shape := ⟨6, ![8, 4112, 2, 2, 4, 64]⟩
abbrev S1024x1024 : Shape := ⟨2, ![1024, 1024]⟩
abbrev S_ : Shape := ⟨0, ![]⟩
abbrev S8x4114x1024 : Shape := ⟨3, ![8, 4114, 1024]⟩
abbrev S3x1024 : Shape := ⟨2, ![3, 1024]⟩
abbrev S1024 : Shape := ⟨1, ![1024]⟩
abbrev S1x1x1024 : Shape := ⟨3, ![1, 1, 1024]⟩
abbrev S8x4112 : Shape := ⟨2, ![8, 4112]⟩
abbrev S8x4112x1 : Shape := ⟨3, ![8, 4112, 1]⟩
abbrev S1024x16 : Shape := ⟨2, ![1024, 16]⟩
abbrev S8x4112x16 : Shape := ⟨3, ![8, 4112, 16]⟩
abbrev S8x112x1024 : Shape := ⟨3, ![8, 112, 1024]⟩
abbrev S8x4096x16 : Shape := ⟨3, ![8, 4096, 16]⟩
abbrev S8x112x16 : Shape := ⟨3, ![8, 112, 16]⟩
abbrev S8x16x16 : Shape := ⟨3, ![8, 16, 16]⟩
abbrev S8x4224x16 : Shape := ⟨3, ![8, 4224, 16]⟩
abbrev S8x16x4224 : Shape := ⟨3, ![8, 16, 4224]⟩

abbrev nBuf : Space → Nat
  | .hbm => 124
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S16x1024, .f32⟩
  | .hbm, ⟨2, _⟩ => ⟨S8x4224x1024, .bf16⟩
  | .hbm, ⟨3, _⟩ => ⟨S8x4224x1024, .bf16⟩
  | .hbm, ⟨4, _⟩ => ⟨S8x4224x1024, .bf16⟩
  | .hbm, ⟨5, _⟩ => ⟨S8x4224x1024, .bf16⟩
  | .hbm, ⟨6, _⟩ => ⟨S8x4224x1024, .bf16⟩
  | .hbm, ⟨7, _⟩ => ⟨S1x3x1024, .f32⟩
  | .hbm, ⟨8, _⟩ => ⟨S1x1024x1024, .f32⟩
  | .hbm, ⟨9, _⟩ => ⟨S1x1024x1024, .f32⟩
  | .hbm, ⟨10, _⟩ => ⟨S1x1024x1024, .f32⟩
  | .hbm, ⟨11, _⟩ => ⟨S1x1024, .f32⟩
  | .hbm, ⟨12, _⟩ => ⟨S1x1024x16, .f32⟩
  | .hbm, ⟨13, _⟩ => ⟨S1x16x1024, .f32⟩
  | .hbm, ⟨14, _⟩ => ⟨S8x16x1024, .f32⟩
  | .hbm, ⟨15, _⟩ => ⟨S8x4112x1024, .f32⟩
  | .hbm, ⟨16, _⟩ => ⟨S8x16x1024, .bf16⟩
  | .hbm, ⟨17, _⟩ => ⟨S8x4096x1024, .bf16⟩
  | .hbm, ⟨18, _⟩ => ⟨S8x4112x1024, .bf16⟩
  | .hbm, ⟨19, _⟩ => ⟨S8x4112x1024, .f32⟩
  | .hbm, ⟨20, _⟩ => ⟨S8x16x1024, .bf16⟩
  | .hbm, ⟨21, _⟩ => ⟨S8x4096x1024, .bf16⟩
  | .hbm, ⟨22, _⟩ => ⟨S8x4112x1024, .bf16⟩
  | .hbm, ⟨23, _⟩ => ⟨S8x4112x1024, .f32⟩
  | .hbm, ⟨24, _⟩ => ⟨S8x16x1024, .bf16⟩
  | .hbm, ⟨25, _⟩ => ⟨S8x4096x1024, .bf16⟩
  | .hbm, ⟨26, _⟩ => ⟨S8x4112x1024, .bf16⟩
  | .hbm, ⟨27, _⟩ => ⟨S8x4112x1024, .f32⟩
  | .hbm, ⟨28, _⟩ => ⟨S8x16x1024, .bf16⟩
  | .hbm, ⟨29, _⟩ => ⟨S8x4096x1024, .bf16⟩
  | .hbm, ⟨30, _⟩ => ⟨S8x4112x1024, .bf16⟩
  | .hbm, ⟨31, _⟩ => ⟨S8x4112x1024, .f32⟩
  | .hbm, ⟨32, _⟩ => ⟨S8x16x1024, .bf16⟩
  | .hbm, ⟨33, _⟩ => ⟨S8x4096x1024, .bf16⟩
  | .hbm, ⟨34, _⟩ => ⟨S8x4112x1024, .bf16⟩
  | .hbm, ⟨35, _⟩ => ⟨S8x4112x1024, .f32⟩
  | .hbm, ⟨36, _⟩ => ⟨S8x4112x2x4x2x64, .f32⟩
  | .hbm, ⟨37, _⟩ => ⟨S8x4112x2x2x4x64, .f32⟩
  | .hbm, ⟨38, _⟩ => ⟨S8x4112x1024, .f32⟩
  | .hbm, ⟨39, _⟩ => ⟨S1024x1024, .f32⟩
  | .hbm, ⟨40, _⟩ => ⟨S8x4112x1024, .f32⟩
  | .hbm, ⟨41, _⟩ => ⟨S_, .i32⟩
  | .hbm, ⟨42, _⟩ => ⟨S_, .f32⟩
  | .hbm, ⟨43, _⟩ => ⟨S8x4114x1024, .f32⟩
  | .hbm, ⟨44, _⟩ => ⟨S3x1024, .f32⟩
  | .hbm, ⟨45, _⟩ => ⟨S1x1024, .f32⟩
  | .hbm, ⟨46, _⟩ => ⟨S1024, .f32⟩
  | .hbm, ⟨47, _⟩ => ⟨S8x4112x1024, .f32⟩
  | .hbm, ⟨48, _⟩ => ⟨S1x1x1024, .f32⟩
  | .hbm, ⟨49, _⟩ => ⟨S8x4112x1024, .f32⟩
  | .hbm, ⟨50, _⟩ => ⟨S8x4112x1024, .f32⟩
  | .hbm, ⟨51, _⟩ => ⟨S1x1024, .f32⟩
  | .hbm, ⟨52, _⟩ => ⟨S1024, .f32⟩
  | .hbm, ⟨53, _⟩ => ⟨S8x4112x1024, .f32⟩
  | .hbm, ⟨54, _⟩ => ⟨S1x1x1024, .f32⟩
  | .hbm, ⟨55, _⟩ => ⟨S8x4112x1024, .f32⟩
  | .hbm, ⟨56, _⟩ => ⟨S8x4112x1024, .f32⟩
  | .hbm, ⟨57, _⟩ => ⟨S8x4112x1024, .f32⟩
  | .hbm, ⟨58, _⟩ => ⟨S1x1024, .f32⟩
  | .hbm, ⟨59, _⟩ => ⟨S1024, .f32⟩
  | .hbm, ⟨60, _⟩ => ⟨S8x4112x1024, .f32⟩
  | .hbm, ⟨61, _⟩ => ⟨S1x1x1024, .f32⟩
  | .hbm, ⟨62, _⟩ => ⟨S8x4112x1024, .f32⟩
  | .hbm, ⟨63, _⟩ => ⟨S8x4112x1024, .f32⟩
  | .hbm, ⟨64, _⟩ => ⟨S8x4112x1024, .f32⟩
  | .hbm, ⟨65, _⟩ => ⟨S8x4112x1024, .f32⟩
  | .hbm, ⟨66, _⟩ => ⟨S1024x1024, .f32⟩
  | .hbm, ⟨67, _⟩ => ⟨S8x4112x1024, .f32⟩
  | .hbm, ⟨68, _⟩ => ⟨S8x4112x1024, .f32⟩
  | .hbm, ⟨69, _⟩ => ⟨S8x4112x1024, .f32⟩
  | .hbm, ⟨70, _⟩ => ⟨S8x4112x1024, .f32⟩
  | .hbm, ⟨71, _⟩ => ⟨S1024x1024, .f32⟩
  | .hbm, ⟨72, _⟩ => ⟨S8x4112x1024, .f32⟩
  | .hbm, ⟨73, _⟩ => ⟨S8x4112x1024, .f32⟩
  | .hbm, ⟨74, _⟩ => ⟨S1024, .f32⟩
  | .hbm, ⟨75, _⟩ => ⟨S8x4112x1024, .f32⟩
  | .hbm, ⟨76, _⟩ => ⟨S_, .f32⟩
  | .hbm, ⟨77, _⟩ => ⟨S8x4112, .f32⟩
  | .hbm, ⟨78, _⟩ => ⟨S8x4112x1, .f32⟩
  | .hbm, ⟨79, _⟩ => ⟨S_, .f32⟩
  | .hbm, ⟨80, _⟩ => ⟨S8x4112x1, .f32⟩
  | .hbm, ⟨81, _⟩ => ⟨S8x4112x1, .f32⟩
  | .hbm, ⟨82, _⟩ => ⟨S_, .f32⟩
  | .hbm, ⟨83, _⟩ => ⟨S8x4112x1, .f32⟩
  | .hbm, ⟨84, _⟩ => ⟨S8x4112x1, .f32⟩
  | .hbm, ⟨85, _⟩ => ⟨S8x4112x1, .f32⟩
  | .hbm, ⟨86, _⟩ => ⟨S8x4112x1024, .f32⟩
  | .hbm, ⟨87, _⟩ => ⟨S8x4112x1024, .f32⟩
  | .hbm, ⟨88, _⟩ => ⟨S1x1x1024, .f32⟩
  | .hbm, ⟨89, _⟩ => ⟨S8x4112x1024, .f32⟩
  | .hbm, ⟨90, _⟩ => ⟨S8x4112x1024, .f32⟩
  | .hbm, ⟨91, _⟩ => ⟨S1024x16, .f32⟩
  | .hbm, ⟨92, _⟩ => ⟨S8x4112x16, .f32⟩
  | .hbm, ⟨93, _⟩ => ⟨S_, .f32⟩
  | .hbm, ⟨94, _⟩ => ⟨S8x4112, .f32⟩
  | .hbm, ⟨95, _⟩ => ⟨S_, .f32⟩
  | .hbm, ⟨96, _⟩ => ⟨S8x4112, .f32⟩
  | .hbm, ⟨97, _⟩ => ⟨S8x4112, .f32⟩
  | .hbm, ⟨98, _⟩ => ⟨S8x4112x1, .f32⟩
  | .hbm, ⟨99, _⟩ => ⟨S8x4112x16, .f32⟩
  | .hbm, ⟨100, _⟩ => ⟨S8x4112x16, .f32⟩
  | .hbm, ⟨101, _⟩ => ⟨S8x4112x16, .f32⟩
  | .hbm, ⟨102, _⟩ => ⟨S_, .f32⟩
  | .hbm, ⟨103, _⟩ => ⟨S8x4112, .f32⟩
  | .hbm, ⟨104, _⟩ => ⟨S8x4112x1, .f32⟩
  | .hbm, ⟨105, _⟩ => ⟨S8x4112x16, .f32⟩
  | .hbm, ⟨106, _⟩ => ⟨S8x4112x16, .f32⟩
  | .hbm, ⟨107, _⟩ => ⟨S8x4096x1024, .f32⟩
  | .hbm, ⟨108, _⟩ => ⟨S_, .f32⟩
  | .hbm, ⟨109, _⟩ => ⟨S8x112x1024, .f32⟩
  | .hbm, ⟨110, _⟩ => ⟨S8x16x1024, .f32⟩
  | .hbm, ⟨111, _⟩ => ⟨S8x4224x1024, .f32⟩
  | .hbm, ⟨112, _⟩ => ⟨S8x4096x1024, .f32⟩
  | .hbm, ⟨113, _⟩ => ⟨S_, .f32⟩
  | .hbm, ⟨114, _⟩ => ⟨S8x112x1024, .f32⟩
  | .hbm, ⟨115, _⟩ => ⟨S8x16x1024, .f32⟩
  | .hbm, ⟨116, _⟩ => ⟨S8x4224x1024, .f32⟩
  | .hbm, ⟨117, _⟩ => ⟨S8x4224x1024, .bf16⟩
  | .hbm, ⟨118, _⟩ => ⟨S8x4096x16, .f32⟩
  | .hbm, ⟨119, _⟩ => ⟨S_, .f32⟩
  | .hbm, ⟨120, _⟩ => ⟨S8x112x16, .f32⟩
  | .hbm, ⟨121, _⟩ => ⟨S8x16x16, .f32⟩
  | .hbm, ⟨122, _⟩ => ⟨S8x4224x16, .f32⟩
  | .hbm, ⟨123, _⟩ => ⟨S8x16x4224, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c : Ref sig .tc := ⟨.hbm, 41, rfl⟩
abbrev main_call0_v0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst : Ref sig .tc := ⟨.hbm, 76, rfl⟩
abbrev main_v61 : Ref sig .tc := ⟨.hbm, 77, rfl⟩
abbrev main_v62 : Ref sig .tc := ⟨.hbm, 78, rfl⟩
abbrev main_cst_0 : Ref sig .tc := ⟨.hbm, 79, rfl⟩
abbrev main_v63 : Ref sig .tc := ⟨.hbm, 80, rfl⟩
abbrev main_v64 : Ref sig .tc := ⟨.hbm, 81, rfl⟩
abbrev main_cst_1 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_2 : Ref sig .tc := ⟨.hbm, 93, rfl⟩
abbrev main_v75 : Ref sig .tc := ⟨.hbm, 94, rfl⟩
abbrev main_cst_3 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_4 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_5 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_6 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_7 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩

abbrev nD : Nat := 1
abbrev τ : Topo := Topo.v7x

variable {F : FTy → Type} [FloatOps F]
-- ==== Proof.AttentionFrames.lean ====
/-
  The attention call: that its programs run, and what the named constants stand for.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof.AttentionFrames

/-- The kernel runs and leaves its arguments and its semaphores as they were; -/
theorem frame_kernel : Cert.quiescent_Kernel := fun m ρ _ => Cert.Kernel.Gen.frame m ρ

/-- so does the kernel on extended reals, -/
theorem frame_kernelIdeal : Cert.quiescent_KernelIdeal := fun m ρ _ => Cert.KernelIdeal.Gen.frame m ρ

/-- and the reference. -/
theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The two constants of the kernel that are named stand for `-∞` and for `1 / log 2`. -/
theorem preserves : Cert.preserves_Kernel_KernelIdeal :=
  ⟨IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl⟩

end Cert.Proof.AttentionFrames

end
-- ==== Proof.AttnChunk.lean ====
/-
  The attention call, one chunk at a time. The body computes, for each of three blocks of 128 queries and each of eight
  chunks of 128 query columns, one tile of its output block, always by the same operations; here the output block is
  put together from these tiles.
-/
module

public import proofs.«01_k».proof.Proof.Gen.KernelIdeal.Value
public import Idealize.ShloMosaic.Lib.Pointwise

@[expose] public section

set_option maxRecDepth 65536

noncomputable section

open Idealize.ShloMosaic

namespace Cert.Proof.AttnChunk

open Cert.KernelIdeal Cert.KernelIdeal.Gen

variable {F : FTy → Type} [FloatOps F] [Named F]

/-- Which of the 384 keys each of the 128 queries of block `sb` attends to (twice side by side: once for each of the two
    heads of a chunk). -/
def okOf (sb : BitVec 32) : IVec S384x256 1 :=
  let lo0 : BitVec 32 := Scalar.select (Scalar.cmpi .eq sb 0#32) 112#32
    (Scalar.select (Scalar.cmpi .eq sb 32#32) 128#32 0#32)
  let lo1 : BitVec 32 := Scalar.select (Scalar.cmpi .eq sb 32#32) 112#32 0#32
  let lo2 : BitVec 32 := Scalar.select (Scalar.cmpi .eq sb 31#32) 128#32 0#32
  k0_pay8 (andi k0_pay2 (cmpi .sge k0_pay4
    (select (cmpi .eq k0_pay3 (broadcast S384x128 0#32)) (broadcast S384x128 lo0)
      (select (cmpi .eq k0_pay3 (broadcast S384x128 1#32)) (broadcast S384x128 lo1) (broadcast S384x128 lo2)))))

/-- The scores of a chunk: a row for each key, a column for each query of its first head, then of its second. -/
def scores (kc : FVec F S384x128 .bf16) (q : Vec F S1x128x128 .bf16) : FVec F S384x256 .f32 :=
  k0_pay30 k0_pay5 kc q

/-- The tile that a chunk computes, from the keys its queries attend to, the keys and the transposed values of its two
    heads, its queries, its sink logits. -/
def tile (ok : IVec S384x256 1) (kc : FVec F S384x128 .bf16) (vt : FVec F S144x384 .bf16) (q : Vec F S1x128x128 .bf16)
    (s : Vec F S1x1x256 .f32) : FVec F S1x128x128 .bf16 :=
  k0_pay41 k0_pay6 (k0_pay39 ok vt (scores kc q) s) (k0_pay40 ok vt (scores kc q) s)

/-- The rectangle of the output block that chunk `(u, c)` writes. -/
abbrev rectO (u : Fin 3) (c : Fin 8) : Rect S1x384x1024 :=
  Rect.unit (s := S1x384x1024) ![0, 128 * u.val, 128 * c.val] S1x128x128.size (by
    intro a
    have := u.isLt; have := c.isLt
    match a with
    | ⟨0, _⟩ => show 0 + 1 ≤ 1; omega
    | ⟨1, _⟩ => show 128 * u.val + 128 ≤ 384; omega
    | ⟨2, _⟩ => show 128 * c.val + 128 ≤ 1024; omega)

/-- The rectangle of a query block that holds chunk `c`. -/
abbrev rectQ (c : Fin 8) : Rect S1x128x1024 :=
  Rect.unit (s := S1x128x1024) ![0, 0, 128 * c.val] S1x128x128.size (by
    intro a
    have := c.isLt
    match a with
    | ⟨0, _⟩ => show 0 + 1 ≤ 1; omega
    | ⟨1, _⟩ => show 0 + 128 ≤ 128; omega
    | ⟨2, _⟩ => show 128 * c.val + 128 ≤ 1024; omega)

/-- The rectangle of a key or value block that holds the pair of key heads of chunk `c`. -/
abbrev rectK (c : Fin 8) : Rect S1x128x256 :=
  Rect.unit (s := S1x128x256) ![0, 0, 128 * (c.val / 4)] S1x128x128.size (by
    intro a
    have := c.isLt
    match a with
    | ⟨0, _⟩ => show 0 + 1 ≤ 1; omega
    | ⟨1, _⟩ => show 0 + 128 ≤ 128; omega
    | ⟨2, _⟩ => show 128 * (c.val / 4) + 128 ≤ 256; omega)

/-- The rectangle of the sink logits' rows that holds those of chunk `c`. -/
abbrev rectS (c : Fin 8) : Rect S2x1x1024 :=
  Rect.unit (s := S2x1x1024) ![c.val / 4, 0, 256 * (c.val % 4)] S1x1x256.size (by
    intro a
    have := c.isLt
    match a with
    | ⟨0, _⟩ => show c.val / 4 + 1 ≤ 2; omega
    | ⟨1, _⟩ => show 0 + 1 ≤ 1; omega
    | ⟨2, _⟩ => show 256 * (c.val % 4) + 256 ≤ 1024; omega)

/-- The tile of chunk `(u, c)` from the blocks of the point whose second coordinate is `g`: query blocks `q`, key blocks
    `k`, value blocks `v`, sink logits `s`. -/
def tileAt (g : ℕ) (q : Fin 3 → Vec F S1x128x1024 .bf16) (k v : Fin 5 → Vec F S1x128x256 .bf16)
    (s : Vec F S2x1x1024 .f32) (u : Fin 3) (c : Fin 8) : FVec F S1x128x128 .bf16 :=
  tile (okOf (Scalar.addi (Scalar.muli (BitVec.ofNat 32 g) 3#32) (BitVec.ofNat 32 u.val)))
    (k0_pay9 (View.ld (k ⟨u.val, by omega⟩) (rectK c)) (View.ld (k ⟨u.val + 1, by omega⟩) (rectK c))
      (View.ld (k ⟨u.val + 2, by omega⟩) (rectK c)))
    (k0_pay10 (View.ld (v ⟨u.val, by omega⟩) (rectK c)) (View.ld (v ⟨u.val + 1, by omega⟩) (rectK c))
      (View.ld (v ⟨u.val + 2, by omega⟩) (rectK c)))
    (View.ld (q u) (rectQ c)) (View.ld s (rectS c))

/-- The chunks, last to first. -/
def chunks : List (Fin 3 × Fin 8) :=
  [(2, 7), (2, 6), (2, 5), (2, 4), (2, 3), (2, 2), (2, 1), (2, 0), (1, 7), (1, 6), (1, 5), (1, 4), (1, 3), (1, 2),
    (1, 1), (1, 0), (0, 7), (0, 6), (0, 5), (0, 4), (0, 3), (0, 2), (0, 1), (0, 0)]

/-- What the body leaves in the output block is the 24 tiles, each in its rectangle. -/
theorem out_eq (i : grid0.Coords) (q0 q1 q2 : Vec F S1x128x1024 .bf16) (k0 k1 k2 k3 k4 v0 v1 v2 v3 v4 : Vec F S1x128x256 .bf16)
    (s : Vec F S2x1x1024 .f32) :
    out0_14 i q0 q1 q2 k0 k1 k2 k3 k4 v0 v1 v2 v3 v4 s
      = View.canon (chunks.map fun p => (⟨rectO p.1 p.2,
          tileAt (i 1).val ![q0, q1, q2] ![k0, k1, k2, k3, k4] ![v0, v1, v2, v3, v4] s p.1 p.2⟩ :
            View.Piece (Elt F) S1x384x1024 .bf16)) := by
  unfold out0_14
  refine congrArg View.canon ?_
  simp only [chunks, List.map_cons, List.map_nil]
  iterate 24 (refine List.cons_eq_cons.mpr ⟨congrArg (Sigma.mk _) (by rfl), ?_⟩)
  rfl

end Cert.Proof.AttnChunk

end
-- ==== Proof.Softmax.lean ====
/-
  The softmax with a sink, over the extended reals: the weighted sum of values written without its maximum, and the two
  ways in which a program computes it that subtract the maximum first.
-/
module

public import Idealize.ShloMosaic.PureOps.Ideal.Laws
public import Mathlib.Analysis.SpecialFunctions.Pow.Real

@[expose] public section

noncomputable section

open Idealize.ShloMosaic

namespace Cert.Proof.Softmax

variable {ι κ : Type} [Fintype ι] [Fintype κ]

/-- The weight of key `x` among the keys `J` whose scores are `s`, with the sink logit `b`. -/
def weight (J : Finset ι) (s : ι → ℝ) (b : ℝ) (x : ι) : ℝ :=
  Real.exp (s x) / (∑ y ∈ J, Real.exp (s y) + Real.exp b)

/-- The values `v` of the keys `J`, each times its weight, summed. -/
def attn (J : Finset ι) (s : ι → ℝ) (v : ι → EReal) (b : ℝ) : EReal := ∑ x ∈ J, ((weight J s b x : ℝ) : EReal) * v x

/-- Renaming the keys changes nothing. -/
theorem attn_congr (J : Finset ι) (s : ι → ℝ) (v : ι → EReal) (J' : Finset κ) (s' : κ → ℝ) (v' : κ → EReal) (b : ℝ)
    (e : ι → κ) (he : ∀ x ∈ J, e x ∈ J') (hinj : ∀ x ∈ J, ∀ y ∈ J, e x = e y → x = y)
    (hsurj : ∀ z ∈ J', ∃ x, x ∈ J ∧ e x = z) (hs : ∀ x ∈ J, s x = s' (e x)) (hv : ∀ x ∈ J, v x = v' (e x)) :
    attn J s v b = attn J' s' v' b := by
  have h1 : ∑ y ∈ J, Real.exp (s y) = ∑ y ∈ J', Real.exp (s' y) :=
    Finset.sum_bij (fun x _ => e x) he (fun x hx y hy h => hinj x hx y hy h)
      (fun z hz => by obtain ⟨x, hx, h⟩ := hsurj z hz; exact ⟨x, hx, h⟩) (fun x hx => by rw [hs x hx])
  exact Finset.sum_bij (fun x _ => e x) he (fun x hx y hy h => hinj x hx y hy h)
      (fun z hz => by obtain ⟨x, hx, h⟩ := hsurj z hz; exact ⟨x, hx, h⟩)
      (fun x hx => by unfold weight; rw [hs x hx, hv x hx, h1])

/-- Subtracting the same number from every score and from the sink logit leaves the weights. -/
theorem weight_shift (J : Finset ι) (s : ι → ℝ) (b M : ℝ) (x : ι) :
    Real.exp (s x - M) / (∑ y ∈ J, Real.exp (s y - M) + Real.exp (b - M)) = weight J s b x := by
  unfold weight
  have h : ∀ r, Real.exp (r - M) = Real.exp r * Real.exp (-M) := fun r => by rw [sub_eq_add_neg, Real.exp_add]
  simp only [h, ← Finset.sum_mul, ← add_mul]
  exact mul_div_mul_right _ _ (Real.exp_ne_zero _)

/-- A real number that is not negative distributes over a sum of extended reals. -/
theorem sum_mul_real (J : Finset ι) (a : ι → EReal) (c : ℝ) (hc : 0 ≤ c) :
    (∑ x ∈ J, a x) * (c : EReal) = ∑ x ∈ J, a x * (c : EReal) := by
  classical
  induction J using Finset.induction_on with
  | empty => simp
  | insert i J hi ih =>
    rw [Finset.sum_insert hi, Finset.sum_insert hi,
      EReal.right_distrib_of_nonneg_of_ne_top (EReal.coe_nonneg.mpr hc) (EReal.coe_ne_top c), ih]

theorem coe_sum (J : Finset ι) (a : ι → ℝ) : ((∑ x ∈ J, a x : ℝ) : EReal) = ∑ x ∈ J, (a x : EReal) := by
  classical
  induction J using Finset.induction_on with
  | empty => simp
  | insert i J hi ih => rw [Finset.sum_insert hi, Finset.sum_insert hi, EReal.coe_add, ih]

/-- The maximum of scores that are real or `-∞` and of a real number is real. -/
theorem max_real (f : ι → EReal) (hf : ∀ x, f x ≠ ⊤) (b : ℝ) :
    ∃ M : ℝ, max (Finset.fold max ⊥ f Finset.univ) (b : EReal) = (M : EReal) := by
  have h : Finset.fold max ⊥ f Finset.univ < ⊤ :=
    (Finset.fold_max_lt _).mpr ⟨bot_lt_top, fun x _ => lt_top_iff_ne_top.mpr (hf x)⟩
  have h1 : max (Finset.fold max ⊥ f Finset.univ) (b : EReal) ≠ ⊤ := (max_lt h (EReal.coe_lt_top b)).ne
  have h2 : max (Finset.fold max ⊥ f Finset.univ) (b : EReal) ≠ ⊥ :=
    (lt_of_lt_of_le (EReal.bot_lt_coe b) (le_max_right _ _)).ne'
  exact ⟨_, (EReal.coe_toReal h1 h2).symm⟩

/-- A score where the mask lets it through, `-∞` elsewhere. -/
def masked (ok : ι → Prop) [DecidablePred ok] (s : ι → EReal) (x : ι) : EReal := if ok x then s x else ⊥

/-- The values `v`, each times two to the power of its score `f` less the maximum of all the scores and of the sink logit
    `b`, summed; divided by the sum of these powers, the sink's among them. -/
def ratio (f v : ι → EReal) (b : EReal) : EReal :=
  Ideal.div (∑ x, v x * Ideal.exp2 (f x - max (Finset.fold max ⊥ f Finset.univ) b))
    (∑ x, Ideal.exp2 (f x - max (Finset.fold max ⊥ f Finset.univ) b)
      + Ideal.exp2 (b - max (Finset.fold max ⊥ f Finset.univ) b))

variable (ok : ι → Prop) [DecidablePred ok] (sc : ι → EReal) (s : ι → ℝ) (v : ι → EReal) (b : ℝ)

theorem masked_ne_top (h : ∀ x, ok x → sc x = (s x : EReal)) (x : ι) : masked ok sc x ≠ ⊤ := by
  unfold masked
  split
  · rw [h x ‹_›]; exact EReal.coe_ne_top _
  · exact bot_ne_top

/-- Base two: the sum of values times powers, divided by the sum of powers. -/
theorem base_two (h : ∀ x, ok x → sc x = (s x : EReal)) (L : EReal) (hL : L = (((Real.log 2)⁻¹ : ℝ) : EReal)) :
    ratio (masked ok sc) v ((b : EReal) * L)
      = attn (Finset.univ.filter ok) (fun x => s x * Real.log 2) v b := by
  have hlog : Real.log 2 ≠ 0 := (Real.log_pos (by norm_num)).ne'
  have hp : ∀ r : ℝ, Real.rpow 2 r = Real.exp (r * Real.log 2) := fun r => by
    show (2 : ℝ) ^ r = _
    rw [Real.rpow_def_of_pos (by norm_num), mul_comm]
  unfold ratio
  rw [hL, ← EReal.coe_mul]
  obtain ⟨M, hM⟩ := max_real (masked ok sc) (masked_ne_top ok sc s h) (b * (Real.log 2)⁻¹)
  rw [hM]
  have he : ∀ x, Ideal.exp2 (masked ok sc x - (M : EReal))
      = ((if ok x then Real.exp (s x * Real.log 2 - M * Real.log 2) else 0 : ℝ) : EReal) := by
    intro x
    unfold masked
    split
    · rw [h x ‹_›, ← EReal.coe_sub, Ideal.exp2_coe, hp, sub_mul]
    · rw [EReal.bot_sub]; simp
  simp only [he]
  rw [← coe_sum, ← EReal.coe_sub, Ideal.exp2_coe, hp, ← EReal.coe_add, sub_mul, inv_mul_cancel_right₀ hlog,
    ← Finset.sum_filter, Ideal.div_coe (by positivity), sum_mul_real _ _ _ (by positivity)]
  refine Eq.trans (Finset.sum_congr rfl fun x _ => ?_) (Finset.sum_filter _ _).symm
  split
  · rw [mul_assoc, ← EReal.coe_mul, mul_comm, mul_one_div, weight_shift _ (fun x => s x * Real.log 2)]
  · simp

/-- Base e: the sum of powers divided by their sum, times the values. -/
theorem base_e (h : ∀ x, ok x → sc x = (s x : EReal)) :
    ∑ x, v x * Ideal.div
        (Ideal.exp (masked ok sc x - max (Finset.fold max ⊥ (masked ok sc) Finset.univ) (b : EReal)))
        (∑ y, Ideal.exp (masked ok sc y - max (Finset.fold max ⊥ (masked ok sc) Finset.univ) (b : EReal))
          + Ideal.exp ((b : EReal) - max (Finset.fold max ⊥ (masked ok sc) Finset.univ) (b : EReal)))
      = attn (Finset.univ.filter ok) s v b := by
  obtain ⟨M, hM⟩ := max_real (masked ok sc) (masked_ne_top ok sc s h) b
  rw [hM]
  have he : ∀ x, Ideal.exp (masked ok sc x - (M : EReal))
      = ((if ok x then Real.exp (s x - M) else 0 : ℝ) : EReal) := by
    intro x
    unfold masked
    split
    · rw [h x ‹_›, ← EReal.coe_sub, Ideal.exp_coe]
    · rw [EReal.bot_sub]; simp
  simp only [he]
  rw [← coe_sum, ← EReal.coe_sub, Ideal.exp_coe, ← EReal.coe_add, ← Finset.sum_filter]
  refine Eq.trans (Finset.sum_congr rfl fun x _ => ?_) (Finset.sum_filter _ _).symm
  rw [Ideal.div_coe (by positivity), ← EReal.coe_mul, mul_one_div]
  split
  · rw [mul_comm, weight_shift]
  · simp

end Cert.Proof.Softmax

end
-- ==== Proof.AttentionBlock.lean ====
/-
  The attention call: the tile of one chunk, entry by entry, in the ideal arithmetic.
-/
module

public import proofs.«01_k».proof.Proof.AttnChunk
public import proofs.«01_k».proof.Proof.Softmax
public import Idealize.ShloMosaic.Lib.WordCmp

@[expose] public section

set_option maxRecDepth 16384

noncomputable section

open Idealize.ShloMosaic

namespace Cert.Proof.AttentionBlock

open Cert.KernelIdeal Cert.KernelIdeal.Gen Cert.Proof.AttnChunk Cert.Proof.Softmax

/-! ## Which keys a query attends to -/

/-- The first row of block `g` that counts, for the queries of block `sb`, by the block's place `g`: previous, own,
    next. The last block of the array holds the meta tokens in its last 16 rows; it comes before the first. -/
def low (sb g : ℕ) : ℕ :=
  if g = 0 then (if sb = 0 then 112 else if sb = 32 then 128 else 0)
  else if g = 1 then (if sb = 32 then 112 else 0) else (if sb = 31 then 128 else 0)

/-- Query `r` of block `sb` attends to key `k` of the three blocks around it. -/
def Sees (sb r k : ℕ) : Prop := r ≤ k ∧ k ≤ r + 256 ∧ low sb (k / 128) ≤ k % 128

instance (sb r k : ℕ) : Decidable (Sees sb r k) := by unfold Sees; infer_instance

/-- The column of query `r` of the `h`-th head of a chunk. -/
abbrev col (h : Fin 2) (r : Fin 128) : Fin 256 := ⟨128 * h.val + r.val, by have := h.isLt; have := r.isLt; omega⟩

theorem block_word : ∀ (g : Fin 11) (u : Fin 3),
    Scalar.addi (Scalar.muli (BitVec.ofNat 32 g.val) 3#32) (BitVec.ofNat 32 u.val) = BitVec.ofNat 32 (3 * g.val + u.val) := by
  decide +kernel

theorem low_word : ∀ (sb : Fin 33) (k : Fin 384),
    Scalar.select (IntOp.cmpi .eq (IntOp.shrsi .vector (BitVec.ofNat 32 k.val) 7#32) 0#32)
      (Scalar.select (Scalar.cmpi .eq (BitVec.ofNat 32 sb.val) 0#32) (112#32)
        (Scalar.select (Scalar.cmpi .eq (BitVec.ofNat 32 sb.val) 32#32) 128#32 0#32))
      (Scalar.select (IntOp.cmpi .eq (IntOp.shrsi .vector (BitVec.ofNat 32 k.val) 7#32) 1#32)
        (Scalar.select (Scalar.cmpi .eq (BitVec.ofNat 32 sb.val) 32#32) 112#32 0#32)
        (Scalar.select (Scalar.cmpi .eq (BitVec.ofNat 32 sb.val) 31#32) 128#32 0#32))
      = BitVec.ofNat 32 (low sb.val (k.val / 128)) := by
  decide +kernel

theorem row_word : ∀ k : Fin 384, IntOp.andi (BitVec.ofNat 32 k.val) 127#32 = BitVec.ofNat 32 (k.val % 128) := by
  decide +kernel

theorem low_lt (sb g : ℕ) : low sb g < 2 ^ 31 := by unfold low; split_ifs <;> norm_num

theorem sees_word (sb : Fin 33) (k : Fin 384) (r : ℕ) (hr : r < 128) :
    IntOp.andi (IntOp.andi (IntOp.cmpi .sge (BitVec.ofNat 32 k.val) (BitVec.ofNat 32 r))
          (IntOp.cmpi .sle (BitVec.ofNat 32 k.val) (IntOp.addi (BitVec.ofNat 32 r) 256#32)))
        (IntOp.cmpi .sge (IntOp.andi (BitVec.ofNat 32 k.val) 127#32)
          (Scalar.select (IntOp.cmpi .eq (IntOp.shrsi .vector (BitVec.ofNat 32 k.val) 7#32) 0#32)
            (Scalar.select (Scalar.cmpi .eq (BitVec.ofNat 32 sb.val) 0#32) (112#32)
              (Scalar.select (Scalar.cmpi .eq (BitVec.ofNat 32 sb.val) 32#32) 128#32 0#32))
            (Scalar.select (IntOp.cmpi .eq (IntOp.shrsi .vector (BitVec.ofNat 32 k.val) 7#32) 1#32)
              (Scalar.select (Scalar.cmpi .eq (BitVec.ofNat 32 sb.val) 32#32) 112#32 0#32)
              (Scalar.select (Scalar.cmpi .eq (BitVec.ofNat 32 sb.val) 31#32) 128#32 0#32))))
      = BitVec.ofBool (decide (Sees sb.val r k.val)) := by
  have hk := k.isLt
  have ha : IntOp.addi (BitVec.ofNat 32 r) 256#32 = BitVec.ofNat 32 (r + 256) := by
    apply BitVec.eq_of_toNat_eq
    show (BitVec.ofNat 32 r + 256#32).toNat = _
    simp [BitVec.toNat_add]
  rw [low_word, row_word, ha, WordCmp.cmpi_sge_ofNat (by omega) (by omega), WordCmp.cmpi_sle_ofNat (by omega) (by omega),
    WordCmp.cmpi_sge_ofNat (by omega) (low_lt _ _), WordCmp.andi_ofBool, WordCmp.andi_ofBool]
  congr 1
  unfold Sees
  rw [← Bool.decide_and, ← Bool.decide_and]
  exact decide_eq_decide.mpr (by rw [and_assoc])

/-- The mask of a chunk of block `sb` at key `k` and the column of query `r` of either head. -/
theorem okOf_apply (sb : Fin 33) (k : Fin 384) (h : Fin 2) (r : Fin 128) :
    okOf (BitVec.ofNat 32 sb.val) (ix2 k (col h r)) = BitVec.ofBool (decide (Sees sb.val r.val k.val)) := by
  rw [← sees_word sb k r.val r.isLt]
  have := r.isLt
  unfold okOf
  fin_cases h
  · pointwise [k0_pay8, k0_pay4, k0_pay3, k0_pay2]
  · pointwise [k0_pay8, k0_pay4, k0_pay3, k0_pay2]

/-! ## Keys, values, scores -/

/-- Of three blocks, the row of the `k`-th of their 384 rows. -/
def row3 (a b c : Vec Ideal S1x128x128 .bf16) (k : Fin 384) (n : Fin 128) : EReal :=
  if h : k.val < 128 then a (ix3 0 ⟨k.val, h⟩ n)
  else if h : k.val - 128 < 128 then b (ix3 0 ⟨k.val - 128, h⟩ n)
  else c (ix3 0 ⟨k.val - 128 - 128, by omega⟩ n)

theorem pay9_apply (a b c : Vec Ideal S1x128x128 .bf16) (k : Fin 384) (n : Fin 128) :
    k0_pay9 a b c (ix2 k n) = row3 a b c k n := by
  unfold row3
  pointwise [k0_pay9]

theorem pay10_apply (a b c : Vec Ideal S1x128x128 .bf16) (k : Fin 384) (n : Fin 128) :
    k0_pay10 a b c (ix2 ⟨n.val, by omega⟩ k) = row3 a b c k n := by
  unfold row3
  pointwise [k0_pay10]

/-- Row 128 of the transposed values is ones. -/
theorem pay10_one (a b c : Vec Ideal S1x128x128 .bf16) (k : Fin 384) :
    k0_pay10 a b c (ix2 128 k) = 1 := by
  pointwise [k0_pay10]

/-- The lane of a pair of heads that holds coordinate `d` of its `h`-th head. -/
abbrev lane (h : Fin 2) (d : Fin 64) : Fin 128 := ⟨64 * h.val + d.val, by have := h.isLt; have := d.isLt; omega⟩

theorem sum_lanes (f : Fin 128 → EReal) : ∑ d, f d = ∑ d : Fin 64, f (lane 0 d) + ∑ d : Fin 64, f (lane 1 d) := by
  rw [Fin.sum_univ_add (a := 64) (b := 64) f]
  congr 1

/-- The score of key `k` and query `r` of the `h`-th head of a chunk: the product of the two over the head's lanes. -/
theorem scores_apply (kc : FVec Ideal S384x128 .bf16) (q : Vec Ideal S1x128x128 .bf16) (k : Fin 384) (h : Fin 2)
    (r : Fin 128) :
    scores kc q (ix2 k (col h r)) = ∑ d : Fin 64, kc (ix2 k (lane h d)) * q (ix3 0 r (lane h d)) := by
  have := r.isLt
  unfold scores
  have hlt : ∀ n : ℕ, n < 128 → IntOp.cmpi .slt (BitVec.ofNat 32 n) 64#32 = BitVec.ofBool (decide (n < 64)) :=
    fun n hn => WordCmp.cmpi_slt_ofNat (by omega) (by omega)
  fin_cases h
  · pointwise [k0_pay30, k0_pay5]
    rw [sum_lanes, Finset.sum_eq_zero (f := fun d : Fin 64 => Scalar.select (IntOp.cmpi .slt (BitVec.ofNat 32 (lane 1 d).val) 64#32) _ _), add_zero]
    · refine Finset.sum_congr rfl fun d _ => ?_
      have := d.isLt
      rw [hlt _ (lane 0 d).isLt, Scalar.select_ofBool, if_pos (by simp)]
    · intro d _
      rw [hlt _ (lane 1 d).isLt, Scalar.select_ofBool, if_neg (by simp)]
  · pointwise [k0_pay30, k0_pay5]
    rw [sum_lanes, Finset.sum_eq_zero (f := fun d : Fin 64 => Scalar.select (IntOp.cmpi .slt (BitVec.ofNat 32 (lane 0 d).val) 64#32) _ _), zero_add]
    · refine Finset.sum_congr rfl fun d _ => ?_
      rw [hlt _ (lane 1 d).isLt, Scalar.select_ofBool, if_neg (by simp)]
    · intro d _
      have := d.isLt
      rw [hlt _ (lane 0 d).isLt, Scalar.select_ofBool, if_pos (by simp)]

/-! ## The tile -/

theorem mask_eq : (Named.named (F := Ideal) (φ := .f32) κ "mask" 0xF149F2CA#32 : EReal) = ⊥ :=
  IdealRules.named_const.ideal_named_scalar _ _ _ _ rfl

theorem log2e_eq : (Named.named (F := Ideal) (φ := .f32) κ "log2e" 0x3FB8AA3B#32 : EReal) = (((Real.log 2)⁻¹ : ℝ) : EReal) :=
  IdealRules.named_const.ideal_named_scalar _ _ _ _ rfl

theorem ninf_eq : Ideal.ofBits .f32 0xFF800000#32 = ⊥ := by
  simp [Ideal.ofBits, Ideal.ieee]

/-- The head of a chunk that lane `l` belongs to. -/
abbrev half (l : Fin 128) : Fin 2 := ⟨l.val / 64, by have := l.isLt; omega⟩

/-- The tile of a chunk, entry by entry: `ratio` of the scores that the mask lets through and of the values. -/
theorem tile_apply (ok : IVec S384x256 1) (kc : FVec Ideal S384x128 .bf16) (vt : FVec Ideal S144x384 .bf16)
    (hv : ∀ k, vt (ix2 128 k) = 1)
    (q : Vec Ideal S1x128x128 .bf16) (s : Vec Ideal S1x1x256 .f32) (r l : Fin 128) (L : EReal)
    (hL : (Named.named (F := Ideal) (φ := .f32) κ "log2e" 0x3FB8AA3B#32 : EReal) = L) :
    tile ok kc vt q s (ix3 0 r l)
      = ratio (masked (fun k => ok (ix2 k (col (half l) r)) = 1) (fun k => scores kc q (ix2 k (col (half l) r))))
          (fun k => vt (ix2 ⟨l.val, by omega⟩ k)) (s (ix3 0 0 (col (half l) r)) * L) := by
  have := l.isLt
  unfold tile
  generalize scores kc q = sc
  have hlt : IntOp.cmpi .slt (BitVec.ofNat 32 l.val) 64#32 = BitVec.ofBool (decide (l.val < 64)) :=
    WordCmp.cmpi_slt_ofNat (by omega) (by omega)
  by_cases hl : l.val < 64
  · have hc : col (half l) r = ⟨r.val, by omega⟩ := Fin.ext (by show 128 * (l.val / 64) + r.val = r.val; omega)
    rw [hc]
    pointwise [k0_pay41, k0_pay6, k0_pay39, k0_pay40, k0_pay38, k0_pay37, k0_pay36, k0_pay35]
    rw [hlt, Scalar.select_ofBool, if_pos (by simpa using hl)]
    simp only [mask_eq, ninf_eq, hv, one_mul, hL]
    rfl
  · have hc : col (half l) r = ⟨128 + r.val, by omega⟩ :=
      Fin.ext (by show 128 * (l.val / 64) + r.val = 128 + r.val; omega)
    rw [hc]
    pointwise [k0_pay41, k0_pay6, k0_pay39, k0_pay40, k0_pay38, k0_pay37, k0_pay36, k0_pay35]
    rw [hlt, Scalar.select_ofBool, if_neg (by simpa using hl)]
    simp only [mask_eq, ninf_eq, hv, one_mul, hL]
    rfl

end Cert.Proof.AttentionBlock

end
-- ==== Proof.AttentionTile.lean ====
/-
  The attention call: a chunk's tile from the blocks that the body reads.
-/
module

public import proofs.«01_k».proof.Proof.AttentionBlock

@[expose] public section

set_option maxRecDepth 16384

noncomputable section

open Idealize.ShloMosaic

namespace Cert.Proof.AttentionTile

open Cert.KernelIdeal Cert.KernelIdeal.Gen Cert.Proof.AttnChunk Cert.Proof.AttentionBlock Cert.Proof.Softmax

/-- The block, row in the block, of the `k`-th of 384 keys: which of the three blocks, -/
abbrev seg (k : Fin 384) : Fin 3 := ⟨k.val / 128, by have := k.isLt; omega⟩
/-- and which of its rows. -/
abbrev inner (k : Fin 384) : Fin 128 := ⟨k.val % 128, by omega⟩

/-- Column `n` of the pair of key heads of chunk `c`, among the columns of the key and value arrays. -/
abbrev kvCol (c : Fin 8) (n : Fin 128) : Fin 256 :=
  ⟨128 * (c.val / 4) + n.val, by have := c.isLt; have := n.isLt; omega⟩
/-- Column `n` of chunk `c`, among the columns of the query and result arrays. -/
abbrev qCol (c : Fin 8) (n : Fin 128) : Fin 1024 := ⟨128 * c.val + n.val, by have := c.isLt; have := n.isLt; omega⟩
/-- The place of chunk `c`'s sink logit for query `r` of its `h`-th head. -/
abbrev sinkCol (c : Fin 8) (h : Fin 2) (r : Fin 128) : Fin 1024 :=
  ⟨256 * (c.val % 4) + (128 * h.val + r.val), by have := h.isLt; have := r.isLt; omega⟩
/-- The pair of key heads of chunk `c`. -/
abbrev pair (c : Fin 8) : Fin 2 := ⟨c.val / 4, by have := c.isLt; omega⟩

theorem ldQ (x : Vec Ideal S1x128x1024 .bf16) (c : Fin 8) (r n : Fin 128) :
    View.ld x (rectQ c) (ix3 0 r n) = x (ix3 0 r (qCol c n)) := by
  show x ((rectQ c).emb (ix3 0 r n)) = _
  congr 1
  funext a
  apply Fin.ext
  match a with
  | ⟨0, _⟩ => rfl
  | ⟨1, _⟩ => show 0 + 1 * r.val = r.val; omega
  | ⟨2, _⟩ => show 128 * c.val + 1 * n.val = 128 * c.val + n.val; omega

theorem ldK (x : Vec Ideal S1x128x256 .bf16) (c : Fin 8) (r n : Fin 128) :
    View.ld x (rectK c) (ix3 0 r n) = x (ix3 0 r (kvCol c n)) := by
  show x ((rectK c).emb (ix3 0 r n)) = _
  congr 1
  funext a
  apply Fin.ext
  match a with
  | ⟨0, _⟩ => rfl
  | ⟨1, _⟩ => show 0 + 1 * r.val = r.val; omega
  | ⟨2, _⟩ => show 128 * (c.val / 4) + 1 * n.val = 128 * (c.val / 4) + n.val; omega

theorem ldS (x : Vec Ideal S2x1x1024 .f32) (c : Fin 8) (h : Fin 2) (r : Fin 128) :
    View.ld x (rectS c) (ix3 0 0 (col h r)) = x (ix3 (pair c) 0 (sinkCol c h r)) := by
  show x ((rectS c).emb (ix3 0 0 (col h r))) = _
  congr 1
  funext a
  apply Fin.ext
  match a with
  | ⟨0, _⟩ => show c.val / 4 + 1 * 0 = c.val / 4; omega
  | ⟨1, _⟩ => rfl
  | ⟨2, _⟩ =>
    show 256 * (c.val % 4) + 1 * (128 * h.val + r.val) = 256 * (c.val % 4) + (128 * h.val + r.val)
    omega

/-- Three consecutive of the five blocks, from block `u` on: row `k` of their 384 rows. -/
theorem row3_ld (x : Fin 5 → Vec Ideal S1x128x256 .bf16) (u : Fin 3) (c : Fin 8) (k : Fin 384) (n : Fin 128) :
    row3 (View.ld (x ⟨u.val, by omega⟩) (rectK c)) (View.ld (x ⟨u.val + 1, by omega⟩) (rectK c))
        (View.ld (x ⟨u.val + 2, by omega⟩) (rectK c)) k n
      = x ⟨u.val + (seg k).val, by have := (seg k).isLt; omega⟩ (ix3 0 (inner k) (kvCol c n)) := by
  have hk := k.isLt
  unfold row3
  split_ifs with h1 h2
  · rw [ldK]
    have e1 : (⟨u.val, by omega⟩ : Fin 5) = ⟨u.val + (seg k).val, by have := (seg k).isLt; omega⟩ :=
      Fin.ext (by show u.val = u.val + k.val / 128; omega)
    have e2 : (⟨k.val, h1⟩ : Fin 128) = inner k := Fin.ext (by show k.val = k.val % 128; omega)
    rw [e1, e2]
  · rw [ldK]
    have e1 : (⟨u.val + 1, by omega⟩ : Fin 5) = ⟨u.val + (seg k).val, by have := (seg k).isLt; omega⟩ :=
      Fin.ext (by show u.val + 1 = u.val + k.val / 128; omega)
    have e2 : (⟨k.val - 128, h2⟩ : Fin 128) = inner k := Fin.ext (by show k.val - 128 = k.val % 128; omega)
    rw [e1, e2]
  · rw [ldK]
    have e1 : (⟨u.val + 2, by omega⟩ : Fin 5) = ⟨u.val + (seg k).val, by have := (seg k).isLt; omega⟩ :=
      Fin.ext (by show u.val + 2 = u.val + k.val / 128; omega)
    have e2 : (⟨k.val - 128 - 128, by omega⟩ : Fin 128) = inner k :=
      Fin.ext (by show k.val - 128 - 128 = k.val % 128; omega)
    rw [e1, e2]

theorem masked_congr {ι : Type} (p p' : ι → Prop) [DecidablePred p] [DecidablePred p'] (s s' : ι → EReal)
    (h : ∀ x, p x ↔ p' x) (hs : ∀ x, s x = s' x) : masked p s = masked p' s' := by
  funext x
  unfold masked
  rw [hs x]
  exact if_congr (h x) rfl rfl

/-- The tile of chunk `(u, c)` at the point whose second coordinate is `g`, entry by entry, from the point's blocks. -/
theorem tileAt_apply (g : Fin 11) (q : Fin 3 → Vec Ideal S1x128x1024 .bf16) (k v : Fin 5 → Vec Ideal S1x128x256 .bf16)
    (s : Vec Ideal S2x1x1024 .f32) (u : Fin 3) (c : Fin 8) (r l : Fin 128) :
    tileAt g.val q k v s u c (ix3 0 r l)
      = ratio
          (masked (fun x : Fin 384 => Sees (3 * g.val + u.val) r.val x.val) fun x =>
            ∑ d : Fin 64, k ⟨u.val + (seg x).val, by have := (seg x).isLt; omega⟩
                (ix3 0 (inner x) (kvCol c (lane (half l) d)))
              * q u (ix3 0 r (qCol c (lane (half l) d))))
          (fun x => v ⟨u.val + (seg x).val, by have := (seg x).isLt; omega⟩ (ix3 0 (inner x) (kvCol c l)))
          (s (ix3 (pair c) 0 (sinkCol c (half l) r)) * (((Real.log 2)⁻¹ : ℝ) : EReal)) := by
  have hsb : 3 * g.val + u.val < 33 := by have := g.isLt; have := u.isLt; omega
  unfold tileAt
  rw [block_word, tile_apply _ _ _ (fun x => pay10_one _ _ _ x) _ _ _ _ _ log2e_eq, ldS]
  congr 1
  · refine masked_congr _ _ _ _ (fun x => ?_) fun x => ?_
    · rw [okOf_apply ⟨3 * g.val + u.val, hsb⟩]
      exact WordCmp.ofBool_decide_eq_one_iff _
    · rw [scores_apply]
      refine Finset.sum_congr rfl fun d _ => ?_
      rw [pay9_apply, row3_ld, ldQ]
  · funext x
    rw [pay10_apply, row3_ld]

end Cert.Proof.AttentionTile

end
-- ==== Proof.AttentionValue.lean ====
/-
  The attention call: what its result array holds after the run.
-/
module

public import proofs.«01_k».proof.Proof.AttentionTile
public import Idealize.ShloMosaic.Lib.Claim
public import Idealize.ShloMosaic.Lib.ValueIdxCore

@[expose] public section

set_option maxRecDepth 16384

noncomputable section

open Idealize.ShloMosaic Idealize.ShloMosaic.TcCoe Idealize.SL.Sem
open Idealize.ShloMosaic.Pipeline (Dat)

namespace Cert.Proof.AttentionValue

open Cert.KernelIdeal Cert.KernelIdeal.Gen
open Cert.Proof.AttnChunk Cert.Proof.AttentionBlock Cert.Proof.AttentionTile Cert.Proof.Softmax

variable (m : (ℓ : Loc nD τ sig) → Buf (Elt Ideal) ℓ) (ρ : Dev nD → PrngReg)

/-! ## The result as a function of the arguments -/

/-- The row of the arrays that is row `r` of block `sb`. -/
abbrev rowOf (sb : Fin 33) (r : Fin 128) : Fin 4224 :=
  ⟨128 * sb.val + r.val, by have := sb.isLt; have := r.isLt; omega⟩
/-- The row of the arrays that is the `k`-th of the 384 keys around block `sb`; the blocks wrap around. -/
abbrev keyRow (sb : Fin 33) (k : Fin 384) : Fin 4224 :=
  ⟨128 * ((sb.val + k.val / 128 + 32) % 33) + k.val % 128, by omega⟩
/-- The head that chunk `c`'s `h`-th half belongs to. -/
abbrev headOf (c : Fin 8) (h : Fin 2) : Fin 16 :=
  ⟨8 * (c.val / 4) + 4 * h.val + c.val % 4, by have := c.isLt; have := h.isLt; omega⟩

/-- The attention of query `r` of block `sb`, column `l` of chunk `c`, in batch `b`. -/
def entry (q : FVec Ideal S8x4224x1024 .bf16) (k v : FVec Ideal S8x4224x256 .bf16) (s : FVec Ideal S16 .f32)
    (b : Fin 8) (sb : Fin 33) (r : Fin 128) (c : Fin 8) (l : Fin 128) : EReal :=
  ratio
    (masked (fun x : Fin 384 => Sees sb.val r.val x.val) fun x =>
      ∑ d : Fin 64, k (ix3 b (keyRow sb x) (kvCol c (lane (half l) d)))
        * q (ix3 b (rowOf sb r) (qCol c (lane (half l) d))))
    (fun x => v (ix3 b (keyRow sb x) (kvCol c l)))
    (s (ix1 (headOf c (half l))) * (((Real.log 2)⁻¹ : ℝ) : EReal))

/-- What the attention call computes from its four arrays. -/
def attention (q : FVec Ideal S8x4224x1024 .bf16) (k v : FVec Ideal S8x4224x256 .bf16) (s : FVec Ideal S16 .f32) :
    FVec Ideal S8x4224x1024 .bf16 := fun i =>
  entry q k v s (i 0) ⟨(i 1).val / 128, by have h : (i 1).val < 4224 := (i 1).isLt; omega⟩ ⟨(i 1).val % 128, by omega⟩
    ⟨(i 2).val / 128, by have h : (i 2).val < 1024 := (i 2).isLt; omega⟩ ⟨(i 2).val % 128, by omega⟩

/-- That function of device `c`'s arguments, as contents of the result array. -/
abbrev result (c : Dev nD) : Buf (Elt Ideal) ((c : Thread nD τ).loc main_v8) :=
  attention (m ((c : Thread nD τ).loc main_arg0)) (m ((c : Thread nD τ).loc main_arg1))
    (m ((c : Thread nD τ).loc main_arg2)) (m ((c : Thread nD τ).loc main_arg3))

/-! ## The rows of sink logits -/

theorem sink_word : ∀ (a : Fin 2) (b : Fin 8), min (lit0 (S2x8.rowMajor (ix2 a b))).toInt.toNat 15
    = 8 * a.val + 4 * (b.val % 2) + b.val / 2 := by
  decide +kernel

/-- The rows of sink logits that the program lays out before the call. -/
theorem sink_rows (c : Dev nD) (a : Fin 8) (h : Fin 2) (r : Fin 128) :
    V m c main_v7 (ix3 (pair a) 0 (sinkCol a h r)) = m ((c : Thread nD τ).loc main_arg3) (ix1 (headOf a h)) := by
  have := h.isLt
  have := r.isLt
  entry_read
  pointwise
  refine (ValueIdx.gather_take_apply (by norm_num) gather_S16_S2x8x1_S2x8_n_0_n_n_0_2_1_wf _ _ _).trans ?_
  refine congrArg _ (congrArg ix1 (Fin.ext ?_))
  refine (sink_word (pair a) ⟨(sinkCol a h r).val / 128, _⟩).trans ?_
  show 8 * (a.val / 4) + 4 * ((256 * (a.val % 4) + (128 * h.val + r.val)) / 128 % 2)
    + (256 * (a.val % 4) + (128 * h.val + r.val)) / 128 / 2 = 8 * (a.val / 4) + 4 * h.val + a.val % 4
  omega

/-! ## The blocks of a point -/

/-- The batch of a point, -/
def batch (t : Fin cfg0.N) : Fin 8 := ⟨t.val / 11, by have : cfg0.N = 88 := N_0; have := t.isLt; omega⟩
/-- its second coordinate, -/
def step (t : Fin cfg0.N) : Fin 11 := ⟨t.val % 11, by omega⟩
/-- and the `u`-th of its three blocks of queries. -/
abbrev blockOf (t : Fin cfg0.N) (u : Fin 3) : Fin 33 :=
  ⟨3 * (step t).val + u.val, by have := (step t).isLt; have := u.isLt; omega⟩
/-- The `w`-th of its five blocks of keys and values. -/
abbrev kvBlock (t : Fin cfg0.N) (w : Fin 5) : Fin 33 := ⟨(3 * (step t).val + w.val + 32) % 33, by omega⟩

theorem coord_eq : ∀ t : Fin cfg0.N, (grid0.coords t 1).val = t.val % 11 :=
  (by decide +kernel : ∀ t : Fin grid0.N, _)

/-- Which block each window of queries is on at a point. -/
theorem query_index : ∀ t : Fin cfg0.N,
    (win0_0.index t 0 = t.val / 11 ∧ win0_0.index t 1 = 3 * (t.val % 11) + 0 ∧ win0_0.index t 2 = 0)
    ∧ (win0_1.index t 0 = t.val / 11 ∧ win0_1.index t 1 = 3 * (t.val % 11) + 1 ∧ win0_1.index t 2 = 0)
    ∧ (win0_2.index t 0 = t.val / 11 ∧ win0_2.index t 1 = 3 * (t.val % 11) + 2 ∧ win0_2.index t 2 = 0) :=
  (by decide +kernel : ∀ t : Fin grid0.N, _)

/-- Which block each window of keys is on at a point. -/
theorem key_index : ∀ t : Fin cfg0.N,
    (win0_3.index t 0 = t.val / 11 ∧ win0_3.index t 1 = (3 * (t.val % 11) + 0 + 32) % 33 ∧ win0_3.index t 2 = 0)
    ∧ (win0_4.index t 0 = t.val / 11 ∧ win0_4.index t 1 = (3 * (t.val % 11) + 1 + 32) % 33 ∧ win0_4.index t 2 = 0)
    ∧ (win0_5.index t 0 = t.val / 11 ∧ win0_5.index t 1 = (3 * (t.val % 11) + 2 + 32) % 33 ∧ win0_5.index t 2 = 0)
    ∧ (win0_6.index t 0 = t.val / 11 ∧ win0_6.index t 1 = (3 * (t.val % 11) + 3 + 32) % 33 ∧ win0_6.index t 2 = 0)
    ∧ (win0_7.index t 0 = t.val / 11 ∧ win0_7.index t 1 = (3 * (t.val % 11) + 4 + 32) % 33 ∧ win0_7.index t 2 = 0) :=
  (by decide +kernel : ∀ t : Fin grid0.N, _)

/-- Which block each window of values is on at a point. -/
theorem value_index : ∀ t : Fin cfg0.N,
    (win0_8.index t 0 = t.val / 11 ∧ win0_8.index t 1 = (3 * (t.val % 11) + 0 + 32) % 33 ∧ win0_8.index t 2 = 0)
    ∧ (win0_9.index t 0 = t.val / 11 ∧ win0_9.index t 1 = (3 * (t.val % 11) + 1 + 32) % 33 ∧ win0_9.index t 2 = 0)
    ∧ (win0_10.index t 0 = t.val / 11 ∧ win0_10.index t 1 = (3 * (t.val % 11) + 2 + 32) % 33 ∧ win0_10.index t 2 = 0)
    ∧ (win0_11.index t 0 = t.val / 11 ∧ win0_11.index t 1 = (3 * (t.val % 11) + 3 + 32) % 33 ∧ win0_11.index t 2 = 0)
    ∧ (win0_12.index t 0 = t.val / 11 ∧ win0_12.index t 1 = (3 * (t.val % 11) + 4 + 32) % 33 ∧ win0_12.index t 2 = 0) :=
  (by decide +kernel : ∀ t : Fin grid0.N, _)

/-- Which block each window of sink logits is on at a point. -/
theorem sink_index : ∀ t : Fin cfg0.N,
    (win0_13.index t 0 = 0 ∧ win0_13.index t 1 = 0 ∧ win0_13.index t 2 = 0) :=
  (by decide +kernel : ∀ t : Fin grid0.N, _)

/-- Which block each window of the result is on at a point. -/
theorem out_index : ∀ t : Fin cfg0.N,
    (win0_14.index t 0 = t.val / 11 ∧ win0_14.index t 1 = t.val % 11 ∧ win0_14.index t 2 = 0) :=
  (by decide +kernel : ∀ t : Fin grid0.N, _)

theorem ext3 {A B C : ℕ} (X : (⟨3, ![A, B, C]⟩ : Shape).Idx) (a : Fin A) (b : Fin B) (c : Fin C) (h0 : (X 0).val = a.val)
    (h1 : (X 1).val = b.val) (h2 : (X 2).val = c.val) : X = ix3 a b c := by
  funext i
  apply Fin.ext
  match i with
  | ⟨0, _⟩ => exact h0
  | ⟨1, _⟩ => exact h1
  | ⟨2, _⟩ => exact h2

/-- The three query blocks of a point. -/
abbrev qs (c : Dev nD) (t : Fin cfg0.N) : Fin 3 → Vec Ideal S1x128x1024 .bf16 :=
  ![iblk m c 0 t, iblk m c 1 t, iblk m c 2 t]
/-- The five key blocks of a point. -/
abbrev ks (c : Dev nD) (t : Fin cfg0.N) : Fin 5 → Vec Ideal S1x128x256 .bf16 :=
  ![iblk m c 3 t, iblk m c 4 t, iblk m c 5 t, iblk m c 6 t, iblk m c 7 t]
/-- The five value blocks of a point. -/
abbrev vs (c : Dev nD) (t : Fin cfg0.N) : Fin 5 → Vec Ideal S1x128x256 .bf16 :=
  ![iblk m c 8 t, iblk m c 9 t, iblk m c 10 t, iblk m c 11 t, iblk m c 12 t]

theorem qs_apply (c : Dev nD) (t : Fin cfg0.N) (u : Fin 3) (r : Fin 128) (n : Fin 1024) :
    qs m c t u (ix3 0 r n) = m ((c : Thread nD τ).loc main_arg0) (ix3 (batch t) (rowOf (blockOf t u) r) n) := by
  rw [← V_main_arg0 m c]
  match u with
  | ⟨0, _⟩ =>
    have hi := (query_index t).1
    exact congrArg (V m c main_arg0) (ext3 ((win0_0.rect t).emb (ix3 0 r n)) _ _ _
      (by show win0_0.index t 0 * 1 + 1 * 0 = t.val / 11; omega)
      (by show win0_0.index t 1 * 128 + 1 * r.val = 128 * (3 * (t.val % 11) + 0) + r.val; omega)
      (by show win0_0.index t 2 * 1024 + 1 * n.val = n.val; omega))
  | ⟨1, _⟩ =>
    have hi := (query_index t).2.1
    exact congrArg (V m c main_arg0) (ext3 ((win0_1.rect t).emb (ix3 0 r n)) _ _ _
      (by show win0_1.index t 0 * 1 + 1 * 0 = t.val / 11; omega)
      (by show win0_1.index t 1 * 128 + 1 * r.val = 128 * (3 * (t.val % 11) + 1) + r.val; omega)
      (by show win0_1.index t 2 * 1024 + 1 * n.val = n.val; omega))
  | ⟨2, _⟩ =>
    have hi := (query_index t).2.2
    exact congrArg (V m c main_arg0) (ext3 ((win0_2.rect t).emb (ix3 0 r n)) _ _ _
      (by show win0_2.index t 0 * 1 + 1 * 0 = t.val / 11; omega)
      (by show win0_2.index t 1 * 128 + 1 * r.val = 128 * (3 * (t.val % 11) + 2) + r.val; omega)
      (by show win0_2.index t 2 * 1024 + 1 * n.val = n.val; omega))

theorem ks_apply (c : Dev nD) (t : Fin cfg0.N) (w : Fin 5) (r : Fin 128) (n : Fin 256) :
    ks m c t w (ix3 0 r n) = m ((c : Thread nD τ).loc main_arg1) (ix3 (batch t) (rowOf (kvBlock t w) r) n) := by
  rw [← V_main_arg1 m c]
  match w with
  | ⟨0, _⟩ =>
    have hi := (key_index t).1
    exact congrArg (V m c main_arg1) (ext3 ((win0_3.rect t).emb (ix3 0 r n)) _ _ _
      (by show win0_3.index t 0 * 1 + 1 * 0 = t.val / 11; omega)
      (by show win0_3.index t 1 * 128 + 1 * r.val = 128 * ((3 * (t.val % 11) + 0 + 32) % 33) + r.val; omega)
      (by show win0_3.index t 2 * 256 + 1 * n.val = n.val; omega))
  | ⟨1, _⟩ =>
    have hi := (key_index t).2.1
    exact congrArg (V m c main_arg1) (ext3 ((win0_4.rect t).emb (ix3 0 r n)) _ _ _
      (by show win0_4.index t 0 * 1 + 1 * 0 = t.val / 11; omega)
      (by show win0_4.index t 1 * 128 + 1 * r.val = 128 * ((3 * (t.val % 11) + 1 + 32) % 33) + r.val; omega)
      (by show win0_4.index t 2 * 256 + 1 * n.val = n.val; omega))
  | ⟨2, _⟩ =>
    have hi := (key_index t).2.2.1
    exact congrArg (V m c main_arg1) (ext3 ((win0_5.rect t).emb (ix3 0 r n)) _ _ _
      (by show win0_5.index t 0 * 1 + 1 * 0 = t.val / 11; omega)
      (by show win0_5.index t 1 * 128 + 1 * r.val = 128 * ((3 * (t.val % 11) + 2 + 32) % 33) + r.val; omega)
      (by show win0_5.index t 2 * 256 + 1 * n.val = n.val; omega))
  | ⟨3, _⟩ =>
    have hi := (key_index t).2.2.2.1
    exact congrArg (V m c main_arg1) (ext3 ((win0_6.rect t).emb (ix3 0 r n)) _ _ _
      (by show win0_6.index t 0 * 1 + 1 * 0 = t.val / 11; omega)
      (by show win0_6.index t 1 * 128 + 1 * r.val = 128 * ((3 * (t.val % 11) + 3 + 32) % 33) + r.val; omega)
      (by show win0_6.index t 2 * 256 + 1 * n.val = n.val; omega))
  | ⟨4, _⟩ =>
    have hi := (key_index t).2.2.2.2
    exact congrArg (V m c main_arg1) (ext3 ((win0_7.rect t).emb (ix3 0 r n)) _ _ _
      (by show win0_7.index t 0 * 1 + 1 * 0 = t.val / 11; omega)
      (by show win0_7.index t 1 * 128 + 1 * r.val = 128 * ((3 * (t.val % 11) + 4 + 32) % 33) + r.val; omega)
      (by show win0_7.index t 2 * 256 + 1 * n.val = n.val; omega))

theorem vs_apply (c : Dev nD) (t : Fin cfg0.N) (w : Fin 5) (r : Fin 128) (n : Fin 256) :
    vs m c t w (ix3 0 r n) = m ((c : Thread nD τ).loc main_arg2) (ix3 (batch t) (rowOf (kvBlock t w) r) n) := by
  rw [← V_main_arg2 m c]
  match w with
  | ⟨0, _⟩ =>
    have hi := (value_index t).1
    exact congrArg (V m c main_arg2) (ext3 ((win0_8.rect t).emb (ix3 0 r n)) _ _ _
      (by show win0_8.index t 0 * 1 + 1 * 0 = t.val / 11; omega)
      (by show win0_8.index t 1 * 128 + 1 * r.val = 128 * ((3 * (t.val % 11) + 0 + 32) % 33) + r.val; omega)
      (by show win0_8.index t 2 * 256 + 1 * n.val = n.val; omega))
  | ⟨1, _⟩ =>
    have hi := (value_index t).2.1
    exact congrArg (V m c main_arg2) (ext3 ((win0_9.rect t).emb (ix3 0 r n)) _ _ _
      (by show win0_9.index t 0 * 1 + 1 * 0 = t.val / 11; omega)
      (by show win0_9.index t 1 * 128 + 1 * r.val = 128 * ((3 * (t.val % 11) + 1 + 32) % 33) + r.val; omega)
      (by show win0_9.index t 2 * 256 + 1 * n.val = n.val; omega))
  | ⟨2, _⟩ =>
    have hi := (value_index t).2.2.1
    exact congrArg (V m c main_arg2) (ext3 ((win0_10.rect t).emb (ix3 0 r n)) _ _ _
      (by show win0_10.index t 0 * 1 + 1 * 0 = t.val / 11; omega)
      (by show win0_10.index t 1 * 128 + 1 * r.val = 128 * ((3 * (t.val % 11) + 2 + 32) % 33) + r.val; omega)
      (by show win0_10.index t 2 * 256 + 1 * n.val = n.val; omega))
  | ⟨3, _⟩ =>
    have hi := (value_index t).2.2.2.1
    exact congrArg (V m c main_arg2) (ext3 ((win0_11.rect t).emb (ix3 0 r n)) _ _ _
      (by show win0_11.index t 0 * 1 + 1 * 0 = t.val / 11; omega)
      (by show win0_11.index t 1 * 128 + 1 * r.val = 128 * ((3 * (t.val % 11) + 3 + 32) % 33) + r.val; omega)
      (by show win0_11.index t 2 * 256 + 1 * n.val = n.val; omega))
  | ⟨4, _⟩ =>
    have hi := (value_index t).2.2.2.2
    exact congrArg (V m c main_arg2) (ext3 ((win0_12.rect t).emb (ix3 0 r n)) _ _ _
      (by show win0_12.index t 0 * 1 + 1 * 0 = t.val / 11; omega)
      (by show win0_12.index t 1 * 128 + 1 * r.val = 128 * ((3 * (t.val % 11) + 4 + 32) % 33) + r.val; omega)
      (by show win0_12.index t 2 * 256 + 1 * n.val = n.val; omega))

theorem sinks_apply (c : Dev nD) (t : Fin cfg0.N) (a : Fin 8) (h : Fin 2) (r : Fin 128) :
    iblk m c 13 t (ix3 (pair a) 0 (sinkCol a h r)) = m ((c : Thread nD τ).loc main_arg3) (ix1 (headOf a h)) := by
  have hi := sink_index t
  refine Eq.trans ?_ (sink_rows m c a h r)
  exact congrArg (V m c main_v7) (ext3 ((win0_13.rect t).emb (ix3 (pair a) 0 (sinkCol a h r))) _ _ _
    (by show win0_13.index t 0 * 2 + 1 * (pair a).val = (pair a).val; omega)
    (by show win0_13.index t 1 * 1 + 1 * 0 = 0; omega)
    (by show win0_13.index t 2 * 1024 + 1 * (sinkCol a h r).val = (sinkCol a h r).val; omega))

/-! ## The result array -/

/-- The element of the result array which is element `(z, n, l)` of a point's block. -/
theorem emb14 (t : Fin cfg0.N) (u : Fin 3) (c : Fin 8) (r l : Fin 128) :
    (win0_14.rect t).emb ((rectO u c).emb (ix3 0 r l))
      = (ix3 (batch t) (rowOf (blockOf t u) r) (qCol c l) : S8x4224x1024.Idx) := by
  have hi := out_index t
  exact ext3 _ _ _ _
    (by show win0_14.index t 0 * 1 + 1 * (0 + 1 * 0) = t.val / 11; omega)
    (by
      show win0_14.index t 1 * 384 + 1 * (128 * u.val + 1 * r.val) = 128 * (3 * (t.val % 11) + u.val) + r.val
      omega)
    (by show win0_14.index t 2 * 1024 + 1 * (128 * c.val + 1 * l.val) = 128 * c.val + l.val; omega)

/-- `attention` at a row and column given by block and chunk. -/
theorem attention_apply (q : FVec Ideal S8x4224x1024 .bf16) (k v : FVec Ideal S8x4224x256 .bf16) (s : FVec Ideal S16 .f32)
    (b : Fin 8) (sb : Fin 33) (r : Fin 128) (c : Fin 8) (l : Fin 128) :
    attention q k v s (ix3 b (rowOf sb r) (qCol c l)) = entry q k v s b sb r c l := by
  have := r.isLt
  have := l.isLt
  unfold attention
  congr 1
  · exact Fin.ext (by show (128 * sb.val + r.val) / 128 = sb.val; omega)
  · exact Fin.ext (by show (128 * sb.val + r.val) % 128 = r.val; omega)
  · exact Fin.ext (by show (128 * c.val + l.val) / 128 = c.val; omega)
  · exact Fin.ext (by show (128 * c.val + l.val) % 128 = l.val; omega)

/-- A chunk's tile at a point is that part of `result`. -/
theorem tile_eq (c : Dev nD) (t : Fin cfg0.N) (u : Fin 3) (a : Fin 8) (r l : Fin 128) :
    tileAt (grid0.coords t 1).val (qs m c t) (ks m c t) (vs m c t) (iblk m c 13 t) u a (ix3 0 r l)
      = result m c ((win0_14.rect t).emb ((rectO u a).emb (ix3 0 r l))) := by
  rw [emb14, result, attention_apply, coord_eq]
  refine (tileAt_apply (step t) _ _ _ _ _ _ _ _).trans ?_
  unfold entry
  rw [sinks_apply]
  have hrow : ∀ x : Fin 384, rowOf (kvBlock t ⟨u.val + (seg x).val, by have := (seg x).isLt; omega⟩) (inner x)
      = keyRow (blockOf t u) x := fun x => Fin.ext (by
    show 128 * ((3 * (t.val % 11) + (u.val + x.val / 128) + 32) % 33) + x.val % 128
      = 128 * ((3 * (t.val % 11) + u.val + x.val / 128 + 32) % 33) + x.val % 128
    rw [Nat.add_assoc (3 * (t.val % 11)) u.val])
  congr 1
  · refine masked_congr _ _ _ _ (fun x => Iff.rfl) fun x => Finset.sum_congr rfl fun d _ => ?_
    rw [ks_apply, qs_apply, hrow]
  · funext x
    rw [vs_apply, hrow]

/-- What each point writes back is its block of `result`. -/
theorem flushed_eq (c : Dev nD) (t : Fin cfg0.N) :
    (dats m 0 c).flushed 14 t = ((cfg0.win 14).blk t).view.read (Elt Ideal) (result m c) := by
  rw [Value.flushed14, out_eq]
  funext (j : S1x384x1024.Idx)
  refine View.canon_apply_of_pieces (fun y => result m c ((win0_14.rect t).emb y)) _ ?_ j ?_
  · intro p hp
    obtain ⟨⟨u, a⟩, -, rfl⟩ := List.mem_map.mp hp
    intro (x : S1x128x128.Idx)
    have h0 : (x 0 : Nat) < 1 := (x 0).isLt
    rw [ext3 x (0 : Fin 1) (x 1 : Fin 128) (x 2 : Fin 128) (by show (x 0 : Nat) = 0; omega) rfl rfl]
    exact tile_eq m c t u a (x 1) (x 2)
  · have b0 : (j 0 : Nat) < 1 := (j 0).isLt
    have b1 : (j 1 : Nat) < 384 := (j 1).isLt
    have b2 : (j 2 : Nat) < 1024 := (j 2).isLt
    have hmem : ∀ (u : Fin 3) (a : Fin 8), (u, a) ∈ chunks := by decide
    refine ⟨_, List.mem_map.mpr ⟨(⟨(j 1 : Nat) / 128, by omega⟩, ⟨(j 2 : Nat) / 128, by omega⟩), hmem _ _, rfl⟩, ?_⟩
    rw [Rect.mem_set_unit]
    intro i
    match i with
    | ⟨0, _⟩ => show 0 ≤ (j 0 : Nat) ∧ (j 0 : Nat) < 0 + 1; omega
    | ⟨1, _⟩ => show 128 * ((j 1 : Nat) / 128) ≤ (j 1 : Nat) ∧ (j 1 : Nat) < 128 * ((j 1 : Nat) / 128) + 128; omega
    | ⟨2, _⟩ => show 128 * ((j 2 : Nat) / 128) ≤ (j 2 : Nat) ∧ (j 2 : Nat) < 128 * ((j 2 : Nat) / 128) + 128; omega

/-- Every element of the result array is in the block of some point. -/
theorem cover (i : S8x4224x1024.Idx) :
    ∃ t : Fin cfg0.N, (cfg0.win 14).flush t = true ∧ i ∈ ((cfg0.win 14).blk t).view.set := by
  have hN : cfg0.N = 88 := N_0
  have b0 : (i 0 : Nat) < 8 := (i 0).isLt
  have b1 : (i 1 : Nat) < 4224 := (i 1).isLt
  have b2 : (i 2 : Nat) < 1024 := (i 2).isLt
  refine ⟨⟨(i 0 : Nat) * 11 + (i 1 : Nat) / 384, by omega⟩, flush0_14 _, ?_⟩
  generalize ht : (⟨(i 0 : Nat) * 11 + (i 1 : Nat) / 384, by omega⟩ : Fin cfg0.N) = t
  have hv : t.val = (i 0 : Nat) * 11 + (i 1 : Nat) / 384 := by rw [← ht]
  have hi := out_index t
  show i ∈ ((View.whole main_v8).slice (win0_14.rect t)).set
  rw [View.set_slice_whole, Rect.mem_set_unit]
  intro a
  match a with
  | ⟨0, _⟩ => show win0_14.index t 0 * 1 ≤ (i 0 : Nat) ∧ (i 0 : Nat) < win0_14.index t 0 * 1 + 1; omega
  | ⟨1, _⟩ => show win0_14.index t 1 * 384 ≤ (i 1 : Nat) ∧ (i 1 : Nat) < win0_14.index t 1 * 384 + 384; omega
  | ⟨2, _⟩ => show win0_14.index t 2 * 1024 ≤ (i 2 : Nat) ∧ (i 2 : Nat) < win0_14.index t 2 * 1024 + 1024; omega

/-- The result array after the run is `result`. -/
theorem final (c : Dev nD) : (dats m 0 c).arrAt 14 cfg0.N = result m c :=
  (dats m 0 c).arrAt_eq_of_cover 14 (result m c) (fun t _ => flushed_eq m c t) cover

end Cert.Proof.AttentionValue

end
-- ==== Proof.AttentionReference.lean ====
/-
  The attention's reference, read at an element: what it computes from its arguments.
-/
module

public import proofs.«01_k».proof.Proof.Gen.ReferenceIdeal.Read
public import proofs.«01_k».proof.Proof.Softmax
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Proof.AttentionReference

open Cert.ReferenceIdeal Cert.ReferenceIdeal.Gen Cert.ReferenceIdeal.Read
open Cert.Proof.Softmax (masked)

/-- The row of the arrays that holds position `p` of the sequence: its first 16 positions are the arrays' last rows. -/
abbrev place (p : Fin 4112) : Fin 4224 :=
  ⟨if p.val < 16 then 4208 + p.val else p.val - 16, by have := p.isLt; split <;> omega⟩
/-- The column of element `d` of head `h` of the keys. -/
abbrev kCol (h : Fin 4) (d : Fin 64) : Fin 256 := ⟨64 * h.val + d.val, by have := h.isLt; have := d.isLt; omega⟩
/-- The column of element `d` of query head `g` of the group of key head `h`. -/
abbrev qCol (h g : Fin 4) (d : Fin 64) : Fin 1024 :=
  ⟨512 * (h.val / 2) + 128 * g.val + 64 * (h.val % 2) + d.val, by
    have := h.isLt; have := g.isLt; have := d.isLt; omega⟩

variable (q : FVec Ideal S8x4224x1024 .bf16) (k v : FVec Ideal S8x4224x256 .bf16) (s : FVec Ideal S16 .f32)

/-- The maximum along the last axis of an array of rank five. -/
theorem reduce_max {n0 n1 n2 n3 n4 : ℕ} (x : FVec Ideal ⟨5, ![n0, n1, n2, n3, n4]⟩ .f32) (init : FVec Ideal S_ .f32)
    (hr : (⟨5, ![n0, n1, n2, n3, n4]⟩ : Shape).ReducesTo [4] ⟨4, ![n0, n1, n2, n3]⟩) (hu : 0 < S_.numel)
    (a : Fin n0) (b : Fin n1) (c : Fin n2) (e : Fin n3) :
    Host.reduce (FloatOps.maximumf (F := Ideal) (φ := .f32)) x init hr hu (ix4 a b c e)
      = (Finset.univ : Finset (Fin n4)).fold max (init (Shape.Idx.first hu)) fun y => x (ix5 a b c e y) := by
  rw [Host.reduce_eq_fold]
  exact hr.fold_fiber_r5_a4 (ix4 a b c e) max _ x

theorem v7_apply (b : Fin 8) (p : Fin 4112) (n : Fin 256) :
    val_main_v7 (F := Ideal) k (ix3 b p n) = k (ix3 b (place p) n) := by
  pointwise [val_main_v7, val_main_v6, val_main_v5, val_main_v4]
  unfold place
  split <;> rfl

theorem v11_apply (b : Fin 8) (p : Fin 4112) (n : Fin 256) :
    val_main_v11 (F := Ideal) v (ix3 b p n) = v (ix3 b (place p) n) := by
  pointwise [val_main_v11, val_main_v10, val_main_v9, val_main_v8]
  unfold place
  split <;> rfl

theorem v3_apply (b : Fin 8) (p : Fin 4112) (n : Fin 1024) :
    val_main_v3 (F := Ideal) q (ix3 b p n) = q (ix3 b (place p) n) := by
  pointwise [val_main_v3, val_main_v2, val_main_v1, val_main_v0]
  unfold place
  split <;> rfl

/-- The keys by head, -/
theorem v15_apply (b : Fin 8) (p : Fin 4112) (h : Fin 4) (d : Fin 64) :
    val_main_v15 (F := Ideal) k (ix4 b p h d) = k (ix3 b (place p) (kCol h d)) := by
  refine Eq.trans ?_ (v7_apply k b p (kCol h d))
  pointwise [val_main_v15]
  refine congrArg (fun n => val_main_v7 (F := Ideal) k (ix3 b p n)) (Fin.ext ?_)
  show h.val * 64 + d.val = 64 * h.val + d.val
  omega

/-- the values by head, -/
theorem v16_apply (b : Fin 8) (p : Fin 4112) (h : Fin 4) (d : Fin 64) :
    val_main_v16 (F := Ideal) v (ix4 b p h d) = v (ix3 b (place p) (kCol h d)) := by
  refine Eq.trans ?_ (v11_apply v b p (kCol h d))
  pointwise [val_main_v16]
  refine congrArg (fun n => val_main_v11 (F := Ideal) v (ix3 b p n)) (Fin.ext ?_)
  show h.val * 64 + d.val = 64 * h.val + d.val
  omega

/-- and the queries by key head and member of its group. -/
theorem v14_apply (b : Fin 8) (p : Fin 4112) (h g : Fin 4) (d : Fin 64) :
    val_main_v14 (F := Ideal) q (ix5 b p h g d) = q (ix3 b (place p) (qCol h g d)) := by
  refine Eq.trans ?_ (v3_apply q b p (qCol h g d))
  pointwise [val_main_v14, val_main_v13, val_main_v12]
  refine congrArg (fun n => val_main_v3 (F := Ideal) q (ix3 b p n)) (Fin.ext ?_)
  show h.val / 2 * 512 + g.val * 128 + h.val % 2 * 64 + d.val = 512 * (h.val / 2) + 128 * g.val + 64 * (h.val % 2) + d.val
  omega

/-- The score of a query and a key, before the mask. -/
def score (b : Fin 8) (h g : Fin 4) (p x : Fin 4112) : EReal :=
  (∑ d : Fin 64, k (ix3 b (place x) (kCol h d)) * q (ix3 b (place p) (qCol h g d))) * ((Real.log 2 : ℝ) : EReal)

/-- Which positions `x` the query at position `p` sees. -/
abbrev Near (p x : Fin 4112) : Prop := p.val ≤ x.val + 128 ∧ x.val ≤ p.val + 128

theorem toInt_small (n : ℕ) (hn : n < 4112) : (BitVec.ofNat 32 n).toInt = n := by
  have h : (BitVec.ofNat 32 n).toNat = n := by
    rw [BitVec.toNat_ofNat]
    omega
  rw [BitVec.toInt_eq_toNat_of_lt (by rw [h]; omega), h]

theorem mask_word (p x : Fin 4112) :
    IntOp.cmpi CmpIPredicate.sle (IntOp.absi (IntOp.subi (BitVec.ofNat 32 p.val) (BitVec.ofNat 32 x.val))) 128#32
      = BitVec.ofBool (decide (Near p x)) := by
  have hp : p.val < 4112 := p.isLt
  have hx : x.val < 4112 := x.isLt
  have hsub : (BitVec.ofNat 32 p.val - BitVec.ofNat 32 x.val).toInt = (p.val : Int) - x.val := by
    rw [BitVec.toInt_sub, toInt_small _ hp, toInt_small _ hx]
    simp only [Int.bmod_def]
    omega
  have habs : (IntOp.absi (BitVec.ofNat 32 p.val - BitVec.ofNat 32 x.val)).toInt = |(p.val : Int) - x.val| := by
    unfold IntOp.absi
    rw [BitVec.msb_eq_toInt, hsub]
    split
    · rename_i h
      rw [BitVec.toInt_neg, hsub, abs_of_neg (by simpa using h)]
      simp only [Int.bmod_def]
      omega
    · rename_i h
      rw [hsub, abs_of_nonneg (by simpa using h)]
  show BitVec.ofBool (decide ((IntOp.absi (BitVec.ofNat 32 p.val - BitVec.ofNat 32 x.val)).toInt ≤ (128#32).toInt)) = _
  rw [habs]
  refine congrArg BitVec.ofBool (decide_eq_decide.mpr ?_)
  rw [show (128#32 : BitVec 32).toInt = 128 from by decide, abs_le]
  constructor <;> intro h <;> constructor <;> omega

theorem log_two : Ideal.log (Ideal.ofBits .f32 1073741824#32) = ((Real.log 2 : ℝ) : EReal) := by
  have h : Ideal.ofBits .f32 1073741824#32 = ((2 : ℝ) : EReal) := by
    simp [Ideal.ofBits, Ideal.ieee, -EReal.coe_mul]
    norm_num
  rw [h]
  show (if (2 : ℝ) ≤ 0 then ⊥ else ((Real.log 2 : ℝ) : EReal)) = _
  rw [if_neg (by norm_num)]

theorem ninf : Ideal.ofBits .f32 4286578688#32 = ⊥ := by
  simp [Ideal.ofBits, Ideal.ieee]

/-- The masked scores. -/
theorem v32_apply (b : Fin 8) (h g : Fin 4) (p x : Fin 4112) :
    val_main_v32 (F := Ideal) q k (ix5 b h g p x) = masked (Near p) (score q k b h g p) x := by
  pointwise [val_main_v32, val_main_v31, val_main_v30, val_main_v29, val_main_cst, val_main_v28, val_main_v27,
    val_main_call0_v1, val_main_call0_v2, val_main_call0_v0, val_main_cst_0, val_main_v26, val_main_v25, val_main_c,
    val_main_v24, val_main_v23, val_main_v22, val_main_v21, val_main_v20, val_main_v19, val_main_v18]
  rw [mask_word, Scalar.select_ofBool, log_two]
  simp only [decide_eq_true_eq]
  refine if_congr Iff.rfl ?_ ninf
  unfold score
  refine congrArg (· * _) (Finset.sum_congr rfl fun d _ => ?_)
  rw [v15_apply, v14_apply]

/-- The greatest of a query's scores. -/
theorem v33_apply (b : Fin 8) (h g : Fin 4) (p : Fin 4112) :
    val_main_v33 (F := Ideal) q k (ix4 b h g p)
      = (Finset.univ : Finset (Fin 4112)).fold max ⊥ (masked (Near p) (score q k b h g p)) := by
  unfold val_main_v33
  refine (reduce_max _ _ _ _ b h g p).trans ?_
  refine congrFun (congr (congrArg (fun z => Finset.fold max z) ninf) ?_) _
  funext x
  exact v32_apply q k b h g p x

/-- The sink logit of a query's head. -/
abbrev sinkOf (h g : Fin 4) : EReal := s (ix1 ⟨4 * h.val + g.val, by have := h.isLt; have := g.isLt; omega⟩)

theorem v17_apply (h g : Fin 4) : val_main_v17 (F := Ideal) s (ix5 0 h g 0 0) = sinkOf s h g := by
  pointwise [val_main_v17]
  refine congrArg (fun n => s (ix1 n)) (Fin.ext ?_)
  show h.val * 4 + g.val = 4 * h.val + g.val
  omega

/-- The greatest of a query's scores and the sink logit of its head. -/
theorem v36_apply (b : Fin 8) (h g : Fin 4) (p : Fin 4112) :
    val_main_v36 (F := Ideal) q k s (ix5 b h g p 0) = max (val_main_v33 (F := Ideal) q k (ix4 b h g p)) (sinkOf s h g) := by
  rw [val_main_v36_apply, val_main_v34_apply, val_main_v35_apply, ← v17_apply]
  refine congrArg₂ max (congrArg _ ?_) (congrArg _ ?_)
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl
    | ⟨4, _⟩ => rfl

/-- The weight of a key for a query. -/
theorem v47_apply (b : Fin 8) (h g : Fin 4) (p x : Fin 4112) :
    val_main_v47 (F := Ideal) q k s (ix5 b h g p x)
      = Ideal.div
          (Ideal.exp (val_main_v32 (F := Ideal) q k (ix5 b h g p x) - val_main_v36 (F := Ideal) q k s (ix5 b h g p 0)))
          ((∑ y : Fin 4112, Ideal.exp (val_main_v32 (F := Ideal) q k (ix5 b h g p y)
              - val_main_v36 (F := Ideal) q k s (ix5 b h g p 0)))
            + Ideal.exp (val_main_v17 (F := Ideal) s (ix5 0 h g 0 0) - val_main_v36 (F := Ideal) q k s (ix5 b h g p 0))) := by
  pointwise [val_main_v47, val_main_v46, val_main_v45, val_main_v44, val_main_v43, val_main_v42, val_main_v41, val_main_v40,
    val_main_cst_2, val_main_v39, val_main_v38, val_main_v37]

/-- The output at a position: the values added up with these weights. -/
theorem v52_apply (b : Fin 8) (p : Fin 4112) (h g : Fin 4) (d : Fin 64) :
    val_main_v52 (F := Ideal) q k v s (ix3 b p (qCol h g d))
      = ∑ x : Fin 4112, val_main_v16 (F := Ideal) v (ix4 b x h d) * val_main_v47 (F := Ideal) q k s (ix5 b h g p x) := by
  have hh := h.isLt
  have hg := g.isLt
  have hd := d.isLt
  pointwise [val_main_v52, val_main_v51, val_main_v50, val_main_v49, val_main_v48]
  refine Finset.sum_congr rfl fun x _ => congrArg₂ (· * ·) ?_ ?_
  · refine congrArg (fun e => val_main_v16 (F := Ideal) v (ix4 b x h e)) (Fin.ext ?_)
    show (512 * (h.val / 2) + 128 * g.val + 64 * (h.val % 2) + d.val) % 64 = d.val
    omega
  · refine congrArg (fun e => val_main_v47 (F := Ideal) q k s (ix5 b h e p x)) (Fin.ext ?_)
    show (512 * (h.val / 2) + 128 * g.val + 64 * (h.val % 2) + d.val) / 128 % 4 = g.val
    omega

/-- The result at the row that holds a position. -/
theorem v57_apply (b : Fin 8) (p : Fin 4112) (n : Fin 1024) :
    val_main_v57 (F := Ideal) q k v s (ix3 b (place p) n) = val_main_v52 (F := Ideal) q k v s (ix3 b p n) := by
  have hp := p.isLt
  pointwise [val_main_v57, val_main_v56, val_main_v55, val_main_v54, val_main_v53]
  have hv : (place p).val = if p.val < 16 then 4208 + p.val else p.val - 16 := rfl
  by_cases h16 : p.val < 16
  · rw [if_pos h16] at hv
    rw [dif_neg (by show ¬(place p).val < 4096; omega), dif_neg (by show ¬(place p).val - 4096 < 112; omega)]
    refine congrArg (fun e => val_main_v52 (F := Ideal) q k v s (ix3 b e n)) (Fin.ext ?_)
    show (place p).val - 4096 - 112 = p.val
    omega
  · rw [if_neg h16] at hv
    rw [dif_pos (by show (place p).val < 4096; omega)]
    refine congrArg (fun e => val_main_v52 (F := Ideal) q k v s (ix3 b e n)) (Fin.ext ?_)
    show 16 + (place p).val = p.val
    omega

/-- The result at the row that holds a position, as the softmax over the positions nearby and the sink. -/
theorem result_apply (b : Fin 8) (p : Fin 4112) (h g : Fin 4) (d : Fin 64) :
    val_main_v57 (F := Ideal) q k v s (ix3 b (place p) (qCol h g d))
      = ∑ x : Fin 4112, v (ix3 b (place x) (kCol h d)) * Ideal.div
          (Ideal.exp (masked (Near p) (score q k b h g p) x
            - max (Finset.fold max ⊥ (masked (Near p) (score q k b h g p)) Finset.univ) (sinkOf s h g)))
          (∑ y : Fin 4112, Ideal.exp (masked (Near p) (score q k b h g p) y
              - max (Finset.fold max ⊥ (masked (Near p) (score q k b h g p)) Finset.univ) (sinkOf s h g))
            + Ideal.exp (sinkOf s h g
              - max (Finset.fold max ⊥ (masked (Near p) (score q k b h g p)) Finset.univ) (sinkOf s h g))) := by
  rw [v57_apply, v52_apply]
  simp only [v16_apply, v47_apply, v36_apply, v33_apply, v32_apply, v17_apply]

end Cert.Proof.AttentionReference

end
-- ==== Proof.AttentionEquation.lean ====
/-
  The equation: in a token's row the attention call computes what its reference computes.
-/
module

public import proofs.«01_k».proof.Proof.AttentionValue
public import proofs.«01_k».proof.Proof.AttentionReference

@[expose] public section

set_option maxRecDepth 16384

noncomputable section

open Idealize.ShloMosaic

namespace Cert.Proof.AttentionEquation

open Cert.KernelIdeal
open Cert.Proof.AttentionBlock Cert.Proof.AttentionTile Cert.Proof.AttentionValue Cert.Proof.Softmax
open Cert.Proof.AttentionReference (place kCol score Near sinkOf)

/-- The position of the sequence that a row of the arrays holds. -/
def position (row : Fin 4224) : Fin 4112 :=
  ⟨if 4208 ≤ row.val then row.val - 4208 else if row.val < 4096 then row.val + 16 else 0, by
    have := row.isLt
    split
    · omega
    · split <;> omega⟩

/-- A row that holds a token is the row of its position. -/
theorem place_position (row : Fin 4224) (h : row.val < 4096 ∨ 4208 ≤ row.val) : place (position row) = row := by
  have := row.isLt
  refine Fin.ext ?_
  show (if (if 4208 ≤ row.val then row.val - 4208 else if row.val < 4096 then row.val + 16 else 0) < 16
    then 4208 + (if 4208 ≤ row.val then row.val - 4208 else if row.val < 4096 then row.val + 16 else 0)
    else (if 4208 ≤ row.val then row.val - 4208 else if row.val < 4096 then row.val + 16 else 0) - 16) = row.val
  split_ifs <;> omega

/-- The row around block `sb` that holds position `x`, as one of the 384. -/
def keyOf (sb : Fin 33) (x : Fin 4112) : Fin 384 :=
  ⟨(128 * ((((place x).val / 128) + 34 - sb.val) % 33) + (place x).val % 128) % 384, by omega⟩

theorem position_token (row : Fin 4224) (h : row.val < 4096) : (position row).val = row.val + 16 := by
  show (if 4208 ≤ row.val then row.val - 4208 else if row.val < 4096 then row.val + 16 else 0) = row.val + 16
  rw [if_neg (by omega), if_pos h]

theorem position_meta (row : Fin 4224) (h : 4208 ≤ row.val) : (position row).val = row.val - 4208 := by
  show (if 4208 ≤ row.val then row.val - 4208 else if row.val < 4096 then row.val + 16 else 0) = row.val - 4208
  rw [if_pos h]

/-- What a query sees among the 384 keys around its block: rows of tokens, at most 128 positions away. -/
theorem sees_near (sb : Fin 33) (r : Fin 128) (x : Fin 384) (hrow : (rowOf sb r).val < 4096 ∨ 4208 ≤ (rowOf sb r).val)
    (h : Sees sb.val r.val x.val) :
    ((keyRow sb x).val < 4096 ∨ 4208 ≤ (keyRow sb x).val) ∧ Near (position (rowOf sb r)) (position (keyRow sb x)) := by
  obtain ⟨h1, h2, h3⟩ := h
  have hb := sb.isLt
  have hr := r.isLt
  have hx := x.isLt
  have hq : (rowOf sb r).val = 128 * sb.val + r.val := rfl
  have hk : (keyRow sb x).val = 128 * ((sb.val + x.val / 128 + 32) % 33) + x.val % 128 := rfl
  have htok : (keyRow sb x).val < 4096 ∨ 4208 ≤ (keyRow sb x).val := by
    unfold low at h3
    split_ifs at h3 <;> omega
  refine ⟨htok, ?_⟩
  have hP : (4096 ≤ (rowOf sb r).val ∨ (position (rowOf sb r)).val = (rowOf sb r).val + 16)
      ∧ ((rowOf sb r).val < 4208 ∨ (position (rowOf sb r)).val = (rowOf sb r).val - 4208) :=
    ⟨(lt_or_ge _ _).symm.imp id (position_token _), (lt_or_ge _ _).imp id (position_meta _)⟩
  have hK : (4096 ≤ (keyRow sb x).val ∨ (position (keyRow sb x)).val = (keyRow sb x).val + 16)
      ∧ ((keyRow sb x).val < 4208 ∨ (position (keyRow sb x)).val = (keyRow sb x).val - 4208) :=
    ⟨(lt_or_ge _ _).symm.imp id (position_token _), (lt_or_ge _ _).imp id (position_meta _)⟩
  show (position (rowOf sb r)).val ≤ (position (keyRow sb x)).val + 128
    ∧ (position (keyRow sb x)).val ≤ (position (rowOf sb r)).val + 128
  unfold low at h3
  split_ifs at h3 <;> omega

/-- Two of them are in different rows. -/
theorem keyRow_inj (sb : Fin 33) (x y : Fin 384) (h : keyRow sb x = keyRow sb y) : x = y := by
  have h' : 128 * ((sb.val + x.val / 128 + 32) % 33) + x.val % 128
      = 128 * ((sb.val + y.val / 128 + 32) % 33) + y.val % 128 := congrArg Fin.val h
  have := x.isLt
  have := y.isLt
  have := sb.isLt
  refine Fin.ext ?_
  omega

/-- Every position at most 128 away is in the row of a key that the query sees. -/
theorem near_sees (sb : Fin 33) (r : Fin 128) (x : Fin 4112) (hrow : (rowOf sb r).val < 4096 ∨ 4208 ≤ (rowOf sb r).val)
    (h : Near (position (rowOf sb r)) x) :
    Sees sb.val r.val (keyOf sb x).val ∧ position (keyRow sb (keyOf sb x)) = x := by
  have hb := sb.isLt
  have hr := r.isLt
  have hx := x.isLt
  have hq : (rowOf sb r).val = 128 * sb.val + r.val := rfl
  have hP : (4096 ≤ (rowOf sb r).val ∨ (position (rowOf sb r)).val = (rowOf sb r).val + 16)
      ∧ ((rowOf sb r).val < 4208 ∨ (position (rowOf sb r)).val = (rowOf sb r).val - 4208) :=
    ⟨(lt_or_ge _ _).symm.imp id (position_token _), (lt_or_ge _ _).imp id (position_meta _)⟩
  obtain ⟨h1, h2⟩ : (position (rowOf sb r)).val ≤ x.val + 128 ∧ x.val ≤ (position (rowOf sb r)).val + 128 := h
  have hpl : (place x).val = if x.val < 16 then 4208 + x.val else x.val - 16 := rfl
  have hko : (keyOf sb x).val = (128 * ((((place x).val / 128) + 34 - sb.val) % 33) + (place x).val % 128) % 384 := rfl
  have hkr : (keyRow sb (keyOf sb x)).val
      = 128 * ((sb.val + (keyOf sb x).val / 128 + 32) % 33) + (keyOf sb x).val % 128 := rfl
  have hkey : keyRow sb (keyOf sb x) = place x := Fin.ext (by split_ifs at hpl <;> omega)
  constructor
  · unfold Sees low
    split_ifs at hpl ⊢ <;> omega
  · rw [hkey]
    refine Fin.ext ?_
    by_cases hm : x.val < 16
    · rw [if_pos hm] at hpl
      rw [position_meta _ (by omega)]
      omega
    · rw [if_neg hm] at hpl
      rw [position_token _ (by omega)]
      omega

variable (q : FVec Ideal S8x4224x1024 .bf16) (k v : FVec Ideal S8x4224x256 .bf16) (s : FVec Ideal S16 .f32)

/-- In a token's row, for finite queries, keys and sink logits, the call's entry is the reference's. -/
theorem entry_eq (hq : ∀ i, ∃ x : ℝ, q i = (x : EReal)) (hk : ∀ i, ∃ x : ℝ, k i = (x : EReal))
    (hs : ∀ i, ∃ x : ℝ, s i = (x : EReal)) (b : Fin 8) (sb : Fin 33) (r : Fin 128) (c : Fin 8) (l : Fin 128)
    (hrow : (rowOf sb r).val < 4096 ∨ 4208 ≤ (rowOf sb r).val) :
    entry q k v s b sb r c l
      = Cert.ReferenceIdeal.Read.val_main_v57 (F := Ideal) q k v s (ix3 b (rowOf sb r) (qCol c l)) := by
  choose qr hqr using hq
  choose kr hkr using hk
  choose sr hsr using hs
  have hc := c.isLt
  have hl := l.isLt
  -- the head and the element of the column
  obtain ⟨h, hh⟩ : ∃ h : Fin 4, h.val = 2 * (c.val / 4) + l.val / 64 := ⟨⟨_, by omega⟩, rfl⟩
  obtain ⟨g, hg⟩ : ∃ g : Fin 4, g.val = c.val % 4 := ⟨⟨_, by omega⟩, rfl⟩
  obtain ⟨d, hd⟩ : ∃ d : Fin 64, d.val = l.val % 64 := ⟨⟨_, by omega⟩, rfl⟩
  have hcol : qCol c l = AttentionReference.qCol h g d := Fin.ext (by
    show 128 * c.val + l.val = 512 * (h.val / 2) + 128 * g.val + 64 * (h.val % 2) + d.val
    omega)
  have hqcol : ∀ d' : Fin 64, qCol c (lane (half l) d') = AttentionReference.qCol h g d' := fun d' => Fin.ext (by
    show 128 * c.val + (64 * (l.val / 64) + d'.val) = 512 * (h.val / 2) + 128 * g.val + 64 * (h.val % 2) + d'.val
    omega)
  have hkcol : ∀ d' : Fin 64, kvCol c (lane (half l) d') = kCol h d' := fun d' => Fin.ext (by
    show 128 * (c.val / 4) + (64 * (l.val / 64) + d'.val) = 64 * h.val + d'.val
    omega)
  have hvcol : kvCol c l = kCol h d := Fin.ext (by
    show 128 * (c.val / 4) + l.val = 64 * h.val + d.val
    omega)
  have hsink : s (ix1 (headOf c (half l))) = sinkOf s h g := congrArg (fun n => s (ix1 n)) (Fin.ext (by
    show 8 * (c.val / 4) + 4 * (l.val / 64) + c.val % 4 = 4 * h.val + g.val
    omega))
  have hp : rowOf sb r = place (position (rowOf sb r)) := (place_position _ hrow).symm
  obtain ⟨bs, hbs⟩ : ∃ x : ℝ, sinkOf s h g = (x : EReal) := ⟨_, hsr _⟩
  -- the two scores are real numbers
  have hsc : ∀ (y : Fin 4224), ∑ d' : Fin 64, k (ix3 b y (kCol h d')) * q (ix3 b (rowOf sb r) (AttentionReference.qCol h g d'))
      = ((∑ d' : Fin 64, kr (ix3 b y (kCol h d')) * qr (ix3 b (rowOf sb r) (AttentionReference.qCol h g d')) : ℝ) : EReal) := by
    intro y
    rw [coe_sum]
    exact Finset.sum_congr rfl fun d' _ => by rw [hkr, hqr, ← EReal.coe_mul]
  -- the call's side
  unfold entry
  simp only [hqcol, hkcol, hvcol, hsink, hcol]
  rw [hbs]
  refine (base_two (fun x : Fin 384 => Sees sb.val r.val x.val) _
    (fun x => ∑ d' : Fin 64, kr (ix3 b (keyRow sb x) (kCol h d')) * qr (ix3 b (rowOf sb r) (AttentionReference.qCol h g d')))
    _ bs (fun x _ => hsc _) _ rfl).trans ?_
  -- the reference's
  rw [hp, AttentionReference.result_apply, ← hp, hbs]
  refine Eq.trans ?_ (base_e (Near (position (rowOf sb r))) (score q k b h g (position (rowOf sb r)))
    (fun x => (∑ d' : Fin 64, kr (ix3 b (place x) (kCol h d')) * qr (ix3 b (rowOf sb r) (AttentionReference.qCol h g d')))
      * Real.log 2) _ bs (fun x _ => ?_)).symm
  · refine attn_congr _ _ _ _ _ _ _ (fun x => position (keyRow sb x)) ?_ ?_ ?_ ?_ ?_
    · intro x hx
      exact Finset.mem_filter.mpr ⟨Finset.mem_univ _, (sees_near sb r x hrow (Finset.mem_filter.mp hx).2).2⟩
    · intro x hx y hy hxy
      refine keyRow_inj sb x y ?_
      rw [← place_position _ (sees_near sb r x hrow (Finset.mem_filter.mp hx).2).1, hxy,
        place_position _ (sees_near sb r y hrow (Finset.mem_filter.mp hy).2).1]
    · intro z hz
      have hn := near_sees sb r z hrow (Finset.mem_filter.mp hz).2
      exact ⟨keyOf sb z, Finset.mem_filter.mpr ⟨Finset.mem_univ _, hn.1⟩, hn.2⟩
    · intro x hx
      rw [place_position _ (sees_near sb r x hrow (Finset.mem_filter.mp hx).2).1]
    · intro x hx
      rw [place_position _ (sees_near sb r x hrow (Finset.mem_filter.mp hx).2).1]
  · unfold score
    rw [← hp, hsc, ← EReal.coe_mul]

end Cert.Proof.AttentionEquation

end
-- ==== Proof.AttentionClaims.lean ====
/-
  The claims about what the attention call computes.
-/
module

public import proofs.«01_k».proof.Defs
public import proofs.«01_k».proof.Proof.AttentionEquation
public import proofs.«01_k».proof.Proof.AttentionFrames
public import proofs.«01_k».proof.Proof.Gen.Pre_finite
public import proofs.«01_k».proof.Proof.Gen.On_tokens

@[expose] public section

set_option maxRecDepth 16384

noncomputable section

open Idealize.ShloMosaic Idealize.ShloMosaic.TcCoe Idealize.SL.Sem

namespace Cert.Proof.AttentionClaims

/-- The kernel runs on finite arguments, too, -/
theorem frame_kernelIdeal_finite : Cert.quiescent_KernelIdeal_pre_finite := fun m ρ _ =>
  AttentionFrames.frame_kernelIdeal m ρ trivial

/-- and so does the reference. -/
theorem frame_referenceIdeal_finite : Cert.quiescent_ReferenceIdeal_pre_finite := fun m ρ _ =>
  AttentionFrames.frame_referenceIdeal m ρ trivial

/-- The mask is set in the rows that hold a token. -/
theorem tokens_iff (q : FVec Ideal Cert.On_tokens.S8x4224x1024 .bf16) (k v : FVec Ideal Cert.On_tokens.S8x4224x256 .bf16)
    (s : FVec Ideal Cert.On_tokens.S16 .f32) (b : Fin 8) (row : Fin 4224) (n : Fin 1024) :
    Cert.On_tokens.fn (F := Ideal) q k v s (ix3 b row n) = 1#1 ↔ row.val < 4096 ∨ 4208 ≤ row.val := by
  have hrow := row.isLt
  show IntOp.ori (IntOp.cmpi .slt (BitVec.ofNat 32 row.val) (BitVec.ofNat 32 4096))
    (IntOp.cmpi .sge (BitVec.ofNat 32 row.val) (BitVec.ofNat 32 4208)) = 1#1 ↔ _
  have h1 : IntOp.cmpi .slt (BitVec.ofNat 32 row.val) (BitVec.ofNat 32 4096) = BitVec.ofBool (decide (row.val < 4096)) :=
    WordCmp.cmpi_slt_ofNat (by omega) (by omega)
  have h2 : IntOp.cmpi .sge (BitVec.ofNat 32 row.val) (BitVec.ofNat 32 4208) = BitVec.ofBool (decide (4208 ≤ row.val)) :=
    WordCmp.cmpi_sge_ofNat (by omega) (by omega)
  rw [h1, h2, WordCmp.ori_ofBool, ← Bool.decide_or]
  exact WordCmp.ofBool_decide_eq_one_iff _

/-- A value below infinity in magnitude is a real number. -/
theorem real_of_lt (x : EReal) (h : Ideal.cmp .olt (max x (-x)) (Ideal.ofBits .f32 0x7F800000#32) = 1#1) :
    ∃ r : ℝ, x = (r : EReal) := by
  have hlt : max x (-x) < Ideal.ofBits .f32 0x7F800000#32 := (WordCmp.ofBool_decide_eq_one_iff _).mp h
  have htop : Ideal.ofBits .f32 0x7F800000#32 = ⊤ := by simp [Ideal.ofBits, Ideal.ieee]
  rw [htop, max_lt_iff] at hlt
  induction x using EReal.rec with
  | bot => exact absurd hlt.2 (by simp)
  | coe r => exact ⟨r, rfl⟩
  | top => exact absurd hlt.1 (by simp)

/-- On extended reals, from finite queries, keys and sink logits, the kernel's result array ends equal to the reference's
    in the rows that hold a token. -/
theorem algebraic : Cert.algebraic_KernelIdeal_ReferenceIdeal_on_tokens_pre_finite := by
  intro m ρ m' ρ' hpre hagree
  refine ⟨fun c => AttentionValue.result m c, ?_, ?_⟩
  · exact (θ_run Cert.KernelIdeal.defs _ _).mono
      (fun _ h c => ⟨fun i _ => congrFun ((h c).1.trans (AttentionValue.final m c)) i, (h c).2⟩)
      (Cert.KernelIdeal.Value.run_blocks (F := Ideal) m ρ)
  · refine (θ_run Cert.ReferenceIdeal.defs _ _).mono (fun _ h c => ⟨fun i hi => ?_, (h c).2⟩)
      (Cert.ReferenceIdeal.Value.run (F := Ideal) m' ρ')
    refine (congrFun (h c).1 i).trans ?_
    rw [Cert.ReferenceIdeal.Read.val_main_v57_eq, (hagree c).1, (hagree c).2.1, (hagree c).2.2.1, (hagree c).2.2.2]
    have hfin := hpre c
    obtain ⟨b, sb, r, a, l, rfl⟩ : ∃ (b : Fin 8) (sb : Fin 33) (r : Fin 128) (a : Fin 8) (l : Fin 128),
        i = ix3 b (AttentionValue.rowOf sb r) (AttentionTile.qCol a l) := by
      have h1 : (i 1).val < 4224 := (i 1).isLt
      have h2 : (i 2).val < 1024 := (i 2).isLt
      refine ⟨i 0, ⟨(i 1).val / 128, by omega⟩, ⟨(i 1).val % 128, by omega⟩, ⟨(i 2).val / 128, by omega⟩,
        ⟨(i 2).val % 128, by omega⟩, AttentionValue.ext3 i _ _ _ rfl ?_ ?_⟩
      · show (i 1).val = 128 * ((i 1).val / 128) + (i 1).val % 128
        omega
      · show (i 2).val = 128 * ((i 2).val / 128) + (i 2).val % 128
        omega
    refine (AttentionEquation.entry_eq _ _ _ _ (fun j => real_of_lt _ (congrFun hfin.1 j))
      (fun j => real_of_lt _ (congrFun hfin.2.1 j)) (fun j => real_of_lt _ (congrFun hfin.2.2 j)) b sb r a l
      ((tokens_iff _ _ _ _ _ _ _).mp hi)).symm.trans ?_
    exact (AttentionValue.attention_apply _ _ _ _ b sb r a l).symm

end Cert.Proof.AttentionClaims

end
-- ==== Proof.ExpertBlock.lean ====
/-
  The expert call, one block at a time: what the kernel's body computes from the blocks it loads, as sums.
-/
module

public import proofs.«01_k».proof.Proof.Gen.Kernel2Ideal.Value
public import Idealize.ShloMosaic.Lib.Pointwise
public import Idealize.ShloMosaic.Lib.ValueIdx

@[expose] public section

set_option maxRecDepth 16384

noncomputable section

open Idealize.ShloMosaic Idealize.ShloMosaic

namespace Cert.Proof.ExpertBlock

open Cert.Kernel2Ideal Cert.Kernel2Ideal.Gen

/-- One entry of the SwiGLU feed-forward of a row `x` with gate `g`, up projection `u` and down projection column
    `d`: the sum over hidden units `h` of `a · logistic a · b · d h`, where `a` is `x` times column `h` of the gate and
    `b` is `x` times column `h` of the up projection. -/
def swiglu (x : Fin 1024 → EReal) (g u : Fin 1024 → Fin 2048 → EReal) (d : Fin 2048 → EReal) : EReal :=
  ∑ h : Fin 2048, (∑ k : Fin 1024, x k * g k h) * Ideal.logistic (∑ k : Fin 1024, x k * g k h)
    * (∑ k : Fin 1024, x k * u k h) * d h

/-- The block the body stores holds at row `r`, column `l` the SwiGLU of row `r` of the token block with the three
    weight blocks. -/
theorem pay_apply (x : Vec Ideal S1x1056x1024 .bf16) (g u : Vec Ideal S1x1024x2048 .bf16)
    (d : Vec Ideal S1x2048x1024 .bf16) (z : Fin 1) (r : Fin 1056) (l : Fin 1024) :
    k0_pay1 (F := Ideal) x g u d (ix3 z r l)
      = swiglu (fun k => x (ix3 0 r k)) (fun k h => g (ix3 0 k h)) (fun k h => u (ix3 0 k h))
          (fun h => d (ix3 0 h l)) := by
  unfold swiglu
  pointwise [k0_pay1]

end Cert.Proof.ExpertBlock

end
-- ==== Proof.ExpertValue.lean ====
/-
  The expert call: what its result array holds after the run, block by block, and what the reference computes.
-/
module

public import proofs.«01_k».proof.Proof.ExpertBlock
public import proofs.«01_k».proof.Proof.Gen.Reference2Ideal.Read

@[expose] public section

set_option maxRecDepth 16384

noncomputable section

open Idealize.ShloMosaic Idealize.ShloMosaic.TcCoe Idealize.SL.Sem
open Idealize.ShloMosaic.Pipeline (Dat)

namespace Cert.Proof.ExpertValue

open Cert.Kernel2Ideal Cert.Kernel2Ideal.Gen Cert.Proof.ExpertBlock

variable (m : (ℓ : Loc nD τ sig) → Buf (Elt Ideal) ℓ) (ρ : Dev nD → PrngReg)

/-- What the expert call computes from its four arrays: entry `(e, r, l)` is the SwiGLU of row `r` of expert `e`'s
    tokens with expert `e`'s weights, at column `l`. -/
def experts (x : FVec Ideal S16x8448x1024 .bf16) (g u : FVec Ideal S16x1024x2048 .bf16)
    (d : FVec Ideal S16x2048x1024 .bf16) : FVec Ideal S16x8448x1024 .bf16 := fun i =>
  swiglu (fun k => x (ix3 (i 0) (i 1) k)) (fun k h => g (ix3 (i 0) k h)) (fun k h => u (ix3 (i 0) k h))
    (fun h => d (ix3 (i 0) h (i 2)))

/-- That function of device `c`'s arguments, as contents of the result array. -/
abbrev result (c : Dev nD) : Buf (Elt Ideal) ((c : Thread nD τ).loc main_v0) :=
  experts (m ((c : Thread nD τ).loc main_arg0)) (m ((c : Thread nD τ).loc main_arg1))
    (m ((c : Thread nD τ).loc main_arg2)) (m ((c : Thread nD τ).loc main_arg3))

/-- Which block each window is on at a point: the expert is the point's number divided by 8, the tile of rows its
    remainder. -/
theorem index_eq : ∀ t : Fin cfg0.N,
    (win0_0.index t 0 = t.val / 8 ∧ win0_0.index t 1 = t.val % 8 ∧ win0_0.index t 2 = 0)
    ∧ (win0_1.index t 0 = t.val / 8 ∧ win0_1.index t 1 = 0 ∧ win0_1.index t 2 = 0)
    ∧ (win0_2.index t 0 = t.val / 8 ∧ win0_2.index t 1 = 0 ∧ win0_2.index t 2 = 0)
    ∧ (win0_3.index t 0 = t.val / 8 ∧ win0_3.index t 1 = 0 ∧ win0_3.index t 2 = 0)
    ∧ (win0_4.index t 0 = t.val / 8 ∧ win0_4.index t 1 = t.val % 8 ∧ win0_4.index t 2 = 0) :=
  (by decide +kernel : ∀ t : Fin grid0.N, _)

/-- The expert of a point. -/
def ex (t : Fin cfg0.N) : Fin 16 := ⟨t.val / 8, by have : cfg0.N = 128 := N_0; have := t.isLt; omega⟩
/-- The row of the array which is row `r` of a point's block. -/
def rowOf (t : Fin cfg0.N) (r : Fin 1056) : Fin 8448 := ⟨t.val % 8 * 1056 + r.val, by have := r.isLt; omega⟩

theorem iblk0_apply (c : Dev nD) (t : Fin cfg0.N) (r : Fin 1056) (k : Fin 1024) :
    iblk m c 0 t (ix3 0 r k) = m ((c : Thread nD τ).loc main_arg0) (ix3 (ex t) (rowOf t r) k) := by
  obtain ⟨⟨h0, h1, h2⟩, -⟩ := index_eq t
  show V m c (Pipeline.arrRef spec0 0) ((win0_0.rect t).emb (ix3 0 r k)) = _
  rw [V_main_arg0]
  congr 1
  funext a
  apply Fin.ext
  match a with
  | ⟨0, _⟩ => show win0_0.index t 0 * 1 + 1 * 0 = t.val / 8; omega
  | ⟨1, _⟩ => show win0_0.index t 1 * 1056 + 1 * r.val = t.val % 8 * 1056 + r.val; omega
  | ⟨2, _⟩ => show win0_0.index t 2 * 1024 + 1 * k.val = k.val; omega

theorem iblk1_apply (c : Dev nD) (t : Fin cfg0.N) (k : Fin 1024) (h : Fin 2048) :
    iblk m c 1 t (ix3 0 k h) = m ((c : Thread nD τ).loc main_arg1) (ix3 (ex t) k h) := by
  obtain ⟨-, ⟨h0, h1, h2⟩, -⟩ := index_eq t
  show V m c (Pipeline.arrRef spec0 1) ((win0_1.rect t).emb (ix3 0 k h)) = _
  rw [V_main_arg1]
  congr 1
  funext a
  apply Fin.ext
  match a with
  | ⟨0, _⟩ => show win0_1.index t 0 * 1 + 1 * 0 = t.val / 8; omega
  | ⟨1, _⟩ => show win0_1.index t 1 * 1024 + 1 * k.val = k.val; omega
  | ⟨2, _⟩ => show win0_1.index t 2 * 2048 + 1 * h.val = h.val; omega

theorem iblk2_apply (c : Dev nD) (t : Fin cfg0.N) (k : Fin 1024) (h : Fin 2048) :
    iblk m c 2 t (ix3 0 k h) = m ((c : Thread nD τ).loc main_arg2) (ix3 (ex t) k h) := by
  obtain ⟨-, -, ⟨h0, h1, h2⟩, -⟩ := index_eq t
  show V m c (Pipeline.arrRef spec0 2) ((win0_2.rect t).emb (ix3 0 k h)) = _
  rw [V_main_arg2]
  congr 1
  funext a
  apply Fin.ext
  match a with
  | ⟨0, _⟩ => show win0_2.index t 0 * 1 + 1 * 0 = t.val / 8; omega
  | ⟨1, _⟩ => show win0_2.index t 1 * 1024 + 1 * k.val = k.val; omega
  | ⟨2, _⟩ => show win0_2.index t 2 * 2048 + 1 * h.val = h.val; omega

theorem iblk3_apply (c : Dev nD) (t : Fin cfg0.N) (h : Fin 2048) (l : Fin 1024) :
    iblk m c 3 t (ix3 0 h l) = m ((c : Thread nD τ).loc main_arg3) (ix3 (ex t) h l) := by
  obtain ⟨-, -, -, ⟨h0, h1, h2⟩, -⟩ := index_eq t
  show V m c (Pipeline.arrRef spec0 3) ((win0_3.rect t).emb (ix3 0 h l)) = _
  rw [V_main_arg3]
  congr 1
  funext a
  apply Fin.ext
  match a with
  | ⟨0, _⟩ => show win0_3.index t 0 * 1 + 1 * 0 = t.val / 8; omega
  | ⟨1, _⟩ => show win0_3.index t 1 * 2048 + 1 * h.val = h.val; omega
  | ⟨2, _⟩ => show win0_3.index t 2 * 1024 + 1 * l.val = l.val; omega

theorem hz : (![0, 0, 0] : Fin 3 → Nat) = fun _ => 0 := funext fun a => by fin_cases a <;> rfl

/-- The element of the result array which is element `(z, r, l)` of a point's block. -/
theorem emb4 (t : Fin cfg0.N) (z : Fin 1) (r : Fin 1056) (l : Fin 1024) :
    (win0_4.rect t).emb (ix3 z r l) = (ix3 (ex t) (rowOf t r) l : S16x8448x1024.Idx) := by
  obtain ⟨-, -, -, -, ⟨h0, h1, h2⟩⟩ := index_eq t
  funext a
  apply Fin.ext
  match a with
  | ⟨0, _⟩ => show win0_4.index t 0 * 1 + 1 * z.val = t.val / 8; omega
  | ⟨1, _⟩ => show win0_4.index t 1 * 1056 + 1 * r.val = t.val % 8 * 1056 + r.val; omega
  | ⟨2, _⟩ => show win0_4.index t 2 * 1024 + 1 * l.val = l.val; omega

/-- What each point writes back is its block of `result`. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz, View.ld_unit_zero hz, View.ld_unit_zero hz, View.ld_unit_zero hz, View.ld_unit_zero hz]
  funext (j : S1x1056x1024.Idx)
  idx_vars j
  show k0_pay1 (F := Ideal) _ _ _ _ (ix3 _ _ _) = result m c ((win0_4.rect t).emb (ix3 _ _ _))
  rw [pay_apply, emb4]
  simp only [iblk0_apply, iblk1_apply, iblk2_apply, iblk3_apply]
  rfl

/-- Every element of the result array is in the block of some point. -/
theorem cover (i : S16x8448x1024.Idx) :
    ∃ t : Fin cfg0.N, (cfg0.win 4).flush t = true ∧ i ∈ ((cfg0.win 4).blk t).view.set := by
  have hN : cfg0.N = 128 := N_0
  have b0 : (i 0 : Nat) < 16 := (i 0).isLt
  have b1 : (i 1 : Nat) < 8448 := (i 1).isLt
  have b2 : (i 2 : Nat) < 1024 := (i 2).isLt
  refine ⟨⟨(i 0 : Nat) * 8 + (i 1 : Nat) / 1056, by omega⟩, flush0_4 _, ?_⟩
  generalize ht : (⟨(i 0 : Nat) * 8 + (i 1 : Nat) / 1056, by omega⟩ : Fin cfg0.N) = t
  have hv : t.val = (i 0 : Nat) * 8 + (i 1 : Nat) / 1056 := by rw [← ht]
  obtain ⟨-, -, -, -, ⟨h0, h1, h2⟩⟩ := index_eq t
  show i ∈ ((View.whole main_v0).slice (win0_4.rect t)).set
  rw [View.set_slice_whole, Rect.mem_set_unit]
  intro a
  match a with
  | ⟨0, _⟩ => show win0_4.index t 0 * 1 ≤ (i 0 : Nat) ∧ (i 0 : Nat) < win0_4.index t 0 * 1 + 1; omega
  | ⟨1, _⟩ => show win0_4.index t 1 * 1056 ≤ (i 1 : Nat) ∧ (i 1 : Nat) < win0_4.index t 1 * 1056 + 1056; omega
  | ⟨2, _⟩ => show win0_4.index t 2 * 1024 ≤ (i 2 : Nat) ∧ (i 2 : Nat) < win0_4.index t 2 * 1024 + 1024; omega

/-- The result array after the run is `result`, -/
theorem final (c : Dev nD) : (dats m 0 c).arrAt 4 cfg0.N = result m c :=
  (dats m 0 c).arrAt_eq_of_cover 4 (result m c) (fun t _ => flushed_eq m c t) cover

open Cert.Reference2Ideal.Read in
/-- and the reference's result is the same function of its arguments. -/
theorem reference_eq (x : FVec Ideal S16x8448x1024 .bf16) (g u : FVec Ideal S16x1024x2048 .bf16)
    (d : FVec Ideal S16x2048x1024 .bf16) :
    val_main_v9 (F := Ideal) x g u d = experts x g u d := by
  funext (i : S16x8448x1024.Idx)
  idx_vars i
  unfold experts swiglu Ideal.logistic
  pointwise [val_main_v9, val_main_v8, val_main_v7, val_main_v6, val_main_v5, val_main_v4, val_main_v3, val_main_v2,
    val_main_v1, val_main_v0, val_main_call0_v5, val_main_call0_v4, val_main_call0_v3, val_main_call0_v2,
    val_main_call0_v1, val_main_call0_v0, val_main_call0_cst, val_main_call0_cst_0]

end Cert.Proof.ExpertValue

end
-- ==== Proof.ExpertClaims.lean ====
/-
  The claims about the expert call.
-/
module

public import proofs.«01_k».proof.Defs
public import proofs.«01_k».proof.Proof.ExpertValue
public import proofs.«01_k».proof.Proof.Gen.Kernel2.Frame
public import Idealize.ShloMosaic.Lib.Quiescent

@[expose] public section

noncomputable section

open Idealize.ShloMosaic Idealize.ShloMosaic.TcCoe Idealize.SL.Sem

namespace Cert.Proof.ExpertClaims

/-- The kernel runs and leaves its arguments and its semaphores as they were; -/
theorem frame_kernel : Cert.quiescent_Kernel2 := fun m ρ _ => Cert.Kernel2.Gen.frame m ρ

/-- so does the kernel on extended reals, -/
theorem frame_kernelIdeal : Cert.quiescent_Kernel2Ideal := fun m ρ _ => Cert.Kernel2Ideal.Gen.frame m ρ

/-- and the reference. -/
theorem frame_referenceIdeal : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The kernel on extended reals is the kernel's own text: nothing was rewritten. -/
theorem preserves : Cert.preserves_Kernel2_Kernel2Ideal := trivial

/-- On extended reals the kernel's result array ends equal to the reference's, element by element. -/
theorem algebraic : Cert.algebraic_Kernel2Ideal_Reference2Ideal := by
  intro m ρ m' ρ' _ hagree
  refine ⟨fun c => ExpertValue.result m c, ?_, ?_⟩
  · exact (θ_run Cert.Kernel2Ideal.defs _ _).mono (fun _ h c => ⟨(h c).1.trans (ExpertValue.final m c), (h c).2⟩)
      (Cert.Kernel2Ideal.Value.run_blocks (F := Ideal) m ρ)
  · refine (θ_run Cert.Reference2Ideal.defs _ _).mono (fun _ h c => ⟨(h c).1.trans ?_, (h c).2⟩)
      (Cert.Reference2Ideal.Value.run (F := Ideal) m' ρ')
    rw [Cert.Reference2Ideal.Read.val_main_v9_eq, ExpertValue.reference_eq, (hagree c).1, (hagree c).2.1,
      (hagree c).2.2.1, (hagree c).2.2.2]

end Cert.Proof.ExpertClaims

end
-- ==== Proof.ProjCols.lean ====
/-
  A block written one band of 128 columns after another, and the bands of a matrix.
-/
module

public import Idealize.ShloMosaic.Lib.Exec
public import Idealize.ShloMosaic.Lib.Writes
public import Idealize.ShloMosaic.Lib.Memref
public import Idealize.ShloMosaic.Lib.Pipeline.Value
public import Idealize.ShloMosaic.Lib.Pipeline.FrameBody
public import Idealize.ShloMosaic.Lib.ValueIdx

@[expose] public section

namespace Cert.Proof.ProjCols

open Idealize.ShloMosaic Idealize.ShloMosaic.ValueIdx

/-- The first `n` rows of a block whose band number `c` of 128 columns is `G c`. -/
def paint {α : Type} {n W K : ℕ} (hW : W ≤ K * 128) (G : Fin K → (⟨3, ![1, n, 128]⟩ : Shape).Idx → α) :
    (⟨3, ![1, n, W]⟩ : Shape).Idx → α := fun y =>
  G ⟨(y 2).val / 128, by have h : (y 2).val < W := (y 2).isLt; omega⟩
    (ix3 (y 0) (y 1) ⟨(y 2).val % 128, Nat.mod_lt _ (by decide)⟩)

/-- Writing the first `n` rows of band `c` changes those entries. -/
theorem overlay_band {α : Type} {N W n o : ℕ} (c : ℕ) (ho : o = 128 * c) {inb}
    (X : (⟨3, ![1, N, W]⟩ : Shape).Idx → α) (G : (⟨3, ![1, n, 128]⟩ : Shape).Idx → α) (y : (⟨3, ![1, N, W]⟩ : Shape).Idx) :
    (Rect.unit (s := ⟨3, ![1, N, W]⟩) ![0, 0, o] ![1, n, 128] inb).overlay X G y
      = if h : (y 1).val < n ∧ (y 2).val / 128 = c then
          G (ix3 (y 0) ⟨(y 1).val, h.1⟩ ⟨(y 2).val % 128, Nat.mod_lt _ (by decide)⟩)
        else X y := by
  subst ho
  split
  · rename_i h
    have hy : (Rect.unit (s := ⟨3, ![1, N, W]⟩) ![0, 0, 128 * c] ![1, n, 128] inb).emb
        (ix3 (y 0) ⟨(y 1).val, h.1⟩ ⟨(y 2).val % 128, Nat.mod_lt _ (by decide)⟩) = y := by
      funext a
      apply Fin.ext
      match a with
      | ⟨0, _⟩ => show 0 + 1 * (y 0).val = (y 0).val; omega
      | ⟨1, _⟩ => show 0 + 1 * (y 1).val = (y 1).val; omega
      | ⟨2, _⟩ => show 128 * c + 1 * ((y 2).val % 128) = (y 2).val; omega
    have := Rect.overlay_emb (Rect.unit (s := ⟨3, ![1, N, W]⟩) ![0, 0, 128 * c] ![1, n, 128] inb) X G
      (ix3 (y 0) ⟨(y 1).val, h.1⟩ ⟨(y 2).val % 128, Nat.mod_lt _ (by decide)⟩)
    rwa [hy] at this
  · rename_i h
    refine Rect.overlay_of_not_mem _ _ _ fun hm => h ?_
    have hm := Rect.mem_set_unit.mp hm
    have h1 : 0 ≤ (y 1).val ∧ (y 1).val < 0 + n := hm 1
    have h2 : 128 * c ≤ (y 2).val ∧ (y 2).val < 128 * c + 128 := hm 2
    omega

/-- Writing the first `n` rows of a block. -/
theorem overlay_rows {α : Type} {N W n : ℕ} {inb}
    (X : (⟨3, ![1, N, W]⟩ : Shape).Idx → α) (G : (⟨3, ![1, n, W]⟩ : Shape).Idx → α) (y : (⟨3, ![1, N, W]⟩ : Shape).Idx) :
    (Rect.unit (s := ⟨3, ![1, N, W]⟩) ![0, 0, 0] ![1, n, W] inb).overlay X G y
      = if h : (y 1).val < n then G (ix3 (y 0) ⟨(y 1).val, h⟩ (y 2)) else X y := by
  split
  · rename_i h
    have hy : (Rect.unit (s := ⟨3, ![1, N, W]⟩) ![0, 0, 0] ![1, n, W] inb).emb (ix3 (y 0) ⟨(y 1).val, h⟩ (y 2)) = y := by
      funext a
      apply Fin.ext
      match a with
      | ⟨0, _⟩ => show 0 + 1 * (y 0).val = (y 0).val; omega
      | ⟨1, _⟩ => show 0 + 1 * (y 1).val = (y 1).val; omega
      | ⟨2, _⟩ => show 0 + 1 * (y 2).val = (y 2).val; omega
    have := Rect.overlay_emb (Rect.unit (s := ⟨3, ![1, N, W]⟩) ![0, 0, 0] ![1, n, W] inb) X G (ix3 (y 0) ⟨(y 1).val, h⟩ (y 2))
    rwa [hy] at this
  · rename_i h
    refine Rect.overlay_of_not_mem _ _ _ fun hm => h ?_
    have h1 : 0 ≤ (y 1).val ∧ (y 1).val < 0 + n := (Rect.mem_set_unit.mp hm) 1
    omega

/-- Writing the bands of a block of 256 columns one after another writes the block. -/
theorem bands2 {α : Type} {N n : ℕ} {i0 i1 i} (X : (⟨3, ![1, N, 256]⟩ : Shape).Idx → α)
    (G : Fin 2 → (⟨3, ![1, n, 128]⟩ : Shape).Idx → α) :
    (Rect.unit (s := ⟨3, ![1, N, 256]⟩) ![0, 0, 128] ![1, n, 128] i1).overlay
      ((Rect.unit (s := ⟨3, ![1, N, 256]⟩) ![0, 0, 0] ![1, n, 128] i0).overlay X (G 0)) (G 1)
      = (Rect.unit (s := ⟨3, ![1, N, 256]⟩) ![0, 0, 0] ![1, n, 256] i).overlay X (paint (W := 256) (by decide) G) := by
  funext y
  rw [overlay_band 1 rfl, overlay_band 0 rfl, overlay_rows]
  have hy : (y 2).val < 256 := (y 2).isLt
  by_cases h : (y 1).val < n
  · obtain hc | hc : (y 2).val / 128 = 0 ∨ (y 2).val / 128 = 1 := by omega
    all_goals (simp only [h, hc, true_and, dite_true, dite_false, reduceCtorEq, Nat.reduceEqDiff]; exact congrArg (fun c => G c _) (Fin.ext hc.symm))
  · simp [h]

/-- Writing the bands of a block of 1024 columns one after another writes the block. -/
theorem bands8 {α : Type} {N n : ℕ} {i0 i1 i2 i3 i4 i5 i6 i7 i} (X : (⟨3, ![1, N, 1024]⟩ : Shape).Idx → α)
    (G : Fin 8 → (⟨3, ![1, n, 128]⟩ : Shape).Idx → α) :
    (Rect.unit (s := ⟨3, ![1, N, 1024]⟩) ![0, 0, 896] ![1, n, 128] i7).overlay
      ((Rect.unit (s := ⟨3, ![1, N, 1024]⟩) ![0, 0, 768] ![1, n, 128] i6).overlay
        ((Rect.unit (s := ⟨3, ![1, N, 1024]⟩) ![0, 0, 640] ![1, n, 128] i5).overlay
          ((Rect.unit (s := ⟨3, ![1, N, 1024]⟩) ![0, 0, 512] ![1, n, 128] i4).overlay
            ((Rect.unit (s := ⟨3, ![1, N, 1024]⟩) ![0, 0, 384] ![1, n, 128] i3).overlay
              ((Rect.unit (s := ⟨3, ![1, N, 1024]⟩) ![0, 0, 256] ![1, n, 128] i2).overlay
                ((Rect.unit (s := ⟨3, ![1, N, 1024]⟩) ![0, 0, 128] ![1, n, 128] i1).overlay
                  ((Rect.unit (s := ⟨3, ![1, N, 1024]⟩) ![0, 0, 0] ![1, n, 128] i0).overlay X (G 0)) (G 1)) (G 2)) (G 3))
            (G 4)) (G 5)) (G 6)) (G 7)
      = (Rect.unit (s := ⟨3, ![1, N, 1024]⟩) ![0, 0, 0] ![1, n, 1024] i).overlay X (paint (W := 1024) (by decide) G) := by
  funext y
  rw [overlay_band 7 rfl, overlay_band 6 rfl, overlay_band 5 rfl, overlay_band 4 rfl, overlay_band 3 rfl, overlay_band 2 rfl,
    overlay_band 1 rfl, overlay_band 0 rfl, overlay_rows]
  have hy : (y 2).val < 1024 := (y 2).isLt
  by_cases h : (y 1).val < n
  · obtain hc | hc | hc | hc | hc | hc | hc | hc : (y 2).val / 128 = 0 ∨ (y 2).val / 128 = 1 ∨ (y 2).val / 128 = 2
        ∨ (y 2).val / 128 = 3 ∨ (y 2).val / 128 = 4 ∨ (y 2).val / 128 = 5 ∨ (y 2).val / 128 = 6 ∨ (y 2).val / 128 = 7 := by omega
    all_goals (simp only [h, hc, true_and, dite_true, dite_false, reduceCtorEq, Nat.reduceEqDiff]; exact congrArg (fun c => G c _) (Fin.ext hc.symm))
  · simp [h]

/-- Band number `c` of 128 columns of a matrix. -/
def band {α : Type} {n W K : ℕ} (hW : K * 128 ≤ W) (x : (⟨2, ![n, W]⟩ : Shape).Idx → α) (c : Fin K) :
    (⟨2, ![n, 128]⟩ : Shape).Idx → α := fun i =>
  x (ix2 (i 0) ⟨128 * c.val + (i 1).val, by have h1 : (i 1).val < 128 := (i 1).isLt; have := c.isLt; omega⟩)

/-- A slice of 128 columns from a multiple of 128 on is a band. -/
theorem slice_band {α : Type} {n W K o : ℕ} (hW : K * 128 ≤ W) (x : (⟨2, ![n, W]⟩ : Shape).Idx → α) (c : Fin K) (ho : o = 128 * c.val)
    (h : (⟨2, ![n, W]⟩ : Shape).Slices ![0, o] ⟨2, ![n, 128]⟩) :
    extractStridedSlice ⟨2, ![n, 128]⟩ ![0, o] x h = band hW x c := by
  subst ho
  funext i
  exact extractStridedSlice_apply _ _ _ _ _ (fun a => match a with
    | ⟨0, _⟩ => by show (i 0).val = 0 + (i 0).val; omega
    | ⟨1, _⟩ => by show 128 * c.val + (i 1).val = 128 * c.val + (i 1).val; rfl)

/-- The same, of two bands that are those of a function. -/
theorem bands2_of {α : Type} {N n : ℕ} {i0 i1 i} (X : (⟨3, ![1, N, 256]⟩ : Shape).Idx → α)
    (G : Fin 2 → (⟨3, ![1, n, 128]⟩ : Shape).Idx → α) {g0 g1 : (⟨3, ![1, n, 128]⟩ : Shape).Idx → α}
    (h0 : g0 = G 0) (h1 : g1 = G 1) :
    (Rect.unit (s := ⟨3, ![1, N, 256]⟩) ![0, 0, 128] ![1, n, 128] i1).overlay
      ((Rect.unit (s := ⟨3, ![1, N, 256]⟩) ![0, 0, 0] ![1, n, 128] i0).overlay X g0) g1
      = (Rect.unit (s := ⟨3, ![1, N, 256]⟩) ![0, 0, 0] ![1, n, 256] i).overlay X (paint (W := 256) (by decide) G) := by
  subst h0 h1
  exact bands2 X G

/-- The same, of eight bands that are those of a function. -/
theorem bands8_of {α : Type} {N n : ℕ} {i0 i1 i2 i3 i4 i5 i6 i7 i} (X : (⟨3, ![1, N, 1024]⟩ : Shape).Idx → α)
    (G : Fin 8 → (⟨3, ![1, n, 128]⟩ : Shape).Idx → α) {g0 g1 g2 g3 g4 g5 g6 g7 : (⟨3, ![1, n, 128]⟩ : Shape).Idx → α}
    (h0 : g0 = G 0) (h1 : g1 = G 1) (h2 : g2 = G 2) (h3 : g3 = G 3) (h4 : g4 = G 4) (h5 : g5 = G 5) (h6 : g6 = G 6) (h7 : g7 = G 7) :
    (Rect.unit (s := ⟨3, ![1, N, 1024]⟩) ![0, 0, 896] ![1, n, 128] i7).overlay
      ((Rect.unit (s := ⟨3, ![1, N, 1024]⟩) ![0, 0, 768] ![1, n, 128] i6).overlay
      ((Rect.unit (s := ⟨3, ![1, N, 1024]⟩) ![0, 0, 640] ![1, n, 128] i5).overlay
      ((Rect.unit (s := ⟨3, ![1, N, 1024]⟩) ![0, 0, 512] ![1, n, 128] i4).overlay
      ((Rect.unit (s := ⟨3, ![1, N, 1024]⟩) ![0, 0, 384] ![1, n, 128] i3).overlay
      ((Rect.unit (s := ⟨3, ![1, N, 1024]⟩) ![0, 0, 256] ![1, n, 128] i2).overlay
      ((Rect.unit (s := ⟨3, ![1, N, 1024]⟩) ![0, 0, 128] ![1, n, 128] i1).overlay
      ((Rect.unit (s := ⟨3, ![1, N, 1024]⟩) ![0, 0, 0] ![1, n, 128] i0).overlay X g0) g1) g2) g3) g4) g5) g6) g7
      = (Rect.unit (s := ⟨3, ![1, N, 1024]⟩) ![0, 0, 0] ![1, n, 1024] i).overlay X (paint (W := 1024) (by decide) G) := by
  subst h0 h1 h2 h3 h4 h5 h6 h7
  exact bands8 X G

/-- One store leaves a buffer as it was with the stored rectangle replaced; so do several, one after another. -/
theorem read_store {sig : RefSig} {Val : EltTy → Type} {κ : Kind} {sp : Space} {s : Shape} {e : EltTy} (v : View sig κ sp s e)
    (f : v.ty.Contents Val) (r : Rect s) (w : r.shape.Idx → Val e) (L : List (View.Piece Val s e)) :
    v.read Val (v.writes Val f (⟨r, w⟩ :: L)) = r.overlay (v.read Val (v.writes Val f L)) w := by
  funext y
  by_cases h : y ∈ r.set
  · obtain ⟨x, rfl⟩ : ∃ x, r.emb x = y := r.exists_idx_of_mem h
    rw [View.read_writes_cons_emb, Rect.overlay_emb]
  · rw [View.writes_cons, View.read_slice_write_of_not_mem r _ _ _ (y := y) (by rwa [Rect.map_emb_univ]), Rect.overlay_of_not_mem _ _ _ h]

end Cert.Proof.ProjCols

end
-- ==== Proof.ProjBody.lean ====
/-
  The projection call, on extended reals: what the body leaves in its seven output buffers, on a block of token rows and on the
  last block, and the body's triple in both cases.
-/
module

public import proofs.«01_k».proof.Proof.Gen.Kernel3Ideal.Frame
public import proofs.«01_k».proof.Proof.Gen.Kernel3Ideal.Skeleton
public import proofs.«01_k».proof.Proof.ProjCols
public import Idealize.ShloMosaic.Lib.Exec

@[expose] public section

set_option maxRecDepth 16384

noncomputable section

namespace Cert.Proof.ProjBody

open Cert.Kernel3Ideal Cert.Kernel3Ideal.Gen Cert.Proof.ProjCols
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The rectangles the body reads and writes -/

abbrev rBlock : Rect S1x512x1024 := Rect.unit (s := S1x512x1024) ![0, 0, 0] S1x512x1024.size inb_S1x512x1024_S1x512x1024_0_0_0
abbrev rHead : Rect S1x512x1024 := Rect.unit (s := S1x512x1024) ![0, 0, 0] S1x128x1024.size inb_S1x512x1024_S1x128x1024_0_0_0
abbrev rNarrow : Rect S1x512x256 := Rect.unit (s := S1x512x256) ![0, 0, 0] S1x512x256.size inb_S1x512x256_S1x512x256_0_0_0
abbrev rNarrowHead : Rect S1x512x256 := Rect.unit (s := S1x512x256) ![0, 0, 0] S1x128x256.size inb_S1x512x256_S1x128x256_0_0_0
abbrev rMeta : Rect S128x1024 := Rect.unit (s := S128x1024) ![0, 0] S128x1024.size inb_S128x1024_S128x1024_0_0
abbrev rTable : Rect S512x128 := Rect.unit (s := S512x128) ![0, 0] S512x128.size inb_S512x128_S512x128_0_0
abbrev rTableHead : Rect S512x128 := Rect.unit (s := S512x128) ![0, 0] S128x128.size inb_S512x128_S128x128_0_0
abbrev rGain : Rect S1x1024 := Rect.unit (s := S1x1024) ![0, 0] S1x1024.size inb_S1x1024_S1x1024_0_0
abbrev rScale : Rect S1x128 := Rect.unit (s := S1x128) ![0, 0] S1x128.size inb_S1x128_S1x128_0_0
abbrev rOnes : Rect S128x128 := Rect.unit (s := S128x128) ![0, 0] S128x128.size inb_S128x128_S128x128_0_0
abbrev rWqk : Rect S1024x6656 := Rect.unit (s := S1024x6656) ![0, 0] S1024x1280.size inb_S1024x6656_S1024x1280_0_0
abbrev rWv : Rect S1024x6656 := Rect.unit (s := S1024x6656) ![0, 1280] S1024x256.size inb_S1024x6656_S1024x256_0_1280
abbrev rWcb : Rect S1024x6656 := Rect.unit (s := S1024x6656) ![0, 1536] S1024x1024.size inb_S1024x6656_S1024x1024_0_1536
abbrev rWcc : Rect S1024x6656 := Rect.unit (s := S1024x6656) ![0, 2560] S1024x1024.size inb_S1024x6656_S1024x1024_0_2560
abbrev rWcu : Rect S1024x6656 := Rect.unit (s := S1024x6656) ![0, 3584] S1024x1024.size inb_S1024x6656_S1024x1024_0_3584
abbrev rWga : Rect S1024x6656 := Rect.unit (s := S1024x6656) ![0, 4608] S1024x1024.size inb_S1024x6656_S1024x1024_0_4608
abbrev rWgc : Rect S1024x6656 := Rect.unit (s := S1024x6656) ![0, 5632] S1024x1024.size inb_S1024x6656_S1024x1024_0_5632

/-! ## A block of token rows -/

section

variable (x0 : Vec F S1x512x1024 .f32) (x1 : Vec F S128x1024 .f32) (x2 : Vec F S512x128 .f32) (x3 : Vec F S512x128 .f32) (x4 : Vec F S1x1024 .f32) (x5 : Vec F S1x128 .f32) (x6 : Vec F S1x128 .f32) (x7 : Vec F S128x128 .bf16) (x8 : Vec F S1024x6656 .bf16)

/-- The normalised rows. -/
def rowsH : FVec F S512x1024 .bf16 := k0_pay6 (View.ld x0 rBlock) (View.ld x4 rGain)

/-- Band `c` of the product that queries and keys come from. -/
def rowsBand (c : Fin 10) : FVec F S512x128 .f32 :=
  band (n := 512) (W := 1280) (K := 10) (by decide) (k0_pay7 (View.ld x0 rBlock) (View.ld x4 rGain) (View.ld x8 rWqk)) c

/-- The sums of the squares of a band over the columns of each entry's head. -/
def rowsSq (t : FVec F S512x128 .f32) (x7 : Vec F S128x128 .bf16) : FVec F S512x128 .f32 := k0_pay19 t (View.ld x7 rOnes)

/-- The queries the body stores. -/
def rowsQ : FVec F S1x512x1024 .bf16 :=
  paint (n := 512) (W := 1024) (K := 8) (by decide) fun c =>
    let t := rowsBand x0 x4 x8 ⟨c.val, by omega⟩
    k0_pay36 k0_pay1 (k0_pay4 (View.ld x2 rTable)) (k0_pay5 (View.ld x3 rTable)) t (rowsSq t x7) (View.ld x5 rScale)

/-- The keys the body stores. -/
def rowsK : FVec F S1x512x256 .bf16 :=
  paint (n := 512) (W := 256) (K := 2) (by decide) fun c =>
    let t := rowsBand x0 x4 x8 ⟨8 + c.val, by omega⟩
    k0_pay49 k0_pay1 (k0_pay4 (View.ld x2 rTable)) (k0_pay5 (View.ld x3 rTable)) t (rowsSq t x7) (View.ld x6 rScale)

/-- The values the body stores. -/
def rowsV : FVec F S1x512x256 .bf16 := k0_pay8 (View.ld x0 rBlock) (View.ld x4 rGain) (View.ld x8 rWv)

/-- The factor outside the convolution that the body stores. -/
def rowsCb : FVec F S1x512x1024 .bf16 := k0_pay30 (rowsH x0 x4) (View.ld x8 rWcb)

/-- The product the convolution takes that the body stores. -/
def rowsS : FVec F S1x512x1024 .bf16 := k0_pay31 (rowsH x0 x4) (View.ld x8 rWcc) (View.ld x8 rWcu)

/-- The gate of the attention that the body stores. -/
def rowsGa : FVec F S1x512x1024 .bf16 := k0_pay32 (rowsH x0 x4) (View.ld x8 rWga)

/-- The gate of the convolution that the body stores. -/
def rowsGc : FVec F S1x512x1024 .bf16 := k0_pay33 (rowsH x0 x4) (View.ld x8 rWgc)

/-- The slices the body takes of the product are its bands. -/
theorem rows_slice0 (y : FVec F S512x1280 .f32) :
    extractStridedSlice S512x128 ![0, 0] y slices_S512x1280_o0_0_S512x128
      = band (n := 512) (W := 1280) (K := 10) (by decide) y 0 := slice_band (o := 0) _ y 0 rfl _
theorem rows_slice1 (y : FVec F S512x1280 .f32) :
    extractStridedSlice S512x128 ![0, 128] y slices_S512x1280_o0_128_S512x128
      = band (n := 512) (W := 1280) (K := 10) (by decide) y 1 := slice_band (o := 128) _ y 1 rfl _
theorem rows_slice2 (y : FVec F S512x1280 .f32) :
    extractStridedSlice S512x128 ![0, 256] y slices_S512x1280_o0_256_S512x128
      = band (n := 512) (W := 1280) (K := 10) (by decide) y 2 := slice_band (o := 256) _ y 2 rfl _
theorem rows_slice3 (y : FVec F S512x1280 .f32) :
    extractStridedSlice S512x128 ![0, 384] y slices_S512x1280_o0_384_S512x128
      = band (n := 512) (W := 1280) (K := 10) (by decide) y 3 := slice_band (o := 384) _ y 3 rfl _
theorem rows_slice4 (y : FVec F S512x1280 .f32) :
    extractStridedSlice S512x128 ![0, 512] y slices_S512x1280_o0_512_S512x128
      = band (n := 512) (W := 1280) (K := 10) (by decide) y 4 := slice_band (o := 512) _ y 4 rfl _
theorem rows_slice5 (y : FVec F S512x1280 .f32) :
    extractStridedSlice S512x128 ![0, 640] y slices_S512x1280_o0_640_S512x128
      = band (n := 512) (W := 1280) (K := 10) (by decide) y 5 := slice_band (o := 640) _ y 5 rfl _
theorem rows_slice6 (y : FVec F S512x1280 .f32) :
    extractStridedSlice S512x128 ![0, 768] y slices_S512x1280_o0_768_S512x128
      = band (n := 512) (W := 1280) (K := 10) (by decide) y 6 := slice_band (o := 768) _ y 6 rfl _
theorem rows_slice7 (y : FVec F S512x1280 .f32) :
    extractStridedSlice S512x128 ![0, 896] y slices_S512x1280_o0_896_S512x128
      = band (n := 512) (W := 1280) (K := 10) (by decide) y 7 := slice_band (o := 896) _ y 7 rfl _
theorem rows_slice8 (y : FVec F S512x1280 .f32) :
    extractStridedSlice S512x128 ![0, 1024] y slices_S512x1280_o0_1024_S512x128
      = band (n := 512) (W := 1280) (K := 10) (by decide) y 8 := slice_band (o := 1024) _ y 8 rfl _
theorem rows_slice9 (y : FVec F S512x1280 .f32) :
    extractStridedSlice S512x128 ![0, 1152] y slices_S512x1280_o0_1152_S512x128
      = band (n := 512) (W := 1280) (K := 10) (by decide) y 9 := slice_band (o := 1152) _ y 9 rfl _
theorem rows_band0 :
    (k0_pay35 (k0_pay34 k0_pay1 (k0_pay4 (View.ld x2 rTable)) (k0_pay5 (View.ld x3 rTable)) (k0_pay9 (View.ld x0 rBlock) (View.ld x4 rGain) (View.ld x8 rWqk)) (k0_pay19 (k0_pay9 (View.ld x0 rBlock) (View.ld x4 rGain) (View.ld x8 rWqk)) (View.ld x7 rOnes)) (View.ld x5 rScale)))
      = (k0_pay36 k0_pay1 (k0_pay4 (View.ld x2 rTable)) (k0_pay5 (View.ld x3 rTable)) (rowsBand x0 x4 x8 0) (rowsSq (rowsBand x0 x4 x8 0) x7) (View.ld x5 rScale)) := by
  have h : (k0_pay9 (View.ld x0 rBlock) (View.ld x4 rGain) (View.ld x8 rWqk)) = rowsBand x0 x4 x8 0 := rows_slice0 _
  rw [← h]; rfl
theorem rows_band1 :
    (k0_pay36 k0_pay1 (k0_pay4 (View.ld x2 rTable)) (k0_pay5 (View.ld x3 rTable)) (k0_pay10 (View.ld x0 rBlock) (View.ld x4 rGain) (View.ld x8 rWqk)) (k0_pay20 (k0_pay10 (View.ld x0 rBlock) (View.ld x4 rGain) (View.ld x8 rWqk)) (View.ld x7 rOnes)) (View.ld x5 rScale))
      = (k0_pay36 k0_pay1 (k0_pay4 (View.ld x2 rTable)) (k0_pay5 (View.ld x3 rTable)) (rowsBand x0 x4 x8 1) (rowsSq (rowsBand x0 x4 x8 1) x7) (View.ld x5 rScale)) := by
  have h : (k0_pay10 (View.ld x0 rBlock) (View.ld x4 rGain) (View.ld x8 rWqk)) = rowsBand x0 x4 x8 1 := rows_slice1 _
  rw [← h]; rfl
theorem rows_band2 :
    (k0_pay40 (k0_pay5 (View.ld x3 rTable)) (k0_pay38 k0_pay1 (k0_pay11 (View.ld x0 rBlock) (View.ld x4 rGain) (View.ld x8 rWqk)) (k0_pay21 (k0_pay11 (View.ld x0 rBlock) (View.ld x4 rGain) (View.ld x8 rWqk)) (View.ld x7 rOnes)) (View.ld x5 rScale)) (k0_pay39 (k0_pay4 (View.ld x2 rTable)) (k0_pay11 (View.ld x0 rBlock) (View.ld x4 rGain) (View.ld x8 rWqk)) (k0_pay21 (k0_pay11 (View.ld x0 rBlock) (View.ld x4 rGain) (View.ld x8 rWqk)) (View.ld x7 rOnes)) (View.ld x5 rScale)))
      = (k0_pay36 k0_pay1 (k0_pay4 (View.ld x2 rTable)) (k0_pay5 (View.ld x3 rTable)) (rowsBand x0 x4 x8 2) (rowsSq (rowsBand x0 x4 x8 2) x7) (View.ld x5 rScale)) := by
  have h : (k0_pay11 (View.ld x0 rBlock) (View.ld x4 rGain) (View.ld x8 rWqk)) = rowsBand x0 x4 x8 2 := rows_slice2 _
  rw [← h]; rfl
theorem rows_band3 :
    (k0_pay41 k0_pay1 (k0_pay4 (View.ld x2 rTable)) (k0_pay5 (View.ld x3 rTable)) (k0_pay12 (View.ld x0 rBlock) (View.ld x4 rGain) (View.ld x8 rWqk)) (k0_pay22 (k0_pay12 (View.ld x0 rBlock) (View.ld x4 rGain) (View.ld x8 rWqk)) (View.ld x7 rOnes)) (View.ld x5 rScale))
      = (k0_pay36 k0_pay1 (k0_pay4 (View.ld x2 rTable)) (k0_pay5 (View.ld x3 rTable)) (rowsBand x0 x4 x8 3) (rowsSq (rowsBand x0 x4 x8 3) x7) (View.ld x5 rScale)) := by
  have h : (k0_pay12 (View.ld x0 rBlock) (View.ld x4 rGain) (View.ld x8 rWqk)) = rowsBand x0 x4 x8 3 := rows_slice3 _
  rw [← h]; rfl
theorem rows_band4 :
    (k0_pay44 k0_pay1 (k0_pay4 (View.ld x2 rTable)) (k0_pay5 (View.ld x3 rTable)) (k0_pay42 (View.ld x5 rScale)) (k0_pay43 (k0_pay13 (View.ld x0 rBlock) (View.ld x4 rGain) (View.ld x8 rWqk)) (k0_pay23 (k0_pay13 (View.ld x0 rBlock) (View.ld x4 rGain) (View.ld x8 rWqk)) (View.ld x7 rOnes))))
      = (k0_pay36 k0_pay1 (k0_pay4 (View.ld x2 rTable)) (k0_pay5 (View.ld x3 rTable)) (rowsBand x0 x4 x8 4) (rowsSq (rowsBand x0 x4 x8 4) x7) (View.ld x5 rScale)) := by
  have h : (k0_pay13 (View.ld x0 rBlock) (View.ld x4 rGain) (View.ld x8 rWqk)) = rowsBand x0 x4 x8 4 := rows_slice4 _
  rw [← h]; rfl
theorem rows_band5 :
    (k0_pay45 k0_pay1 (k0_pay4 (View.ld x2 rTable)) (k0_pay5 (View.ld x3 rTable)) (k0_pay14 (View.ld x0 rBlock) (View.ld x4 rGain) (View.ld x8 rWqk)) (k0_pay24 (k0_pay14 (View.ld x0 rBlock) (View.ld x4 rGain) (View.ld x8 rWqk)) (View.ld x7 rOnes)) (View.ld x5 rScale))
      = (k0_pay36 k0_pay1 (k0_pay4 (View.ld x2 rTable)) (k0_pay5 (View.ld x3 rTable)) (rowsBand x0 x4 x8 5) (rowsSq (rowsBand x0 x4 x8 5) x7) (View.ld x5 rScale)) := by
  have h : (k0_pay14 (View.ld x0 rBlock) (View.ld x4 rGain) (View.ld x8 rWqk)) = rowsBand x0 x4 x8 5 := rows_slice5 _
  rw [← h]; rfl
theorem rows_band6 :
    (k0_pay46 k0_pay1 (k0_pay4 (View.ld x2 rTable)) (k0_pay5 (View.ld x3 rTable)) (k0_pay15 (View.ld x0 rBlock) (View.ld x4 rGain) (View.ld x8 rWqk)) (k0_pay25 (k0_pay15 (View.ld x0 rBlock) (View.ld x4 rGain) (View.ld x8 rWqk)) (View.ld x7 rOnes)) (View.ld x5 rScale))
      = (k0_pay36 k0_pay1 (k0_pay4 (View.ld x2 rTable)) (k0_pay5 (View.ld x3 rTable)) (rowsBand x0 x4 x8 6) (rowsSq (rowsBand x0 x4 x8 6) x7) (View.ld x5 rScale)) := by
  have h : (k0_pay15 (View.ld x0 rBlock) (View.ld x4 rGain) (View.ld x8 rWqk)) = rowsBand x0 x4 x8 6 := rows_slice6 _
  rw [← h]; rfl
theorem rows_band7 :
    (k0_pay48 (k0_pay47 k0_pay1 (k0_pay4 (View.ld x2 rTable)) (k0_pay5 (View.ld x3 rTable)) (k0_pay16 (k0_pay7 (View.ld x0 rBlock) (View.ld x4 rGain) (View.ld x8 rWqk))) (k0_pay27 (k0_pay26 (k0_pay7 (View.ld x0 rBlock) (View.ld x4 rGain) (View.ld x8 rWqk))) (View.ld x7 rOnes)) (View.ld x5 rScale)))
      = (k0_pay36 k0_pay1 (k0_pay4 (View.ld x2 rTable)) (k0_pay5 (View.ld x3 rTable)) (rowsBand x0 x4 x8 7) (rowsSq (rowsBand x0 x4 x8 7) x7) (View.ld x5 rScale)) := by
  have h : (k0_pay16 (k0_pay7 (View.ld x0 rBlock) (View.ld x4 rGain) (View.ld x8 rWqk))) = rowsBand x0 x4 x8 7 := rows_slice7 _
  rw [← h]; rfl

theorem rows_band8 :
    (k0_pay49 k0_pay1 (k0_pay4 (View.ld x2 rTable)) (k0_pay5 (View.ld x3 rTable)) (k0_pay17 (k0_pay7 (View.ld x0 rBlock) (View.ld x4 rGain) (View.ld x8 rWqk))) (k0_pay28 (k0_pay17 (k0_pay7 (View.ld x0 rBlock) (View.ld x4 rGain) (View.ld x8 rWqk))) (View.ld x7 rOnes)) (View.ld x6 rScale))
      = (k0_pay49 k0_pay1 (k0_pay4 (View.ld x2 rTable)) (k0_pay5 (View.ld x3 rTable)) (rowsBand x0 x4 x8 8) (rowsSq (rowsBand x0 x4 x8 8) x7) (View.ld x6 rScale)) := by
  have h : (k0_pay17 (k0_pay7 (View.ld x0 rBlock) (View.ld x4 rGain) (View.ld x8 rWqk))) = rowsBand x0 x4 x8 8 := rows_slice8 _
  rw [← h]; rfl
theorem rows_band9 :
    (k0_pay2 (k0_pay4 (View.ld x2 rTable)) (k0_pay5 (View.ld x3 rTable)) (k0_pay50 (k0_pay18 (k0_pay7 (View.ld x0 rBlock) (View.ld x4 rGain) (View.ld x8 rWqk))) (k0_pay29 (k0_pay18 (k0_pay7 (View.ld x0 rBlock) (View.ld x4 rGain) (View.ld x8 rWqk))) (View.ld x7 rOnes)) (View.ld x6 rScale)) (k0_pay51 (k0_pay18 (k0_pay7 (View.ld x0 rBlock) (View.ld x4 rGain) (View.ld x8 rWqk))) (k0_pay29 (k0_pay18 (k0_pay7 (View.ld x0 rBlock) (View.ld x4 rGain) (View.ld x8 rWqk))) (View.ld x7 rOnes)) (View.ld x6 rScale)) (k0_pay52 (k0_pay18 (k0_pay7 (View.ld x0 rBlock) (View.ld x4 rGain) (View.ld x8 rWqk))) (k0_pay29 (k0_pay18 (k0_pay7 (View.ld x0 rBlock) (View.ld x4 rGain) (View.ld x8 rWqk))) (View.ld x7 rOnes)) (View.ld x6 rScale)) (k0_pay53 k0_pay1))
      = (k0_pay49 k0_pay1 (k0_pay4 (View.ld x2 rTable)) (k0_pay5 (View.ld x3 rTable)) (rowsBand x0 x4 x8 9) (rowsSq (rowsBand x0 x4 x8 9) x7) (View.ld x6 rScale)) := by
  have h : (k0_pay18 (k0_pay7 (View.ld x0 rBlock) (View.ld x4 rGain) (View.ld x8 rWqk))) = rowsBand x0 x4 x8 9 := rows_slice9 _
  rw [← h]; rfl

end

/-! ## The last block, of which the arrays hold 128 rows -/

section

variable (x0 : Vec F S1x512x1024 .f32) (x1 : Vec F S128x1024 .f32) (x2 : Vec F S128x128 .f32) (x3 : Vec F S128x128 .f32) (x4 : Vec F S1x1024 .f32) (x5 : Vec F S1x128 .f32) (x6 : Vec F S1x128 .f32) (x7 : Vec F S128x128 .bf16) (x8 : Vec F S1024x6656 .bf16)

/-- The normalised rows. -/
def metaH : FVec F S128x1024 .bf16 := k0_pay56 (View.ld x1 rMeta) (View.ld x4 rGain)

/-- Band `c` of the product that queries and keys come from. -/
def metaBand (c : Fin 10) : FVec F S128x128 .f32 :=
  band (n := 128) (W := 1280) (K := 10) (by decide) (k0_pay57 (View.ld x1 rMeta) (View.ld x4 rGain) (View.ld x8 rWqk)) c

/-- The sums of the squares of a band over the columns of each entry's head. -/
def metaSq (t : FVec F S128x128 .f32) (x7 : Vec F S128x128 .bf16) : FVec F S128x128 .f32 := k0_pay69 t (View.ld x7 rOnes)

/-- The queries the body stores. -/
def metaQ : FVec F S1x128x1024 .bf16 :=
  paint (n := 128) (W := 1024) (K := 8) (by decide) fun c =>
    let t := metaBand x1 x4 x8 ⟨c.val, by omega⟩
    k0_pay86 k0_pay1 (k0_pay54 x2) (k0_pay55 x3) t (metaSq t x7) (View.ld x5 rScale)

/-- The keys the body stores. -/
def metaK : FVec F S1x128x256 .bf16 :=
  paint (n := 128) (W := 256) (K := 2) (by decide) fun c =>
    let t := metaBand x1 x4 x8 ⟨8 + c.val, by omega⟩
    k0_pay99 k0_pay1 (k0_pay54 x2) (k0_pay55 x3) t (metaSq t x7) (View.ld x6 rScale)

/-- The values the body stores. -/
def metaV : FVec F S1x128x256 .bf16 := k0_pay58 (View.ld x1 rMeta) (View.ld x4 rGain) (View.ld x8 rWv)

/-- The factor outside the convolution that the body stores. -/
def metaCb : FVec F S1x128x1024 .bf16 := k0_pay80 (metaH x1 x4) (View.ld x8 rWcb)

/-- The product the convolution takes that the body stores. -/
def metaS : FVec F S1x128x1024 .bf16 := k0_pay81 (metaH x1 x4) (View.ld x8 rWcc) (View.ld x8 rWcu)

/-- The gate of the attention that the body stores. -/
def metaGa : FVec F S1x128x1024 .bf16 := k0_pay82 (metaH x1 x4) (View.ld x8 rWga)

/-- The gate of the convolution that the body stores. -/
def metaGc : FVec F S1x128x1024 .bf16 := k0_pay83 (metaH x1 x4) (View.ld x8 rWgc)

end

section

variable (x0 : Vec F S1x512x1024 .f32) (x1 : Vec F S128x1024 .f32) (x2 : Vec F S512x128 .f32) (x3 : Vec F S512x128 .f32) (x4 : Vec F S1x1024 .f32) (x5 : Vec F S1x128 .f32) (x6 : Vec F S1x128 .f32) (x7 : Vec F S128x128 .bf16) (x8 : Vec F S1024x6656 .bf16)

/-- The slices the body takes of the product are its bands. -/
theorem meta_slice0 (y : FVec F S128x1280 .f32) :
    extractStridedSlice S128x128 ![0, 0] y slices_S128x1280_o0_0_S128x128
      = band (n := 128) (W := 1280) (K := 10) (by decide) y 0 := slice_band (o := 0) _ y 0 rfl _
theorem meta_slice1 (y : FVec F S128x1280 .f32) :
    extractStridedSlice S128x128 ![0, 128] y slices_S128x1280_o0_128_S128x128
      = band (n := 128) (W := 1280) (K := 10) (by decide) y 1 := slice_band (o := 128) _ y 1 rfl _
theorem meta_slice2 (y : FVec F S128x1280 .f32) :
    extractStridedSlice S128x128 ![0, 256] y slices_S128x1280_o0_256_S128x128
      = band (n := 128) (W := 1280) (K := 10) (by decide) y 2 := slice_band (o := 256) _ y 2 rfl _
theorem meta_slice3 (y : FVec F S128x1280 .f32) :
    extractStridedSlice S128x128 ![0, 384] y slices_S128x1280_o0_384_S128x128
      = band (n := 128) (W := 1280) (K := 10) (by decide) y 3 := slice_band (o := 384) _ y 3 rfl _
theorem meta_slice4 (y : FVec F S128x1280 .f32) :
    extractStridedSlice S128x128 ![0, 512] y slices_S128x1280_o0_512_S128x128
      = band (n := 128) (W := 1280) (K := 10) (by decide) y 4 := slice_band (o := 512) _ y 4 rfl _
theorem meta_slice5 (y : FVec F S128x1280 .f32) :
    extractStridedSlice S128x128 ![0, 640] y slices_S128x1280_o0_640_S128x128
      = band (n := 128) (W := 1280) (K := 10) (by decide) y 5 := slice_band (o := 640) _ y 5 rfl _
theorem meta_slice6 (y : FVec F S128x1280 .f32) :
    extractStridedSlice S128x128 ![0, 768] y slices_S128x1280_o0_768_S128x128
      = band (n := 128) (W := 1280) (K := 10) (by decide) y 6 := slice_band (o := 768) _ y 6 rfl _
theorem meta_slice7 (y : FVec F S128x1280 .f32) :
    extractStridedSlice S128x128 ![0, 896] y slices_S128x1280_o0_896_S128x128
      = band (n := 128) (W := 1280) (K := 10) (by decide) y 7 := slice_band (o := 896) _ y 7 rfl _
theorem meta_slice8 (y : FVec F S128x1280 .f32) :
    extractStridedSlice S128x128 ![0, 1024] y slices_S128x1280_o0_1024_S128x128
      = band (n := 128) (W := 1280) (K := 10) (by decide) y 8 := slice_band (o := 1024) _ y 8 rfl _
theorem meta_slice9 (y : FVec F S128x1280 .f32) :
    extractStridedSlice S128x128 ![0, 1152] y slices_S128x1280_o0_1152_S128x128
      = band (n := 128) (W := 1280) (K := 10) (by decide) y 9 := slice_band (o := 1152) _ y 9 rfl _
theorem meta_band0 :
    (k0_pay85 (k0_pay84 k0_pay1 (k0_pay54 (View.ld x2 rTableHead)) (k0_pay55 (View.ld x3 rTableHead)) (k0_pay59 (View.ld x1 rMeta) (View.ld x4 rGain) (View.ld x8 rWqk)) (k0_pay69 (k0_pay59 (View.ld x1 rMeta) (View.ld x4 rGain) (View.ld x8 rWqk)) (View.ld x7 rOnes)) (View.ld x5 rScale)))
      = (k0_pay86 k0_pay1 (k0_pay54 (View.ld x2 rTableHead)) (k0_pay55 (View.ld x3 rTableHead)) (metaBand x1 x4 x8 0) (metaSq (metaBand x1 x4 x8 0) x7) (View.ld x5 rScale)) := by
  have h : (k0_pay59 (View.ld x1 rMeta) (View.ld x4 rGain) (View.ld x8 rWqk)) = metaBand x1 x4 x8 0 := meta_slice0 _
  rw [← h]; rfl
theorem meta_band1 :
    (k0_pay86 k0_pay1 (k0_pay54 (View.ld x2 rTableHead)) (k0_pay55 (View.ld x3 rTableHead)) (k0_pay60 (View.ld x1 rMeta) (View.ld x4 rGain) (View.ld x8 rWqk)) (k0_pay70 (k0_pay60 (View.ld x1 rMeta) (View.ld x4 rGain) (View.ld x8 rWqk)) (View.ld x7 rOnes)) (View.ld x5 rScale))
      = (k0_pay86 k0_pay1 (k0_pay54 (View.ld x2 rTableHead)) (k0_pay55 (View.ld x3 rTableHead)) (metaBand x1 x4 x8 1) (metaSq (metaBand x1 x4 x8 1) x7) (View.ld x5 rScale)) := by
  have h : (k0_pay60 (View.ld x1 rMeta) (View.ld x4 rGain) (View.ld x8 rWqk)) = metaBand x1 x4 x8 1 := meta_slice1 _
  rw [← h]; rfl
theorem meta_band2 :
    (k0_pay90 (k0_pay88 (k0_pay54 (View.ld x2 rTableHead)) (k0_pay61 (View.ld x1 rMeta) (View.ld x4 rGain) (View.ld x8 rWqk)) (k0_pay71 (k0_pay61 (View.ld x1 rMeta) (View.ld x4 rGain) (View.ld x8 rWqk)) (View.ld x7 rOnes)) (View.ld x5 rScale)) (k0_pay89 k0_pay1 (k0_pay55 (View.ld x3 rTableHead)) (k0_pay61 (View.ld x1 rMeta) (View.ld x4 rGain) (View.ld x8 rWqk)) (k0_pay71 (k0_pay61 (View.ld x1 rMeta) (View.ld x4 rGain) (View.ld x8 rWqk)) (View.ld x7 rOnes)) (View.ld x5 rScale)))
      = (k0_pay86 k0_pay1 (k0_pay54 (View.ld x2 rTableHead)) (k0_pay55 (View.ld x3 rTableHead)) (metaBand x1 x4 x8 2) (metaSq (metaBand x1 x4 x8 2) x7) (View.ld x5 rScale)) := by
  have h : (k0_pay61 (View.ld x1 rMeta) (View.ld x4 rGain) (View.ld x8 rWqk)) = metaBand x1 x4 x8 2 := meta_slice2 _
  rw [← h]; rfl
theorem meta_band3 :
    (k0_pay91 k0_pay1 (k0_pay54 (View.ld x2 rTableHead)) (k0_pay55 (View.ld x3 rTableHead)) (k0_pay62 (View.ld x1 rMeta) (View.ld x4 rGain) (View.ld x8 rWqk)) (k0_pay72 (k0_pay62 (View.ld x1 rMeta) (View.ld x4 rGain) (View.ld x8 rWqk)) (View.ld x7 rOnes)) (View.ld x5 rScale))
      = (k0_pay86 k0_pay1 (k0_pay54 (View.ld x2 rTableHead)) (k0_pay55 (View.ld x3 rTableHead)) (metaBand x1 x4 x8 3) (metaSq (metaBand x1 x4 x8 3) x7) (View.ld x5 rScale)) := by
  have h : (k0_pay62 (View.ld x1 rMeta) (View.ld x4 rGain) (View.ld x8 rWqk)) = metaBand x1 x4 x8 3 := meta_slice3 _
  rw [← h]; rfl
theorem meta_band4 :
    (k0_pay94 k0_pay1 (k0_pay54 (View.ld x2 rTableHead)) (k0_pay55 (View.ld x3 rTableHead)) (k0_pay92 (k0_pay63 (View.ld x1 rMeta) (View.ld x4 rGain) (View.ld x8 rWqk)) (k0_pay73 (k0_pay63 (View.ld x1 rMeta) (View.ld x4 rGain) (View.ld x8 rWqk)) (View.ld x7 rOnes))) (k0_pay93 (View.ld x5 rScale)))
      = (k0_pay86 k0_pay1 (k0_pay54 (View.ld x2 rTableHead)) (k0_pay55 (View.ld x3 rTableHead)) (metaBand x1 x4 x8 4) (metaSq (metaBand x1 x4 x8 4) x7) (View.ld x5 rScale)) := by
  have h : (k0_pay63 (View.ld x1 rMeta) (View.ld x4 rGain) (View.ld x8 rWqk)) = metaBand x1 x4 x8 4 := meta_slice4 _
  rw [← h]; rfl
theorem meta_band5 :
    (k0_pay95 k0_pay1 (k0_pay54 (View.ld x2 rTableHead)) (k0_pay55 (View.ld x3 rTableHead)) (k0_pay64 (View.ld x1 rMeta) (View.ld x4 rGain) (View.ld x8 rWqk)) (k0_pay74 (k0_pay64 (View.ld x1 rMeta) (View.ld x4 rGain) (View.ld x8 rWqk)) (View.ld x7 rOnes)) (View.ld x5 rScale))
      = (k0_pay86 k0_pay1 (k0_pay54 (View.ld x2 rTableHead)) (k0_pay55 (View.ld x3 rTableHead)) (metaBand x1 x4 x8 5) (metaSq (metaBand x1 x4 x8 5) x7) (View.ld x5 rScale)) := by
  have h : (k0_pay64 (View.ld x1 rMeta) (View.ld x4 rGain) (View.ld x8 rWqk)) = metaBand x1 x4 x8 5 := meta_slice5 _
  rw [← h]; rfl
theorem meta_band6 :
    (k0_pay96 k0_pay1 (k0_pay54 (View.ld x2 rTableHead)) (k0_pay55 (View.ld x3 rTableHead)) (k0_pay65 (View.ld x1 rMeta) (View.ld x4 rGain) (View.ld x8 rWqk)) (k0_pay75 (k0_pay65 (View.ld x1 rMeta) (View.ld x4 rGain) (View.ld x8 rWqk)) (View.ld x7 rOnes)) (View.ld x5 rScale))
      = (k0_pay86 k0_pay1 (k0_pay54 (View.ld x2 rTableHead)) (k0_pay55 (View.ld x3 rTableHead)) (metaBand x1 x4 x8 6) (metaSq (metaBand x1 x4 x8 6) x7) (View.ld x5 rScale)) := by
  have h : (k0_pay65 (View.ld x1 rMeta) (View.ld x4 rGain) (View.ld x8 rWqk)) = metaBand x1 x4 x8 6 := meta_slice6 _
  rw [← h]; rfl
theorem meta_band7 :
    (k0_pay98 (k0_pay97 k0_pay1 (k0_pay54 (View.ld x2 rTableHead)) (k0_pay55 (View.ld x3 rTableHead)) (k0_pay66 (View.ld x1 rMeta) (View.ld x4 rGain) (View.ld x8 rWqk)) (k0_pay77 (k0_pay76 (k0_pay66 (View.ld x1 rMeta) (View.ld x4 rGain) (View.ld x8 rWqk))) (View.ld x7 rOnes)) (View.ld x5 rScale)))
      = (k0_pay86 k0_pay1 (k0_pay54 (View.ld x2 rTableHead)) (k0_pay55 (View.ld x3 rTableHead)) (metaBand x1 x4 x8 7) (metaSq (metaBand x1 x4 x8 7) x7) (View.ld x5 rScale)) := by
  have h : (k0_pay66 (View.ld x1 rMeta) (View.ld x4 rGain) (View.ld x8 rWqk)) = metaBand x1 x4 x8 7 := meta_slice7 _
  rw [← h]; rfl

theorem meta_band8 :
    (k0_pay99 k0_pay1 (k0_pay54 (View.ld x2 rTableHead)) (k0_pay55 (View.ld x3 rTableHead)) (k0_pay67 (k0_pay57 (View.ld x1 rMeta) (View.ld x4 rGain) (View.ld x8 rWqk))) (k0_pay78 (k0_pay67 (k0_pay57 (View.ld x1 rMeta) (View.ld x4 rGain) (View.ld x8 rWqk))) (View.ld x7 rOnes)) (View.ld x6 rScale))
      = (k0_pay99 k0_pay1 (k0_pay54 (View.ld x2 rTableHead)) (k0_pay55 (View.ld x3 rTableHead)) (metaBand x1 x4 x8 8) (metaSq (metaBand x1 x4 x8 8) x7) (View.ld x6 rScale)) := by
  have h : (k0_pay67 (k0_pay57 (View.ld x1 rMeta) (View.ld x4 rGain) (View.ld x8 rWqk))) = metaBand x1 x4 x8 8 := meta_slice8 _
  rw [← h]; rfl
theorem meta_band9 :
    (k0_pay3 (k0_pay54 (View.ld x2 rTableHead)) (k0_pay55 (View.ld x3 rTableHead)) (k0_pay100 (k0_pay68 (k0_pay57 (View.ld x1 rMeta) (View.ld x4 rGain) (View.ld x8 rWqk))) (k0_pay79 (k0_pay68 (k0_pay57 (View.ld x1 rMeta) (View.ld x4 rGain) (View.ld x8 rWqk))) (View.ld x7 rOnes)) (View.ld x6 rScale)) (k0_pay101 k0_pay1 (k0_pay68 (k0_pay57 (View.ld x1 rMeta) (View.ld x4 rGain) (View.ld x8 rWqk))) (k0_pay79 (k0_pay68 (k0_pay57 (View.ld x1 rMeta) (View.ld x4 rGain) (View.ld x8 rWqk))) (View.ld x7 rOnes)) (View.ld x6 rScale)))
      = (k0_pay99 k0_pay1 (k0_pay54 (View.ld x2 rTableHead)) (k0_pay55 (View.ld x3 rTableHead)) (metaBand x1 x4 x8 9) (metaSq (metaBand x1 x4 x8 9) x7) (View.ld x6 rScale)) := by
  have h : (k0_pay68 (k0_pay57 (View.ld x1 rMeta) (View.ld x4 rGain) (View.ld x8 rWqk))) = metaBand x1 x4 x8 9 := meta_slice9 _
  rw [← h]; rfl

end

/-! ## The body's triple -/

set_option maxHeartbeats 4000000 in
/-- On a block of token rows the body leaves its inputs as they were and each output buffer replaced, whole, by what it computes from
    the inputs. -/
theorem sound_rows (c : Dev nD) (E : Set ℕ) (i : grid0.Coords) (arg2 : Memref sig .tc .vmem S1x512x1024 .f32) (harg2 : arg2.IsWhole) (arg3 : Memref sig .tc .vmem S128x1024 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .bf16) (harg9 : arg9.IsWhole) (arg10 : Memref sig .tc .vmem S1024x6656 .bf16) (harg10 : arg10.IsWhole) (arg11 : Memref sig .tc .vmem S1x512x1024 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x512x1024 .bf16) (harg14 : arg14.IsWhole) (arg15 : Memref sig .tc .vmem S1x512x1024 .bf16) (harg15 : arg15.IsWhole) (arg16 : Memref sig .tc .vmem S1x512x1024 .bf16) (harg16 : arg16.IsWhole) (arg17 : Memref sig .tc .vmem S1x512x1024 .bf16) (harg17 : arg17.IsWhole)
    (hc1 : k0_cond1 i = 1#1) (hc2 : k0_cond2 i = 0#1) (x0 : Vec F S1x512x1024 .f32) (x1 : Vec F S128x1024 .f32) (x2 : Vec F S512x128 .f32) (x3 : Vec F S512x128 .f32) (x4 : Vec F S1x1024 .f32) (x5 : Vec F S1x128 .f32) (x6 : Vec F S1x128 .f32) (x7 : Vec F S128x128 .bf16) (x8 : Vec F S1024x6656 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare (rBlock.overlay d (rowsQ x0 x2 x3 x4 x5 x7 x8))) ∗ (∃ d, owns (c : Thread nD τ) arg12 fullShare (rNarrow.overlay d (rowsK x0 x2 x3 x4 x6 x7 x8))) ∗ (∃ d, owns (c : Thread nD τ) arg13 fullShare (rNarrow.overlay d (rowsV x0 x4 x8))) ∗ (∃ d, owns (c : Thread nD τ) arg14 fullShare (rBlock.overlay d (rowsCb x0 x4 x8))) ∗ (∃ d, owns (c : Thread nD τ) arg15 fullShare (rBlock.overlay d (rowsS x0 x4 x8))) ∗ (∃ d, owns (c : Thread nD τ) arg16 fullShare (rBlock.overlay d (rowsGa x0 x4 x8))) ∗ (∃ d, owns (c : Thread nD τ) arg17 fullShare (rBlock.overlay d (rowsGc x0 x4 x8)))) -∗ K ⟨⟩))
      ⊢ wp frame (wpE (defs₀ (F := F)) Variants.none c none) E (cc0_proj_stage i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have hn : ¬ k0_cond2 i = 1#1 := by rw [hc2]; decide
  simp only [cc0_proj_stage_eq_skeleton]; unfold cc0_proj_stage_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _, _; isplitr
    swap; · iexact H9
    ipureintro; rw [read_store, read_store, read_store, read_store, read_store, read_store, read_store, read_store]
    exact bands8_of _ _ (rows_band0 ..) (rows_band1 ..) (rows_band2 ..) (rows_band3 ..) (rows_band4 ..) (rows_band5 ..) (rows_band6 ..) (rows_band7 ..)
  isplitl [H10]
  · iexists _, _; isplitr
    swap; · iexact H10
    ipureintro; rw [read_store, read_store]
    exact bands2_of _ _ (rows_band8 ..) (rows_band9 ..)
  isplitl [H11]
  · iexists _, _; isplitr
    swap; · iexact H11
    ipureintro; exact read_store _ _ _ _ _
  isplitl [H12]
  · iexists _, _; isplitr
    swap; · iexact H12
    ipureintro; exact read_store _ _ _ _ _
  isplitl [H13]
  · iexists _, _; isplitr
    swap; · iexact H13
    ipureintro; exact read_store _ _ _ _ _
  isplitl [H14]
  · iexists _, _; isplitr
    swap; · iexact H14
    ipureintro; exact read_store _ _ _ _ _
  iexists _, _; isplitr
  swap; · iexact H15
  ipureintro; exact read_store _ _ _ _ _

set_option maxHeartbeats 4000000 in
/-- On the last block the body leaves its inputs as they were and each output buffer replaced, in its first 128 rows, by what it computes from
    the inputs. -/
theorem sound_meta (c : Dev nD) (E : Set ℕ) (i : grid0.Coords) (arg2 : Memref sig .tc .vmem S1x512x1024 .f32) (harg2 : arg2.IsWhole) (arg3 : Memref sig .tc .vmem S128x1024 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .bf16) (harg9 : arg9.IsWhole) (arg10 : Memref sig .tc .vmem S1024x6656 .bf16) (harg10 : arg10.IsWhole) (arg11 : Memref sig .tc .vmem S1x512x1024 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x512x1024 .bf16) (harg14 : arg14.IsWhole) (arg15 : Memref sig .tc .vmem S1x512x1024 .bf16) (harg15 : arg15.IsWhole) (arg16 : Memref sig .tc .vmem S1x512x1024 .bf16) (harg16 : arg16.IsWhole) (arg17 : Memref sig .tc .vmem S1x512x1024 .bf16) (harg17 : arg17.IsWhole)
    (hc1 : k0_cond1 i = 0#1) (hc2 : k0_cond2 i = 1#1) (x0 : Vec F S1x512x1024 .f32) (x1 : Vec F S128x1024 .f32) (x2 : Vec F S512x128 .f32) (x3 : Vec F S512x128 .f32) (x4 : Vec F S1x1024 .f32) (x5 : Vec F S1x128 .f32) (x6 : Vec F S1x128 .f32) (x7 : Vec F S128x128 .bf16) (x8 : Vec F S1024x6656 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare (rHead.overlay d (metaQ x1 (View.ld x2 rTableHead) (View.ld x3 rTableHead) x4 x5 x7 x8))) ∗ (∃ d, owns (c : Thread nD τ) arg12 fullShare (rNarrowHead.overlay d (metaK x1 (View.ld x2 rTableHead) (View.ld x3 rTableHead) x4 x6 x7 x8))) ∗ (∃ d, owns (c : Thread nD τ) arg13 fullShare (rNarrowHead.overlay d (metaV x1 x4 x8))) ∗ (∃ d, owns (c : Thread nD τ) arg14 fullShare (rHead.overlay d (metaCb x1 x4 x8))) ∗ (∃ d, owns (c : Thread nD τ) arg15 fullShare (rHead.overlay d (metaS x1 x4 x8))) ∗ (∃ d, owns (c : Thread nD τ) arg16 fullShare (rHead.overlay d (metaGa x1 x4 x8))) ∗ (∃ d, owns (c : Thread nD τ) arg17 fullShare (rHead.overlay d (metaGc x1 x4 x8)))) -∗ K ⟨⟩))
      ⊢ wp frame (wpE (defs₀ (F := F)) Variants.none c none) E (cc0_proj_stage i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have hn : ¬ k0_cond1 i = 1#1 := by rw [hc1]; decide
  simp only [cc0_proj_stage_eq_skeleton]; unfold cc0_proj_stage_skel
  simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _, _; isplitr
    swap; · iexact H9
    ipureintro; rw [read_store, read_store, read_store, read_store, read_store, read_store, read_store, read_store]
    exact bands8_of _ _ (meta_band0 ..) (meta_band1 ..) (meta_band2 ..) (meta_band3 ..) (meta_band4 ..) (meta_band5 ..) (meta_band6 ..) (meta_band7 ..)
  isplitl [H10]
  · iexists _, _; isplitr
    swap; · iexact H10
    ipureintro; rw [read_store, read_store]
    exact bands2_of _ _ (meta_band8 ..) (meta_band9 ..)
  isplitl [H11]
  · iexists _, _; isplitr
    swap; · iexact H11
    ipureintro; exact read_store _ _ _ _ _
  isplitl [H12]
  · iexists _, _; isplitr
    swap; · iexact H12
    ipureintro; exact read_store _ _ _ _ _
  isplitl [H13]
  · iexists _, _; isplitr
    swap; · iexact H13
    ipureintro; exact read_store _ _ _ _ _
  isplitl [H14]
  · iexists _, _; isplitr
    swap; · iexact H14
    ipureintro; exact read_store _ _ _ _ _
  iexists _, _; isplitr
  swap; · iexact H15
  ipureintro; exact read_store _ _ _ _ _

end Cert.Proof.ProjBody

end
-- ==== Proof.MixSpec.lean ====
/-
  The mix call, as a function of rows: what the output projections, the gated short convolution, the merge, the residual,
  the norm and the router's softmax compute for one token, over the extended reals.
-/
module

public import Idealize.ShloMosaic.PureOps.Ideal.Laws

@[expose] public section

noncomputable section

open Idealize.ShloMosaic

namespace Cert.Proof.MixSpec

/-- The short convolution at channel `k`: three taps `w` on the rows before, at and after the token. -/
def convolved (w : Fin 3 → Fin 1024 → EReal) (p s n : Fin 1024 → EReal) (k : Fin 1024) : EReal :=
  w 0 k * p k + w 1 k * s k + w 2 k * n k

/-- The residual stream of a token whose row is `x`: to it is added the projection `wo` of the gated sum of the attention
    `a` through `wa` and of the convolution, multiplied by `b`, through `wc`. -/
def stream (x a b p s n ga gc : Fin 1024 → EReal) (w : Fin 3 → Fin 1024 → EReal) (wa wc wo : Fin 1024 → Fin 1024 → EReal)
    (l : Fin 1024) : EReal :=
  x l + ∑ q : Fin 1024, (ga q * (∑ k : Fin 1024, a k * wa k q)
    + gc q * (∑ k : Fin 1024, b k * convolved w p s n k * wc k q)) * wo q l

/-- The norm of a row `x` with gain `g`. -/
def normed (x g : Fin 1024 → EReal) (l : Fin 1024) : EReal :=
  x l * Ideal.rsqrt (Ideal.div (∑ k : Fin 1024, x k * x k) (Ideal.ofBits .f32 0x44800000#32)
    + Ideal.ofBits .f32 0x358637BD#32) * g l

/-- The softmax of sixteen scores, the greatest subtracted first. -/
def softmax (z : Fin 16 → EReal) (e : Fin 16) : EReal :=
  Ideal.div (Ideal.exp (z e - Finset.fold max ⊥ z Finset.univ))
    (∑ f : Fin 16, Ideal.exp (z f - Finset.fold max ⊥ z Finset.univ))

/-- The router's affinity of a normalised row `h` to expert `e`, its weights `w`. -/
def affinity (h : Fin 1024 → EReal) (w : Fin 1024 → Fin 16 → EReal) (e : Fin 16) : EReal :=
  softmax (fun f => ∑ k : Fin 1024, w k f * h k) e

/-- The word of minus infinity. -/
theorem ofBits_neg_inf : Ideal.ofBits .f32 0xFF800000#32 = ⊥ := by simp [Ideal.ofBits, Ideal.ieee]

end Cert.Proof.MixSpec

end
-- ==== Proof.ProjSpec.lean ====
/-
  The projection, as a function of rows: what it computes for one token from the row's norm, over the extended reals.
-/
module

public import proofs.«01_k».proof.Proof.MixSpec

@[expose] public section

noncomputable section

open Idealize.ShloMosaic

namespace Cert.Proof.ProjSpec

/-- A normalised row `h` through the weights `w`. -/
def project (h : Fin 1024 → EReal) (w : Fin 1024 → Fin 6656 → EReal) (j : Fin 6656) : EReal := ∑ k : Fin 1024, h k * w k j

/-- Band `c` of the projected row: 128 columns, which are two heads. -/
def bandOf (y : Fin 6656 → EReal) (c : Fin 10) (l : Fin 128) : EReal := y ⟨128 * c.val + l.val, by omega⟩

/-- The norm of the heads of a band `t`, from the sums `s` of the squares of each column's head; its gain is `g`. -/
def headNorm (t s g : Fin 128 → EReal) (l : Fin 128) : EReal :=
  t l * Ideal.rsqrt (s l * Ideal.ofBits .f32 0x3C800000#32 + Ideal.ofBits .f32 0x358637BD#32) * g l

/-- The sums of the squares of a band `t` over the columns that `o` puts with each column. -/
def squares (t : Fin 128 → EReal) (o : Fin 128 → Fin 128 → EReal) (l : Fin 128) : EReal := ∑ k : Fin 128, t k * t k * o k l

/-- The column that column `l` turns with: the other half of its head. -/
def partner (l : Fin 128) : Fin 128 := if l.val % 64 < 32 then ⟨(l.val + 32) % 128, by omega⟩ else ⟨(l.val + 96) % 128, by omega⟩

/-- The turn by the position: `cs` holds the cosines and `sn` the sines with their signs. -/
def turned (u cs sn : Fin 128 → EReal) (l : Fin 128) : EReal := u l * cs l + u (partner l) * sn l

/-- A band of queries or keys, normalised by heads and turned. -/
def heads (t g cs sn : Fin 128 → EReal) (o : Fin 128 → Fin 128 → EReal) (l : Fin 128) : EReal :=
  turned (headNorm t (squares t o) g) cs sn l

end Cert.Proof.ProjSpec

end
-- ==== Proof.ProjBlock.lean ====
/-
  The projection, one block at a time: what the body's operations compute from the blocks it loads.
-/
module

public import proofs.«01_k».proof.Proof.ProjBody
public import proofs.«01_k».proof.Proof.ProjSpec
public import Idealize.ShloMosaic.Lib.Pointwise
public import Idealize.ShloMosaic.Lib.ValueIdx
public import Idealize.ShloMosaic.Lib.WordCmp

@[expose] public section

set_option maxRecDepth 16384

noncomputable section

open Idealize.ShloMosaic

namespace Cert.Proof.ProjBlock

open Cert.Kernel3Ideal Cert.Kernel3Ideal.Gen Cert.Proof.MixSpec Cert.Proof.ProjSpec Cert.Proof.ProjBody

/-- The body's choice between the two ways round a band is whether the column is in the first half of its head. -/
theorem half_word : ∀ l : Fin 128, IntOp.cmpi CmpIPredicate.slt (IntOp.andi (BitVec.ofNat 32 l.val) 63#32) 32#32
    = BitVec.ofBool (decide (l.val % 64 < 32)) := by decide +kernel

theorem choose_partner (u : Fin 128 → EReal) (l : Fin 128) :
    Scalar.select (IntOp.cmpi CmpIPredicate.slt (IntOp.andi (BitVec.ofNat 32 l.val) 63#32) 32#32)
      (u ⟨(l.val + 128 - 96) % 128, by omega⟩) (u ⟨(l.val + 128 - 32) % 128, by omega⟩) = u (partner l) := by
  rw [half_word, Scalar.select_ofBool]
  unfold partner
  by_cases h : l.val % 64 < 32
  · rw [if_pos (by simpa using h), if_pos h]
    exact congrArg u (Fin.ext (by show (l.val + 128 - 96) % 128 = (l.val + 32) % 128; omega))
  · rw [if_neg (by simpa using h), if_neg h]
    exact congrArg u (Fin.ext (by show (l.val + 128 - 32) % 128 = (l.val + 96) % 128; omega))

section Rows
/-! ## A block of token rows -/

/-- The projected row `r` of the block. -/
def y_rows (x0 : Vec Ideal S1x512x1024 .f32) (x4 : Vec Ideal S1x1024 .f32) (x8 : Vec Ideal S1024x6656 .bf16) (r : Fin 512) : Fin 6656 → EReal :=
  project (normed (fun k => x0 (ix3 0 r k)) fun k => x4 (ix2 0 k)) fun k j => x8 (ix2 k j)

variable (x0 : Vec Ideal S1x512x1024 .f32) (x2 x3 : Vec Ideal S512x128 .f32) (x4 : Vec Ideal S1x1024 .f32)
  (x5 : Vec Ideal S1x128 .f32) (x7 : Vec Ideal S128x128 .bf16) (x8 : Vec Ideal S1024x6656 .bf16) (z : Fin 1) (r : Fin 512)

theorem norm_rows (k : Fin 1024) : k0_pay6 (F := Ideal) (View.ld x0 rBlock) (View.ld x4 rGain) (ix2 r k)
    = normed (fun k => x0 (ix3 0 r k)) (fun k => x4 (ix2 0 k)) k := by
  unfold normed
  pointwise [k0_pay6]
theorem h_rows (k : Fin 1024) : rowsH (F := Ideal) x0 x4 (ix2 r k) = normed (fun k => x0 (ix3 0 r k)) (fun k => x4 (ix2 0 k)) k :=
  norm_rows x0 x4 r k

/-- Its bands, -/
theorem band_rows (c : Fin 10) (l : Fin 128) : rowsBand (F := Ideal) x0 x4 x8 c (ix2 r l) = bandOf (y_rows x0 x4 x8 r) c l := by
  show k0_pay7 (F := Ideal) (View.ld x0 rBlock) (View.ld x4 rGain) (View.ld x8 rWqk) (ix2 r ⟨128 * c.val + l.val, by omega⟩) = _
  unfold bandOf y_rows project
  pointwise [k0_pay7, norm_rows]
/-- the sums of the squares of one, -/
theorem sq_rows (c : Fin 10) (l : Fin 128) : rowsSq (F := Ideal) (rowsBand x0 x4 x8 c) x7 (ix2 r l)
    = squares (bandOf (y_rows x0 x4 x8 r) c) (fun k l => x7 (ix2 k l)) l := by
  unfold squares rowsSq
  pointwise [k0_pay19, band_rows]
/-- the queries of one, -/
theorem turnQ_rows (c : Fin 10) (l : Fin 128) :
    k0_pay36 (F := Ideal) k0_pay1 (k0_pay4 (View.ld x2 rTable)) (k0_pay5 (View.ld x3 rTable)) (rowsBand x0 x4 x8 c) (rowsSq (rowsBand x0 x4 x8 c) x7) (View.ld x5 rScale) (ix3 z r l)
      = heads (bandOf (y_rows x0 x4 x8 r) c) (fun j => x5 (ix2 0 j)) (fun j => x2 (ix2 r j)) (fun j => x3 (ix2 r j))
          (fun k l => x7 (ix2 k l)) l * Named.named (F := Ideal) (φ := .f32) κ "q_scale" 0x3E38AA3B#32 := by
  unfold heads turned
  rw [← choose_partner (headNorm (bandOf (y_rows x0 x4 x8 r) c) (squares (bandOf (y_rows x0 x4 x8 r) c) fun k l => x7 (ix2 k l))
    fun j => x5 (ix2 0 j)) l]
  unfold headNorm
  pointwise [k0_pay36, k0_pay1, k0_pay4, k0_pay5, sq_rows, band_rows]
/-- the keys, -/
theorem turnK_rows (c : Fin 10) (l : Fin 128) :
    k0_pay49 (F := Ideal) k0_pay1 (k0_pay4 (View.ld x2 rTable)) (k0_pay5 (View.ld x3 rTable)) (rowsBand x0 x4 x8 c) (rowsSq (rowsBand x0 x4 x8 c) x7) (View.ld x5 rScale) (ix3 z r l)
      = heads (bandOf (y_rows x0 x4 x8 r) c) (fun j => x5 (ix2 0 j)) (fun j => x2 (ix2 r j)) (fun j => x3 (ix2 r j))
          (fun k l => x7 (ix2 k l)) l := by
  unfold heads turned
  rw [← choose_partner (headNorm (bandOf (y_rows x0 x4 x8 r) c) (squares (bandOf (y_rows x0 x4 x8 r) c) fun k l => x7 (ix2 k l))
    fun j => x5 (ix2 0 j)) l]
  unfold headNorm
  pointwise [k0_pay49, k0_pay1, k0_pay4, k0_pay5, sq_rows, band_rows]
/-- all the queries, -/
theorem q_rows (l : Fin 1024) : rowsQ (F := Ideal) x0 x2 x3 x4 x5 x7 x8 (ix3 z r l)
    = heads (bandOf (y_rows x0 x4 x8 r) ⟨l.val / 128, by omega⟩) (fun j => x5 (ix2 0 j)) (fun j => x2 (ix2 r j))
        (fun j => x3 (ix2 r j)) (fun k l => x7 (ix2 k l)) ⟨l.val % 128, by omega⟩
      * Named.named (F := Ideal) (φ := .f32) κ "q_scale" 0x3E38AA3B#32 :=
  turnQ_rows x0 x2 x3 x4 x5 x7 x8 z r ⟨l.val / 128, by omega⟩ ⟨l.val % 128, by omega⟩
/-- and keys, -/
theorem k_rows (l : Fin 256) : rowsK (F := Ideal) x0 x2 x3 x4 x5 x7 x8 (ix3 z r l)
    = heads (bandOf (y_rows x0 x4 x8 r) ⟨8 + l.val / 128, by omega⟩) (fun j => x5 (ix2 0 j)) (fun j => x2 (ix2 r j))
        (fun j => x3 (ix2 r j)) (fun k l => x7 (ix2 k l)) ⟨l.val % 128, by omega⟩ :=
  turnK_rows x0 x2 x3 x4 x5 x7 x8 z r ⟨8 + l.val / 128, by omega⟩ ⟨l.val % 128, by omega⟩
/-- the values, -/
theorem v_rows (l : Fin 256) : rowsV (F := Ideal) x0 x4 x8 (ix3 z r l) = y_rows x0 x4 x8 r ⟨1280 + l.val, by omega⟩ := by
  unfold y_rows project
  pointwise [rowsV, k0_pay8, norm_rows]
/-- what the convolution is multiplied by and what it takes, -/
theorem cb_rows (l : Fin 1024) : rowsCb (F := Ideal) x0 x4 x8 (ix3 z r l) = y_rows x0 x4 x8 r ⟨1536 + l.val, by omega⟩ := by
  unfold y_rows project
  pointwise [rowsCb, k0_pay30, h_rows]
theorem s_rows (l : Fin 1024) : rowsS (F := Ideal) x0 x4 x8 (ix3 z r l)
    = y_rows x0 x4 x8 r ⟨2560 + l.val, by omega⟩ * y_rows x0 x4 x8 r ⟨3584 + l.val, by omega⟩ := by
  unfold y_rows project
  pointwise [rowsS, k0_pay31, h_rows]
/-- and the two gates. -/
theorem ga_rows (l : Fin 1024) : rowsGa (F := Ideal) x0 x4 x8 (ix3 z r l)
    = Ideal.logistic (y_rows x0 x4 x8 r ⟨4608 + l.val, by omega⟩) := by
  unfold y_rows project
  pointwise [rowsGa, k0_pay32, h_rows]
theorem gc_rows (l : Fin 1024) : rowsGc (F := Ideal) x0 x4 x8 (ix3 z r l)
    = Ideal.logistic (y_rows x0 x4 x8 r ⟨5632 + l.val, by omega⟩) := by
  unfold y_rows project
  pointwise [rowsGc, k0_pay33, h_rows]

end Rows

section Meta
/-! ## The block of meta rows -/

/-- The projected row `r` of the block. -/
def y_meta (x1 : Vec Ideal S128x1024 .f32) (x4 : Vec Ideal S1x1024 .f32) (x8 : Vec Ideal S1024x6656 .bf16) (r : Fin 128) : Fin 6656 → EReal :=
  project (normed (fun k => x1 (ix2 r k)) fun k => x4 (ix2 0 k)) fun k j => x8 (ix2 k j)

variable (x1 : Vec Ideal S128x1024 .f32) (x2 x3 : Vec Ideal S128x128 .f32) (x4 : Vec Ideal S1x1024 .f32)
  (x5 : Vec Ideal S1x128 .f32) (x7 : Vec Ideal S128x128 .bf16) (x8 : Vec Ideal S1024x6656 .bf16) (z : Fin 1) (r : Fin 128)

theorem norm_meta (k : Fin 1024) : k0_pay56 (F := Ideal) (View.ld x1 rMeta) (View.ld x4 rGain) (ix2 r k)
    = normed (fun k => x1 (ix2 r k)) (fun k => x4 (ix2 0 k)) k := by
  unfold normed
  pointwise [k0_pay56]
theorem h_meta (k : Fin 1024) : metaH (F := Ideal) x1 x4 (ix2 r k) = normed (fun k => x1 (ix2 r k)) (fun k => x4 (ix2 0 k)) k :=
  norm_meta x1 x4 r k

/-- Its bands, -/
theorem band_meta (c : Fin 10) (l : Fin 128) : metaBand (F := Ideal) x1 x4 x8 c (ix2 r l) = bandOf (y_meta x1 x4 x8 r) c l := by
  show k0_pay57 (F := Ideal) (View.ld x1 rMeta) (View.ld x4 rGain) (View.ld x8 rWqk) (ix2 r ⟨128 * c.val + l.val, by omega⟩) = _
  unfold bandOf y_meta project
  pointwise [k0_pay57, norm_meta]
/-- the sums of the squares of one, -/
theorem sq_meta (c : Fin 10) (l : Fin 128) : metaSq (F := Ideal) (metaBand x1 x4 x8 c) x7 (ix2 r l)
    = squares (bandOf (y_meta x1 x4 x8 r) c) (fun k l => x7 (ix2 k l)) l := by
  unfold squares metaSq
  pointwise [k0_pay69, band_meta]
/-- the queries of one, -/
theorem turnQ_meta (c : Fin 10) (l : Fin 128) :
    k0_pay86 (F := Ideal) k0_pay1 (k0_pay54 x2) (k0_pay55 x3) (metaBand x1 x4 x8 c) (metaSq (metaBand x1 x4 x8 c) x7) (View.ld x5 rScale) (ix3 z r l)
      = heads (bandOf (y_meta x1 x4 x8 r) c) (fun j => x5 (ix2 0 j)) (fun j => x2 (ix2 r j)) (fun j => x3 (ix2 r j))
          (fun k l => x7 (ix2 k l)) l * Named.named (F := Ideal) (φ := .f32) κ "q_scale" 0x3E38AA3B#32 := by
  unfold heads turned
  rw [← choose_partner (headNorm (bandOf (y_meta x1 x4 x8 r) c) (squares (bandOf (y_meta x1 x4 x8 r) c) fun k l => x7 (ix2 k l))
    fun j => x5 (ix2 0 j)) l]
  unfold headNorm
  pointwise [k0_pay86, k0_pay1, k0_pay54, k0_pay55, sq_meta, band_meta]
/-- the keys, -/
theorem turnK_meta (c : Fin 10) (l : Fin 128) :
    k0_pay99 (F := Ideal) k0_pay1 (k0_pay54 x2) (k0_pay55 x3) (metaBand x1 x4 x8 c) (metaSq (metaBand x1 x4 x8 c) x7) (View.ld x5 rScale) (ix3 z r l)
      = heads (bandOf (y_meta x1 x4 x8 r) c) (fun j => x5 (ix2 0 j)) (fun j => x2 (ix2 r j)) (fun j => x3 (ix2 r j))
          (fun k l => x7 (ix2 k l)) l := by
  unfold heads turned
  rw [← choose_partner (headNorm (bandOf (y_meta x1 x4 x8 r) c) (squares (bandOf (y_meta x1 x4 x8 r) c) fun k l => x7 (ix2 k l))
    fun j => x5 (ix2 0 j)) l]
  unfold headNorm
  pointwise [k0_pay99, k0_pay1, k0_pay54, k0_pay55, sq_meta, band_meta]
/-- all the queries, -/
theorem q_meta (l : Fin 1024) : metaQ (F := Ideal) x1 x2 x3 x4 x5 x7 x8 (ix3 z r l)
    = heads (bandOf (y_meta x1 x4 x8 r) ⟨l.val / 128, by omega⟩) (fun j => x5 (ix2 0 j)) (fun j => x2 (ix2 r j))
        (fun j => x3 (ix2 r j)) (fun k l => x7 (ix2 k l)) ⟨l.val % 128, by omega⟩
      * Named.named (F := Ideal) (φ := .f32) κ "q_scale" 0x3E38AA3B#32 :=
  turnQ_meta x1 x2 x3 x4 x5 x7 x8 z r ⟨l.val / 128, by omega⟩ ⟨l.val % 128, by omega⟩
/-- and keys, -/
theorem k_meta (l : Fin 256) : metaK (F := Ideal) x1 x2 x3 x4 x5 x7 x8 (ix3 z r l)
    = heads (bandOf (y_meta x1 x4 x8 r) ⟨8 + l.val / 128, by omega⟩) (fun j => x5 (ix2 0 j)) (fun j => x2 (ix2 r j))
        (fun j => x3 (ix2 r j)) (fun k l => x7 (ix2 k l)) ⟨l.val % 128, by omega⟩ :=
  turnK_meta x1 x2 x3 x4 x5 x7 x8 z r ⟨8 + l.val / 128, by omega⟩ ⟨l.val % 128, by omega⟩
/-- the values, -/
theorem v_meta (l : Fin 256) : metaV (F := Ideal) x1 x4 x8 (ix3 z r l) = y_meta x1 x4 x8 r ⟨1280 + l.val, by omega⟩ := by
  unfold y_meta project
  pointwise [metaV, k0_pay58, norm_meta]
/-- what the convolution is multiplied by and what it takes, -/
theorem cb_meta (l : Fin 1024) : metaCb (F := Ideal) x1 x4 x8 (ix3 z r l) = y_meta x1 x4 x8 r ⟨1536 + l.val, by omega⟩ := by
  unfold y_meta project
  pointwise [metaCb, k0_pay80, h_meta]
theorem s_meta (l : Fin 1024) : metaS (F := Ideal) x1 x4 x8 (ix3 z r l)
    = y_meta x1 x4 x8 r ⟨2560 + l.val, by omega⟩ * y_meta x1 x4 x8 r ⟨3584 + l.val, by omega⟩ := by
  unfold y_meta project
  pointwise [metaS, k0_pay81, h_meta]
/-- and the two gates. -/
theorem ga_meta (l : Fin 1024) : metaGa (F := Ideal) x1 x4 x8 (ix3 z r l)
    = Ideal.logistic (y_meta x1 x4 x8 r ⟨4608 + l.val, by omega⟩) := by
  unfold y_meta project
  pointwise [metaGa, k0_pay82, h_meta]
theorem gc_meta (l : Fin 1024) : metaGc (F := Ideal) x1 x4 x8 (ix3 z r l)
    = Ideal.logistic (y_meta x1 x4 x8 r ⟨5632 + l.val, by omega⟩) := by
  unfold y_meta project
  pointwise [metaGc, k0_pay83, h_meta]

end Meta

end Cert.Proof.ProjBlock

end
-- ==== Proof.ProjRun.lean ====
/-
  The projection call, on extended reals: the blocks each grid point reads and writes, the run of the whole grid, and that it
  leaves its arguments and semaphores as they were. Each sequence has nine blocks of 512 rows in an array of 4224 rows,
  so the last block lies inside the array in its first 128 rows.
-/
module

public import proofs.«01_k».proof.Proof.ProjBody
public import proofs.«01_k».proof.Proof.Gen.Kernel3Ideal.Launch
public import Idealize.ShloMosaic.Lib.Pipeline.FrameBody
public import Idealize.ShloMosaic.Lib.Claim

@[expose] public section

set_option maxRecDepth 16384

noncomputable section

namespace Cert.Proof.ProjRun

open Cert.Kernel3Ideal Cert.Kernel3Ideal.Gen Cert.Proof.ProjBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Where the blocks lie in their arrays -/

theorem xsize_rows_2 : ∀ t : Fin cfg0.N, (grid0.coords t 1).val < 8 →
    ∀ a, win0_2.xsize (grid0.coords t) a = (S512x128 : Shape).size a := by decide +kernel
theorem xsize_meta_2 : ∀ t : Fin cfg0.N, ¬ (grid0.coords t 1).val < 8 →
    ∀ a, win0_2.xsize (grid0.coords t) a = (S128x128 : Shape).size a := by decide +kernel
theorem xsize_rows_3 : ∀ t : Fin cfg0.N, (grid0.coords t 1).val < 8 →
    ∀ a, win0_3.xsize (grid0.coords t) a = (S512x128 : Shape).size a := by decide +kernel
theorem xsize_meta_3 : ∀ t : Fin cfg0.N, ¬ (grid0.coords t 1).val < 8 →
    ∀ a, win0_3.xsize (grid0.coords t) a = (S128x128 : Shape).size a := by decide +kernel
theorem xsize_rows_9 : ∀ t : Fin cfg0.N, (grid0.coords t 1).val < 8 →
    ∀ a, win0_9.xsize (grid0.coords t) a = (S1x512x1024 : Shape).size a := by decide +kernel
theorem xsize_meta_9 : ∀ t : Fin cfg0.N, ¬ (grid0.coords t 1).val < 8 →
    ∀ a, win0_9.xsize (grid0.coords t) a = (S1x128x1024 : Shape).size a := by decide +kernel
theorem xsize_rows_10 : ∀ t : Fin cfg0.N, (grid0.coords t 1).val < 8 →
    ∀ a, win0_10.xsize (grid0.coords t) a = (S1x512x256 : Shape).size a := by decide +kernel
theorem xsize_meta_10 : ∀ t : Fin cfg0.N, ¬ (grid0.coords t 1).val < 8 →
    ∀ a, win0_10.xsize (grid0.coords t) a = (S1x128x256 : Shape).size a := by decide +kernel
theorem xsize_rows_11 : ∀ t : Fin cfg0.N, (grid0.coords t 1).val < 8 →
    ∀ a, win0_11.xsize (grid0.coords t) a = (S1x512x256 : Shape).size a := by decide +kernel
theorem xsize_meta_11 : ∀ t : Fin cfg0.N, ¬ (grid0.coords t 1).val < 8 →
    ∀ a, win0_11.xsize (grid0.coords t) a = (S1x128x256 : Shape).size a := by decide +kernel
theorem xsize_rows_12 : ∀ t : Fin cfg0.N, (grid0.coords t 1).val < 8 →
    ∀ a, win0_12.xsize (grid0.coords t) a = (S1x512x1024 : Shape).size a := by decide +kernel
theorem xsize_meta_12 : ∀ t : Fin cfg0.N, ¬ (grid0.coords t 1).val < 8 →
    ∀ a, win0_12.xsize (grid0.coords t) a = (S1x128x1024 : Shape).size a := by decide +kernel
theorem xsize_rows_13 : ∀ t : Fin cfg0.N, (grid0.coords t 1).val < 8 →
    ∀ a, win0_13.xsize (grid0.coords t) a = (S1x512x1024 : Shape).size a := by decide +kernel
theorem xsize_meta_13 : ∀ t : Fin cfg0.N, ¬ (grid0.coords t 1).val < 8 →
    ∀ a, win0_13.xsize (grid0.coords t) a = (S1x128x1024 : Shape).size a := by decide +kernel
theorem xsize_rows_14 : ∀ t : Fin cfg0.N, (grid0.coords t 1).val < 8 →
    ∀ a, win0_14.xsize (grid0.coords t) a = (S1x512x1024 : Shape).size a := by decide +kernel
theorem xsize_meta_14 : ∀ t : Fin cfg0.N, ¬ (grid0.coords t 1).val < 8 →
    ∀ a, win0_14.xsize (grid0.coords t) a = (S1x128x1024 : Shape).size a := by decide +kernel
theorem xsize_rows_15 : ∀ t : Fin cfg0.N, (grid0.coords t 1).val < 8 →
    ∀ a, win0_15.xsize (grid0.coords t) a = (S1x512x1024 : Shape).size a := by decide +kernel
theorem xsize_meta_15 : ∀ t : Fin cfg0.N, ¬ (grid0.coords t 1).val < 8 →
    ∀ a, win0_15.xsize (grid0.coords t) a = (S1x128x1024 : Shape).size a := by decide +kernel

/-- Which of its two cases the body takes at a point. -/
theorem cond_rows : ∀ t : Fin cfg0.N, (grid0.coords t 1).val < 8 →
    k0_cond1 (grid0.coords t) = 1#1 ∧ k0_cond2 (grid0.coords t) = 0#1 := by decide +kernel
theorem cond_meta : ∀ t : Fin cfg0.N, ¬ (grid0.coords t 1).val < 8 →
    k0_cond1 (grid0.coords t) = 0#1 ∧ k0_cond2 (grid0.coords t) = 1#1 := by decide +kernel

/-- An index below a rectangle's extents lies in the rectangle of those extents at the origin. -/
theorem mem_unit {s : Shape} {off size : Fin s.rank → ℕ} {inb : ∀ a, off a + size a ≤ s.size a} {j : s.Idx}
    (h : ∀ a, (j a).val < size a) (h0 : ∀ a, off a = 0 := by intro a; fin_cases a <;> rfl) :
    j ∈ (Rect.unit off size inb).set :=
  (Rect.mem_set_unit ..).mpr fun a => by have := h a; rw [h0 a]; omega

/-- On the stored rectangle it does not matter what was there before. -/
theorem overlay_eq {s : Shape} {α : Type} (r : Rect s) (X Y : s.Idx → α) (G : r.shape.Idx → α) {j : s.Idx} (h : j ∈ r.set) :
    r.overlay X G j = r.overlay Y G j := by
  obtain ⟨x, rfl⟩ : ∃ x, r.emb x = j := r.exists_idx_of_mem h
  rw [Rect.overlay_emb, Rect.overlay_emb]

/-- A block of token rows lies inside the array: a fetch of it fills the whole buffer. -/
theorem fill_rows_2 (t : Fin cfg0.N) (h : (grid0.coords t 1).val < 8) (d d' : Vec F S512x128 .f32) (g) :
    win0_2.fill (grid0.coords t) d g = win0_2.fill (grid0.coords t) d' g := by
  have hm : ∀ j, win0_2.moved (grid0.coords t) j = true := fun j =>
    (win0_2.moved_iff _ j).mpr fun a => by rw [xsize_rows_2 t h a]; exact (j a).isLt
  funext j; unfold Pipeline.Window.fill; rw [dif_pos (hm j), dif_pos (hm j)]
/-- Of the last block a fetch fills the first 128 rows. -/
theorem ld_meta_2 (t : Fin cfg0.N) (h : ¬ (grid0.coords t 1).val < 8) (d d' : Vec F S512x128 .f32) (g) :
    View.ld (win0_2.fill (grid0.coords t) d g) rTableHead = View.ld (win0_2.fill (grid0.coords t) d' g) rTableHead := by
  funext j
  have hm : win0_2.moved (grid0.coords t) (rTableHead.idx j) = true :=
    (win0_2.moved_iff _ _).mpr fun a => by
      rw [xsize_meta_2 t h a]
      have h1 := (j a).isLt
      match a with
      | ⟨0, _⟩ => change (j 0).val < 128 at h1; change 0 + 1 * (j 0).val < 128; omega
      | ⟨1, _⟩ => change (j 1).val < 128 at h1; change 0 + 1 * (j 1).val < 128; omega
  show win0_2.fill _ d g (rTableHead.idx j) = win0_2.fill _ d' g (rTableHead.idx j)
  unfold Pipeline.Window.fill; rw [dif_pos hm, dif_pos hm]
/-- A block of token rows lies inside the array: a fetch of it fills the whole buffer. -/
theorem fill_rows_3 (t : Fin cfg0.N) (h : (grid0.coords t 1).val < 8) (d d' : Vec F S512x128 .f32) (g) :
    win0_3.fill (grid0.coords t) d g = win0_3.fill (grid0.coords t) d' g := by
  have hm : ∀ j, win0_3.moved (grid0.coords t) j = true := fun j =>
    (win0_3.moved_iff _ j).mpr fun a => by rw [xsize_rows_3 t h a]; exact (j a).isLt
  funext j; unfold Pipeline.Window.fill; rw [dif_pos (hm j), dif_pos (hm j)]
/-- Of the last block a fetch fills the first 128 rows. -/
theorem ld_meta_3 (t : Fin cfg0.N) (h : ¬ (grid0.coords t 1).val < 8) (d d' : Vec F S512x128 .f32) (g) :
    View.ld (win0_3.fill (grid0.coords t) d g) rTableHead = View.ld (win0_3.fill (grid0.coords t) d' g) rTableHead := by
  funext j
  have hm : win0_3.moved (grid0.coords t) (rTableHead.idx j) = true :=
    (win0_3.moved_iff _ _).mpr fun a => by
      rw [xsize_meta_3 t h a]
      have h1 := (j a).isLt
      match a with
      | ⟨0, _⟩ => change (j 0).val < 128 at h1; change 0 + 1 * (j 0).val < 128; omega
      | ⟨1, _⟩ => change (j 1).val < 128 at h1; change 0 + 1 * (j 1).val < 128; omega
  show win0_3.fill _ d g (rTableHead.idx j) = win0_3.fill _ d' g (rTableHead.idx j)
  unfold Pipeline.Window.fill; rw [dif_pos hm, dif_pos hm]

/-! ## What the buffers hold after each point -/

/-- What input window 2's buffer holds at point `t`: its part of the array, past the array's end the zero word. -/
def full2 (c : Dev nD) (t : Fin cfg0.N) : Vec F S512x128 .f32 :=
  win0_2.fill (grid0.coords t) (fun _ => Scalar.ofBits .f32 0#32) (iblk m c 2 t)
/-- What input window 3's buffer holds at point `t`: its part of the array, past the array's end the zero word. -/
def full3 (c : Dev nD) (t : Fin cfg0.N) : Vec F S512x128 .f32 :=
  win0_3.fill (grid0.coords t) (fun _ => Scalar.ofBits .f32 0#32) (iblk m c 3 t)
/-- What the body leaves in output window 9's buffer at point `t`, on the rows inside the array. -/
def outQ (c : Dev nD) (t : Fin cfg0.N) : Vec F S1x512x1024 .bf16 :=
  if (grid0.coords t 1).val < 8 then
    rBlock.overlay (fun _ => Scalar.ofBits .bf16 0#16) (rowsQ (iblk m c 0 t) (full2 m c t) (full3 m c t) (iblk m c 4 t) (iblk m c 5 t) (iblk m c 7 t) (iblk m c 8 t))
  else
    rHead.overlay (fun _ => Scalar.ofBits .bf16 0#16) (metaQ (iblk m c 1 t) (View.ld (full2 m c t) rTableHead) (View.ld (full3 m c t) rTableHead) (iblk m c 4 t) (iblk m c 5 t) (iblk m c 7 t) (iblk m c 8 t))
/-- What the body leaves in output window 10's buffer at point `t`, on the rows inside the array. -/
def outK (c : Dev nD) (t : Fin cfg0.N) : Vec F S1x512x256 .bf16 :=
  if (grid0.coords t 1).val < 8 then
    rNarrow.overlay (fun _ => Scalar.ofBits .bf16 0#16) (rowsK (iblk m c 0 t) (full2 m c t) (full3 m c t) (iblk m c 4 t) (iblk m c 6 t) (iblk m c 7 t) (iblk m c 8 t))
  else
    rNarrowHead.overlay (fun _ => Scalar.ofBits .bf16 0#16) (metaK (iblk m c 1 t) (View.ld (full2 m c t) rTableHead) (View.ld (full3 m c t) rTableHead) (iblk m c 4 t) (iblk m c 6 t) (iblk m c 7 t) (iblk m c 8 t))
/-- What the body leaves in output window 11's buffer at point `t`, on the rows inside the array. -/
def outV (c : Dev nD) (t : Fin cfg0.N) : Vec F S1x512x256 .bf16 :=
  if (grid0.coords t 1).val < 8 then
    rNarrow.overlay (fun _ => Scalar.ofBits .bf16 0#16) (rowsV (iblk m c 0 t) (iblk m c 4 t) (iblk m c 8 t))
  else
    rNarrowHead.overlay (fun _ => Scalar.ofBits .bf16 0#16) (metaV (iblk m c 1 t) (iblk m c 4 t) (iblk m c 8 t))
/-- What the body leaves in output window 12's buffer at point `t`, on the rows inside the array. -/
def outCb (c : Dev nD) (t : Fin cfg0.N) : Vec F S1x512x1024 .bf16 :=
  if (grid0.coords t 1).val < 8 then
    rBlock.overlay (fun _ => Scalar.ofBits .bf16 0#16) (rowsCb (iblk m c 0 t) (iblk m c 4 t) (iblk m c 8 t))
  else
    rHead.overlay (fun _ => Scalar.ofBits .bf16 0#16) (metaCb (iblk m c 1 t) (iblk m c 4 t) (iblk m c 8 t))
/-- What the body leaves in output window 13's buffer at point `t`, on the rows inside the array. -/
def outS (c : Dev nD) (t : Fin cfg0.N) : Vec F S1x512x1024 .bf16 :=
  if (grid0.coords t 1).val < 8 then
    rBlock.overlay (fun _ => Scalar.ofBits .bf16 0#16) (rowsS (iblk m c 0 t) (iblk m c 4 t) (iblk m c 8 t))
  else
    rHead.overlay (fun _ => Scalar.ofBits .bf16 0#16) (metaS (iblk m c 1 t) (iblk m c 4 t) (iblk m c 8 t))
/-- What the body leaves in output window 14's buffer at point `t`, on the rows inside the array. -/
def outGa (c : Dev nD) (t : Fin cfg0.N) : Vec F S1x512x1024 .bf16 :=
  if (grid0.coords t 1).val < 8 then
    rBlock.overlay (fun _ => Scalar.ofBits .bf16 0#16) (rowsGa (iblk m c 0 t) (iblk m c 4 t) (iblk m c 8 t))
  else
    rHead.overlay (fun _ => Scalar.ofBits .bf16 0#16) (metaGa (iblk m c 1 t) (iblk m c 4 t) (iblk m c 8 t))
/-- What the body leaves in output window 15's buffer at point `t`, on the rows inside the array. -/
def outGc (c : Dev nD) (t : Fin cfg0.N) : Vec F S1x512x1024 .bf16 :=
  if (grid0.coords t 1).val < 8 then
    rBlock.overlay (fun _ => Scalar.ofBits .bf16 0#16) (rowsGc (iblk m c 0 t) (iblk m c 4 t) (iblk m c 8 t))
  else
    rHead.overlay (fun _ => Scalar.ofBits .bf16 0#16) (metaGc (iblk m c 1 t) (iblk m c 4 t) (iblk m c 8 t))

/-- The arrays as the call finds them, and what each buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => full2 m c t
    | ⟨3, _⟩ => full3 m c t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outQ m c t
    | ⟨10, _⟩ => outK m c t
    | ⟨11, _⟩ => outV m c t
    | ⟨12, _⟩ => outCb m c t
    | ⟨13, _⟩ => outS m c t
    | ⟨14, _⟩ => outGa m c t
    | ⟨15, _⟩ => outGc m c t
    | ⟨_ + 16, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = full2 m c t := by dsimp only [dats]
theorem after_3 (c : Dev nD) (t : Fin cfg0.N) : (dats m 0 c).after 3 t = full3 m c t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outQ m c t := by dsimp only [dats]
theorem after_10 (c : Dev nD) (t : Fin cfg0.N) : (dats m 0 c).after 10 t = outK m c t := by dsimp only [dats]
theorem after_11 (c : Dev nD) (t : Fin cfg0.N) : (dats m 0 c).after 11 t = outV m c t := by dsimp only [dats]
theorem after_12 (c : Dev nD) (t : Fin cfg0.N) : (dats m 0 c).after 12 t = outCb m c t := by dsimp only [dats]
theorem after_13 (c : Dev nD) (t : Fin cfg0.N) : (dats m 0 c).after 13 t = outS m c t := by dsimp only [dats]
theorem after_14 (c : Dev nD) (t : Fin cfg0.N) : (dats m 0 c).after 14 t = outGa m c t := by dsimp only [dats]
theorem after_15 (c : Dev nD) (t : Fin cfg0.N) : (dats m 0 c).after 15 t = outGc m c t := by dsimp only [dats]

/-! ## What the buffers hold before each point -/

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]
theorem before_3 (c : Dev nD) (t : Fin cfg0.N) (d) :
    (dats m 0 c).before 3 t d = win0_3.fill (grid0.coords t) d (iblk m c 3 t) := by
  unfold Dat.before; rw [if_pos (fetch0_3 t)]; unfold Dat.fetched Dat.blockOf iblk; rw [A_eq]
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

theorem cut_full2 (c : Dev nD) (t : Fin cfg0.N) : win0_2.cut (grid0.coords t) (full2 m c t) = iblk m c 2 t :=
  win0_2.cut_fill _ _ _
theorem cut_full3 (c : Dev nD) (t : Fin cfg0.N) : win0_3.cut (grid0.coords t) (full3 m c t) = iblk m c 3 t :=
  win0_3.cut_fill _ _ _

/-- Output window 9: what the body hands back on a block of token rows is what the point is said to leave, -/
theorem fill_rows_9 (c : Dev nD) (t : Fin cfg0.N) (ht : (grid0.coords t 1).val < 8) (e : Vec F S1x512x1024 .bf16) :
    win0_9.fill (grid0.coords t) (rBlock.overlay e (rowsQ (iblk m c 0 t) (full2 m c t) (full3 m c t) (iblk m c 4 t) (iblk m c 5 t) (iblk m c 7 t) (iblk m c 8 t))) (win0_9.cut (grid0.coords t) (outQ m c t))
      = rBlock.overlay e (rowsQ (iblk m c 0 t) (full2 m c t) (full3 m c t) (iblk m c 4 t) (iblk m c 5 t) (iblk m c 7 t) (iblk m c 8 t)) := by
  refine win0_9.fill_congr_cut _ (funext fun j => ?_)
  unfold outQ; rw [if_pos ht]
  exact overlay_eq rBlock _ _ _ (mem_unit fun a => (win0_9.xinj (grid0.coords t) j a).isLt)
/-- and on the last block, whatever the input buffers hold past the array's end. -/
theorem fill_meta_9 (c : Dev nD) (t : Fin cfg0.N) (ht : ¬ (grid0.coords t 1).val < 8) (e : Vec F S1x512x1024 .bf16)
    (d2 d3 : Vec F S512x128 .f32) :
    win0_9.fill (grid0.coords t) (rHead.overlay e (metaQ (iblk m c 1 t) (View.ld (win0_2.fill (grid0.coords t) d2 (iblk m c 2 t)) rTableHead) (View.ld (win0_3.fill (grid0.coords t) d3 (iblk m c 3 t)) rTableHead) (iblk m c 4 t) (iblk m c 5 t) (iblk m c 7 t) (iblk m c 8 t))) (win0_9.cut (grid0.coords t) (outQ m c t))
      = rHead.overlay e (metaQ (iblk m c 1 t) (View.ld (win0_2.fill (grid0.coords t) d2 (iblk m c 2 t)) rTableHead) (View.ld (win0_3.fill (grid0.coords t) d3 (iblk m c 3 t)) rTableHead) (iblk m c 4 t) (iblk m c 5 t) (iblk m c 7 t) (iblk m c 8 t)) := by
  rw [ld_meta_2 t ht d2 (fun _ => Scalar.ofBits .f32 0#32), ld_meta_3 t ht d3 (fun _ => Scalar.ofBits .f32 0#32)]
  refine win0_9.fill_congr_cut _ (funext fun j => ?_)
  unfold outQ; rw [if_neg ht]
  exact overlay_eq rHead _ _ _ (mem_unit fun a => (xsize_meta_9 t ht a) ▸ (j a).isLt)
/-- Output window 10: what the body hands back on a block of token rows is what the point is said to leave, -/
theorem fill_rows_10 (c : Dev nD) (t : Fin cfg0.N) (ht : (grid0.coords t 1).val < 8) (e : Vec F S1x512x256 .bf16) :
    win0_10.fill (grid0.coords t) (rNarrow.overlay e (rowsK (iblk m c 0 t) (full2 m c t) (full3 m c t) (iblk m c 4 t) (iblk m c 6 t) (iblk m c 7 t) (iblk m c 8 t))) (win0_10.cut (grid0.coords t) (outK m c t))
      = rNarrow.overlay e (rowsK (iblk m c 0 t) (full2 m c t) (full3 m c t) (iblk m c 4 t) (iblk m c 6 t) (iblk m c 7 t) (iblk m c 8 t)) := by
  refine win0_10.fill_congr_cut _ (funext fun j => ?_)
  unfold outK; rw [if_pos ht]
  exact overlay_eq rNarrow _ _ _ (mem_unit fun a => (win0_10.xinj (grid0.coords t) j a).isLt)
/-- and on the last block, whatever the input buffers hold past the array's end. -/
theorem fill_meta_10 (c : Dev nD) (t : Fin cfg0.N) (ht : ¬ (grid0.coords t 1).val < 8) (e : Vec F S1x512x256 .bf16)
    (d2 d3 : Vec F S512x128 .f32) :
    win0_10.fill (grid0.coords t) (rNarrowHead.overlay e (metaK (iblk m c 1 t) (View.ld (win0_2.fill (grid0.coords t) d2 (iblk m c 2 t)) rTableHead) (View.ld (win0_3.fill (grid0.coords t) d3 (iblk m c 3 t)) rTableHead) (iblk m c 4 t) (iblk m c 6 t) (iblk m c 7 t) (iblk m c 8 t))) (win0_10.cut (grid0.coords t) (outK m c t))
      = rNarrowHead.overlay e (metaK (iblk m c 1 t) (View.ld (win0_2.fill (grid0.coords t) d2 (iblk m c 2 t)) rTableHead) (View.ld (win0_3.fill (grid0.coords t) d3 (iblk m c 3 t)) rTableHead) (iblk m c 4 t) (iblk m c 6 t) (iblk m c 7 t) (iblk m c 8 t)) := by
  rw [ld_meta_2 t ht d2 (fun _ => Scalar.ofBits .f32 0#32), ld_meta_3 t ht d3 (fun _ => Scalar.ofBits .f32 0#32)]
  refine win0_10.fill_congr_cut _ (funext fun j => ?_)
  unfold outK; rw [if_neg ht]
  exact overlay_eq rNarrowHead _ _ _ (mem_unit fun a => (xsize_meta_10 t ht a) ▸ (j a).isLt)
/-- Output window 11: what the body hands back on a block of token rows is what the point is said to leave, -/
theorem fill_rows_11 (c : Dev nD) (t : Fin cfg0.N) (ht : (grid0.coords t 1).val < 8) (e : Vec F S1x512x256 .bf16) :
    win0_11.fill (grid0.coords t) (rNarrow.overlay e (rowsV (iblk m c 0 t) (iblk m c 4 t) (iblk m c 8 t))) (win0_11.cut (grid0.coords t) (outV m c t))
      = rNarrow.overlay e (rowsV (iblk m c 0 t) (iblk m c 4 t) (iblk m c 8 t)) := by
  refine win0_11.fill_congr_cut _ (funext fun j => ?_)
  unfold outV; rw [if_pos ht]
  exact overlay_eq rNarrow _ _ _ (mem_unit fun a => (win0_11.xinj (grid0.coords t) j a).isLt)
/-- and on the last block. -/
theorem fill_meta_11 (c : Dev nD) (t : Fin cfg0.N) (ht : ¬ (grid0.coords t 1).val < 8) (e : Vec F S1x512x256 .bf16) :
    win0_11.fill (grid0.coords t) (rNarrowHead.overlay e (metaV (iblk m c 1 t) (iblk m c 4 t) (iblk m c 8 t))) (win0_11.cut (grid0.coords t) (outV m c t))
      = rNarrowHead.overlay e (metaV (iblk m c 1 t) (iblk m c 4 t) (iblk m c 8 t)) := by
  refine win0_11.fill_congr_cut _ (funext fun j => ?_)
  unfold outV; rw [if_neg ht]
  exact overlay_eq rNarrowHead _ _ _ (mem_unit fun a => (xsize_meta_11 t ht a) ▸ (j a).isLt)
/-- Output window 12: what the body hands back on a block of token rows is what the point is said to leave, -/
theorem fill_rows_12 (c : Dev nD) (t : Fin cfg0.N) (ht : (grid0.coords t 1).val < 8) (e : Vec F S1x512x1024 .bf16) :
    win0_12.fill (grid0.coords t) (rBlock.overlay e (rowsCb (iblk m c 0 t) (iblk m c 4 t) (iblk m c 8 t))) (win0_12.cut (grid0.coords t) (outCb m c t))
      = rBlock.overlay e (rowsCb (iblk m c 0 t) (iblk m c 4 t) (iblk m c 8 t)) := by
  refine win0_12.fill_congr_cut _ (funext fun j => ?_)
  unfold outCb; rw [if_pos ht]
  exact overlay_eq rBlock _ _ _ (mem_unit fun a => (win0_12.xinj (grid0.coords t) j a).isLt)
/-- and on the last block. -/
theorem fill_meta_12 (c : Dev nD) (t : Fin cfg0.N) (ht : ¬ (grid0.coords t 1).val < 8) (e : Vec F S1x512x1024 .bf16) :
    win0_12.fill (grid0.coords t) (rHead.overlay e (metaCb (iblk m c 1 t) (iblk m c 4 t) (iblk m c 8 t))) (win0_12.cut (grid0.coords t) (outCb m c t))
      = rHead.overlay e (metaCb (iblk m c 1 t) (iblk m c 4 t) (iblk m c 8 t)) := by
  refine win0_12.fill_congr_cut _ (funext fun j => ?_)
  unfold outCb; rw [if_neg ht]
  exact overlay_eq rHead _ _ _ (mem_unit fun a => (xsize_meta_12 t ht a) ▸ (j a).isLt)
/-- Output window 13: what the body hands back on a block of token rows is what the point is said to leave, -/
theorem fill_rows_13 (c : Dev nD) (t : Fin cfg0.N) (ht : (grid0.coords t 1).val < 8) (e : Vec F S1x512x1024 .bf16) :
    win0_13.fill (grid0.coords t) (rBlock.overlay e (rowsS (iblk m c 0 t) (iblk m c 4 t) (iblk m c 8 t))) (win0_13.cut (grid0.coords t) (outS m c t))
      = rBlock.overlay e (rowsS (iblk m c 0 t) (iblk m c 4 t) (iblk m c 8 t)) := by
  refine win0_13.fill_congr_cut _ (funext fun j => ?_)
  unfold outS; rw [if_pos ht]
  exact overlay_eq rBlock _ _ _ (mem_unit fun a => (win0_13.xinj (grid0.coords t) j a).isLt)
/-- and on the last block. -/
theorem fill_meta_13 (c : Dev nD) (t : Fin cfg0.N) (ht : ¬ (grid0.coords t 1).val < 8) (e : Vec F S1x512x1024 .bf16) :
    win0_13.fill (grid0.coords t) (rHead.overlay e (metaS (iblk m c 1 t) (iblk m c 4 t) (iblk m c 8 t))) (win0_13.cut (grid0.coords t) (outS m c t))
      = rHead.overlay e (metaS (iblk m c 1 t) (iblk m c 4 t) (iblk m c 8 t)) := by
  refine win0_13.fill_congr_cut _ (funext fun j => ?_)
  unfold outS; rw [if_neg ht]
  exact overlay_eq rHead _ _ _ (mem_unit fun a => (xsize_meta_13 t ht a) ▸ (j a).isLt)
/-- Output window 14: what the body hands back on a block of token rows is what the point is said to leave, -/
theorem fill_rows_14 (c : Dev nD) (t : Fin cfg0.N) (ht : (grid0.coords t 1).val < 8) (e : Vec F S1x512x1024 .bf16) :
    win0_14.fill (grid0.coords t) (rBlock.overlay e (rowsGa (iblk m c 0 t) (iblk m c 4 t) (iblk m c 8 t))) (win0_14.cut (grid0.coords t) (outGa m c t))
      = rBlock.overlay e (rowsGa (iblk m c 0 t) (iblk m c 4 t) (iblk m c 8 t)) := by
  refine win0_14.fill_congr_cut _ (funext fun j => ?_)
  unfold outGa; rw [if_pos ht]
  exact overlay_eq rBlock _ _ _ (mem_unit fun a => (win0_14.xinj (grid0.coords t) j a).isLt)
/-- and on the last block. -/
theorem fill_meta_14 (c : Dev nD) (t : Fin cfg0.N) (ht : ¬ (grid0.coords t 1).val < 8) (e : Vec F S1x512x1024 .bf16) :
    win0_14.fill (grid0.coords t) (rHead.overlay e (metaGa (iblk m c 1 t) (iblk m c 4 t) (iblk m c 8 t))) (win0_14.cut (grid0.coords t) (outGa m c t))
      = rHead.overlay e (metaGa (iblk m c 1 t) (iblk m c 4 t) (iblk m c 8 t)) := by
  refine win0_14.fill_congr_cut _ (funext fun j => ?_)
  unfold outGa; rw [if_neg ht]
  exact overlay_eq rHead _ _ _ (mem_unit fun a => (xsize_meta_14 t ht a) ▸ (j a).isLt)
/-- Output window 15: what the body hands back on a block of token rows is what the point is said to leave, -/
theorem fill_rows_15 (c : Dev nD) (t : Fin cfg0.N) (ht : (grid0.coords t 1).val < 8) (e : Vec F S1x512x1024 .bf16) :
    win0_15.fill (grid0.coords t) (rBlock.overlay e (rowsGc (iblk m c 0 t) (iblk m c 4 t) (iblk m c 8 t))) (win0_15.cut (grid0.coords t) (outGc m c t))
      = rBlock.overlay e (rowsGc (iblk m c 0 t) (iblk m c 4 t) (iblk m c 8 t)) := by
  refine win0_15.fill_congr_cut _ (funext fun j => ?_)
  unfold outGc; rw [if_pos ht]
  exact overlay_eq rBlock _ _ _ (mem_unit fun a => (win0_15.xinj (grid0.coords t) j a).isLt)
/-- and on the last block. -/
theorem fill_meta_15 (c : Dev nD) (t : Fin cfg0.N) (ht : ¬ (grid0.coords t 1).val < 8) (e : Vec F S1x512x1024 .bf16) :
    win0_15.fill (grid0.coords t) (rHead.overlay e (metaGc (iblk m c 1 t) (iblk m c 4 t) (iblk m c 8 t))) (win0_15.cut (grid0.coords t) (outGc m c t))
      = rHead.overlay e (metaGc (iblk m c 1 t) (iblk m c 4 t) (iblk m c 8 t)) := by
  refine win0_15.fill_congr_cut _ (funext fun j => ?_)
  unfold outGc; rw [if_neg ht]
  exact overlay_eq rHead _ _ _ (mem_unit fun a => (xsize_meta_15 t ht a) ▸ (j a).isLt)

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t))))
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ d, owns (c : Thread nD τ) (st0_9 t) fullShare (win0_9.fill (grid0.coords t) d (win0_9.cut (grid0.coords t) ((dats m 0 c).after 9 t))))
    ∗ (∃ d, owns (c : Thread nD τ) (st0_10 t) fullShare (win0_10.fill (grid0.coords t) d (win0_10.cut (grid0.coords t) ((dats m 0 c).after 10 t))))
    ∗ (∃ d, owns (c : Thread nD τ) (st0_11 t) fullShare (win0_11.fill (grid0.coords t) d (win0_11.cut (grid0.coords t) ((dats m 0 c).after 11 t))))
    ∗ (∃ d, owns (c : Thread nD τ) (st0_12 t) fullShare (win0_12.fill (grid0.coords t) d (win0_12.cut (grid0.coords t) ((dats m 0 c).after 12 t))))
    ∗ (∃ d, owns (c : Thread nD τ) (st0_13 t) fullShare (win0_13.fill (grid0.coords t) d (win0_13.cut (grid0.coords t) ((dats m 0 c).after 13 t))))
    ∗ (∃ d, owns (c : Thread nD τ) (st0_14 t) fullShare (win0_14.fill (grid0.coords t) d (win0_14.cut (grid0.coords t) ((dats m 0 c).after 14 t))))
    ∗ (∃ d, owns (c : Thread nD τ) (st0_15 t) fullShare (win0_15.fill (grid0.coords t) d (win0_15.cut (grid0.coords t) ((dats m 0 c).after 15 t)))))

set_option maxHeartbeats 1000000 in
/-- The body at any point, by its case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  by_cases ht : (grid0.coords t 1).val < 8
  · have hc := cond_rows t ht
    rw [show win0_2.fill (grid0.coords t) d2 (iblk m c 2 t) = full2 m c t from fill_rows_2 t ht _ _ _]
    rw [show win0_3.fill (grid0.coords t) d3 (iblk m c 3 t) = full3 m c t from fill_rows_3 t ht _ _ _]
    iapply (sound_rows c Set.univ (grid0.coords t) _ _ _ _ _ _ _ _ _ _ _ _ _ _ _ _ _ _ _ _ _ _ _ _ _ _ _ _ _ _ _ _ hc.1 hc.2 (iblk m c 0 t) (iblk m c 1 t) (full2 m c t) (full3 m c t) (iblk m c 4 t) (iblk m c 5 t) (iblk m c 6 t) (iblk m c 7 t) (iblk m c 8 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩⟩
    isplitl [HΦ]; · iexact HΦ
    isplitl [Ho]; · iexact Ho
    isplitl [H0]; · iexact H0
    isplitl [H1]; · iexact H1
    isplitl [H2]; · iexists _; rw [Pipeline.Window.fill_cut]; iexact H2
    isplitl [H3]; · iexists _; rw [Pipeline.Window.fill_cut]; iexact H3
    isplitl [H4]; · iexact H4
    isplitl [H5]; · iexact H5
    isplitl [H6]; · iexact H6
    isplitl [H7]; · iexact H7
    isplitl [H8]; · iexact H8
    isplitl [H9]; · iexists _; rw [fill_rows_9 m c t ht e9]; iexact H9
    isplitl [H10]; · iexists _; rw [fill_rows_10 m c t ht e10]; iexact H10
    isplitl [H11]; · iexists _; rw [fill_rows_11 m c t ht e11]; iexact H11
    isplitl [H12]; · iexists _; rw [fill_rows_12 m c t ht e12]; iexact H12
    isplitl [H13]; · iexists _; rw [fill_rows_13 m c t ht e13]; iexact H13
    isplitl [H14]; · iexists _; rw [fill_rows_14 m c t ht e14]; iexact H14
    iexists _; rw [fill_rows_15 m c t ht e15]; iexact H15
  · have hc := cond_meta t ht
    iapply (sound_meta c Set.univ (grid0.coords t) _ _ _ _ _ _ _ _ _ _ _ _ _ _ _ _ _ _ _ _ _ _ _ _ _ _ _ _ _ _ _ _ hc.1 hc.2 (iblk m c 0 t) (iblk m c 1 t) (win0_2.fill (grid0.coords t) d2 (iblk m c 2 t)) (win0_3.fill (grid0.coords t) d3 (iblk m c 3 t)) (iblk m c 4 t) (iblk m c 5 t) (iblk m c 6 t) (iblk m c 7 t) (iblk m c 8 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩⟩
    isplitl [HΦ]; · iexact HΦ
    isplitl [Ho]; · iexact Ho
    isplitl [H0]; · iexact H0
    isplitl [H1]; · iexact H1
    isplitl [H2]; · iexists d2; rw [cut_full2]; iexact H2
    isplitl [H3]; · iexists d3; rw [cut_full3]; iexact H3
    isplitl [H4]; · iexact H4
    isplitl [H5]; · iexact H5
    isplitl [H6]; · iexact H6
    isplitl [H7]; · iexact H7
    isplitl [H8]; · iexact H8
    isplitl [H9]; · iexists _; rw [fill_meta_9 m c t ht e9 d2 d3]; iexact H9
    isplitl [H10]; · iexists _; rw [fill_meta_10 m c t ht e10 d2 d3]; iexact H10
    isplitl [H11]; · iexists _; rw [fill_meta_11 m c t ht e11]; iexact H11
    isplitl [H12]; · iexists _; rw [fill_meta_12 m c t ht e12]; iexact H12
    isplitl [H13]; · iexists _; rw [fill_meta_13 m c t ht e13]; iexact H13
    isplitl [H14]; · iexists _; rw [fill_meta_14 m c t ht e14]; iexact H14
    iexists _; rw [fill_meta_15 m c t ht e15]; iexact H15

theorem defs₀_row (t : Fin cfg0.N) :
    defs₀ (F := F) .tc cfg0.body (cfg0.bodyArgs t (cfg0.slots t)) = bodyAt0 t := by
  unfold defs₀; rw [Defs.onTc_tc]

/-- Every point stores each result block. -/
theorem live_9 : ∀ t : Fin cfg0.N, cfg0.idle 9 (cfg0.grid.coords t) = false := by decide +kernel

set_option maxHeartbeats 2000000 in
/-- The body at every point, as the run asks for it. -/
theorem body_obligation (c : Dev nD) : BodyObligationLoose (dats (F := F) m 0 c) (defs₀ (F := F)) Variants.none () Set.univ := fun t => by
  rw [bigSep_W0, bigSep_W0, defs₀_row, live_9 t]
  exact triple_restated (sound_body m c t) rfl .rfl fun _ => .rfl

/-! ## The run -/

set_option backward.isDefEq.respectTransparency.types false in
set_option maxHeartbeats 800000 in
/-- Every execution ends, with every array at what the points leave in it and every semaphore at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch0.to₀ defs₀ Variants.none m ρ main
    (hbody := body_obligation m) (hq := fun _ _ _ => rfl)
    (howed := fun _ _ => rfl) (V := V m) (hmain := hmain m Variants.none) (hA := A_eq m) (hΦ := fun _ _ => rfl)

/-- Every execution ends with every array at what the points leave in it. -/
theorem run_main : θ_run defs (onTc (τ := τ) (main (F := F))) (s₀ m ρ) (Pipeline.FramePost cfgs (dats m) 0 (V m)) :=
  (θ_run defs _ _).mono (fun _ h => h.1) (run_quiescent m ρ)

/-- The arguments and the semaphores end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiescent m ρ))

end Cert.Proof.ProjRun

end
-- ==== Proof.ProjRows.lean ====
/-
  The projection: its results by rows, and what the blocks of a point hold.
-/
module

public import proofs.«01_k».proof.Proof.ProjBlock
public import proofs.«01_k».proof.Proof.ProjRun

@[expose] public section

set_option maxRecDepth 16384

noncomputable section

open Idealize.ShloMosaic Idealize.ShloMosaic.TcCoe Idealize.SL.Sem
open Idealize.ShloMosaic.Pipeline (Dat)

namespace Cert.Proof.ProjRows

open Cert.Kernel3Ideal Cert.Kernel3Ideal.Gen Cert.Proof.ProjBody Cert.Proof.ProjRun Cert.Proof.MixSpec Cert.Proof.ProjSpec
open Cert.Proof.ProjBlock

variable (m : (ℓ : Loc nD τ sig) → Buf (Elt Ideal) ℓ) (ρ : Dev nD → PrngReg)

/-! ## The results -/

/-- Row `i` of sequence `b` of the incoming stream: the first 4096 are the tokens', the last 128 are shared. -/
def xRow (c : Dev nD) (b : Fin 8) (i : Fin 4224) (k : Fin 1024) : EReal :=
  if h : i.val < 4096 then (m ((c : Thread nD τ).loc main_arg0) : FVec Ideal S8x4096x1024 .f32) (ix3 b ⟨i.val, h⟩ k)
  else (V m c main_v34 : FVec Ideal S128x1024 .f32) (ix2 ⟨i.val - 4096, by have := i.isLt; omega⟩ k)

/-- The projected row. -/
def rowY (c : Dev nD) (b : Fin 8) (i : Fin 4224) : Fin 6656 → EReal :=
  project (normed (xRow m c b i) fun k => (V m c main_v12 : FVec Ideal S1x1024 .f32) (ix2 0 k))
    fun k j => (V m c main_v10 : FVec Ideal S1024x6656 .bf16) (ix2 k j)

/-- A band of it, normalised by heads with the gain `g` and turned by the row's position. -/
def rowHeads (c : Dev nD) (b : Fin 8) (i : Fin 4224) (g : Fin 128 → EReal) (n : Fin 10) (l : Fin 128) : EReal :=
  heads (bandOf (rowY m c b i) n) g (fun j => (V m c main_v59 : FVec Ideal S4224x128 .f32) (ix2 i j))
    (fun j => (V m c main_v72 : FVec Ideal S4224x128 .f32) (ix2 i j))
    (fun k j => (V m c main_v32 : FVec Ideal S128x128 .bf16) (ix2 k j)) l

/-- The queries of the row, -/
def rowQ (c : Dev nD) (b : Fin 8) (i : Fin 4224) (l : Fin 1024) : EReal :=
  rowHeads m c b i (fun j => (V m c main_v17 : FVec Ideal S1x128 .f32) (ix2 0 j)) ⟨l.val / 128, by omega⟩ ⟨l.val % 128, by omega⟩
    * Named.named (F := Ideal) (φ := .f32) κ "q_scale" 0x3E38AA3B#32
/-- its keys, -/
def rowK (c : Dev nD) (b : Fin 8) (i : Fin 4224) (l : Fin 256) : EReal :=
  rowHeads m c b i (fun j => (V m c main_v22 : FVec Ideal S1x128 .f32) (ix2 0 j)) ⟨8 + l.val / 128, by omega⟩ ⟨l.val % 128, by omega⟩
/-- its values, -/
def rowV (c : Dev nD) (b : Fin 8) (i : Fin 4224) (l : Fin 256) : EReal := rowY m c b i ⟨1280 + l.val, by omega⟩
/-- what its convolution is multiplied by, -/
def rowCb (c : Dev nD) (b : Fin 8) (i : Fin 4224) (l : Fin 1024) : EReal := rowY m c b i ⟨1536 + l.val, by omega⟩
/-- what the convolution takes, -/
def rowS (c : Dev nD) (b : Fin 8) (i : Fin 4224) (l : Fin 1024) : EReal :=
  rowY m c b i ⟨2560 + l.val, by omega⟩ * rowY m c b i ⟨3584 + l.val, by omega⟩
/-- the gate of its attention -/
def rowGa (c : Dev nD) (b : Fin 8) (i : Fin 4224) (l : Fin 1024) : EReal := Ideal.logistic (rowY m c b i ⟨4608 + l.val, by omega⟩)
/-- and the gate of its convolution. -/
def rowGc (c : Dev nD) (b : Fin 8) (i : Fin 4224) (l : Fin 1024) : EReal := Ideal.logistic (rowY m c b i ⟨5632 + l.val, by omega⟩)

/-! ## Where the blocks lie -/

/-- The sequence of a point. -/
abbrev seq (t : Fin cfg0.N) : Fin 8 := ⟨t.val / 9, by have : cfg0.N = 72 := N_0; have := t.isLt; omega⟩
/-- The row of the arrays that is row `r` of a point's block. -/
abbrev rowOf (t : Fin cfg0.N) (r : Nat) (h : t.val % 9 * 512 + r < 4224) : Fin 4224 := ⟨t.val % 9 * 512 + r, h⟩

theorem coord1 : ∀ t : Fin cfg0.N, (grid0.coords t 1).val = t.val % 9 := (by decide +kernel : ∀ t : Fin grid0.N, _)

theorem index_0 : ∀ t : Fin cfg0.N, win0_0.index t 0 = t.val / 9 ∧ win0_0.index t 1 = (if t.val % 9 = 8 then 7 else t.val % 9)
    ∧ win0_0.index t 2 = 0 := (by decide +kernel : ∀ t : Fin grid0.N, _)
theorem index_9 : ∀ t : Fin cfg0.N, win0_9.index t 0 = t.val / 9 ∧ win0_9.index t 1 = t.val % 9 ∧ win0_9.index t 2 = 0 :=
  (by decide +kernel : ∀ t : Fin grid0.N, _)
theorem index_10 : ∀ t : Fin cfg0.N, win0_10.index t 0 = t.val / 9 ∧ win0_10.index t 1 = t.val % 9 ∧ win0_10.index t 2 = 0 :=
  (by decide +kernel : ∀ t : Fin grid0.N, _)
theorem index_11 : ∀ t : Fin cfg0.N, win0_11.index t 0 = t.val / 9 ∧ win0_11.index t 1 = t.val % 9 ∧ win0_11.index t 2 = 0 :=
  (by decide +kernel : ∀ t : Fin grid0.N, _)
theorem index_12 : ∀ t : Fin cfg0.N, win0_12.index t 0 = t.val / 9 ∧ win0_12.index t 1 = t.val % 9 ∧ win0_12.index t 2 = 0 :=
  (by decide +kernel : ∀ t : Fin grid0.N, _)
theorem index_13 : ∀ t : Fin cfg0.N, win0_13.index t 0 = t.val / 9 ∧ win0_13.index t 1 = t.val % 9 ∧ win0_13.index t 2 = 0 :=
  (by decide +kernel : ∀ t : Fin grid0.N, _)
theorem index_14 : ∀ t : Fin cfg0.N, win0_14.index t 0 = t.val / 9 ∧ win0_14.index t 1 = t.val % 9 ∧ win0_14.index t 2 = 0 :=
  (by decide +kernel : ∀ t : Fin grid0.N, _)
theorem index_15 : ∀ t : Fin cfg0.N, win0_15.index t 0 = t.val / 9 ∧ win0_15.index t 1 = t.val % 9 ∧ win0_15.index t 2 = 0 :=
  (by decide +kernel : ∀ t : Fin grid0.N, _)
theorem index_2 : ∀ t : Fin cfg0.N, win0_2.index t 0 = t.val % 9 ∧ win0_2.index t 1 = 0 :=
  (by decide +kernel : ∀ t : Fin grid0.N, _)
theorem index_3 : ∀ t : Fin cfg0.N, win0_3.index t 0 = t.val % 9 ∧ win0_3.index t 1 = 0 :=
  (by decide +kernel : ∀ t : Fin grid0.N, _)
theorem index_1 : ∀ t : Fin cfg0.N, win0_1.index t 0 = 0 ∧ win0_1.index t 1 = 0 :=
  (by decide +kernel : ∀ t : Fin grid0.N, _)
theorem index_4 : ∀ t : Fin cfg0.N, win0_4.index t 0 = 0 ∧ win0_4.index t 1 = 0 :=
  (by decide +kernel : ∀ t : Fin grid0.N, _)
theorem index_5 : ∀ t : Fin cfg0.N, win0_5.index t 0 = 0 ∧ win0_5.index t 1 = 0 :=
  (by decide +kernel : ∀ t : Fin grid0.N, _)
theorem index_6 : ∀ t : Fin cfg0.N, win0_6.index t 0 = 0 ∧ win0_6.index t 1 = 0 :=
  (by decide +kernel : ∀ t : Fin grid0.N, _)
theorem index_7 : ∀ t : Fin cfg0.N, win0_7.index t 0 = 0 ∧ win0_7.index t 1 = 0 :=
  (by decide +kernel : ∀ t : Fin grid0.N, _)
theorem index_8 : ∀ t : Fin cfg0.N, win0_8.index t 0 = 0 ∧ win0_8.index t 1 = 0 :=
  (by decide +kernel : ∀ t : Fin grid0.N, _)

/-! ## What the blocks hold -/

theorem iblk0_apply (c : Dev nD) (t : Fin cfg0.N) (ht : t.val % 9 < 8) (r : Fin 512) (k : Fin 1024) :
    (iblk m c 0 t : FVec Ideal S1x512x1024 .f32) (ix3 0 r k) = xRow m c (seq t) (rowOf t r (by omega)) k := by
  obtain ⟨h0, h1, h2⟩ := index_0 t
  rw [if_neg (by omega)] at h1
  have hr := r.isLt
  unfold xRow
  rw [dif_pos (by show t.val % 9 * 512 + r.val < 4096; omega)]
  show V m c (Pipeline.arrRef spec0 0) ((win0_0.rect t).emb (ix3 0 r k)) = _
  rw [V_main_arg0]
  congr 1
  funext a
  apply Fin.ext
  match a with
  | ⟨0, _⟩ => show win0_0.index t 0 * 1 + 1 * 0 = t.val / 9; omega
  | ⟨1, _⟩ => show win0_0.index t 1 * 512 + 1 * r.val = t.val % 9 * 512 + r.val; omega
  | ⟨2, _⟩ => show win0_0.index t 2 * 1024 + 1 * k.val = k.val; omega

theorem iblk1_apply (c : Dev nD) (t : Fin cfg0.N) (ht : ¬ t.val % 9 < 8) (r : Fin 128) (k : Fin 1024) :
    (iblk m c 1 t : FVec Ideal S128x1024 .f32) (ix2 r k) = xRow m c (seq t) (rowOf t r (by omega)) k := by
  obtain ⟨h0, h1⟩ := index_1 t
  have hr := r.isLt
  unfold xRow
  rw [dif_neg (by show ¬ t.val % 9 * 512 + r.val < 4096; omega)]
  show V m c main_v34 ((win0_1.rect t).emb (ix2 r k)) = _
  congr 1
  funext a
  apply Fin.ext
  match a with
  | ⟨0, _⟩ => show win0_1.index t 0 * 128 + 1 * r.val = t.val % 9 * 512 + r.val - 4096; omega
  | ⟨1, _⟩ => show win0_1.index t 1 * 1024 + 1 * k.val = k.val; omega

/-- An element of a block of a table is inside the table when its row is. -/
theorem inside {t : Fin cfg0.N} {x : Fin 2 → Nat} (hr : (grid0.coords t 1).val < 8 → ∀ a, x a = (S512x128 : Shape).size a)
    (hm : ¬ (grid0.coords t 1).val < 8 → ∀ a, x a = (S128x128 : Shape).size a) (r : Fin 512) (k : Fin 128)
    (h : t.val % 9 * 512 + r.val < 4224) (a : Fin 2) : ((ix2 r k : S512x128.Idx) a).val < x a := by
  have ht := coord1 t
  by_cases h8 : t.val % 9 < 8
  · rw [hr (by omega)]; exact (ix2 r k : S512x128.Idx) a |>.isLt
  · rw [hm (by omega)]
    match a with
    | ⟨0, _⟩ => show r.val < 128; omega
    | ⟨1, _⟩ => exact k.isLt

theorem full2_apply (c : Dev nD) (t : Fin cfg0.N) (r : Fin 512) (k : Fin 128) (h : t.val % 9 * 512 + r.val < 4224) :
    full2 m c t (ix2 r k) = (V m c main_v59 : FVec Ideal S4224x128 .f32) (ix2 (rowOf t r h) k) := by
  obtain ⟨h0, h1⟩ := index_2 t
  have hm : win0_2.moved (grid0.coords t) (ix2 r k : S512x128.Idx) = true := by
    rw [win0_2.moved_iff]
    exact inside (fun h => xsize_rows_2 t h) (fun h => xsize_meta_2 t h) r k h
  unfold full2 Pipeline.Window.fill
  rw [dif_pos hm]
  show V m c main_v59 ((win0_2.rect t).emb _) = _
  congr 1
  funext a
  apply Fin.ext
  match a with
  | ⟨0, _⟩ => show win0_2.index t 0 * 512 + 1 * r.val = t.val % 9 * 512 + r.val; omega
  | ⟨1, _⟩ => show win0_2.index t 1 * 128 + 1 * k.val = k.val; omega

theorem full3_apply (c : Dev nD) (t : Fin cfg0.N) (r : Fin 512) (k : Fin 128) (h : t.val % 9 * 512 + r.val < 4224) :
    full3 m c t (ix2 r k) = (V m c main_v72 : FVec Ideal S4224x128 .f32) (ix2 (rowOf t r h) k) := by
  obtain ⟨h0, h1⟩ := index_3 t
  have hm : win0_3.moved (grid0.coords t) (ix2 r k : S512x128.Idx) = true := by
    rw [win0_3.moved_iff]
    exact inside (fun h => xsize_rows_3 t h) (fun h => xsize_meta_3 t h) r k h
  unfold full3 Pipeline.Window.fill
  rw [dif_pos hm]
  show V m c main_v72 ((win0_3.rect t).emb _) = _
  congr 1
  funext a
  apply Fin.ext
  match a with
  | ⟨0, _⟩ => show win0_3.index t 0 * 512 + 1 * r.val = t.val % 9 * 512 + r.val; omega
  | ⟨1, _⟩ => show win0_3.index t 1 * 128 + 1 * k.val = k.val; omega

theorem iblk4_apply (c : Dev nD) (t : Fin cfg0.N) (r : Fin 1) (k : Fin 1024) :
    (iblk m c 4 t : FVec Ideal S1x1024 .f32) (ix2 r k) = (V m c main_v12 : FVec Ideal S1x1024 .f32) (ix2 r k) := by
  obtain ⟨h0, h1⟩ := index_4 t
  show V m c main_v12 ((win0_4.rect t).emb (ix2 r k)) = _
  congr 1
  funext a
  apply Fin.ext
  match a with
  | ⟨0, _⟩ => show win0_4.index t 0 * 1 + 1 * r.val = r.val; omega
  | ⟨1, _⟩ => show win0_4.index t 1 * 1024 + 1 * k.val = k.val; omega

theorem iblk5_apply (c : Dev nD) (t : Fin cfg0.N) (r : Fin 1) (k : Fin 128) :
    (iblk m c 5 t : FVec Ideal S1x128 .f32) (ix2 r k) = (V m c main_v17 : FVec Ideal S1x128 .f32) (ix2 r k) := by
  obtain ⟨h0, h1⟩ := index_5 t
  show V m c main_v17 ((win0_5.rect t).emb (ix2 r k)) = _
  congr 1
  funext a
  apply Fin.ext
  match a with
  | ⟨0, _⟩ => show win0_5.index t 0 * 1 + 1 * r.val = r.val; omega
  | ⟨1, _⟩ => show win0_5.index t 1 * 128 + 1 * k.val = k.val; omega

theorem iblk6_apply (c : Dev nD) (t : Fin cfg0.N) (r : Fin 1) (k : Fin 128) :
    (iblk m c 6 t : FVec Ideal S1x128 .f32) (ix2 r k) = (V m c main_v22 : FVec Ideal S1x128 .f32) (ix2 r k) := by
  obtain ⟨h0, h1⟩ := index_6 t
  show V m c main_v22 ((win0_6.rect t).emb (ix2 r k)) = _
  congr 1
  funext a
  apply Fin.ext
  match a with
  | ⟨0, _⟩ => show win0_6.index t 0 * 1 + 1 * r.val = r.val; omega
  | ⟨1, _⟩ => show win0_6.index t 1 * 128 + 1 * k.val = k.val; omega

theorem iblk7_apply (c : Dev nD) (t : Fin cfg0.N) (r : Fin 128) (k : Fin 128) :
    (iblk m c 7 t : FVec Ideal S128x128 .bf16) (ix2 r k) = (V m c main_v32 : FVec Ideal S128x128 .bf16) (ix2 r k) := by
  obtain ⟨h0, h1⟩ := index_7 t
  show V m c main_v32 ((win0_7.rect t).emb (ix2 r k)) = _
  congr 1
  funext a
  apply Fin.ext
  match a with
  | ⟨0, _⟩ => show win0_7.index t 0 * 128 + 1 * r.val = r.val; omega
  | ⟨1, _⟩ => show win0_7.index t 1 * 128 + 1 * k.val = k.val; omega

theorem iblk8_apply (c : Dev nD) (t : Fin cfg0.N) (r : Fin 1024) (k : Fin 6656) :
    (iblk m c 8 t : FVec Ideal S1024x6656 .bf16) (ix2 r k) = (V m c main_v10 : FVec Ideal S1024x6656 .bf16) (ix2 r k) := by
  obtain ⟨h0, h1⟩ := index_8 t
  show V m c main_v10 ((win0_8.rect t).emb (ix2 r k)) = _
  congr 1
  funext a
  apply Fin.ext
  match a with
  | ⟨0, _⟩ => show win0_8.index t 0 * 1024 + 1 * r.val = r.val; omega
  | ⟨1, _⟩ => show win0_8.index t 1 * 6656 + 1 * k.val = k.val; omega

/-! ## The rows a point computes -/

/-- On a block of token rows, -/
theorem y_rows_eq (c : Dev nD) (t : Fin cfg0.N) (ht : t.val % 9 < 8) (r : Fin 512) :
    y_rows (iblk m c 0 t) (iblk m c 4 t) (iblk m c 8 t) r = rowY m c (seq t) (rowOf t r (by omega)) := by
  unfold y_rows rowY
  simp only [iblk0_apply m c t ht, iblk4_apply, iblk8_apply]

/-- and on the last block. -/
theorem y_meta_eq (c : Dev nD) (t : Fin cfg0.N) (ht : ¬ t.val % 9 < 8) (r : Fin 128) :
    y_meta (iblk m c 1 t) (iblk m c 4 t) (iblk m c 8 t) r = rowY m c (seq t) (rowOf t r (by omega)) := by
  unfold y_meta rowY
  simp only [iblk1_apply m c t ht, iblk4_apply, iblk8_apply]

/-- The head of a table's block holds its first 128 rows. -/
theorem head_apply (v : Vec Ideal S512x128 .f32) (r : Fin 128) (k : Fin 128) :
    (View.ld v rTableHead : Vec Ideal S128x128 .f32) (ix2 r k) = v (ix2 ⟨r.val, by omega⟩ k) := by
  show v (rTableHead.emb (ix2 r k)) = _
  congr 1
  funext a
  apply Fin.ext
  match a with
  | ⟨0, _⟩ => show 0 + 1 * r.val = r.val; omega
  | ⟨1, _⟩ => show 0 + 1 * k.val = k.val; omega

end Cert.Proof.ProjRows

end
-- ==== Proof.ProjHead.lean ====
/-
  A head of the queries or keys, as the reference computes it: its norm and its turn by the position.
-/
module

public import proofs.«01_k».proof.Proof.ProjSpec

@[expose] public section

set_option maxRecDepth 16384

noncomputable section

open Idealize.ShloMosaic Idealize.ShloMosaic.TcCoe Idealize.SL.Sem

namespace Cert.Proof.ProjHead

/-! ## A head -/

/-- The norm of a head `t` with gain `g`. -/
def headNormed (t g : Fin 64 → EReal) (d : Fin 64) : EReal :=
  t d * Ideal.rsqrt (Ideal.div (∑ k : Fin 64, t k * t k) (Ideal.ofBits .f32 0x42800000#32) + Ideal.ofBits .f32 0x358637BD#32) * g d

/-- A head turned, its halves as the two coordinates, by angles whose cosines are `cs` and sines `sn`. -/
def headTurned (u : Fin 64 → EReal) (cs sn : Fin 32 → EReal) (d : Fin 64) : EReal :=
  if h : d.val < 32 then u ⟨d.val, by omega⟩ * cs ⟨d.val, h⟩ - u ⟨32 + d.val, by omega⟩ * sn ⟨d.val, h⟩
  else u ⟨32 + (d.val - 32), by omega⟩ * cs ⟨d.val - 32, by omega⟩ + u ⟨d.val - 32, by omega⟩ * sn ⟨d.val - 32, by omega⟩

/-- The rotation's frequency of pair `j`. -/
def freq (j : Nat) : EReal :=
  Ideal.pow (Ideal.ofBits .f32 0x461C4000#32)
    (Ideal.div (-(Ideal.ofBits .f32 0x40000000#32 * FloatOps.sitofp (F := Ideal) .f32 (BitVec.ofNat 32 j))) (Ideal.ofBits .f32 0x42800000#32))

/-- The angle of pair `j` at position `p`. -/
def angle (p : Fin 4112) (j : Fin 32) : EReal := FloatOps.sitofp (F := Ideal) .f32 (BitVec.ofNat 32 p.val) * freq j.val

end Cert.Proof.ProjHead

end
-- ==== Proof.ProjTables.lean ====
/-
  The tables of cosines and sines that the projection's program lays out before the call.
-/
module

public import proofs.«01_k».proof.Proof.ProjRun
public import proofs.«01_k».proof.Proof.ProjHead
public import Idealize.ShloMosaic.Lib.Pointwise
public import Idealize.ShloMosaic.Lib.ValueIdx
public import Idealize.ShloMosaic.Lib.WordCmp

@[expose] public section

set_option maxRecDepth 16384

noncomputable section

open Idealize.ShloMosaic Idealize.ShloMosaic.TcCoe Idealize.SL.Sem

namespace Cert.Proof.ProjTables

open Cert.Kernel3Ideal Cert.Kernel3Ideal.Gen
open Cert.Proof.ProjHead (freq)

variable (m : (ℓ : Loc nD τ sig) → Buf (Elt Ideal) ℓ) (c : Dev nD)

/-! ## The operations in stretches -/

/-- Operations in two stretches run one after the other. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-- The contents once the positions are laid out. -/
def laid : Valuation τ sig (Elt Ideal) := StableHlo.after (hostOps0.take 49) fun b => m (c, b)

theorem laid_positions : laid m c (Proc.devRef .tc main_v40)
    = (concatenate S4224 0 [⟨S4096, addf (broadcastInDim S4096 ![] bcast_S_S4096 (constant S_ .f32 0x41800000#32)) (sitofp .f32 (iotaInDim S4096 32 0))⟩,
      ⟨S112, broadcastInDim S112 ![] bcast_S_S112 (constant S_ .f32 0x00000000#32)⟩, ⟨S16, sitofp .f32 (iotaInDim S16 32 0)⟩] concatenates_S4096_S112_S16_S4224_d0 : FVec Ideal S4224 .f32) := by
  have h : laid m c = (StableHlo.after (hostOps0.drop 48 |>.take 1) (StableHlo.after (hostOps0.take 48) fun b => m (c, b))) := by
    rw [← after_append]
    rfl
  rw [h]
  generalize hW : StableHlo.after (hostOps0.take 48) (fun b => m (c, b)) = W
  have h37 : W (Proc.devRef .tc main_v37) = (addf (broadcastInDim S4096 ![] bcast_S_S4096 (constant S_ .f32 0x41800000#32)) (sitofp .f32 (iotaInDim S4096 32 0)) : FVec Ideal S4096 .f32) := by
    rw [← hW]
    simp only [hostOps0, List.take]
    entry_read
    rfl
  have h38 : W (Proc.devRef .tc main_v38) = (broadcastInDim S112 ![] bcast_S_S112 (constant S_ .f32 0x00000000#32) : FVec Ideal S112 .f32) := by
    rw [← hW]
    simp only [hostOps0, List.take]
    entry_read
    rfl
  have h39 : W (Proc.devRef .tc main_v39) = (sitofp .f32 (iotaInDim S16 32 0) : FVec Ideal S16 .f32) := by
    rw [← hW]
    simp only [hostOps0, List.take]
    entry_read
    rfl
  simp only [hostOps0, List.drop, List.take]
  rw [StableHlo.after_cons, StableHlo.after_nil, StableHlo.nary_result]
  show concatenate S4224 0 [⟨S4096, (W (Proc.devRef .tc main_v37) : FVec Ideal S4096 .f32)⟩, ⟨S112, (W (Proc.devRef .tc main_v38) : FVec Ideal S112 .f32)⟩, ⟨S16, (W (Proc.devRef .tc main_v39) : FVec Ideal S16 .f32)⟩] concatenates_S4096_S112_S16_S4224_d0 = _
  rw [h37, h38, h39]

theorem V_laid (b : Ref sig .tc) : V m c b = StableHlo.after (hostOps0.drop 49 ++ (hostOps0_1 ++ (hostOps0_2 ++ (hostOps0_3 ++ hostOps0_4)))) (laid m c) b := by
  unfold laid
  rw [← after_append]
  rfl

/-- The contents once the signs are laid out too. -/
def signed : Valuation τ sig (Elt Ideal) :=
  StableHlo.after (hostOps0.drop 49 ++ (hostOps0_1 ++ (hostOps0_2 ++ hostOps0_3))) (laid m c)

theorem V_signed (b : Ref sig .tc) : V m c b = StableHlo.after hostOps0_4 (signed m c) b := by
  rw [V_laid]
  unfold signed
  rw [← after_append]
  rfl

/-- Which columns have a sine of negative sign: the remainder of the column by 64 is below 32. -/
def lanes : IVec S128 1 :=
  cmpi .slt (select
      (andi (cmpi .ne (cmpi .slt (Host.remsi (iotaInDim S128 32 0) (broadcastInDim S128 ![] bcast_S_S128 (constantI S_ 32 64#32))) (broadcastInDim S128 ![] bcast_S_S128 (constantI S_ 32 0#32)))
            (broadcastInDim S128 ![] bcast_S_S128 (cmpi .slt (constantI S_ 32 64#32) (constantI S_ 32 0#32))))
          (cmpi .ne (Host.remsi (iotaInDim S128 32 0) (broadcastInDim S128 ![] bcast_S_S128 (constantI S_ 32 64#32))) (broadcastInDim S128 ![] bcast_S_S128 (constantI S_ 32 0#32))))
      (addi (Host.remsi (iotaInDim S128 32 0) (broadcastInDim S128 ![] bcast_S_S128 (constantI S_ 32 64#32))) (broadcastInDim S128 ![] bcast_S_S128 (constantI S_ 32 64#32)))
      (Host.remsi (iotaInDim S128 32 0) (broadcastInDim S128 ![] bcast_S_S128 (constantI S_ 32 64#32))))
    (broadcastInDim S128 ![] bcast_S_S128 (constantI S_ 32 32#32))

theorem signs : signed m c (Proc.devRef .tc main_v64)
    = (select lanes (broadcastInDim S128 ![] bcast_S_S128 (constant S_ .f32 0xBF800000#32)) (broadcastInDim S128 ![] bcast_S_S128 (constant S_ .f32 0x3F800000#32)) : FVec Ideal S128 .f32) := by
  unfold signed
  simp only [hostOps0, hostOps0_1, hostOps0_2, hostOps0_3, List.drop, List.cons_append, List.nil_append]
  entry_read
  rfl

theorem lane_sign (l : Fin 128) : lanes (ix1 l) = if l.val % 64 < 32 then 1#1 else 0#1 := by
  revert l
  decide +kernel

/-! ## The tables -/

/-- The position that row `i` of the tables is for. -/
def rowPos (i : Fin 4224) : EReal :=
  if _h : i.val < 4096 then Ideal.ofBits .f32 0x41800000#32 + FloatOps.sitofp (F := Ideal) .f32 (BitVec.ofNat 32 i.val)
  else if _h : i.val - 4096 < 112 then 0 else FloatOps.sitofp (F := Ideal) .f32 (BitVec.ofNat 32 (i.val - 4096 - 112))

theorem cos_entry (i : Fin 4224) (l : Fin 128) :
    ((V m c main_v59 : FVec Ideal S4224x128 .f32) (ix2 i l) : EReal) = Ideal.cos (rowPos i * freq (l.val % 32)) := by
  rw [V_laid]
  simp only [hostOps0, hostOps0_1, hostOps0_2, hostOps0_3, hostOps0_4, List.drop, List.cons_append, List.nil_append]
  entry_read
  rw [laid_positions]
  unfold rowPos freq
  pointwise

theorem angles (i : Fin 4224) (j : Fin 32) :
    ((signed m c (Proc.devRef .tc main_v55) : FVec Ideal S4224x32 .f32) (ix2 i j) : EReal) = rowPos i * freq j.val := by
  unfold signed
  simp only [hostOps0, hostOps0_1, hostOps0_2, hostOps0_3, List.drop, List.cons_append, List.nil_append]
  entry_read
  rw [laid_positions]
  unfold rowPos freq
  pointwise

theorem sin_entry (i : Fin 4224) (l : Fin 128) : ((V m c main_v72 : FVec Ideal S4224x128 .f32) (ix2 i l) : EReal)
    = Ideal.sin (rowPos i * freq (l.val % 32))
      * if l.val % 64 < 32 then Ideal.ofBits .f32 0xBF800000#32 else Ideal.ofBits .f32 0x3F800000#32 := by
  rw [V_signed]
  simp only [hostOps0_4]
  entry_read
  rw [signs]
  have h := angles m c i ⟨l.val % 32, Nat.mod_lt _ (by norm_num)⟩
  generalize signed m c (Proc.devRef .tc main_v55) = A at h ⊢
  pointwise
  rw [h, lane_sign]
  split_ifs <;> rfl

end Cert.Proof.ProjTables

end
-- ==== Proof.MixBody.lean ====
/-
  The mix call, on extended reals: what the body leaves in its three output buffers, on a block of token rows and on the last
  block, and the body's triple in both cases.
-/
module

public import proofs.«01_k».proof.Proof.Gen.Kernel4Ideal.Frame
public import proofs.«01_k».proof.Proof.Gen.Kernel4Ideal.Skeleton
public import Idealize.ShloMosaic.Lib.Exec

@[expose] public section

set_option maxRecDepth 16384

noncomputable section

namespace Cert.Proof.MixBody

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The rectangles the body reads and writes -/

abbrev rBlock : Rect S1x512x1024 := Rect.unit (s := S1x512x1024) ![0, 0, 0] S1x512x1024.size inb_S1x512x1024_S1x512x1024_0_0_0
abbrev rHead : Rect S1x512x1024 := Rect.unit (s := S1x512x1024) ![0, 0, 0] S1x128x1024.size inb_S1x512x1024_S1x128x1024_0_0_0
abbrev rMeta : Rect S128x1024 := Rect.unit (s := S128x1024) ![0, 0] S128x1024.size inb_S128x1024_S128x1024_0_0
abbrev rLast : Rect S1x16x1024 := Rect.unit (s := S1x16x1024) ![0, 15, 0] S1x1x1024.size inb_S1x16x1024_S1x1x1024_0_15_0
abbrev rFirst : Rect S1x16x1024 := Rect.unit (s := S1x16x1024) ![0, 0, 0] S1x1x1024.size inb_S1x16x1024_S1x1x1024_0_0_0
abbrev rTap0 : Rect S3x1024 := Rect.unit (s := S3x1024) ![0, 0] S1x1024.size inb_S3x1024_S1x1024_0_0
abbrev rTap1 : Rect S3x1024 := Rect.unit (s := S3x1024) ![1, 0] S1x1024.size inb_S3x1024_S1x1024_1_0
abbrev rTap2 : Rect S3x1024 := Rect.unit (s := S3x1024) ![2, 0] S1x1024.size inb_S3x1024_S1x1024_2_0
abbrev rGain : Rect S1x1024 := Rect.unit (s := S1x1024) ![0, 0] S1x1024.size inb_S1x1024_S1x1024_0_0
abbrev rMat : Rect S1024x1024 := Rect.unit (s := S1024x1024) ![0, 0] S1024x1024.size inb_S1024x1024_S1024x1024_0_0
abbrev rRouter : Rect S16x1024 := Rect.unit (s := S16x1024) ![0, 0] S16x1024.size inb_S16x1024_S16x1024_0_0
abbrev rAff : Rect S1x16x512 := Rect.unit (s := S1x16x512) ![0, 0, 0] S1x16x512.size inb_S1x16x512_S1x16x512_0_0_0
abbrev rAffHead : Rect S1x16x512 := Rect.unit (s := S1x16x512) ![0, 0, 0] S1x16x128.size inb_S1x16x512_S1x16x128_0_0_0

/-! ## A block of token rows -/

/-- The residual stream of the 512 rows of a block, from the blocks the body loads. -/
def rowsSum (x0 : Vec F S1x512x1024 .f32) (x2 : Vec F S1x512x1024 .bf16) (x3 : Vec F S1x512x1024 .bf16) (x4 : Vec F S1x512x1024 .bf16) (x5 : Vec F S1x16x1024 .bf16) (x6 : Vec F S1x16x1024 .bf16) (x7 : Vec F S1x512x1024 .bf16) (x8 : Vec F S1x512x1024 .bf16) (x9 : Vec F S3x1024 .f32) (x11 : Vec F S1024x1024 .bf16) (x12 : Vec F S1024x1024 .bf16) (x13 : Vec F S1024x1024 .bf16) : FVec F S512x1024 .f32 :=
  k0_pay13 (k0_pay7 (View.ld x0 rBlock)) (k0_pay8 (View.ld x2 rBlock) (View.ld x11 rMat)) (k0_pay9 (View.ld x4 rBlock))
    (k0_pay10 (View.ld x4 rBlock) (View.ld x5 rLast)) (k0_pay11 (View.ld x4 rBlock) (View.ld x6 rFirst)) (k0_pay12 (View.ld x9 rTap0))
    (View.ld x9 rTap1) (View.ld x9 rTap2) (View.ld x3 rBlock) (View.ld x12 rMat) (View.ld x7 rBlock) (View.ld x8 rBlock) (View.ld x13 rMat)

/-- Its squares. -/
def rowsSq (x0 : Vec F S1x512x1024 .f32) (x2 : Vec F S1x512x1024 .bf16) (x3 : Vec F S1x512x1024 .bf16) (x4 : Vec F S1x512x1024 .bf16) (x5 : Vec F S1x16x1024 .bf16) (x6 : Vec F S1x16x1024 .bf16) (x7 : Vec F S1x512x1024 .bf16) (x8 : Vec F S1x512x1024 .bf16) (x9 : Vec F S3x1024 .f32) (x11 : Vec F S1024x1024 .bf16) (x12 : Vec F S1024x1024 .bf16) (x13 : Vec F S1024x1024 .bf16) : FVec F S512x1024 .f32 :=
  k0_pay15 (k0_pay7 (View.ld x0 rBlock)) (k0_pay8 (View.ld x2 rBlock) (View.ld x11 rMat)) (k0_pay9 (View.ld x4 rBlock))
    (k0_pay10 (View.ld x4 rBlock) (View.ld x5 rLast)) (k0_pay11 (View.ld x4 rBlock) (View.ld x6 rFirst)) (k0_pay12 (View.ld x9 rTap0))
    (View.ld x9 rTap1) (View.ld x9 rTap2) (View.ld x3 rBlock) (View.ld x12 rMat) (View.ld x7 rBlock) (View.ld x8 rBlock) (View.ld x13 rMat)

/-- What the body stores of it. -/
def rowsX1 (x0 : Vec F S1x512x1024 .f32) (x2 : Vec F S1x512x1024 .bf16) (x3 : Vec F S1x512x1024 .bf16) (x4 : Vec F S1x512x1024 .bf16) (x5 : Vec F S1x16x1024 .bf16) (x6 : Vec F S1x16x1024 .bf16) (x7 : Vec F S1x512x1024 .bf16) (x8 : Vec F S1x512x1024 .bf16) (x9 : Vec F S3x1024 .f32) (x11 : Vec F S1024x1024 .bf16) (x12 : Vec F S1024x1024 .bf16) (x13 : Vec F S1024x1024 .bf16) : FVec F S1x512x1024 .f32 :=
  k0_pay14 (k0_pay7 (View.ld x0 rBlock)) (k0_pay8 (View.ld x2 rBlock) (View.ld x11 rMat)) (k0_pay9 (View.ld x4 rBlock))
    (k0_pay10 (View.ld x4 rBlock) (View.ld x5 rLast)) (k0_pay11 (View.ld x4 rBlock) (View.ld x6 rFirst)) (k0_pay12 (View.ld x9 rTap0))
    (View.ld x9 rTap1) (View.ld x9 rTap2) (View.ld x3 rBlock) (View.ld x12 rMat) (View.ld x7 rBlock) (View.ld x8 rBlock) (View.ld x13 rMat)

/-- The normalised rows the body stores. -/
def rowsH (x0 : Vec F S1x512x1024 .f32) (x2 : Vec F S1x512x1024 .bf16) (x3 : Vec F S1x512x1024 .bf16) (x4 : Vec F S1x512x1024 .bf16) (x5 : Vec F S1x16x1024 .bf16) (x6 : Vec F S1x16x1024 .bf16) (x7 : Vec F S1x512x1024 .bf16) (x8 : Vec F S1x512x1024 .bf16) (x9 : Vec F S3x1024 .f32) (x11 : Vec F S1024x1024 .bf16) (x12 : Vec F S1024x1024 .bf16) (x13 : Vec F S1024x1024 .bf16) (x10 : Vec F S1x1024 .f32) : FVec F S1x512x1024 .bf16 :=
  k0_pay2 (rowsSum x0 x2 x3 x4 x5 x6 x7 x8 x9 x11 x12 x13) (rowsSq x0 x2 x3 x4 x5 x6 x7 x8 x9 x11 x12 x13) (View.ld x10 rGain)

/-- The affinities the body stores. -/
def rowsAff (x0 : Vec F S1x512x1024 .f32) (x2 : Vec F S1x512x1024 .bf16) (x3 : Vec F S1x512x1024 .bf16) (x4 : Vec F S1x512x1024 .bf16) (x5 : Vec F S1x16x1024 .bf16) (x6 : Vec F S1x16x1024 .bf16) (x7 : Vec F S1x512x1024 .bf16) (x8 : Vec F S1x512x1024 .bf16) (x9 : Vec F S3x1024 .f32) (x11 : Vec F S1024x1024 .bf16) (x12 : Vec F S1024x1024 .bf16) (x13 : Vec F S1024x1024 .bf16) (x10 : Vec F S1x1024 .f32) (x14 : Vec F S16x1024 .bf16) : FVec F S1x16x512 .f32 :=
  k0_pay3 (rowsSum x0 x2 x3 x4 x5 x6 x7 x8 x9 x11 x12 x13) (rowsSq x0 x2 x3 x4 x5 x6 x7 x8 x9 x11 x12 x13) (View.ld x10 rGain) (View.ld x14 rRouter)

/-! ## The last block, of which the arrays hold 128 rows -/

/-- The residual stream of the 128 rows of the last block, from the first 128 rows of the blocks the body loads. -/
def metaSum (x1 : Vec F S128x1024 .f32) (x2 : Vec F S1x128x1024 .bf16) (x3 : Vec F S1x128x1024 .bf16) (x4 : Vec F S1x128x1024 .bf16) (x5 : Vec F S1x16x1024 .bf16) (x6 : Vec F S1x16x1024 .bf16) (x7 : Vec F S1x128x1024 .bf16) (x8 : Vec F S1x128x1024 .bf16) (x9 : Vec F S3x1024 .f32) (x11 : Vec F S1024x1024 .bf16) (x12 : Vec F S1024x1024 .bf16) (x13 : Vec F S1024x1024 .bf16) : FVec F S128x1024 .f32 :=
  k0_pay21 (k0_pay16 (View.ld x1 rMeta)) (k0_pay17 x2 (View.ld x11 rMat)) (k0_pay18 x4)
    (k0_pay19 x4 (View.ld x6 rFirst)) (k0_pay20 x4 (View.ld x5 rLast) (View.ld x9 rTap0))
    (View.ld x9 rTap1) (View.ld x9 rTap2) x3 (View.ld x12 rMat) x7 x8 (View.ld x13 rMat)

/-- Its squares. -/
def metaSq (x1 : Vec F S128x1024 .f32) (x2 : Vec F S1x128x1024 .bf16) (x3 : Vec F S1x128x1024 .bf16) (x4 : Vec F S1x128x1024 .bf16) (x5 : Vec F S1x16x1024 .bf16) (x6 : Vec F S1x16x1024 .bf16) (x7 : Vec F S1x128x1024 .bf16) (x8 : Vec F S1x128x1024 .bf16) (x9 : Vec F S3x1024 .f32) (x11 : Vec F S1024x1024 .bf16) (x12 : Vec F S1024x1024 .bf16) (x13 : Vec F S1024x1024 .bf16) : FVec F S128x1024 .f32 :=
  k0_pay23 (k0_pay16 (View.ld x1 rMeta)) (k0_pay17 x2 (View.ld x11 rMat)) (k0_pay18 x4)
    (k0_pay19 x4 (View.ld x6 rFirst)) (k0_pay20 x4 (View.ld x5 rLast) (View.ld x9 rTap0))
    (View.ld x9 rTap1) (View.ld x9 rTap2) x3 (View.ld x12 rMat) x7 x8 (View.ld x13 rMat)

/-- What the body stores of it. -/
def metaX1 (x1 : Vec F S128x1024 .f32) (x2 : Vec F S1x128x1024 .bf16) (x3 : Vec F S1x128x1024 .bf16) (x4 : Vec F S1x128x1024 .bf16) (x5 : Vec F S1x16x1024 .bf16) (x6 : Vec F S1x16x1024 .bf16) (x7 : Vec F S1x128x1024 .bf16) (x8 : Vec F S1x128x1024 .bf16) (x9 : Vec F S3x1024 .f32) (x11 : Vec F S1024x1024 .bf16) (x12 : Vec F S1024x1024 .bf16) (x13 : Vec F S1024x1024 .bf16) : FVec F S1x128x1024 .f32 :=
  k0_pay22 (k0_pay16 (View.ld x1 rMeta)) (k0_pay17 x2 (View.ld x11 rMat)) (k0_pay18 x4)
    (k0_pay19 x4 (View.ld x6 rFirst)) (k0_pay20 x4 (View.ld x5 rLast) (View.ld x9 rTap0))
    (View.ld x9 rTap1) (View.ld x9 rTap2) x3 (View.ld x12 rMat) x7 x8 (View.ld x13 rMat)

/-- The normalised rows the body stores. -/
def metaH (x1 : Vec F S128x1024 .f32) (x2 : Vec F S1x128x1024 .bf16) (x3 : Vec F S1x128x1024 .bf16) (x4 : Vec F S1x128x1024 .bf16) (x5 : Vec F S1x16x1024 .bf16) (x6 : Vec F S1x16x1024 .bf16) (x7 : Vec F S1x128x1024 .bf16) (x8 : Vec F S1x128x1024 .bf16) (x9 : Vec F S3x1024 .f32) (x11 : Vec F S1024x1024 .bf16) (x12 : Vec F S1024x1024 .bf16) (x13 : Vec F S1024x1024 .bf16) (x10 : Vec F S1x1024 .f32) : FVec F S1x128x1024 .bf16 :=
  k0_pay5 (metaSum x1 x2 x3 x4 x5 x6 x7 x8 x9 x11 x12 x13) (metaSq x1 x2 x3 x4 x5 x6 x7 x8 x9 x11 x12 x13) (View.ld x10 rGain)

/-- The affinities the body stores. -/
def metaAff (x1 : Vec F S128x1024 .f32) (x2 : Vec F S1x128x1024 .bf16) (x3 : Vec F S1x128x1024 .bf16) (x4 : Vec F S1x128x1024 .bf16) (x5 : Vec F S1x16x1024 .bf16) (x6 : Vec F S1x16x1024 .bf16) (x7 : Vec F S1x128x1024 .bf16) (x8 : Vec F S1x128x1024 .bf16) (x9 : Vec F S3x1024 .f32) (x11 : Vec F S1024x1024 .bf16) (x12 : Vec F S1024x1024 .bf16) (x13 : Vec F S1024x1024 .bf16) (x10 : Vec F S1x1024 .f32) (x14 : Vec F S16x1024 .bf16) : FVec F S1x16x128 .f32 :=
  k0_pay6 (metaSum x1 x2 x3 x4 x5 x6 x7 x8 x9 x11 x12 x13) (metaSq x1 x2 x3 x4 x5 x6 x7 x8 x9 x11 x12 x13) (View.ld x10 rGain) (View.ld x14 rRouter)

/-! ## The body's triple -/

/-- One store leaves a buffer as it was with the stored rectangle replaced. -/
theorem read_store {sp : Space} {s : Shape} {e : EltTy} (v : View sig .tc sp s e) (f : v.ty.Contents (Elt F))
    (r : Rect s) (w : r.shape.Idx → Elt F e) :
    v.read (Elt F) (v.writes (Elt F) f [⟨r, w⟩]) = r.overlay (v.read (Elt F) f) w := by
  funext y
  by_cases h : y ∈ r.set
  · obtain ⟨x, rfl⟩ : ∃ x, r.emb x = y := r.exists_idx_of_mem h
    rw [View.read_writes_cons_emb, Rect.overlay_emb]
  · rw [View.writes_cons, View.read_slice_write_of_not_mem r _ _ _ (y := y) (by rwa [Rect.map_emb_univ]), Rect.overlay_of_not_mem _ _ _ h]
    rfl

set_option maxHeartbeats 1000000 in
/-- On a block of token rows the body leaves its inputs as they were and each output buffer replaced, whole, by what it computes from
    the inputs. -/
theorem sound_rows (c : Dev nD) (E : Set ℕ) (i : grid0.Coords) (arg2 : Memref sig .tc .vmem S1x512x1024 .f32) (harg2 : arg2.IsWhole) (arg3 : Memref sig .tc .vmem S128x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x16x1024 .bf16) (harg7 : arg7.IsWhole) (arg8 : Memref sig .tc .vmem S1x16x1024 .bf16) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S3x1024 .f32) (harg11 : arg11.IsWhole) (arg12 : Memref sig .tc .vmem S1x1024 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S16x1024 .bf16) (harg16 : arg16.IsWhole) (arg17 : Memref sig .tc .vmem S1x512x1024 .f32) (harg17 : arg17.IsWhole) (arg18 : Memref sig .tc .vmem S1x512x1024 .bf16) (harg18 : arg18.IsWhole) (arg19 : Memref sig .tc .vmem S1x16x512 .f32) (harg19 : arg19.IsWhole)
    (hc1 : k0_cond1 i = 1#1) (hc2 : k0_cond2 i = 0#1) (x0 : Vec F S1x512x1024 .f32) (x1 : Vec F S128x1024 .f32) (x2 : Vec F S1x512x1024 .bf16) (x3 : Vec F S1x512x1024 .bf16) (x4 : Vec F S1x512x1024 .bf16) (x5 : Vec F S1x16x1024 .bf16) (x6 : Vec F S1x16x1024 .bf16) (x7 : Vec F S1x512x1024 .bf16) (x8 : Vec F S1x512x1024 .bf16) (x9 : Vec F S3x1024 .f32) (x10 : Vec F S1x1024 .f32) (x11 : Vec F S1024x1024 .bf16) (x12 : Vec F S1024x1024 .bf16) (x13 : Vec F S1024x1024 .bf16) (x14 : Vec F S16x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare (rBlock.overlay d (rowsX1 x0 x2 x3 x4 x5 x6 x7 x8 x9 x11 x12 x13))) ∗ (∃ d, owns (c : Thread nD τ) arg18 fullShare (rBlock.overlay d (rowsH x0 x2 x3 x4 x5 x6 x7 x8 x9 x11 x12 x13 x10))) ∗ (∃ d, owns (c : Thread nD τ) arg19 fullShare (rAff.overlay d (rowsAff x0 x2 x3 x4 x5 x6 x7 x8 x9 x11 x12 x13 x10 x14)))) -∗ K ⟨⟩))
      ⊢ wp frame (wpE (defs₀ (F := F)) Variants.none c none) E (cc0_mix_stage i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  have hn : ¬ k0_cond2 i = 1#1 := by rw [hc2]; decide
  simp only [cc0_mix_stage_eq_skeleton]; unfold cc0_mix_stage_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _, _; isplitr
    swap; · iexact H15
    ipureintro; exact read_store _ _ _ _
  isplitl [H16]
  · iexists _, _; isplitr
    swap; · iexact H16
    ipureintro; exact read_store _ _ _ _
  iexists _, _; isplitr
  swap; · iexact H17
  ipureintro; exact read_store _ _ _ _

set_option maxHeartbeats 1000000 in
/-- On the last block the body leaves its inputs as they were and each output buffer replaced, in its first 128 rows, by what it computes from
    the inputs. -/
theorem sound_meta (c : Dev nD) (E : Set ℕ) (i : grid0.Coords) (arg2 : Memref sig .tc .vmem S1x512x1024 .f32) (harg2 : arg2.IsWhole) (arg3 : Memref sig .tc .vmem S128x1024 .f32) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x16x1024 .bf16) (harg7 : arg7.IsWhole) (arg8 : Memref sig .tc .vmem S1x16x1024 .bf16) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S3x1024 .f32) (harg11 : arg11.IsWhole) (arg12 : Memref sig .tc .vmem S1x1024 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S16x1024 .bf16) (harg16 : arg16.IsWhole) (arg17 : Memref sig .tc .vmem S1x512x1024 .f32) (harg17 : arg17.IsWhole) (arg18 : Memref sig .tc .vmem S1x512x1024 .bf16) (harg18 : arg18.IsWhole) (arg19 : Memref sig .tc .vmem S1x16x512 .f32) (harg19 : arg19.IsWhole)
    (hc1 : k0_cond1 i = 0#1) (hc2 : k0_cond2 i = 1#1) (x0 : Vec F S1x512x1024 .f32) (x1 : Vec F S128x1024 .f32) (x2 : Vec F S1x512x1024 .bf16) (x3 : Vec F S1x512x1024 .bf16) (x4 : Vec F S1x512x1024 .bf16) (x5 : Vec F S1x16x1024 .bf16) (x6 : Vec F S1x16x1024 .bf16) (x7 : Vec F S1x512x1024 .bf16) (x8 : Vec F S1x512x1024 .bf16) (x9 : Vec F S3x1024 .f32) (x10 : Vec F S1x1024 .f32) (x11 : Vec F S1024x1024 .bf16) (x12 : Vec F S1024x1024 .bf16) (x13 : Vec F S1024x1024 .bf16) (x14 : Vec F S16x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare (rHead.overlay d (metaX1 x1 (View.ld x2 rHead) (View.ld x3 rHead) (View.ld x4 rHead) x5 x6 (View.ld x7 rHead) (View.ld x8 rHead) x9 x11 x12 x13))) ∗ (∃ d, owns (c : Thread nD τ) arg18 fullShare (rHead.overlay d (metaH x1 (View.ld x2 rHead) (View.ld x3 rHead) (View.ld x4 rHead) x5 x6 (View.ld x7 rHead) (View.ld x8 rHead) x9 x11 x12 x13 x10))) ∗ (∃ d, owns (c : Thread nD τ) arg19 fullShare (rAffHead.overlay d (metaAff x1 (View.ld x2 rHead) (View.ld x3 rHead) (View.ld x4 rHead) x5 x6 (View.ld x7 rHead) (View.ld x8 rHead) x9 x11 x12 x13 x10 x14)))) -∗ K ⟨⟩))
      ⊢ wp frame (wpE (defs₀ (F := F)) Variants.none c none) E (cc0_mix_stage i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  have hn : ¬ k0_cond1 i = 1#1 := by rw [hc1]; decide
  simp only [cc0_mix_stage_eq_skeleton]; unfold cc0_mix_stage_skel
  simp only [k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _, _; isplitr
    swap; · iexact H15
    ipureintro; exact read_store _ _ _ _
  isplitl [H16]
  · iexists _, _; isplitr
    swap; · iexact H16
    ipureintro; exact read_store _ _ _ _
  iexists _, _; isplitr
  swap; · iexact H17
  ipureintro; exact read_store _ _ _ _

end Cert.Proof.MixBody

end
-- ==== Proof.MixBlock.lean ====
/-
  The mix call, one block at a time: what the body's operations compute from the blocks it loads.
-/
module

public import proofs.«01_k».proof.Proof.MixBody
public import proofs.«01_k».proof.Proof.MixSpec
public import Idealize.ShloMosaic.Lib.Pointwise
public import Idealize.ShloMosaic.Lib.ValueIdx
public import Idealize.ShloMosaic.Lib.WordCmp

@[expose] public section

set_option maxRecDepth 16384

noncomputable section

open Idealize.ShloMosaic

namespace Cert.Proof.MixBlock

open Cert.Kernel4Ideal Cert.Kernel4Ideal.Gen Cert.Proof.MixSpec Cert.Proof.MixBody

/-- A choice by whether the word of a number below 512 is that of another such number. -/
theorem select_eq {α : Type} (a b : ℕ) (x y : α) (ha : a < 512) (hb : b < 512) :
    Scalar.select (IntOp.cmpi CmpIPredicate.eq (BitVec.ofNat 32 a) (BitVec.ofNat 32 b)) x y = if a = b then x else y := by
  rw [WordCmp.cmpi_eq_ofNat (by omega) (by omega)]
  by_cases h : a = b <;> simp [h, Scalar.select]

/-- Of a block `s` of `n` rows the row before row `r`: before the first row, `h`. -/
def rowBefore {n : ℕ} (s : Fin n → Fin 1024 → EReal) (h : Fin 1024 → EReal) (r : Fin n) (k : Fin 1024) : EReal :=
  if r.val = 0 then h k else s ⟨r.val - 1, by have := r.isLt; omega⟩ k
/-- The row after row `r`: after the last row, `h`. -/
def rowAfter {n : ℕ} (s : Fin n → Fin 1024 → EReal) (h : Fin 1024 → EReal) (r : Fin n) (k : Fin 1024) : EReal :=
  if hr : r.val + 1 < n then s ⟨r.val + 1, hr⟩ k else h k

theorem hz3 : (![0, 0, 0] : Fin 3 → Nat) = fun _ => 0 := funext fun a => by fin_cases a <;> rfl
theorem hz2 : (![0, 0] : Fin 2 → Nat) = fun _ => 0 := funext fun a => by fin_cases a <;> rfl

/-! ## A block of token rows -/

theorem before_rows (v : Vec Ideal S1x512x1024 .bf16) (h : Vec Ideal S1x1x1024 .bf16) (r : Fin 512) (k : Fin 1024) :
    k0_pay10 (F := Ideal) v h (ix2 r k) = rowBefore (fun r k => v (ix3 0 r k)) (fun k => h (ix3 0 0 k)) r k := by
  have hr := r.isLt
  unfold rowBefore
  pointwise [k0_pay10, k0_pay9]
  rw [select_eq _ 0 _ _ (by omega) (by omega)]
  split
  · rfl
  · congr 2; apply Fin.ext; show (r.val + 512 - 1) % 512 = r.val - 1; omega

theorem after_rows (v : Vec Ideal S1x512x1024 .bf16) (h : Vec Ideal S1x1x1024 .bf16) (r : Fin 512) (k : Fin 1024) :
    k0_pay11 (F := Ideal) v h (ix2 r k) = rowAfter (fun r k => v (ix3 0 r k)) (fun k => h (ix3 0 0 k)) r k := by
  have hr := r.isLt
  unfold rowAfter
  pointwise [k0_pay11, k0_pay9]
  rw [select_eq _ 511 _ _ (by omega) (by omega)]
  by_cases h : r.val = 511
  · rw [if_pos h, dif_neg (by omega)]
  · rw [if_neg h, dif_pos (by omega)]
    congr 2; apply Fin.ext; show (r.val + 512 - 511) % 512 = r.val + 1; omega

/-- The residual stream of the block, row by row. -/
def stream_rows (x0 : Vec Ideal S1x512x1024 .f32) (x2 x3 x4 : Vec Ideal S1x512x1024 .bf16) (x5 x6 : Vec Ideal S1x16x1024 .bf16) (x7 x8 : Vec Ideal S1x512x1024 .bf16) (x9 : Vec Ideal S3x1024 .f32) (x11 x12 x13 : Vec Ideal S1024x1024 .bf16) (r : Fin 512) : Fin 1024 → EReal :=
  stream (fun k => x0 (ix3 0 r k)) (fun k => x2 (ix3 0 r k)) (fun k => x3 (ix3 0 r k))
    (rowBefore (fun r k => x4 (ix3 0 r k)) (fun k => x5 (ix3 0 15 k)) r) (fun k => x4 (ix3 0 r k))
    (rowAfter (fun r k => x4 (ix3 0 r k)) (fun k => x6 (ix3 0 0 k)) r) (fun k => x7 (ix3 0 r k)) (fun k => x8 (ix3 0 r k))
    (fun i k => x9 (ix2 i k)) (fun k q => x11 (ix2 k q)) (fun k q => x12 (ix2 k q)) (fun k q => x13 (ix2 k q))

theorem sum_rows (x0 : Vec Ideal S1x512x1024 .f32) (x2 x3 x4 : Vec Ideal S1x512x1024 .bf16) (x5 x6 : Vec Ideal S1x16x1024 .bf16) (x7 x8 : Vec Ideal S1x512x1024 .bf16) (x9 : Vec Ideal S3x1024 .f32) (x11 x12 x13 : Vec Ideal S1024x1024 .bf16) (r : Fin 512) (l : Fin 1024) :
    rowsSum (F := Ideal) x0 x2 x3 x4 x5 x6 x7 x8 x9 x11 x12 x13 (ix2 r l) = stream_rows x0 x2 x3 x4 x5 x6 x7 x8 x9 x11 x12 x13 r l := by
  unfold stream_rows stream convolved rowsSum
  pointwise [k0_pay13, k0_pay7, k0_pay8, k0_pay9, before_rows, after_rows, k0_pay12]

/-- What the body stores of it, -/
theorem x1_rows (x0 : Vec Ideal S1x512x1024 .f32) (x2 x3 x4 : Vec Ideal S1x512x1024 .bf16) (x5 x6 : Vec Ideal S1x16x1024 .bf16) (x7 x8 : Vec Ideal S1x512x1024 .bf16) (x9 : Vec Ideal S3x1024 .f32) (x11 x12 x13 : Vec Ideal S1024x1024 .bf16) (z : Fin 1) (r : Fin 512) (l : Fin 1024) :
    rowsX1 (F := Ideal) x0 x2 x3 x4 x5 x6 x7 x8 x9 x11 x12 x13 (ix3 z r l) = stream_rows x0 x2 x3 x4 x5 x6 x7 x8 x9 x11 x12 x13 r l := by
  rw [← sum_rows]
  unfold rowsX1 rowsSum
  pointwise [k0_pay14]

theorem sq_rows (x0 : Vec Ideal S1x512x1024 .f32) (x2 x3 x4 : Vec Ideal S1x512x1024 .bf16) (x5 x6 : Vec Ideal S1x16x1024 .bf16) (x7 x8 : Vec Ideal S1x512x1024 .bf16) (x9 : Vec Ideal S3x1024 .f32) (x11 x12 x13 : Vec Ideal S1024x1024 .bf16) (r : Fin 512) (l : Fin 1024) :
    rowsSq (F := Ideal) x0 x2 x3 x4 x5 x6 x7 x8 x9 x11 x12 x13 (ix2 r l) = stream_rows x0 x2 x3 x4 x5 x6 x7 x8 x9 x11 x12 x13 r l * stream_rows x0 x2 x3 x4 x5 x6 x7 x8 x9 x11 x12 x13 r l := by
  rw [← sum_rows]
  unfold rowsSq rowsSum
  pointwise [k0_pay15]

theorem pay_rows (x0 : Vec Ideal S1x512x1024 .f32) (x2 x3 x4 : Vec Ideal S1x512x1024 .bf16) (x5 x6 : Vec Ideal S1x16x1024 .bf16) (x7 x8 : Vec Ideal S1x512x1024 .bf16) (x9 : Vec Ideal S3x1024 .f32) (x11 x12 x13 : Vec Ideal S1024x1024 .bf16) (x10 : Vec Ideal S1x1024 .f32) (r : Fin 512) (l : Fin 1024) :
    k0_pay1 (F := Ideal) (rowsSum x0 x2 x3 x4 x5 x6 x7 x8 x9 x11 x12 x13) (rowsSq x0 x2 x3 x4 x5 x6 x7 x8 x9 x11 x12 x13) (View.ld x10 rGain) (ix2 r l)
      = normed (stream_rows x0 x2 x3 x4 x5 x6 x7 x8 x9 x11 x12 x13 r) (fun k => x10 (ix2 0 k)) l := by
  unfold normed
  pointwise [k0_pay1, sum_rows, sq_rows]

/-- the norm of it that the body stores, -/
theorem h_rows (x0 : Vec Ideal S1x512x1024 .f32) (x2 x3 x4 : Vec Ideal S1x512x1024 .bf16) (x5 x6 : Vec Ideal S1x16x1024 .bf16) (x7 x8 : Vec Ideal S1x512x1024 .bf16) (x9 : Vec Ideal S3x1024 .f32) (x11 x12 x13 : Vec Ideal S1024x1024 .bf16) (x10 : Vec Ideal S1x1024 .f32) (z : Fin 1) (r : Fin 512) (l : Fin 1024) :
    rowsH (F := Ideal) x0 x2 x3 x4 x5 x6 x7 x8 x9 x11 x12 x13 x10 (ix3 z r l) = normed (stream_rows x0 x2 x3 x4 x5 x6 x7 x8 x9 x11 x12 x13 r) (fun k => x10 (ix2 0 k)) l := by
  rw [← pay_rows]
  unfold rowsH
  pointwise [k0_pay2]

/-- and the affinities of the norm. -/
theorem aff_rows (x0 : Vec Ideal S1x512x1024 .f32) (x2 x3 x4 : Vec Ideal S1x512x1024 .bf16) (x5 x6 : Vec Ideal S1x16x1024 .bf16) (x7 x8 : Vec Ideal S1x512x1024 .bf16) (x9 : Vec Ideal S3x1024 .f32) (x11 x12 x13 : Vec Ideal S1024x1024 .bf16) (x10 : Vec Ideal S1x1024 .f32) (x14 : Vec Ideal S16x1024 .bf16) (z : Fin 1) (e : Fin 16) (r : Fin 512) :
    rowsAff (F := Ideal) x0 x2 x3 x4 x5 x6 x7 x8 x9 x11 x12 x13 x10 x14 (ix3 z e r)
      = affinity (normed (stream_rows x0 x2 x3 x4 x5 x6 x7 x8 x9 x11 x12 x13 r) (fun k => x10 (ix2 0 k))) (fun k f => x14 (ix2 f k)) e := by
  unfold affinity softmax
  simp only [← pay_rows]
  unfold rowsAff
  pointwise [k0_pay3]
  simp only [ofBits_neg_inf]

/-! ## The last block -/

theorem before_meta (v : Vec Ideal S1x128x1024 .bf16) (h : Vec Ideal S1x1x1024 .bf16) (w : Vec Ideal S1x1024 .f32) (r : Fin 128) (k : Fin 1024) :
    k0_pay20 (F := Ideal) v h w (ix2 r k)
      = w (ix2 0 k) * rowBefore (fun r k => v (ix3 0 r k)) (fun k => h (ix3 0 0 k)) r k := by
  have hr := r.isLt
  unfold rowBefore
  pointwise [k0_pay20, k0_pay18]
  rw [select_eq _ 0 _ _ (by omega) (by omega)]
  congr 1
  split
  · rfl
  · congr 2; apply Fin.ext; show (r.val + 128 - 1) % 128 = r.val - 1; omega

theorem after_meta (v : Vec Ideal S1x128x1024 .bf16) (h : Vec Ideal S1x1x1024 .bf16) (r : Fin 128) (k : Fin 1024) :
    k0_pay19 (F := Ideal) v h (ix2 r k) = rowAfter (fun r k => v (ix3 0 r k)) (fun k => h (ix3 0 0 k)) r k := by
  have hr := r.isLt
  unfold rowAfter
  pointwise [k0_pay19, k0_pay18]
  rw [select_eq _ 127 _ _ (by omega) (by omega)]
  by_cases h : r.val = 127
  · rw [if_pos h, dif_neg (by omega)]
  · rw [if_neg h, dif_pos (by omega)]
    congr 2; apply Fin.ext; show (r.val + 128 - 127) % 128 = r.val + 1; omega

/-- The residual stream of the block, row by row. -/
def stream_meta (x1 : Vec Ideal S128x1024 .f32) (x2 x3 x4 : Vec Ideal S1x128x1024 .bf16) (x5 x6 : Vec Ideal S1x16x1024 .bf16) (x7 x8 : Vec Ideal S1x128x1024 .bf16) (x9 : Vec Ideal S3x1024 .f32) (x11 x12 x13 : Vec Ideal S1024x1024 .bf16) (r : Fin 128) : Fin 1024 → EReal :=
  stream (fun k => x1 (ix2 r k)) (fun k => x2 (ix3 0 r k)) (fun k => x3 (ix3 0 r k))
    (rowBefore (fun r k => x4 (ix3 0 r k)) (fun k => x5 (ix3 0 15 k)) r) (fun k => x4 (ix3 0 r k))
    (rowAfter (fun r k => x4 (ix3 0 r k)) (fun k => x6 (ix3 0 0 k)) r) (fun k => x7 (ix3 0 r k)) (fun k => x8 (ix3 0 r k))
    (fun i k => x9 (ix2 i k)) (fun k q => x11 (ix2 k q)) (fun k q => x12 (ix2 k q)) (fun k q => x13 (ix2 k q))

theorem sum_meta (x1 : Vec Ideal S128x1024 .f32) (x2 x3 x4 : Vec Ideal S1x128x1024 .bf16) (x5 x6 : Vec Ideal S1x16x1024 .bf16) (x7 x8 : Vec Ideal S1x128x1024 .bf16) (x9 : Vec Ideal S3x1024 .f32) (x11 x12 x13 : Vec Ideal S1024x1024 .bf16) (r : Fin 128) (l : Fin 1024) :
    metaSum (F := Ideal) x1 x2 x3 x4 x5 x6 x7 x8 x9 x11 x12 x13 (ix2 r l) = stream_meta x1 x2 x3 x4 x5 x6 x7 x8 x9 x11 x12 x13 r l := by
  unfold stream_meta stream convolved metaSum
  pointwise [k0_pay21, k0_pay16, k0_pay17, k0_pay18, before_meta, after_meta]

/-- What the body stores of it, -/
theorem x1_meta (x1 : Vec Ideal S128x1024 .f32) (x2 x3 x4 : Vec Ideal S1x128x1024 .bf16) (x5 x6 : Vec Ideal S1x16x1024 .bf16) (x7 x8 : Vec Ideal S1x128x1024 .bf16) (x9 : Vec Ideal S3x1024 .f32) (x11 x12 x13 : Vec Ideal S1024x1024 .bf16) (z : Fin 1) (r : Fin 128) (l : Fin 1024) :
    metaX1 (F := Ideal) x1 x2 x3 x4 x5 x6 x7 x8 x9 x11 x12 x13 (ix3 z r l) = stream_meta x1 x2 x3 x4 x5 x6 x7 x8 x9 x11 x12 x13 r l := by
  rw [← sum_meta]
  unfold metaX1 metaSum
  pointwise [k0_pay22]

theorem sq_meta (x1 : Vec Ideal S128x1024 .f32) (x2 x3 x4 : Vec Ideal S1x128x1024 .bf16) (x5 x6 : Vec Ideal S1x16x1024 .bf16) (x7 x8 : Vec Ideal S1x128x1024 .bf16) (x9 : Vec Ideal S3x1024 .f32) (x11 x12 x13 : Vec Ideal S1024x1024 .bf16) (r : Fin 128) (l : Fin 1024) :
    metaSq (F := Ideal) x1 x2 x3 x4 x5 x6 x7 x8 x9 x11 x12 x13 (ix2 r l) = stream_meta x1 x2 x3 x4 x5 x6 x7 x8 x9 x11 x12 x13 r l * stream_meta x1 x2 x3 x4 x5 x6 x7 x8 x9 x11 x12 x13 r l := by
  rw [← sum_meta]
  unfold metaSq metaSum
  pointwise [k0_pay23]

theorem pay_meta (x1 : Vec Ideal S128x1024 .f32) (x2 x3 x4 : Vec Ideal S1x128x1024 .bf16) (x5 x6 : Vec Ideal S1x16x1024 .bf16) (x7 x8 : Vec Ideal S1x128x1024 .bf16) (x9 : Vec Ideal S3x1024 .f32) (x11 x12 x13 : Vec Ideal S1024x1024 .bf16) (x10 : Vec Ideal S1x1024 .f32) (r : Fin 128) (l : Fin 1024) :
    k0_pay4 (F := Ideal) (metaSum x1 x2 x3 x4 x5 x6 x7 x8 x9 x11 x12 x13) (metaSq x1 x2 x3 x4 x5 x6 x7 x8 x9 x11 x12 x13) (View.ld x10 rGain) (ix2 r l)
      = normed (stream_meta x1 x2 x3 x4 x5 x6 x7 x8 x9 x11 x12 x13 r) (fun k => x10 (ix2 0 k)) l := by
  unfold normed
  pointwise [k0_pay4, sum_meta, sq_meta]

/-- the norm of it that the body stores, -/
theorem h_meta (x1 : Vec Ideal S128x1024 .f32) (x2 x3 x4 : Vec Ideal S1x128x1024 .bf16) (x5 x6 : Vec Ideal S1x16x1024 .bf16) (x7 x8 : Vec Ideal S1x128x1024 .bf16) (x9 : Vec Ideal S3x1024 .f32) (x11 x12 x13 : Vec Ideal S1024x1024 .bf16) (x10 : Vec Ideal S1x1024 .f32) (z : Fin 1) (r : Fin 128) (l : Fin 1024) :
    metaH (F := Ideal) x1 x2 x3 x4 x5 x6 x7 x8 x9 x11 x12 x13 x10 (ix3 z r l) = normed (stream_meta x1 x2 x3 x4 x5 x6 x7 x8 x9 x11 x12 x13 r) (fun k => x10 (ix2 0 k)) l := by
  rw [← pay_meta]
  unfold metaH
  pointwise [k0_pay5]

/-- and the affinities of the norm. -/
theorem aff_meta (x1 : Vec Ideal S128x1024 .f32) (x2 x3 x4 : Vec Ideal S1x128x1024 .bf16) (x5 x6 : Vec Ideal S1x16x1024 .bf16) (x7 x8 : Vec Ideal S1x128x1024 .bf16) (x9 : Vec Ideal S3x1024 .f32) (x11 x12 x13 : Vec Ideal S1024x1024 .bf16) (x10 : Vec Ideal S1x1024 .f32) (x14 : Vec Ideal S16x1024 .bf16) (z : Fin 1) (e : Fin 16) (r : Fin 128) (hr : 112 ≤ r.val) :
    metaAff (F := Ideal) x1 x2 x3 x4 x5 x6 x7 x8 x9 x11 x12 x13 x10 x14 (ix3 z e r)
      = affinity (normed (stream_meta x1 x2 x3 x4 x5 x6 x7 x8 x9 x11 x12 x13 r) (fun k => x10 (ix2 0 k))) (fun k f => x14 (ix2 f k)) e := by
  unfold affinity softmax
  simp only [← pay_meta]
  unfold metaAff
  pointwise [k0_pay6]
  rw [WordCmp.cmpi_slt_ofNat (a := r.val) (b := 112) (by omega) (by omega), decide_eq_false (by omega)]
  simp only [ofBits_neg_inf]
  rfl

end Cert.Proof.MixBlock

end
-- ==== Proof.MixRun.lean ====
/-
  The mix call, on extended reals: the blocks each grid point reads and writes, the run of the whole grid, and that it leaves
  its arguments and semaphores as they were. Each sequence has nine blocks of 512 rows in an array of 4224 rows, so
  the last block lies inside the array in its first 128 rows.
-/
module

public import proofs.«01_k».proof.Proof.MixBody
public import proofs.«01_k».proof.Proof.Gen.Kernel4Ideal.Launch
public import Idealize.ShloMosaic.Lib.Pipeline.FrameBody
public import Idealize.ShloMosaic.Lib.Claim

@[expose] public section

set_option maxRecDepth 16384

noncomputable section

namespace Cert.Proof.MixRun

open Cert.Kernel4Ideal Cert.Kernel4Ideal.Gen Cert.Proof.MixBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the blocks lie in their arrays -/

theorem xsize_rows_2 : ∀ t : Fin cfg0.N, (grid0.coords t 1).val < 8 →
    ∀ a, win0_2.xsize (grid0.coords t) a = (S1x512x1024 : Shape).size a := by decide +kernel
theorem xsize_meta_2 : ∀ t : Fin cfg0.N, ¬ (grid0.coords t 1).val < 8 →
    ∀ a, win0_2.xsize (grid0.coords t) a = (S1x128x1024 : Shape).size a := by decide +kernel
theorem xsize_rows_3 : ∀ t : Fin cfg0.N, (grid0.coords t 1).val < 8 →
    ∀ a, win0_3.xsize (grid0.coords t) a = (S1x512x1024 : Shape).size a := by decide +kernel
theorem xsize_meta_3 : ∀ t : Fin cfg0.N, ¬ (grid0.coords t 1).val < 8 →
    ∀ a, win0_3.xsize (grid0.coords t) a = (S1x128x1024 : Shape).size a := by decide +kernel
theorem xsize_rows_4 : ∀ t : Fin cfg0.N, (grid0.coords t 1).val < 8 →
    ∀ a, win0_4.xsize (grid0.coords t) a = (S1x512x1024 : Shape).size a := by decide +kernel
theorem xsize_meta_4 : ∀ t : Fin cfg0.N, ¬ (grid0.coords t 1).val < 8 →
    ∀ a, win0_4.xsize (grid0.coords t) a = (S1x128x1024 : Shape).size a := by decide +kernel
theorem xsize_rows_7 : ∀ t : Fin cfg0.N, (grid0.coords t 1).val < 8 →
    ∀ a, win0_7.xsize (grid0.coords t) a = (S1x512x1024 : Shape).size a := by decide +kernel
theorem xsize_meta_7 : ∀ t : Fin cfg0.N, ¬ (grid0.coords t 1).val < 8 →
    ∀ a, win0_7.xsize (grid0.coords t) a = (S1x128x1024 : Shape).size a := by decide +kernel
theorem xsize_rows_8 : ∀ t : Fin cfg0.N, (grid0.coords t 1).val < 8 →
    ∀ a, win0_8.xsize (grid0.coords t) a = (S1x512x1024 : Shape).size a := by decide +kernel
theorem xsize_meta_8 : ∀ t : Fin cfg0.N, ¬ (grid0.coords t 1).val < 8 →
    ∀ a, win0_8.xsize (grid0.coords t) a = (S1x128x1024 : Shape).size a := by decide +kernel
theorem xsize_rows_15 : ∀ t : Fin cfg0.N, (grid0.coords t 1).val < 8 →
    ∀ a, win0_15.xsize (grid0.coords t) a = (S1x512x1024 : Shape).size a := by decide +kernel
theorem xsize_meta_15 : ∀ t : Fin cfg0.N, ¬ (grid0.coords t 1).val < 8 →
    ∀ a, win0_15.xsize (grid0.coords t) a = (S1x128x1024 : Shape).size a := by decide +kernel
theorem xsize_rows_16 : ∀ t : Fin cfg0.N, (grid0.coords t 1).val < 8 →
    ∀ a, win0_16.xsize (grid0.coords t) a = (S1x512x1024 : Shape).size a := by decide +kernel
theorem xsize_meta_16 : ∀ t : Fin cfg0.N, ¬ (grid0.coords t 1).val < 8 →
    ∀ a, win0_16.xsize (grid0.coords t) a = (S1x128x1024 : Shape).size a := by decide +kernel
theorem xsize_rows_17 : ∀ t : Fin cfg0.N, (grid0.coords t 1).val < 8 →
    ∀ a, win0_17.xsize (grid0.coords t) a = (S1x16x512 : Shape).size a := by decide +kernel
theorem xsize_meta_17 : ∀ t : Fin cfg0.N, ¬ (grid0.coords t 1).val < 8 →
    ∀ a, win0_17.xsize (grid0.coords t) a = (S1x16x128 : Shape).size a := by decide +kernel

/-- Which of its two cases the body takes at a point. -/
theorem cond_rows : ∀ t : Fin cfg0.N, (grid0.coords t 1).val < 8 →
    k0_cond1 (grid0.coords t) = 1#1 ∧ k0_cond2 (grid0.coords t) = 0#1 := by decide +kernel
theorem cond_meta : ∀ t : Fin cfg0.N, ¬ (grid0.coords t 1).val < 8 →
    k0_cond1 (grid0.coords t) = 0#1 ∧ k0_cond2 (grid0.coords t) = 1#1 := by decide +kernel

/-- An index below a rectangle's extents lies in the rectangle of those extents at the origin. -/
theorem mem_unit {s : Shape} {off size : Fin s.rank → ℕ} {inb : ∀ a, off a + size a ≤ s.size a} {j : s.Idx}
    (h : ∀ a, (j a).val < size a) (h0 : ∀ a, off a = 0 := by intro a; fin_cases a <;> rfl) :
    j ∈ (Rect.unit off size inb).set :=
  (Rect.mem_set_unit ..).mpr fun a => by have := h a; rw [h0 a]; omega

/-- On the stored rectangle it does not matter what was there before. -/
theorem overlay_eq {s : Shape} {α : Type} (r : Rect s) (X Y : s.Idx → α) (G : r.shape.Idx → α) {j : s.Idx} (h : j ∈ r.set) :
    r.overlay X G j = r.overlay Y G j := by
  obtain ⟨x, rfl⟩ : ∃ x, r.emb x = j := r.exists_idx_of_mem h
  rw [Rect.overlay_emb, Rect.overlay_emb]

/-- A block of token rows lies inside the array: a fetch of it fills the whole buffer. -/
theorem fill_rows_2 (t : Fin cfg0.N) (h : (grid0.coords t 1).val < 8) (d d' : Vec F S1x512x1024 .bf16) (g) :
    win0_2.fill (grid0.coords t) d g = win0_2.fill (grid0.coords t) d' g := by
  have hm : ∀ j, win0_2.moved (grid0.coords t) j = true := fun j =>
    (win0_2.moved_iff _ j).mpr fun a => by rw [xsize_rows_2 t h a]; exact (j a).isLt
  funext j; unfold Pipeline.Window.fill; rw [dif_pos (hm j), dif_pos (hm j)]
/-- Of the last block a fetch fills the first 128 rows. -/
theorem ld_meta_2 (t : Fin cfg0.N) (h : ¬ (grid0.coords t 1).val < 8) (d d' : Vec F S1x512x1024 .bf16) (g) :
    View.ld (win0_2.fill (grid0.coords t) d g) rHead = View.ld (win0_2.fill (grid0.coords t) d' g) rHead := by
  funext j
  have hm : win0_2.moved (grid0.coords t) (rHead.idx j) = true :=
    (win0_2.moved_iff _ _).mpr fun a => by
      rw [xsize_meta_2 t h a]
      have h1 := (j a).isLt
      match a with
      | ⟨0, _⟩ => change (j 0).val < 1 at h1; change 0 + 1 * (j 0).val < 1; omega
      | ⟨1, _⟩ => change (j 1).val < 128 at h1; change 0 + 1 * (j 1).val < 128; omega
      | ⟨2, _⟩ => change (j 2).val < 1024 at h1; change 0 + 1 * (j 2).val < 1024; omega
  show win0_2.fill _ d g (rHead.idx j) = win0_2.fill _ d' g (rHead.idx j)
  unfold Pipeline.Window.fill; rw [dif_pos hm, dif_pos hm]
/-- A block of token rows lies inside the array: a fetch of it fills the whole buffer. -/
theorem fill_rows_3 (t : Fin cfg0.N) (h : (grid0.coords t 1).val < 8) (d d' : Vec F S1x512x1024 .bf16) (g) :
    win0_3.fill (grid0.coords t) d g = win0_3.fill (grid0.coords t) d' g := by
  have hm : ∀ j, win0_3.moved (grid0.coords t) j = true := fun j =>
    (win0_3.moved_iff _ j).mpr fun a => by rw [xsize_rows_3 t h a]; exact (j a).isLt
  funext j; unfold Pipeline.Window.fill; rw [dif_pos (hm j), dif_pos (hm j)]
/-- Of the last block a fetch fills the first 128 rows. -/
theorem ld_meta_3 (t : Fin cfg0.N) (h : ¬ (grid0.coords t 1).val < 8) (d d' : Vec F S1x512x1024 .bf16) (g) :
    View.ld (win0_3.fill (grid0.coords t) d g) rHead = View.ld (win0_3.fill (grid0.coords t) d' g) rHead := by
  funext j
  have hm : win0_3.moved (grid0.coords t) (rHead.idx j) = true :=
    (win0_3.moved_iff _ _).mpr fun a => by
      rw [xsize_meta_3 t h a]
      have h1 := (j a).isLt
      match a with
      | ⟨0, _⟩ => change (j 0).val < 1 at h1; change 0 + 1 * (j 0).val < 1; omega
      | ⟨1, _⟩ => change (j 1).val < 128 at h1; change 0 + 1 * (j 1).val < 128; omega
      | ⟨2, _⟩ => change (j 2).val < 1024 at h1; change 0 + 1 * (j 2).val < 1024; omega
  show win0_3.fill _ d g (rHead.idx j) = win0_3.fill _ d' g (rHead.idx j)
  unfold Pipeline.Window.fill; rw [dif_pos hm, dif_pos hm]
/-- A block of token rows lies inside the array: a fetch of it fills the whole buffer. -/
theorem fill_rows_4 (t : Fin cfg0.N) (h : (grid0.coords t 1).val < 8) (d d' : Vec F S1x512x1024 .bf16) (g) :
    win0_4.fill (grid0.coords t) d g = win0_4.fill (grid0.coords t) d' g := by
  have hm : ∀ j, win0_4.moved (grid0.coords t) j = true := fun j =>
    (win0_4.moved_iff _ j).mpr fun a => by rw [xsize_rows_4 t h a]; exact (j a).isLt
  funext j; unfold Pipeline.Window.fill; rw [dif_pos (hm j), dif_pos (hm j)]
/-- Of the last block a fetch fills the first 128 rows. -/
theorem ld_meta_4 (t : Fin cfg0.N) (h : ¬ (grid0.coords t 1).val < 8) (d d' : Vec F S1x512x1024 .bf16) (g) :
    View.ld (win0_4.fill (grid0.coords t) d g) rHead = View.ld (win0_4.fill (grid0.coords t) d' g) rHead := by
  funext j
  have hm : win0_4.moved (grid0.coords t) (rHead.idx j) = true :=
    (win0_4.moved_iff _ _).mpr fun a => by
      rw [xsize_meta_4 t h a]
      have h1 := (j a).isLt
      match a with
      | ⟨0, _⟩ => change (j 0).val < 1 at h1; change 0 + 1 * (j 0).val < 1; omega
      | ⟨1, _⟩ => change (j 1).val < 128 at h1; change 0 + 1 * (j 1).val < 128; omega
      | ⟨2, _⟩ => change (j 2).val < 1024 at h1; change 0 + 1 * (j 2).val < 1024; omega
  show win0_4.fill _ d g (rHead.idx j) = win0_4.fill _ d' g (rHead.idx j)
  unfold Pipeline.Window.fill; rw [dif_pos hm, dif_pos hm]
/-- A block of token rows lies inside the array: a fetch of it fills the whole buffer. -/
theorem fill_rows_7 (t : Fin cfg0.N) (h : (grid0.coords t 1).val < 8) (d d' : Vec F S1x512x1024 .bf16) (g) :
    win0_7.fill (grid0.coords t) d g = win0_7.fill (grid0.coords t) d' g := by
  have hm : ∀ j, win0_7.moved (grid0.coords t) j = true := fun j =>
    (win0_7.moved_iff _ j).mpr fun a => by rw [xsize_rows_7 t h a]; exact (j a).isLt
  funext j; unfold Pipeline.Window.fill; rw [dif_pos (hm j), dif_pos (hm j)]
/-- Of the last block a fetch fills the first 128 rows. -/
theorem ld_meta_7 (t : Fin cfg0.N) (h : ¬ (grid0.coords t 1).val < 8) (d d' : Vec F S1x512x1024 .bf16) (g) :
    View.ld (win0_7.fill (grid0.coords t) d g) rHead = View.ld (win0_7.fill (grid0.coords t) d' g) rHead := by
  funext j
  have hm : win0_7.moved (grid0.coords t) (rHead.idx j) = true :=
    (win0_7.moved_iff _ _).mpr fun a => by
      rw [xsize_meta_7 t h a]
      have h1 := (j a).isLt
      match a with
      | ⟨0, _⟩ => change (j 0).val < 1 at h1; change 0 + 1 * (j 0).val < 1; omega
      | ⟨1, _⟩ => change (j 1).val < 128 at h1; change 0 + 1 * (j 1).val < 128; omega
      | ⟨2, _⟩ => change (j 2).val < 1024 at h1; change 0 + 1 * (j 2).val < 1024; omega
  show win0_7.fill _ d g (rHead.idx j) = win0_7.fill _ d' g (rHead.idx j)
  unfold Pipeline.Window.fill; rw [dif_pos hm, dif_pos hm]
/-- A block of token rows lies inside the array: a fetch of it fills the whole buffer. -/
theorem fill_rows_8 (t : Fin cfg0.N) (h : (grid0.coords t 1).val < 8) (d d' : Vec F S1x512x1024 .bf16) (g) :
    win0_8.fill (grid0.coords t) d g = win0_8.fill (grid0.coords t) d' g := by
  have hm : ∀ j, win0_8.moved (grid0.coords t) j = true := fun j =>
    (win0_8.moved_iff _ j).mpr fun a => by rw [xsize_rows_8 t h a]; exact (j a).isLt
  funext j; unfold Pipeline.Window.fill; rw [dif_pos (hm j), dif_pos (hm j)]
/-- Of the last block a fetch fills the first 128 rows. -/
theorem ld_meta_8 (t : Fin cfg0.N) (h : ¬ (grid0.coords t 1).val < 8) (d d' : Vec F S1x512x1024 .bf16) (g) :
    View.ld (win0_8.fill (grid0.coords t) d g) rHead = View.ld (win0_8.fill (grid0.coords t) d' g) rHead := by
  funext j
  have hm : win0_8.moved (grid0.coords t) (rHead.idx j) = true :=
    (win0_8.moved_iff _ _).mpr fun a => by
      rw [xsize_meta_8 t h a]
      have h1 := (j a).isLt
      match a with
      | ⟨0, _⟩ => change (j 0).val < 1 at h1; change 0 + 1 * (j 0).val < 1; omega
      | ⟨1, _⟩ => change (j 1).val < 128 at h1; change 0 + 1 * (j 1).val < 128; omega
      | ⟨2, _⟩ => change (j 2).val < 1024 at h1; change 0 + 1 * (j 2).val < 1024; omega
  show win0_8.fill _ d g (rHead.idx j) = win0_8.fill _ d' g (rHead.idx j)
  unfold Pipeline.Window.fill; rw [dif_pos hm, dif_pos hm]

/-! ## What the buffers hold after each point -/

/-- What input window 2's buffer holds at point `t`: its part of the array, past the array's end the zero word. -/
def full2 (c : Dev nD) (t : Fin cfg0.N) : Vec F S1x512x1024 .bf16 :=
  win0_2.fill (grid0.coords t) (fun _ => Scalar.ofBits .bf16 0#16) (iblk m c 2 t)
/-- What input window 3's buffer holds at point `t`: its part of the array, past the array's end the zero word. -/
def full3 (c : Dev nD) (t : Fin cfg0.N) : Vec F S1x512x1024 .bf16 :=
  win0_3.fill (grid0.coords t) (fun _ => Scalar.ofBits .bf16 0#16) (iblk m c 3 t)
/-- What input window 4's buffer holds at point `t`: its part of the array, past the array's end the zero word. -/
def full4 (c : Dev nD) (t : Fin cfg0.N) : Vec F S1x512x1024 .bf16 :=
  win0_4.fill (grid0.coords t) (fun _ => Scalar.ofBits .bf16 0#16) (iblk m c 4 t)
/-- What input window 7's buffer holds at point `t`: its part of the array, past the array's end the zero word. -/
def full7 (c : Dev nD) (t : Fin cfg0.N) : Vec F S1x512x1024 .bf16 :=
  win0_7.fill (grid0.coords t) (fun _ => Scalar.ofBits .bf16 0#16) (iblk m c 7 t)
/-- What input window 8's buffer holds at point `t`: its part of the array, past the array's end the zero word. -/
def full8 (c : Dev nD) (t : Fin cfg0.N) : Vec F S1x512x1024 .bf16 :=
  win0_8.fill (grid0.coords t) (fun _ => Scalar.ofBits .bf16 0#16) (iblk m c 8 t)
/-- What the body leaves in output window 15's buffer at point `t`, on the rows inside the array. -/
def outX1 (c : Dev nD) (t : Fin cfg0.N) : Vec F S1x512x1024 .f32 :=
  if (grid0.coords t 1).val < 8 then
    rBlock.overlay (fun _ => Scalar.ofBits .f32 0#32) (rowsX1 (iblk m c 0 t) (full2 m c t) (full3 m c t) (full4 m c t) (iblk m c 5 t) (iblk m c 6 t) (full7 m c t) (full8 m c t) (iblk m c 9 t) (iblk m c 11 t) (iblk m c 12 t) (iblk m c 13 t))
  else
    rHead.overlay (fun _ => Scalar.ofBits .f32 0#32) (metaX1 (iblk m c 1 t) (View.ld (full2 m c t) rHead) (View.ld (full3 m c t) rHead) (View.ld (full4 m c t) rHead) (iblk m c 5 t) (iblk m c 6 t) (View.ld (full7 m c t) rHead) (View.ld (full8 m c t) rHead) (iblk m c 9 t) (iblk m c 11 t) (iblk m c 12 t) (iblk m c 13 t))
/-- What the body leaves in output window 16's buffer at point `t`, on the rows inside the array. -/
def outH (c : Dev nD) (t : Fin cfg0.N) : Vec F S1x512x1024 .bf16 :=
  if (grid0.coords t 1).val < 8 then
    rBlock.overlay (fun _ => Scalar.ofBits .bf16 0#16) (rowsH (iblk m c 0 t) (full2 m c t) (full3 m c t) (full4 m c t) (iblk m c 5 t) (iblk m c 6 t) (full7 m c t) (full8 m c t) (iblk m c 9 t) (iblk m c 11 t) (iblk m c 12 t) (iblk m c 13 t) (iblk m c 10 t))
  else
    rHead.overlay (fun _ => Scalar.ofBits .bf16 0#16) (metaH (iblk m c 1 t) (View.ld (full2 m c t) rHead) (View.ld (full3 m c t) rHead) (View.ld (full4 m c t) rHead) (iblk m c 5 t) (iblk m c 6 t) (View.ld (full7 m c t) rHead) (View.ld (full8 m c t) rHead) (iblk m c 9 t) (iblk m c 11 t) (iblk m c 12 t) (iblk m c 13 t) (iblk m c 10 t))
/-- What the body leaves in output window 17's buffer at point `t`, on the rows inside the array. -/
def outAff (c : Dev nD) (t : Fin cfg0.N) : Vec F S1x16x512 .f32 :=
  if (grid0.coords t 1).val < 8 then
    rAff.overlay (fun _ => Scalar.ofBits .f32 0#32) (rowsAff (iblk m c 0 t) (full2 m c t) (full3 m c t) (full4 m c t) (iblk m c 5 t) (iblk m c 6 t) (full7 m c t) (full8 m c t) (iblk m c 9 t) (iblk m c 11 t) (iblk m c 12 t) (iblk m c 13 t) (iblk m c 10 t) (iblk m c 14 t))
  else
    rAffHead.overlay (fun _ => Scalar.ofBits .f32 0#32) (metaAff (iblk m c 1 t) (View.ld (full2 m c t) rHead) (View.ld (full3 m c t) rHead) (View.ld (full4 m c t) rHead) (iblk m c 5 t) (iblk m c 6 t) (View.ld (full7 m c t) rHead) (View.ld (full8 m c t) rHead) (iblk m c 9 t) (iblk m c 11 t) (iblk m c 12 t) (iblk m c 13 t) (iblk m c 10 t) (iblk m c 14 t))

/-- The arrays as the call finds them, and what each buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => full2 m c t
    | ⟨3, _⟩ => full3 m c t
    | ⟨4, _⟩ => full4 m c t
    | ⟨5, _⟩ => iblk m c 5 t
    | ⟨6, _⟩ => iblk m c 6 t
    | ⟨7, _⟩ => full7 m c t
    | ⟨8, _⟩ => full8 m c t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outX1 m c t
    | ⟨16, _⟩ => outH m c t
    | ⟨17, _⟩ => outAff m c t
    | ⟨_ + 18, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = full2 m c t := by dsimp only [dats]
theorem after_3 (c : Dev nD) (t : Fin cfg0.N) : (dats m 0 c).after 3 t = full3 m c t := by dsimp only [dats]
theorem after_4 (c : Dev nD) (t : Fin cfg0.N) : (dats m 0 c).after 4 t = full4 m c t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = full7 m c t := by dsimp only [dats]
theorem after_8 (c : Dev nD) (t : Fin cfg0.N) : (dats m 0 c).after 8 t = full8 m c t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = outX1 m c t := by dsimp only [dats]
theorem after_16 (c : Dev nD) (t : Fin cfg0.N) : (dats m 0 c).after 16 t = outH m c t := by dsimp only [dats]
theorem after_17 (c : Dev nD) (t : Fin cfg0.N) : (dats m 0 c).after 17 t = outAff m c t := by dsimp only [dats]

/-! ## What the buffers hold before each point -/

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]
theorem before_3 (c : Dev nD) (t : Fin cfg0.N) (d) :
    (dats m 0 c).before 3 t d = win0_3.fill (grid0.coords t) d (iblk m c 3 t) := by
  unfold Dat.before; rw [if_pos (fetch0_3 t)]; unfold Dat.fetched Dat.blockOf iblk; rw [A_eq]
theorem before_4 (c : Dev nD) (t : Fin cfg0.N) (d) :
    (dats m 0 c).before 4 t d = win0_4.fill (grid0.coords t) d (iblk m c 4 t) := by
  unfold Dat.before; rw [if_pos (fetch0_4 t)]; unfold Dat.fetched Dat.blockOf iblk; rw [A_eq]
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) :
    (dats m 0 c).before 7 t d = win0_7.fill (grid0.coords t) d (iblk m c 7 t) := by
  unfold Dat.before; rw [if_pos (fetch0_7 t)]; unfold Dat.fetched Dat.blockOf iblk; rw [A_eq]
theorem before_8 (c : Dev nD) (t : Fin cfg0.N) (d) :
    (dats m 0 c).before 8 t d = win0_8.fill (grid0.coords t) d (iblk m c 8 t) := by
  unfold Dat.before; rw [if_pos (fetch0_8 t)]; unfold Dat.fetched Dat.blockOf iblk; rw [A_eq]
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d

theorem cut_full2 (c : Dev nD) (t : Fin cfg0.N) : win0_2.cut (grid0.coords t) (full2 m c t) = iblk m c 2 t :=
  win0_2.cut_fill _ _ _
theorem cut_full3 (c : Dev nD) (t : Fin cfg0.N) : win0_3.cut (grid0.coords t) (full3 m c t) = iblk m c 3 t :=
  win0_3.cut_fill _ _ _
theorem cut_full4 (c : Dev nD) (t : Fin cfg0.N) : win0_4.cut (grid0.coords t) (full4 m c t) = iblk m c 4 t :=
  win0_4.cut_fill _ _ _
theorem cut_full7 (c : Dev nD) (t : Fin cfg0.N) : win0_7.cut (grid0.coords t) (full7 m c t) = iblk m c 7 t :=
  win0_7.cut_fill _ _ _
theorem cut_full8 (c : Dev nD) (t : Fin cfg0.N) : win0_8.cut (grid0.coords t) (full8 m c t) = iblk m c 8 t :=
  win0_8.cut_fill _ _ _

/-- Output window 15: what the body hands back on a block of token rows is what the point is said to leave, -/
theorem fill_rows_15 (c : Dev nD) (t : Fin cfg0.N) (ht : (grid0.coords t 1).val < 8) (e : Vec F S1x512x1024 .f32) :
    win0_15.fill (grid0.coords t) (rBlock.overlay e (rowsX1 (iblk m c 0 t) (full2 m c t) (full3 m c t) (full4 m c t) (iblk m c 5 t) (iblk m c 6 t) (full7 m c t) (full8 m c t) (iblk m c 9 t) (iblk m c 11 t) (iblk m c 12 t) (iblk m c 13 t))) (win0_15.cut (grid0.coords t) (outX1 m c t))
      = rBlock.overlay e (rowsX1 (iblk m c 0 t) (full2 m c t) (full3 m c t) (full4 m c t) (iblk m c 5 t) (iblk m c 6 t) (full7 m c t) (full8 m c t) (iblk m c 9 t) (iblk m c 11 t) (iblk m c 12 t) (iblk m c 13 t)) := by
  refine win0_15.fill_congr_cut _ (funext fun j => ?_)
  unfold outX1; rw [if_pos ht]
  exact overlay_eq rBlock _ _ _ (mem_unit fun a => (win0_15.xinj (grid0.coords t) j a).isLt)
/-- and on the last block, whatever the input buffers hold past the array's end. -/
theorem fill_meta_15 (c : Dev nD) (t : Fin cfg0.N) (ht : ¬ (grid0.coords t 1).val < 8) (e : Vec F S1x512x1024 .f32)
    (d2 d3 d4 d7 d8 : Vec F S1x512x1024 .bf16) :
    win0_15.fill (grid0.coords t) (rHead.overlay e (metaX1 (iblk m c 1 t) (View.ld (win0_2.fill (grid0.coords t) d2 (iblk m c 2 t)) rHead) (View.ld (win0_3.fill (grid0.coords t) d3 (iblk m c 3 t)) rHead) (View.ld (win0_4.fill (grid0.coords t) d4 (iblk m c 4 t)) rHead) (iblk m c 5 t) (iblk m c 6 t) (View.ld (win0_7.fill (grid0.coords t) d7 (iblk m c 7 t)) rHead) (View.ld (win0_8.fill (grid0.coords t) d8 (iblk m c 8 t)) rHead) (iblk m c 9 t) (iblk m c 11 t) (iblk m c 12 t) (iblk m c 13 t))) (win0_15.cut (grid0.coords t) (outX1 m c t))
      = rHead.overlay e (metaX1 (iblk m c 1 t) (View.ld (win0_2.fill (grid0.coords t) d2 (iblk m c 2 t)) rHead) (View.ld (win0_3.fill (grid0.coords t) d3 (iblk m c 3 t)) rHead) (View.ld (win0_4.fill (grid0.coords t) d4 (iblk m c 4 t)) rHead) (iblk m c 5 t) (iblk m c 6 t) (View.ld (win0_7.fill (grid0.coords t) d7 (iblk m c 7 t)) rHead) (View.ld (win0_8.fill (grid0.coords t) d8 (iblk m c 8 t)) rHead) (iblk m c 9 t) (iblk m c 11 t) (iblk m c 12 t) (iblk m c 13 t)) := by
  rw [ld_meta_2 t ht d2 (fun _ => Scalar.ofBits .bf16 0#16), ld_meta_3 t ht d3 (fun _ => Scalar.ofBits .bf16 0#16), ld_meta_4 t ht d4 (fun _ => Scalar.ofBits .bf16 0#16), ld_meta_7 t ht d7 (fun _ => Scalar.ofBits .bf16 0#16), ld_meta_8 t ht d8 (fun _ => Scalar.ofBits .bf16 0#16)]
  refine win0_15.fill_congr_cut _ (funext fun j => ?_)
  unfold outX1; rw [if_neg ht]
  exact overlay_eq rHead _ _ _ (mem_unit fun a => (xsize_meta_15 t ht a) ▸ (j a).isLt)
/-- Output window 16: what the body hands back on a block of token rows is what the point is said to leave, -/
theorem fill_rows_16 (c : Dev nD) (t : Fin cfg0.N) (ht : (grid0.coords t 1).val < 8) (e : Vec F S1x512x1024 .bf16) :
    win0_16.fill (grid0.coords t) (rBlock.overlay e (rowsH (iblk m c 0 t) (full2 m c t) (full3 m c t) (full4 m c t) (iblk m c 5 t) (iblk m c 6 t) (full7 m c t) (full8 m c t) (iblk m c 9 t) (iblk m c 11 t) (iblk m c 12 t) (iblk m c 13 t) (iblk m c 10 t))) (win0_16.cut (grid0.coords t) (outH m c t))
      = rBlock.overlay e (rowsH (iblk m c 0 t) (full2 m c t) (full3 m c t) (full4 m c t) (iblk m c 5 t) (iblk m c 6 t) (full7 m c t) (full8 m c t) (iblk m c 9 t) (iblk m c 11 t) (iblk m c 12 t) (iblk m c 13 t) (iblk m c 10 t)) := by
  refine win0_16.fill_congr_cut _ (funext fun j => ?_)
  unfold outH; rw [if_pos ht]
  exact overlay_eq rBlock _ _ _ (mem_unit fun a => (win0_16.xinj (grid0.coords t) j a).isLt)
/-- and on the last block, whatever the input buffers hold past the array's end. -/
theorem fill_meta_16 (c : Dev nD) (t : Fin cfg0.N) (ht : ¬ (grid0.coords t 1).val < 8) (e : Vec F S1x512x1024 .bf16)
    (d2 d3 d4 d7 d8 : Vec F S1x512x1024 .bf16) :
    win0_16.fill (grid0.coords t) (rHead.overlay e (metaH (iblk m c 1 t) (View.ld (win0_2.fill (grid0.coords t) d2 (iblk m c 2 t)) rHead) (View.ld (win0_3.fill (grid0.coords t) d3 (iblk m c 3 t)) rHead) (View.ld (win0_4.fill (grid0.coords t) d4 (iblk m c 4 t)) rHead) (iblk m c 5 t) (iblk m c 6 t) (View.ld (win0_7.fill (grid0.coords t) d7 (iblk m c 7 t)) rHead) (View.ld (win0_8.fill (grid0.coords t) d8 (iblk m c 8 t)) rHead) (iblk m c 9 t) (iblk m c 11 t) (iblk m c 12 t) (iblk m c 13 t) (iblk m c 10 t))) (win0_16.cut (grid0.coords t) (outH m c t))
      = rHead.overlay e (metaH (iblk m c 1 t) (View.ld (win0_2.fill (grid0.coords t) d2 (iblk m c 2 t)) rHead) (View.ld (win0_3.fill (grid0.coords t) d3 (iblk m c 3 t)) rHead) (View.ld (win0_4.fill (grid0.coords t) d4 (iblk m c 4 t)) rHead) (iblk m c 5 t) (iblk m c 6 t) (View.ld (win0_7.fill (grid0.coords t) d7 (iblk m c 7 t)) rHead) (View.ld (win0_8.fill (grid0.coords t) d8 (iblk m c 8 t)) rHead) (iblk m c 9 t) (iblk m c 11 t) (iblk m c 12 t) (iblk m c 13 t) (iblk m c 10 t)) := by
  rw [ld_meta_2 t ht d2 (fun _ => Scalar.ofBits .bf16 0#16), ld_meta_3 t ht d3 (fun _ => Scalar.ofBits .bf16 0#16), ld_meta_4 t ht d4 (fun _ => Scalar.ofBits .bf16 0#16), ld_meta_7 t ht d7 (fun _ => Scalar.ofBits .bf16 0#16), ld_meta_8 t ht d8 (fun _ => Scalar.ofBits .bf16 0#16)]
  refine win0_16.fill_congr_cut _ (funext fun j => ?_)
  unfold outH; rw [if_neg ht]
  exact overlay_eq rHead _ _ _ (mem_unit fun a => (xsize_meta_16 t ht a) ▸ (j a).isLt)
/-- Output window 17: what the body hands back on a block of token rows is what the point is said to leave, -/
theorem fill_rows_17 (c : Dev nD) (t : Fin cfg0.N) (ht : (grid0.coords t 1).val < 8) (e : Vec F S1x16x512 .f32) :
    win0_17.fill (grid0.coords t) (rAff.overlay e (rowsAff (iblk m c 0 t) (full2 m c t) (full3 m c t) (full4 m c t) (iblk m c 5 t) (iblk m c 6 t) (full7 m c t) (full8 m c t) (iblk m c 9 t) (iblk m c 11 t) (iblk m c 12 t) (iblk m c 13 t) (iblk m c 10 t) (iblk m c 14 t))) (win0_17.cut (grid0.coords t) (outAff m c t))
      = rAff.overlay e (rowsAff (iblk m c 0 t) (full2 m c t) (full3 m c t) (full4 m c t) (iblk m c 5 t) (iblk m c 6 t) (full7 m c t) (full8 m c t) (iblk m c 9 t) (iblk m c 11 t) (iblk m c 12 t) (iblk m c 13 t) (iblk m c 10 t) (iblk m c 14 t)) := by
  refine win0_17.fill_congr_cut _ (funext fun j => ?_)
  unfold outAff; rw [if_pos ht]
  exact overlay_eq rAff _ _ _ (mem_unit fun a => (win0_17.xinj (grid0.coords t) j a).isLt)
/-- and on the last block, whatever the input buffers hold past the array's end. -/
theorem fill_meta_17 (c : Dev nD) (t : Fin cfg0.N) (ht : ¬ (grid0.coords t 1).val < 8) (e : Vec F S1x16x512 .f32)
    (d2 d3 d4 d7 d8 : Vec F S1x512x1024 .bf16) :
    win0_17.fill (grid0.coords t) (rAffHead.overlay e (metaAff (iblk m c 1 t) (View.ld (win0_2.fill (grid0.coords t) d2 (iblk m c 2 t)) rHead) (View.ld (win0_3.fill (grid0.coords t) d3 (iblk m c 3 t)) rHead) (View.ld (win0_4.fill (grid0.coords t) d4 (iblk m c 4 t)) rHead) (iblk m c 5 t) (iblk m c 6 t) (View.ld (win0_7.fill (grid0.coords t) d7 (iblk m c 7 t)) rHead) (View.ld (win0_8.fill (grid0.coords t) d8 (iblk m c 8 t)) rHead) (iblk m c 9 t) (iblk m c 11 t) (iblk m c 12 t) (iblk m c 13 t) (iblk m c 10 t) (iblk m c 14 t))) (win0_17.cut (grid0.coords t) (outAff m c t))
      = rAffHead.overlay e (metaAff (iblk m c 1 t) (View.ld (win0_2.fill (grid0.coords t) d2 (iblk m c 2 t)) rHead) (View.ld (win0_3.fill (grid0.coords t) d3 (iblk m c 3 t)) rHead) (View.ld (win0_4.fill (grid0.coords t) d4 (iblk m c 4 t)) rHead) (iblk m c 5 t) (iblk m c 6 t) (View.ld (win0_7.fill (grid0.coords t) d7 (iblk m c 7 t)) rHead) (View.ld (win0_8.fill (grid0.coords t) d8 (iblk m c 8 t)) rHead) (iblk m c 9 t) (iblk m c 11 t) (iblk m c 12 t) (iblk m c 13 t) (iblk m c 10 t) (iblk m c 14 t)) := by
  rw [ld_meta_2 t ht d2 (fun _ => Scalar.ofBits .bf16 0#16), ld_meta_3 t ht d3 (fun _ => Scalar.ofBits .bf16 0#16), ld_meta_4 t ht d4 (fun _ => Scalar.ofBits .bf16 0#16), ld_meta_7 t ht d7 (fun _ => Scalar.ofBits .bf16 0#16), ld_meta_8 t ht d8 (fun _ => Scalar.ofBits .bf16 0#16)]
  refine win0_17.fill_congr_cut _ (funext fun j => ?_)
  unfold outAff; rw [if_neg ht]
  exact overlay_eq rAffHead _ _ _ (mem_unit fun a => (xsize_meta_17 t ht a) ▸ (j a).isLt)

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t))))
    ∗ (∃ d, owns (c : Thread nD τ) (st0_4 t) fullShare (win0_4.fill (grid0.coords t) d (win0_4.cut (grid0.coords t) ((dats m 0 c).after 4 t))))
    ∗ owns (c : Thread nD τ) (st0_5 t) fullShare ((dats m 0 c).after 5 t)
    ∗ owns (c : Thread nD τ) (st0_6 t) fullShare ((dats m 0 c).after 6 t)
    ∗ (∃ d, owns (c : Thread nD τ) (st0_7 t) fullShare (win0_7.fill (grid0.coords t) d (win0_7.cut (grid0.coords t) ((dats m 0 c).after 7 t))))
    ∗ (∃ d, owns (c : Thread nD τ) (st0_8 t) fullShare (win0_8.fill (grid0.coords t) d (win0_8.cut (grid0.coords t) ((dats m 0 c).after 8 t))))
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ (∃ d, owns (c : Thread nD τ) (st0_15 t) fullShare (win0_15.fill (grid0.coords t) d (win0_15.cut (grid0.coords t) ((dats m 0 c).after 15 t))))
    ∗ (∃ d, owns (c : Thread nD τ) (st0_16 t) fullShare (win0_16.fill (grid0.coords t) d (win0_16.cut (grid0.coords t) ((dats m 0 c).after 16 t))))
    ∗ (∃ d, owns (c : Thread nD τ) (st0_17 t) fullShare (win0_17.fill (grid0.coords t) d (win0_17.cut (grid0.coords t) ((dats m 0 c).after 17 t)))))

set_option maxHeartbeats 1000000 in
/-- The body at any point, by its case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  by_cases ht : (grid0.coords t 1).val < 8
  · have hc := cond_rows t ht
    rw [show win0_2.fill (grid0.coords t) d2 (iblk m c 2 t) = full2 m c t from fill_rows_2 t ht _ _ _]
    rw [show win0_3.fill (grid0.coords t) d3 (iblk m c 3 t) = full3 m c t from fill_rows_3 t ht _ _ _]
    rw [show win0_4.fill (grid0.coords t) d4 (iblk m c 4 t) = full4 m c t from fill_rows_4 t ht _ _ _]
    rw [show win0_7.fill (grid0.coords t) d7 (iblk m c 7 t) = full7 m c t from fill_rows_7 t ht _ _ _]
    rw [show win0_8.fill (grid0.coords t) d8 (iblk m c 8 t) = full8 m c t from fill_rows_8 t ht _ _ _]
    iapply (sound_rows c Set.univ (grid0.coords t) _ _ _ _ _ _ _ _ _ _ _ _ _ _ _ _ _ _ _ _ _ _ _ _ _ _ _ _ _ _ _ _ _ _ _ _ hc.1 hc.2 (iblk m c 0 t) (iblk m c 1 t) (full2 m c t) (full3 m c t) (full4 m c t) (iblk m c 5 t) (iblk m c 6 t) (full7 m c t) (full8 m c t) (iblk m c 9 t) (iblk m c 10 t) (iblk m c 11 t) (iblk m c 12 t) (iblk m c 13 t) (iblk m c 14 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    iintro ⟨H0, H1, H2, H3, H4, H5, H6, H7, H8, H9, H10, H11, H12, H13, H14, ⟨%e15, H15⟩, ⟨%e16, H16⟩, ⟨%e17, H17⟩⟩
    isplitl [HΦ]; · iexact HΦ
    isplitl [Ho]; · iexact Ho
    isplitl [H0]; · iexact H0
    isplitl [H1]; · iexact H1
    isplitl [H2]; · iexists _; rw [Pipeline.Window.fill_cut]; iexact H2
    isplitl [H3]; · iexists _; rw [Pipeline.Window.fill_cut]; iexact H3
    isplitl [H4]; · iexists _; rw [Pipeline.Window.fill_cut]; iexact H4
    isplitl [H5]; · iexact H5
    isplitl [H6]; · iexact H6
    isplitl [H7]; · iexists _; rw [Pipeline.Window.fill_cut]; iexact H7
    isplitl [H8]; · iexists _; rw [Pipeline.Window.fill_cut]; iexact H8
    isplitl [H9]; · iexact H9
    isplitl [H10]; · iexact H10
    isplitl [H11]; · iexact H11
    isplitl [H12]; · iexact H12
    isplitl [H13]; · iexact H13
    isplitl [H14]; · iexact H14
    isplitl [H15]; · iexists _; rw [fill_rows_15 m c t ht e15]; iexact H15
    isplitl [H16]; · iexists _; rw [fill_rows_16 m c t ht e16]; iexact H16
    iexists _; rw [fill_rows_17 m c t ht e17]; iexact H17
  · have hc := cond_meta t ht
    iapply (sound_meta c Set.univ (grid0.coords t) _ _ _ _ _ _ _ _ _ _ _ _ _ _ _ _ _ _ _ _ _ _ _ _ _ _ _ _ _ _ _ _ _ _ _ _ hc.1 hc.2 (iblk m c 0 t) (iblk m c 1 t) (win0_2.fill (grid0.coords t) d2 (iblk m c 2 t)) (win0_3.fill (grid0.coords t) d3 (iblk m c 3 t)) (win0_4.fill (grid0.coords t) d4 (iblk m c 4 t)) (iblk m c 5 t) (iblk m c 6 t) (win0_7.fill (grid0.coords t) d7 (iblk m c 7 t)) (win0_8.fill (grid0.coords t) d8 (iblk m c 8 t)) (iblk m c 9 t) (iblk m c 10 t) (iblk m c 11 t) (iblk m c 12 t) (iblk m c 13 t) (iblk m c 14 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    iintro ⟨H0, H1, H2, H3, H4, H5, H6, H7, H8, H9, H10, H11, H12, H13, H14, ⟨%e15, H15⟩, ⟨%e16, H16⟩, ⟨%e17, H17⟩⟩
    isplitl [HΦ]; · iexact HΦ
    isplitl [Ho]; · iexact Ho
    isplitl [H0]; · iexact H0
    isplitl [H1]; · iexact H1
    isplitl [H2]; · iexists d2; rw [cut_full2]; iexact H2
    isplitl [H3]; · iexists d3; rw [cut_full3]; iexact H3
    isplitl [H4]; · iexists d4; rw [cut_full4]; iexact H4
    isplitl [H5]; · iexact H5
    isplitl [H6]; · iexact H6
    isplitl [H7]; · iexists d7; rw [cut_full7]; iexact H7
    isplitl [H8]; · iexists d8; rw [cut_full8]; iexact H8
    isplitl [H9]; · iexact H9
    isplitl [H10]; · iexact H10
    isplitl [H11]; · iexact H11
    isplitl [H12]; · iexact H12
    isplitl [H13]; · iexact H13
    isplitl [H14]; · iexact H14
    isplitl [H15]; · iexists _; rw [fill_meta_15 m c t ht e15 d2 d3 d4 d7 d8]; iexact H15
    isplitl [H16]; · iexists _; rw [fill_meta_16 m c t ht e16 d2 d3 d4 d7 d8]; iexact H16
    iexists _; rw [fill_meta_17 m c t ht e17 d2 d3 d4 d7 d8]; iexact H17

theorem defs₀_row (t : Fin cfg0.N) :
    defs₀ (F := F) .tc cfg0.body (cfg0.bodyArgs t (cfg0.slots t)) = bodyAt0 t := by
  unfold defs₀; rw [Defs.onTc_tc]

/-- Every point stores each result block. -/
theorem live_15 : ∀ t : Fin cfg0.N, cfg0.idle 15 (cfg0.grid.coords t) = false := by decide +kernel

set_option maxHeartbeats 2000000 in
/-- The body at every point, as the run asks for it. -/
theorem body_obligation (c : Dev nD) : BodyObligationLoose (dats (F := F) m 0 c) (defs₀ (F := F)) Variants.none () Set.univ := fun t => by
  rw [bigSep_W0, bigSep_W0, defs₀_row, live_15 t]
  exact triple_restated (sound_body m c t) rfl .rfl fun _ => .rfl

/-! ## The run -/

set_option backward.isDefEq.respectTransparency.types false in
set_option maxHeartbeats 800000 in
/-- Every execution ends, with every array at what the points leave in it and every semaphore at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := body_obligation m) (hq := fun _ _ _ => rfl)
    (howed := fun _ _ => rfl) (V := V m) (hmain := hmain m Variants.none) (hA := A_eq m) (hΦ := fun _ _ => rfl)

/-- Every execution ends with every array at what the points leave in it. -/
theorem run_main : θ_run defs (onTc (τ := τ) (main (F := F))) (s₀ m ρ) (Pipeline.FramePost cfgs (dats m) 0 (V m)) :=
  (θ_run defs _ _).mono (fun _ h => h.1) (run_quiescent m ρ)

/-- The arguments and the semaphores end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) (run_main m ρ)) ((θ_run defs _ _).mono (fun _ h => h.2) (run_quiescent m ρ))

end Cert.Proof.MixRun

end
-- ==== Proof.MixRows.lean ====
/-
  The mix call: the residual stream, the norm and the affinities by rows, and what the blocks of a point hold. Row `i` of a sequence takes its own rows of the
  arguments and the rows of the convolution's argument on either side of it, the sequence closed to a ring.
-/
module

public import proofs.«01_k».proof.Proof.MixBlock
public import proofs.«01_k».proof.Proof.MixRun

@[expose] public section

set_option maxRecDepth 16384

noncomputable section

open Idealize.ShloMosaic Idealize.ShloMosaic.TcCoe Idealize.SL.Sem
open Idealize.ShloMosaic.Pipeline (Dat)

namespace Cert.Proof.MixRows

open Cert.Kernel4Ideal Cert.Kernel4Ideal.Gen Cert.Proof.MixBody Cert.Proof.MixRun Cert.Proof.MixSpec Cert.Proof.MixBlock

variable (m : (ℓ : Loc nD τ sig) → Buf (Elt Ideal) ℓ) (ρ : Dev nD → PrngReg)

/-! ## The results -/

/-- The row before row `i` of a sequence; before the first is the last. -/
abbrev rowPrev (i : Fin 4224) : Fin 4224 := ⟨(i.val + 4223) % 4224, by omega⟩
/-- The row after row `i`; after the last is the first. -/
abbrev rowNext (i : Fin 4224) : Fin 4224 := ⟨(i.val + 1) % 4224, by omega⟩

/-- Row `i` of sequence `b` of the incoming stream: the first 4096 are the tokens', the last 128 are shared. -/
def xRow (c : Dev nD) (b : Fin 8) (i : Fin 4224) (k : Fin 1024) : EReal :=
  if h : i.val < 4096 then (m ((c : Thread nD τ).loc main_arg0) : FVec Ideal S8x4096x1024 .f32) (ix3 b ⟨i.val, h⟩ k)
  else (V m c main_v18 : FVec Ideal S128x1024 .f32) (ix2 ⟨i.val - 4096, by have := i.isLt; omega⟩ k)

/-- The residual stream of row `i` of sequence `b`. -/
def rowStream (c : Dev nD) (b : Fin 8) (i : Fin 4224) : Fin 1024 → EReal :=
  stream (xRow m c b i)
    (fun k => (m ((c : Thread nD τ).loc main_arg2) : FVec Ideal S8x4224x1024 .bf16) (ix3 b i k))
    (fun k => (m ((c : Thread nD τ).loc main_arg3) : FVec Ideal S8x4224x1024 .bf16) (ix3 b i k))
    (fun k => (m ((c : Thread nD τ).loc main_arg4) : FVec Ideal S8x4224x1024 .bf16) (ix3 b (rowPrev i) k))
    (fun k => (m ((c : Thread nD τ).loc main_arg4) : FVec Ideal S8x4224x1024 .bf16) (ix3 b i k))
    (fun k => (m ((c : Thread nD τ).loc main_arg4) : FVec Ideal S8x4224x1024 .bf16) (ix3 b (rowNext i) k))
    (fun k => (m ((c : Thread nD τ).loc main_arg5) : FVec Ideal S8x4224x1024 .bf16) (ix3 b i k))
    (fun k => (m ((c : Thread nD τ).loc main_arg6) : FVec Ideal S8x4224x1024 .bf16) (ix3 b i k))
    (fun a k => (V m c main_v0 : FVec Ideal S3x1024 .f32) (ix2 a k))
    (fun k q => (V m c main_v9 : FVec Ideal S1024x1024 .bf16) (ix2 k q))
    (fun k q => (V m c main_v11 : FVec Ideal S1024x1024 .bf16) (ix2 k q))
    (fun k q => (V m c main_v13 : FVec Ideal S1024x1024 .bf16) (ix2 k q))

/-- The norm of it. -/
def rowNorm (c : Dev nD) (b : Fin 8) (i : Fin 4224) : Fin 1024 → EReal :=
  normed (rowStream m c b i) fun k => (V m c main_v2 : FVec Ideal S1x1024 .f32) (ix2 0 k)

/-- The affinities of the norm. -/
def rowAff (c : Dev nD) (b : Fin 8) (i : Fin 4224) : Fin 16 → EReal :=
  affinity (rowNorm m c b i) fun k f => (V m c main_v16 : FVec Ideal S16x1024 .bf16) (ix2 f k)

/-! ## Where the blocks lie -/

/-- The sequence of a point. -/
abbrev seq (t : Fin cfg0.N) : Fin 8 := ⟨t.val / 9, by have : cfg0.N = 72 := N_0; have := t.isLt; omega⟩
/-- The row of the arrays that is row `r` of a point's block. -/
abbrev rowOf (t : Fin cfg0.N) (r : Nat) (h : t.val % 9 * 512 + r < 4224) : Fin 4224 := ⟨t.val % 9 * 512 + r, h⟩

theorem coord1 : ∀ t : Fin cfg0.N, (grid0.coords t 1).val = t.val % 9 := (by decide +kernel : ∀ t : Fin grid0.N, _)

theorem index_2 : ∀ t : Fin cfg0.N, win0_2.index t 0 = t.val / 9 ∧ win0_2.index t 1 = t.val % 9 ∧ win0_2.index t 2 = 0 :=
  (by decide +kernel : ∀ t : Fin grid0.N, _)
theorem index_3 : ∀ t : Fin cfg0.N, win0_3.index t 0 = t.val / 9 ∧ win0_3.index t 1 = t.val % 9 ∧ win0_3.index t 2 = 0 :=
  (by decide +kernel : ∀ t : Fin grid0.N, _)
theorem index_4 : ∀ t : Fin cfg0.N, win0_4.index t 0 = t.val / 9 ∧ win0_4.index t 1 = t.val % 9 ∧ win0_4.index t 2 = 0 :=
  (by decide +kernel : ∀ t : Fin grid0.N, _)
theorem index_7 : ∀ t : Fin cfg0.N, win0_7.index t 0 = t.val / 9 ∧ win0_7.index t 1 = t.val % 9 ∧ win0_7.index t 2 = 0 :=
  (by decide +kernel : ∀ t : Fin grid0.N, _)
theorem index_8 : ∀ t : Fin cfg0.N, win0_8.index t 0 = t.val / 9 ∧ win0_8.index t 1 = t.val % 9 ∧ win0_8.index t 2 = 0 :=
  (by decide +kernel : ∀ t : Fin grid0.N, _)
theorem index_15 : ∀ t : Fin cfg0.N, win0_15.index t 0 = t.val / 9 ∧ win0_15.index t 1 = t.val % 9 ∧ win0_15.index t 2 = 0 :=
  (by decide +kernel : ∀ t : Fin grid0.N, _)
theorem index_16 : ∀ t : Fin cfg0.N, win0_16.index t 0 = t.val / 9 ∧ win0_16.index t 1 = t.val % 9 ∧ win0_16.index t 2 = 0 :=
  (by decide +kernel : ∀ t : Fin grid0.N, _)
theorem index_17 : ∀ t : Fin cfg0.N, win0_17.index t 0 = t.val / 9 ∧ win0_17.index t 1 = 0 ∧ win0_17.index t 2 = t.val % 9 :=
  (by decide +kernel : ∀ t : Fin grid0.N, _)
theorem index_0 : ∀ t : Fin cfg0.N, win0_0.index t 0 = t.val / 9 ∧ win0_0.index t 1 = min (t.val % 9) 7 ∧ win0_0.index t 2 = 0 :=
  (by decide +kernel : ∀ t : Fin grid0.N, _)
theorem index_5 : ∀ t : Fin cfg0.N, win0_5.index t 0 = t.val / 9 ∧ win0_5.index t 1 = (32 * (t.val % 9) + 263) % 264 ∧ win0_5.index t 2 = 0 :=
  (by decide +kernel : ∀ t : Fin grid0.N, _)
theorem index_6 : ∀ t : Fin cfg0.N, win0_6.index t 0 = t.val / 9
    ∧ win0_6.index t 1 = (if t.val % 9 = 8 then 0 else 32 * (t.val % 9 + 1)) ∧ win0_6.index t 2 = 0 :=
  (by decide +kernel : ∀ t : Fin grid0.N, _)
theorem index_1 : ∀ t : Fin cfg0.N, win0_1.index t 0 = 0 ∧ win0_1.index t 1 = 0 :=
  (by decide +kernel : ∀ t : Fin grid0.N, _)
theorem index_9 : ∀ t : Fin cfg0.N, win0_9.index t 0 = 0 ∧ win0_9.index t 1 = 0 :=
  (by decide +kernel : ∀ t : Fin grid0.N, _)
theorem index_10 : ∀ t : Fin cfg0.N, win0_10.index t 0 = 0 ∧ win0_10.index t 1 = 0 :=
  (by decide +kernel : ∀ t : Fin grid0.N, _)
theorem index_11 : ∀ t : Fin cfg0.N, win0_11.index t 0 = 0 ∧ win0_11.index t 1 = 0 :=
  (by decide +kernel : ∀ t : Fin grid0.N, _)
theorem index_12 : ∀ t : Fin cfg0.N, win0_12.index t 0 = 0 ∧ win0_12.index t 1 = 0 :=
  (by decide +kernel : ∀ t : Fin grid0.N, _)
theorem index_13 : ∀ t : Fin cfg0.N, win0_13.index t 0 = 0 ∧ win0_13.index t 1 = 0 :=
  (by decide +kernel : ∀ t : Fin grid0.N, _)
theorem index_14 : ∀ t : Fin cfg0.N, win0_14.index t 0 = 0 ∧ win0_14.index t 1 = 0 :=
  (by decide +kernel : ∀ t : Fin grid0.N, _)

/-! ## What the blocks hold -/

theorem iblk0_apply (c : Dev nD) (t : Fin cfg0.N) (ht : t.val % 9 < 8) (r : Fin 512) (k : Fin 1024) :
    (iblk m c 0 t : FVec Ideal S1x512x1024 .f32) (ix3 0 r k) = xRow m c (seq t) (rowOf t r (by omega)) k := by
  obtain ⟨h0, h1, h2⟩ := index_0 t
  have hr := r.isLt
  unfold xRow
  rw [dif_pos (by show t.val % 9 * 512 + r.val < 4096; omega)]
  show V m c (Pipeline.arrRef spec0 0) ((win0_0.rect t).emb (ix3 0 r k)) = _
  rw [V_main_arg0]
  congr 1
  funext a
  apply Fin.ext
  match a with
  | ⟨0, _⟩ => show win0_0.index t 0 * 1 + 1 * 0 = t.val / 9; omega
  | ⟨1, _⟩ => show win0_0.index t 1 * 512 + 1 * r.val = t.val % 9 * 512 + r.val; omega
  | ⟨2, _⟩ => show win0_0.index t 2 * 1024 + 1 * k.val = k.val; omega

theorem iblk1_apply (c : Dev nD) (t : Fin cfg0.N) (ht : ¬ t.val % 9 < 8) (r : Fin 128) (k : Fin 1024) :
    (iblk m c 1 t : FVec Ideal S128x1024 .f32) (ix2 r k) = xRow m c (seq t) (rowOf t r (by omega)) k := by
  obtain ⟨h0, h1⟩ := index_1 t
  have hr := r.isLt
  unfold xRow
  rw [dif_neg (by show ¬ t.val % 9 * 512 + r.val < 4096; omega)]
  show V m c main_v18 ((win0_1.rect t).emb (ix2 r k)) = _
  congr 1
  funext a
  apply Fin.ext
  match a with
  | ⟨0, _⟩ => show win0_1.index t 0 * 128 + 1 * r.val = t.val % 9 * 512 + r.val - 4096; omega
  | ⟨1, _⟩ => show win0_1.index t 1 * 1024 + 1 * k.val = k.val; omega

/-- An element of a block of a clipped array is inside the array when its row is. -/
theorem inside {t : Fin cfg0.N} {x : Fin 3 → Nat} (hr : (grid0.coords t 1).val < 8 → ∀ a, x a = (S1x512x1024 : Shape).size a)
    (hm : ¬ (grid0.coords t 1).val < 8 → ∀ a, x a = (S1x128x1024 : Shape).size a) (r : Fin 512) (k : Fin 1024)
    (h : t.val % 9 * 512 + r.val < 4224) (a : Fin 3) : ((ix3 0 r k : S1x512x1024.Idx) a).val < x a := by
  have ht := coord1 t
  by_cases h8 : t.val % 9 < 8
  · rw [hr (by omega)]; exact (ix3 0 r k : S1x512x1024.Idx) a |>.isLt
  · rw [hm (by omega)]
    match a with
    | ⟨0, _⟩ => exact Nat.one_pos
    | ⟨1, _⟩ => show r.val < 128; omega
    | ⟨2, _⟩ => exact k.isLt

theorem full2_apply (c : Dev nD) (t : Fin cfg0.N) (r : Fin 512) (k : Fin 1024) (h : t.val % 9 * 512 + r.val < 4224) :
    full2 m c t (ix3 0 r k)
      = (m ((c : Thread nD τ).loc main_arg2) : FVec Ideal S8x4224x1024 .bf16) (ix3 (seq t) (rowOf t r h) k) := by
  obtain ⟨h0, h1, h2⟩ := index_2 t
  have hm : win0_2.moved (grid0.coords t) (ix3 0 r k : S1x512x1024.Idx) = true := by
    rw [win0_2.moved_iff]
    exact inside (fun h => xsize_rows_2 t h) (fun h => xsize_meta_2 t h) r k h
  unfold full2 Pipeline.Window.fill
  rw [dif_pos hm]
  show V m c (Pipeline.arrRef spec0 2) ((win0_2.rect t).emb _) = _
  rw [V_main_arg2]
  congr 1
  funext a
  apply Fin.ext
  match a with
  | ⟨0, _⟩ => show win0_2.index t 0 * 1 + 1 * 0 = t.val / 9; omega
  | ⟨1, _⟩ => show win0_2.index t 1 * 512 + 1 * r.val = t.val % 9 * 512 + r.val; omega
  | ⟨2, _⟩ => show win0_2.index t 2 * 1024 + 1 * k.val = k.val; omega

theorem full3_apply (c : Dev nD) (t : Fin cfg0.N) (r : Fin 512) (k : Fin 1024) (h : t.val % 9 * 512 + r.val < 4224) :
    full3 m c t (ix3 0 r k)
      = (m ((c : Thread nD τ).loc main_arg3) : FVec Ideal S8x4224x1024 .bf16) (ix3 (seq t) (rowOf t r h) k) := by
  obtain ⟨h0, h1, h2⟩ := index_3 t
  have hm : win0_3.moved (grid0.coords t) (ix3 0 r k : S1x512x1024.Idx) = true := by
    rw [win0_3.moved_iff]
    exact inside (fun h => xsize_rows_3 t h) (fun h => xsize_meta_3 t h) r k h
  unfold full3 Pipeline.Window.fill
  rw [dif_pos hm]
  show V m c (Pipeline.arrRef spec0 3) ((win0_3.rect t).emb _) = _
  rw [V_main_arg3]
  congr 1
  funext a
  apply Fin.ext
  match a with
  | ⟨0, _⟩ => show win0_3.index t 0 * 1 + 1 * 0 = t.val / 9; omega
  | ⟨1, _⟩ => show win0_3.index t 1 * 512 + 1 * r.val = t.val % 9 * 512 + r.val; omega
  | ⟨2, _⟩ => show win0_3.index t 2 * 1024 + 1 * k.val = k.val; omega

theorem full4_apply (c : Dev nD) (t : Fin cfg0.N) (r : Fin 512) (k : Fin 1024) (h : t.val % 9 * 512 + r.val < 4224) :
    full4 m c t (ix3 0 r k)
      = (m ((c : Thread nD τ).loc main_arg4) : FVec Ideal S8x4224x1024 .bf16) (ix3 (seq t) (rowOf t r h) k) := by
  obtain ⟨h0, h1, h2⟩ := index_4 t
  have hm : win0_4.moved (grid0.coords t) (ix3 0 r k : S1x512x1024.Idx) = true := by
    rw [win0_4.moved_iff]
    exact inside (fun h => xsize_rows_4 t h) (fun h => xsize_meta_4 t h) r k h
  unfold full4 Pipeline.Window.fill
  rw [dif_pos hm]
  show V m c (Pipeline.arrRef spec0 4) ((win0_4.rect t).emb _) = _
  rw [V_main_arg4]
  congr 1
  funext a
  apply Fin.ext
  match a with
  | ⟨0, _⟩ => show win0_4.index t 0 * 1 + 1 * 0 = t.val / 9; omega
  | ⟨1, _⟩ => show win0_4.index t 1 * 512 + 1 * r.val = t.val % 9 * 512 + r.val; omega
  | ⟨2, _⟩ => show win0_4.index t 2 * 1024 + 1 * k.val = k.val; omega

theorem full7_apply (c : Dev nD) (t : Fin cfg0.N) (r : Fin 512) (k : Fin 1024) (h : t.val % 9 * 512 + r.val < 4224) :
    full7 m c t (ix3 0 r k)
      = (m ((c : Thread nD τ).loc main_arg5) : FVec Ideal S8x4224x1024 .bf16) (ix3 (seq t) (rowOf t r h) k) := by
  obtain ⟨h0, h1, h2⟩ := index_7 t
  have hm : win0_7.moved (grid0.coords t) (ix3 0 r k : S1x512x1024.Idx) = true := by
    rw [win0_7.moved_iff]
    exact inside (fun h => xsize_rows_7 t h) (fun h => xsize_meta_7 t h) r k h
  unfold full7 Pipeline.Window.fill
  rw [dif_pos hm]
  show V m c (Pipeline.arrRef spec0 7) ((win0_7.rect t).emb _) = _
  rw [V_main_arg5]
  congr 1
  funext a
  apply Fin.ext
  match a with
  | ⟨0, _⟩ => show win0_7.index t 0 * 1 + 1 * 0 = t.val / 9; omega
  | ⟨1, _⟩ => show win0_7.index t 1 * 512 + 1 * r.val = t.val % 9 * 512 + r.val; omega
  | ⟨2, _⟩ => show win0_7.index t 2 * 1024 + 1 * k.val = k.val; omega

theorem full8_apply (c : Dev nD) (t : Fin cfg0.N) (r : Fin 512) (k : Fin 1024) (h : t.val % 9 * 512 + r.val < 4224) :
    full8 m c t (ix3 0 r k)
      = (m ((c : Thread nD τ).loc main_arg6) : FVec Ideal S8x4224x1024 .bf16) (ix3 (seq t) (rowOf t r h) k) := by
  obtain ⟨h0, h1, h2⟩ := index_8 t
  have hm : win0_8.moved (grid0.coords t) (ix3 0 r k : S1x512x1024.Idx) = true := by
    rw [win0_8.moved_iff]
    exact inside (fun h => xsize_rows_8 t h) (fun h => xsize_meta_8 t h) r k h
  unfold full8 Pipeline.Window.fill
  rw [dif_pos hm]
  show V m c (Pipeline.arrRef spec0 8) ((win0_8.rect t).emb _) = _
  rw [V_main_arg6]
  congr 1
  funext a
  apply Fin.ext
  match a with
  | ⟨0, _⟩ => show win0_8.index t 0 * 1 + 1 * 0 = t.val / 9; omega
  | ⟨1, _⟩ => show win0_8.index t 1 * 512 + 1 * r.val = t.val % 9 * 512 + r.val; omega
  | ⟨2, _⟩ => show win0_8.index t 2 * 1024 + 1 * k.val = k.val; omega

theorem iblk5_apply (c : Dev nD) (t : Fin cfg0.N) (k : Fin 1024) :
    (iblk m c 5 t : FVec Ideal S1x16x1024 .bf16) (ix3 0 15 k)
      = (m ((c : Thread nD τ).loc main_arg4) : FVec Ideal S8x4224x1024 .bf16) (ix3 (seq t) (rowPrev (rowOf t 0 (by omega))) k) := by
  obtain ⟨h0, h1, h2⟩ := index_5 t
  show V m c (Pipeline.arrRef spec0 5) ((win0_5.rect t).emb (ix3 0 15 k)) = _
  rw [V_main_arg4]
  congr 1
  funext a
  apply Fin.ext
  match a with
  | ⟨0, _⟩ => show win0_5.index t 0 * 1 + 1 * 0 = t.val / 9; omega
  | ⟨1, _⟩ => show win0_5.index t 1 * 16 + 1 * 15 = (t.val % 9 * 512 + 0 + 4223) % 4224; omega
  | ⟨2, _⟩ => show win0_5.index t 2 * 1024 + 1 * k.val = k.val; omega

theorem iblk6_apply (c : Dev nD) (t : Fin cfg0.N) (k : Fin 1024) :
    (iblk m c 6 t : FVec Ideal S1x16x1024 .bf16) (ix3 0 0 k)
      = (m ((c : Thread nD τ).loc main_arg4) : FVec Ideal S8x4224x1024 .bf16) (ix3 (seq t) (rowNext (rowOf t (if t.val % 9 = 8 then 127 else 511) (by split <;> omega))) k) := by
  obtain ⟨h0, h1, h2⟩ := index_6 t
  show V m c (Pipeline.arrRef spec0 6) ((win0_6.rect t).emb (ix3 0 0 k)) = _
  rw [V_main_arg4]
  congr 1
  funext a
  apply Fin.ext
  match a with
  | ⟨0, _⟩ => show win0_6.index t 0 * 1 + 1 * 0 = t.val / 9; omega
  | ⟨1, _⟩ => show win0_6.index t 1 * 16 + 1 * 0 = (t.val % 9 * 512 + (if t.val % 9 = 8 then 127 else 511) + 1) % 4224; split at h1 <;> simp_all <;> omega
  | ⟨2, _⟩ => show win0_6.index t 2 * 1024 + 1 * k.val = k.val; omega

theorem iblk9_apply (c : Dev nD) (t : Fin cfg0.N) (r : Fin 3) (k : Fin 1024) :
    (iblk m c 9 t : FVec Ideal S3x1024 .f32) (ix2 r k) = (V m c main_v0 : FVec Ideal S3x1024 .f32) (ix2 r k) := by
  obtain ⟨h0, h1⟩ := index_9 t
  show V m c main_v0 ((win0_9.rect t).emb (ix2 r k)) = _
  congr 1
  funext a
  apply Fin.ext
  match a with
  | ⟨0, _⟩ => show win0_9.index t 0 * 3 + 1 * r.val = r.val; omega
  | ⟨1, _⟩ => show win0_9.index t 1 * 1024 + 1 * k.val = k.val; omega

theorem iblk10_apply (c : Dev nD) (t : Fin cfg0.N) (r : Fin 1) (k : Fin 1024) :
    (iblk m c 10 t : FVec Ideal S1x1024 .f32) (ix2 r k) = (V m c main_v2 : FVec Ideal S1x1024 .f32) (ix2 r k) := by
  obtain ⟨h0, h1⟩ := index_10 t
  show V m c main_v2 ((win0_10.rect t).emb (ix2 r k)) = _
  congr 1
  funext a
  apply Fin.ext
  match a with
  | ⟨0, _⟩ => show win0_10.index t 0 * 1 + 1 * r.val = r.val; omega
  | ⟨1, _⟩ => show win0_10.index t 1 * 1024 + 1 * k.val = k.val; omega

theorem iblk11_apply (c : Dev nD) (t : Fin cfg0.N) (r : Fin 1024) (k : Fin 1024) :
    (iblk m c 11 t : FVec Ideal S1024x1024 .bf16) (ix2 r k) = (V m c main_v9 : FVec Ideal S1024x1024 .bf16) (ix2 r k) := by
  obtain ⟨h0, h1⟩ := index_11 t
  show V m c main_v9 ((win0_11.rect t).emb (ix2 r k)) = _
  congr 1
  funext a
  apply Fin.ext
  match a with
  | ⟨0, _⟩ => show win0_11.index t 0 * 1024 + 1 * r.val = r.val; omega
  | ⟨1, _⟩ => show win0_11.index t 1 * 1024 + 1 * k.val = k.val; omega

theorem iblk12_apply (c : Dev nD) (t : Fin cfg0.N) (r : Fin 1024) (k : Fin 1024) :
    (iblk m c 12 t : FVec Ideal S1024x1024 .bf16) (ix2 r k) = (V m c main_v11 : FVec Ideal S1024x1024 .bf16) (ix2 r k) := by
  obtain ⟨h0, h1⟩ := index_12 t
  show V m c main_v11 ((win0_12.rect t).emb (ix2 r k)) = _
  congr 1
  funext a
  apply Fin.ext
  match a with
  | ⟨0, _⟩ => show win0_12.index t 0 * 1024 + 1 * r.val = r.val; omega
  | ⟨1, _⟩ => show win0_12.index t 1 * 1024 + 1 * k.val = k.val; omega

theorem iblk13_apply (c : Dev nD) (t : Fin cfg0.N) (r : Fin 1024) (k : Fin 1024) :
    (iblk m c 13 t : FVec Ideal S1024x1024 .bf16) (ix2 r k) = (V m c main_v13 : FVec Ideal S1024x1024 .bf16) (ix2 r k) := by
  obtain ⟨h0, h1⟩ := index_13 t
  show V m c main_v13 ((win0_13.rect t).emb (ix2 r k)) = _
  congr 1
  funext a
  apply Fin.ext
  match a with
  | ⟨0, _⟩ => show win0_13.index t 0 * 1024 + 1 * r.val = r.val; omega
  | ⟨1, _⟩ => show win0_13.index t 1 * 1024 + 1 * k.val = k.val; omega

theorem iblk14_apply (c : Dev nD) (t : Fin cfg0.N) (r : Fin 16) (k : Fin 1024) :
    (iblk m c 14 t : FVec Ideal S16x1024 .bf16) (ix2 r k) = (V m c main_v16 : FVec Ideal S16x1024 .bf16) (ix2 r k) := by
  obtain ⟨h0, h1⟩ := index_14 t
  show V m c main_v16 ((win0_14.rect t).emb (ix2 r k)) = _
  congr 1
  funext a
  apply Fin.ext
  match a with
  | ⟨0, _⟩ => show win0_14.index t 0 * 16 + 1 * r.val = r.val; omega
  | ⟨1, _⟩ => show win0_14.index t 1 * 1024 + 1 * k.val = k.val; omega

end Cert.Proof.MixRows

end
-- ==== Proof.MixReference.lean ====
/-
  The mix's reference, read at an element: what it computes from its arguments.
-/
module

public import proofs.«01_k».proof.Proof.Gen.Reference4Ideal.Read
public import proofs.«01_k».proof.Proof.MixSpec
public import Idealize.ShloMosaic.Lib.Pointwise

@[expose] public section

set_option maxRecDepth 16384

noncomputable section

open Idealize.ShloMosaic Idealize.ShloMosaic.TcCoe Idealize.SL.Sem

namespace Cert.Proof.MixReference

open Cert.Reference4Ideal Cert.Reference4Ideal.Gen Cert.Reference4Ideal.Read Cert.Proof.MixSpec

/-- The row of the arrays that holds position `p` of the sequence: its first 16 positions are the arrays' last rows. -/
abbrev place (p : Fin 4112) : Fin 4224 :=
  ⟨if p.val < 16 then 4208 + p.val else p.val - 16, by have := p.isLt; split <;> omega⟩
/-- The column of the attention's rows that holds column `n` of the projection's: there the heads are numbered by pair of
    key heads, key head of the pair and member of the group, here the last two the other way round. -/
abbrev headCol (n : Fin 1024) : Fin 1024 :=
  ⟨n.val / 512 * 512 + n.val / 64 % 4 * 128 + n.val / 256 % 2 * 64 + n.val % 64, by have := n.isLt; omega⟩

variable (x : FVec Ideal S8x4096x1024 .f32) (mt : FVec Ideal S16x1024 .f32)
  (a cb s ga gc : FVec Ideal S8x4224x1024 .bf16) (wk : FVec Ideal S1x3x1024 .f32)
  (wa wc wo : FVec Ideal S1x1024x1024 .f32) (g : FVec Ideal S1x1024 .f32) (wr : FVec Ideal S1x1024x16 .f32)

theorem v6_apply (b : Fin 8) (p : Fin 4112) (n : Fin 1024) :
    val_main_v6 (F := Ideal) a (ix3 b p n) = a (ix3 b (place p) n) := by
  pointwise [val_main_v6, val_main_v5, val_main_v4, val_main_v3]
  unfold place
  split <;> rfl
theorem v10_apply (b : Fin 8) (p : Fin 4112) (n : Fin 1024) :
    val_main_v10 (F := Ideal) cb (ix3 b p n) = cb (ix3 b (place p) n) := by
  pointwise [val_main_v10, val_main_v9, val_main_v8, val_main_v7]
  unfold place
  split <;> rfl
theorem v14_apply (b : Fin 8) (p : Fin 4112) (n : Fin 1024) :
    val_main_v14 (F := Ideal) s (ix3 b p n) = s (ix3 b (place p) n) := by
  pointwise [val_main_v14, val_main_v13, val_main_v12, val_main_v11]
  unfold place
  split <;> rfl
theorem v18_apply (b : Fin 8) (p : Fin 4112) (n : Fin 1024) :
    val_main_v18 (F := Ideal) ga (ix3 b p n) = ga (ix3 b (place p) n) := by
  pointwise [val_main_v18, val_main_v17, val_main_v16, val_main_v15]
  unfold place
  split <;> rfl
theorem v22_apply (b : Fin 8) (p : Fin 4112) (n : Fin 1024) :
    val_main_v22 (F := Ideal) gc (ix3 b p n) = gc (ix3 b (place p) n) := by
  pointwise [val_main_v22, val_main_v21, val_main_v20, val_main_v19]
  unfold place
  split <;> rfl

theorem v25_apply (b : Fin 8) (p : Fin 4112) (n : Fin 1024) :
    val_main_v25 (F := Ideal) a (ix3 b p n) = a (ix3 b (place p) (headCol n)) := by
  refine Eq.trans ?_ (v6_apply a b p (headCol n))
  pointwise [val_main_v25, val_main_v24, val_main_v23]

/-- Row `p` of the stream that comes in: the meta tokens, then the sequence. -/
def xTok (b : Fin 8) (p : Fin 4112) (k : Fin 1024) : EReal :=
  if h : p.val < 16 then mt (ix2 ⟨p.val, h⟩ k) else x (ix3 b ⟨p.val - 16, by have := p.isLt; omega⟩ k)
/-- What the convolution takes at the position before `p`: before the first it takes zero. -/
def prevTok (b : Fin 8) (p : Fin 4112) (k : Fin 1024) : EReal :=
  if p.val = 0 then 0 else s (ix3 b (place ⟨p.val - 1, by have := p.isLt; omega⟩) k)
/-- What it takes at the position after `p`: after the last it takes zero. -/
def nextTok (b : Fin 8) (p : Fin 4112) (k : Fin 1024) : EReal :=
  if h : p.val + 1 < 4112 then s (ix3 b (place ⟨p.val + 1, h⟩) k) else 0

theorem v2_apply (b : Fin 8) (p : Fin 4112) (k : Fin 1024) : val_main_v2 (F := Ideal) x mt (ix3 b p k) = xTok x mt b p k := by
  unfold xTok
  pointwise [val_main_v2, val_main_v1, val_main_v0]

theorem pad_zero : val_main_call0_v0 (F := Ideal) (Shape.Idx.first h_S_) = 0 := by
  show ((((0#32 : BitVec 32).toInt : ℤ) : ℝ) : EReal) = 0
  simp

theorem v32_apply (b : Fin 8) (p : Fin 4112) (k : Fin 1024) : val_main_v32 (F := Ideal) s (ix3 b p k) = prevTok s b p k := by
  unfold prevTok
  pointwise [val_main_v32, val_main_v28]
  by_cases h : p.val = 0
  · rw [dif_neg (by omega), if_pos h, pad_zero]
  · rw [dif_pos (by omega), if_neg h, v14_apply]
theorem v38_apply (b : Fin 8) (p : Fin 4112) (k : Fin 1024) :
    val_main_v38 (F := Ideal) s (ix3 b p k) = s (ix3 b (place p) k) := by
  refine Eq.trans ?_ (v14_apply s b p k)
  pointwise [val_main_v38, val_main_v28]
theorem v45_apply (b : Fin 8) (p : Fin 4112) (k : Fin 1024) : val_main_v45 (F := Ideal) s (ix3 b p k) = nextTok s b p k := by
  unfold nextTok
  pointwise [val_main_v45, val_main_v28]
  by_cases h : p.val + 1 < 4112
  · rw [dif_pos (by omega), dif_pos h, v14_apply]
    exact congrArg (fun q => s (ix3 b (place q) k)) (Fin.ext (by show 2 + p.val - 1 = p.val + 1; omega))
  · rw [dif_neg (by omega), dif_neg h, pad_zero]

/-- The residual stream at position `p`. -/
def tokStream (b : Fin 8) (p : Fin 4112) : Fin 1024 → EReal :=
  stream (xTok x mt b p) (fun n => a (ix3 b (place p) (headCol n))) (fun k => cb (ix3 b (place p) k))
    (prevTok s b p) (fun k => s (ix3 b (place p) k)) (nextTok s b p) (fun k => ga (ix3 b (place p) k))
    (fun k => gc (ix3 b (place p) k)) (fun i k => wk (ix3 0 i k)) (fun k q => wa (ix3 0 k q)) (fun k q => wc (ix3 0 k q))
    (fun k q => wo (ix3 0 k q))

theorem v49_apply (b : Fin 8) (p : Fin 4112) (k : Fin 1024) : val_main_v49 (F := Ideal) s wk (ix3 b p k)
    = convolved (fun i k => wk (ix3 0 i k)) (prevTok s b p) (fun k => s (ix3 b (place p) k)) (nextTok s b p) k := by
  unfold convolved
  pointwise [val_main_v49, val_main_v48, val_main_v47, val_main_v46, val_main_v44, val_main_v43, val_main_v42, val_main_v41,
    val_main_v40, val_main_v39, val_main_v37, val_main_v36, val_main_v35, val_main_v34, val_main_v33, val_main_v31,
    val_main_v30, val_main_v29, v32_apply, v38_apply, v45_apply]

theorem v58_apply (b : Fin 8) (p : Fin 4112) (l : Fin 1024) :
    val_main_v58 (F := Ideal) x mt a cb s ga gc wk wa wc wo (ix3 b p l) = tokStream x mt a cb s ga gc wk wa wc wo b p l := by
  unfold tokStream stream
  pointwise [val_main_v58, val_main_v57, val_main_v56, val_main_v55, val_main_v54, val_main_v53, val_main_v52, val_main_v51,
    val_main_v50, val_main_v27, val_main_v26, v2_apply, v10_apply, v18_apply, v22_apply, v25_apply, v49_apply]

/-- The norm of it, -/
theorem v72_apply (b : Fin 8) (p : Fin 4112) (l : Fin 1024) :
    val_main_v72 (F := Ideal) x mt a cb s ga gc wk wa wc wo g (ix3 b p l)
      = normed (tokStream x mt a cb s ga gc wk wa wc wo b p) (fun k => g (ix2 0 k)) l := by
  unfold normed
  pointwise [val_main_v72, val_main_v71, val_main_v70, val_main_v69, val_main_v68, val_main_v67, val_main_v66, val_main_v65,
    val_main_v64, val_main_v63, val_main_v62, val_main_v61, val_main_v60, val_main_v59, val_main_cst, val_main_cst_0,
    val_main_cst_1, v58_apply]

/-- the scores of the experts, -/
theorem v74_apply (b : Fin 8) (p : Fin 4112) (e : Fin 16) :
    val_main_v74 (F := Ideal) x mt a cb s ga gc wk wa wc wo g wr (ix3 b p e)
      = ∑ k : Fin 1024, wr (ix3 0 k e) * normed (tokStream x mt a cb s ga gc wk wa wc wo b p) (fun k => g (ix2 0 k)) k := by
  pointwise [val_main_v74, val_main_v73, v72_apply]
  exact Finset.sum_congr rfl fun k _ => mul_comm _ _

theorem v77_apply (b : Fin 8) (p : Fin 4112) :
    val_main_v77 (F := Ideal) x mt a cb s ga gc wk wa wc wo g wr (ix2 b p)
      = Finset.fold max ⊥ (fun e => val_main_v74 (F := Ideal) x mt a cb s ga gc wk wa wc wo g wr (ix3 b p e)) Finset.univ := by
  pointwise [val_main_v77, val_main_v76, val_main_v75, val_main_cst_3, val_main_cst_2]
  rw [ofBits_neg_inf]
  exact max_eq_right bot_le

/-- and the affinities. -/
theorem v85_apply (b : Fin 8) (p : Fin 4112) (e : Fin 16) :
    val_main_v85 (F := Ideal) x mt a cb s ga gc wk wa wc wo g wr (ix3 b p e)
      = affinity (normed (tokStream x mt a cb s ga gc wk wa wc wo b p) fun k => g (ix2 0 k)) (fun k f => wr (ix3 0 k f)) e := by
  unfold affinity softmax
  simp only [← v74_apply]
  pointwise [val_main_v85, val_main_v84, val_main_v83, val_main_v82, val_main_v81, val_main_v80, val_main_v79, val_main_v78,
    v77_apply, val_main_cst_4]

end Cert.Proof.MixReference

end
-- ==== Proof.MixTokens.lean ====
/-
  The reference's three results for the mix, read at the rows of the tokens.
-/
module

public import proofs.«01_k».proof.Proof.MixReference

@[expose] public section

set_option maxRecDepth 16384

noncomputable section

open Idealize.ShloMosaic Idealize.ShloMosaic.TcCoe Idealize.SL.Sem
open Cert.Reference4Ideal Cert.Reference4Ideal.Gen Cert.Reference4Ideal.Read Cert.Proof.MixSpec

namespace Cert.Proof.MixReference

variable (x : FVec Ideal S8x4096x1024 .f32) (mt : FVec Ideal S16x1024 .f32)
  (a cb s ga gc : FVec Ideal S8x4224x1024 .bf16) (wk : FVec Ideal S1x3x1024 .f32)
  (wa wc wo : FVec Ideal S1x1024x1024 .f32) (g : FVec Ideal S1x1024 .f32) (wr : FVec Ideal S1x1024x16 .f32)

/-! ## The results, at the rows of the tokens -/

theorem row_token (p : Fin 4112) (r : Fin 4224) (hr : place p = r) (h : r.val < 4096) : 16 + r.val = p.val := by
  have hp := p.isLt
  have hv : (if p.val < 16 then 4208 + p.val else p.val - 16) = r.val := congrArg Fin.val hr
  split at hv <;> omega
theorem row_padding (p : Fin 4112) (r : Fin 4224) (hr : place p = r) (h : ¬ r.val < 4096) (h' : r.val - 4096 < 112) : False := by
  have hp := p.isLt
  have hv : (if p.val < 16 then 4208 + p.val else p.val - 16) = r.val := congrArg Fin.val hr
  split at hv <;> omega
theorem row_meta (p : Fin 4112) (r : Fin 4224) (hr : place p = r) (h : ¬ r.val < 4096) (h' : ¬ r.val - 4096 < 112) :
    r.val - 4096 - 112 = p.val := by
  have hp := p.isLt
  have hv : (if p.val < 16 then 4208 + p.val else p.val - 16) = r.val := congrArg Fin.val hr
  split at hv <;> omega

theorem v89_apply (b : Fin 8) (p : Fin 4112) (l : Fin 1024) :
    val_main_v89 (F := Ideal) x mt a cb s ga gc wk wa wc wo (ix3 b (place p) l)
      = tokStream x mt a cb s ga gc wk wa wc wo b p l := by
  rw [← v58_apply]
  generalize hr : place p = r
  pointwise [val_main_v89, val_main_v88, val_main_v87, val_main_v86]
  split
  · next h => exact congrArg (fun q => val_main_v58 (F := Ideal) x mt a cb s ga gc wk wa wc wo (ix3 b q l)) (Fin.ext (row_token p r hr h))
  · next h =>
    split
    · next h' => exact (row_padding p r hr h h').elim
    · next h' => exact congrArg (fun q => val_main_v58 (F := Ideal) x mt a cb s ga gc wk wa wc wo (ix3 b q l)) (Fin.ext (row_meta p r hr h h'))
theorem v94_apply (b : Fin 8) (p : Fin 4112) (l : Fin 1024) :
    val_main_v94 (F := Ideal) x mt a cb s ga gc wk wa wc wo g (ix3 b (place p) l)
      = normed (tokStream x mt a cb s ga gc wk wa wc wo b p) (fun k => g (ix2 0 k)) l := by
  rw [← v72_apply]
  generalize hr : place p = r
  pointwise [val_main_v94, val_main_v93, val_main_v92, val_main_v91, val_main_v90]
  split
  · next h => exact congrArg (fun q => val_main_v72 (F := Ideal) x mt a cb s ga gc wk wa wc wo g (ix3 b q l)) (Fin.ext (row_token p r hr h))
  · next h =>
    split
    · next h' => exact (row_padding p r hr h h').elim
    · next h' => exact congrArg (fun q => val_main_v72 (F := Ideal) x mt a cb s ga gc wk wa wc wo g (ix3 b q l)) (Fin.ext (row_meta p r hr h h'))
theorem v99_apply (b : Fin 8) (p : Fin 4112) (e : Fin 16) :
    val_main_v99 (F := Ideal) x mt a cb s ga gc wk wa wc wo g wr (ix3 b e (place p))
      = affinity (normed (tokStream x mt a cb s ga gc wk wa wc wo b p) fun k => g (ix2 0 k)) (fun k f => wr (ix3 0 k f)) e := by
  rw [← v85_apply]
  generalize hr : place p = r
  pointwise [val_main_v99, val_main_v98, val_main_v97, val_main_v96, val_main_v95]
  split
  · next h => exact congrArg (fun q => val_main_v85 (F := Ideal) x mt a cb s ga gc wk wa wc wo g wr (ix3 b q e)) (Fin.ext (row_token p r hr h))
  · next h =>
    split
    · next h' => exact (row_padding p r hr h h').elim
    · next h' => exact congrArg (fun q => val_main_v85 (F := Ideal) x mt a cb s ga gc wk wa wc wo g wr (ix3 b q e)) (Fin.ext (row_meta p r hr h h'))

end Cert.Proof.MixReference

end
-- ==== Proof.MixEquation.lean ====
/-
  The equation: in a token's row the mix call computes what its reference computes.
-/
module

public import proofs.«01_k».proof.Proof.MixRows
public import proofs.«01_k».proof.Proof.MixTokens
public import Idealize.ShloMosaic.Lib.Pointwise
public import Idealize.ShloMosaic.Lib.ValueIdx
public import Idealize.ShloMosaic.Lib.Routing.Ops

@[expose] public section

set_option maxRecDepth 16384

noncomputable section

open Idealize.ShloMosaic Idealize.ShloMosaic.TcCoe Idealize.SL.Sem

namespace Cert.Proof.MixEquation

open Cert.Kernel4Ideal Cert.Kernel4Ideal.Gen Cert.Proof.MixRun Cert.Proof.MixSpec Cert.Proof.MixRows
open Cert.Proof.MixReference (place headCol xTok prevTok nextTok tokStream)

variable (m : (ℓ : Loc nD τ sig) → Buf (Elt Ideal) ℓ) (c : Dev nD)

/-! ## The arguments of device `c` -/

abbrev aX : FVec Ideal S8x4096x1024 .f32 := m ((c : Thread nD τ).loc main_arg0)
abbrev aMeta : FVec Ideal S16x1024 .f32 := m ((c : Thread nD τ).loc main_arg1)
abbrev aAttn : FVec Ideal S8x4224x1024 .bf16 := m ((c : Thread nD τ).loc main_arg2)
abbrev aGate : FVec Ideal S8x4224x1024 .bf16 := m ((c : Thread nD τ).loc main_arg3)
abbrev aConv : FVec Ideal S8x4224x1024 .bf16 := m ((c : Thread nD τ).loc main_arg4)
abbrev aGa : FVec Ideal S8x4224x1024 .bf16 := m ((c : Thread nD τ).loc main_arg5)
abbrev aGc : FVec Ideal S8x4224x1024 .bf16 := m ((c : Thread nD τ).loc main_arg6)
abbrev aTaps : FVec Ideal S1x3x1024 .f32 := m ((c : Thread nD τ).loc main_arg7)
abbrev aWa : FVec Ideal S1x1024x1024 .f32 := m ((c : Thread nD τ).loc main_arg8)
abbrev aWc : FVec Ideal S1x1024x1024 .f32 := m ((c : Thread nD τ).loc main_arg9)
abbrev aWo : FVec Ideal S1x1024x1024 .f32 := m ((c : Thread nD τ).loc main_arg10)
abbrev aGain : FVec Ideal S1x1024 .f32 := m ((c : Thread nD τ).loc main_arg11)
abbrev aWr : FVec Ideal S1x1024x16 .f32 := m ((c : Thread nD τ).loc main_arg12)

/-! ## What the program lays out before the call -/

theorem taps (i : Fin 3) (k : Fin 1024) : (V m c main_v0 : FVec Ideal S3x1024 .f32) (ix2 i k) = aTaps m c (ix3 0 i k) := by
  entry_read
  pointwise
theorem gain (k : Fin 1024) : (V m c main_v2 : FVec Ideal S1x1024 .f32) (ix2 0 k) = aGain m c (ix2 0 k) := by
  entry_read
  pointwise
theorem wc_entry (k q : Fin 1024) : (V m c main_v11 : FVec Ideal S1024x1024 .bf16) (ix2 k q) = aWc m c (ix3 0 k q) := by
  entry_read
  pointwise
theorem wo_entry (k q : Fin 1024) : (V m c main_v13 : FVec Ideal S1024x1024 .bf16) (ix2 k q) = aWo m c (ix3 0 k q) := by
  entry_read
  pointwise
theorem wr_entry (f : Fin 16) (k : Fin 1024) : (V m c main_v16 : FVec Ideal S16x1024 .bf16) (ix2 f k) = aWr m c (ix3 0 k f) := by
  entry_read
  pointwise
theorem meta_entry (r : Fin 128) (k : Fin 1024) (p : Fin 16) (h : r.val = 112 + p.val) :
    (V m c main_v18 : FVec Ideal S128x1024 .f32) (ix2 r k) = aMeta m c (ix2 p k) := by
  entry_read
  pointwise
  rw [dif_neg (by omega)]
  exact congrArg (fun q => aMeta m c (ix2 q k)) (Fin.ext (by show r.val - 112 = p.val; omega))

/-- The column of the projection's heads that column `n` of the attention's rows holds. -/
abbrev headOf (n : Fin 1024) : Fin 1024 :=
  ⟨n.val / 512 * 512 + n.val / 64 % 2 * 256 + n.val / 128 % 4 * 64 + n.val % 64, by have := n.isLt; omega⟩

theorem perm_word : ∀ n : Fin 1024, lit0 (S1024.rowMajor (ix1 n)) = BitVec.ofNat 32 (headOf n).val := by decide +kernel

theorem wa_entry (k q : Fin 1024) : (V m c main_v9 : FVec Ideal S1024x1024 .bf16) (ix2 k q) = aWa m c (ix3 0 (headOf k) q) := by
  entry_read
  pointwise
  refine (Routing.gather_row gather_S1024x1024_S1024x1_S1024x1024_1_0_n_n_0_1_11024 rfl rfl rfl rfl rfl _ _ k q (headOf k) ?_
    (by norm_num)).trans ?_
  · pointwise
    exact perm_word k
  · rfl

/-! ## The attention's columns in the projection's order -/

/-- Column of the projection's heads against column of the attention's rows. -/
def columns : Fin 1024 ≃ Fin 1024 where
  toFun := headOf
  invFun := headCol
  left_inv := by decide +kernel
  right_inv := by decide +kernel

/-- A product over columns with the weight's rows permuted is the product with the attention's columns permuted back. -/
theorem stream_columns (x a b p s n ga gc : Fin 1024 → EReal) (w : Fin 3 → Fin 1024 → EReal) (wa wc wo : Fin 1024 → Fin 1024 → EReal) :
    stream x a b p s n ga gc w (fun k q => wa (headOf k) q) wc wo
      = stream x (fun k => a (headCol k)) b p s n ga gc w wa wc wo := by
  funext l
  unfold stream
  have h : ∀ q : Fin 1024, ∑ k : Fin 1024, a k * wa (headOf k) q = ∑ k : Fin 1024, a (headCol k) * wa k q := fun q =>
    Fintype.sum_equiv columns _ _ fun k => by
      show a k * wa (headOf k) q = a (headCol (headOf k)) * wa (headOf k) q
      rw [show headCol (headOf k) = k from columns.left_inv k]
  simp only [h]

/-! ## The rows around a token -/

theorem row_congr (x : FVec Ideal S8x4224x1024 .bf16) (b : Fin 8) (k : Fin 1024) {i i' : Fin 4224} (h : i.val = i'.val) :
    x (ix3 b i k) = x (ix3 b i' k) := by rw [Fin.ext h]

theorem place_val (p : Fin 4112) : (place p).val = if p.val < 16 then 4208 + p.val else p.val - 16 := rfl

theorem xRow_place (b : Fin 8) (p : Fin 4112) : xRow m c b (place p) = xTok (aX m c) (aMeta m c) b p := by
  funext k
  have hp := p.isLt
  have hv := place_val p
  generalize place p = i at hv
  unfold xRow xTok
  split_ifs at hv with h
  · rw [dif_neg (by omega), dif_pos h]
    exact meta_entry m c _ k ⟨p.val, h⟩ (by show i.val - 4096 = 112 + p.val; omega)
  · rw [dif_pos (by omega), dif_neg h]
    exact congrArg (fun q => aX m c (ix3 b q k)) (Fin.ext (by show i.val = p.val - 16; exact hv))

/-- The convolution's argument is zero in the rows that hold no token. -/
abbrev Padded : Prop := ∀ (b : Fin 8) (i : Fin 4224) (k : Fin 1024), 4096 ≤ i.val → i.val < 4208 → aConv m c (ix3 b i k) = 0

variable (hpad : Padded m c)
include hpad

theorem prev_place (b : Fin 8) (p : Fin 4112) (k : Fin 1024) :
    aConv m c (ix3 b (rowPrev (place p)) k) = prevTok (aConv m c) b p k := by
  have hp := p.isLt
  have hv := place_val p
  generalize place p = i at hv
  unfold prevTok
  split_ifs with h
  · rw [if_pos (by omega)] at hv
    exact hpad b _ k (by show 4096 ≤ (i.val + 4223) % 4224; omega) (by show (i.val + 4223) % 4224 < 4208; omega)
  · refine row_congr _ b k ?_
    rw [place_val]
    show (i.val + 4223) % 4224 = if p.val - 1 < 16 then 4208 + (p.val - 1) else p.val - 1 - 16
    split_ifs at hv ⊢ <;> omega

theorem next_place (b : Fin 8) (p : Fin 4112) (k : Fin 1024) :
    aConv m c (ix3 b (rowNext (place p)) k) = nextTok (aConv m c) b p k := by
  have hp := p.isLt
  have hv := place_val p
  generalize place p = i at hv
  unfold nextTok
  split_ifs with h
  · refine row_congr _ b k ?_
    rw [place_val]
    show (i.val + 1) % 4224 = if p.val + 1 < 16 then 4208 + (p.val + 1) else p.val + 1 - 16
    split_ifs at hv ⊢ <;> omega
  · rw [if_neg (by omega)] at hv
    exact hpad b _ k (by show 4096 ≤ (i.val + 1) % 4224; omega) (by show (i.val + 1) % 4224 < 4208; omega)

/-! ## The equation -/

omit hpad
theorem stream_congr {x x' a b p p' s n n' ga gc : Fin 1024 → EReal} {w w' : Fin 3 → Fin 1024 → EReal}
    {wa wa' wc wc' wo wo' : Fin 1024 → Fin 1024 → EReal} (hx : x = x') (hp : p = p') (hn : n = n') (hw : w = w') (ha : wa = wa')
    (hc : wc = wc') (ho : wo = wo') : stream x a b p s n ga gc w wa wc wo = stream x' a b p' s n' ga gc w' wa' wc' wo' := by
  subst hx hp hn hw ha hc ho
  rfl
include hpad

/-- The residual stream in a token's row, -/
theorem stream_eq (b : Fin 8) (p : Fin 4112) : rowStream m c b (place p)
    = tokStream (aX m c) (aMeta m c) (aAttn m c) (aGate m c) (aConv m c) (aGa m c) (aGc m c) (aTaps m c) (aWa m c) (aWc m c)
        (aWo m c) b p := by
  unfold rowStream tokStream
  exact (stream_congr (xRow_place m c b p) (funext (prev_place m c hpad b p)) (funext (next_place m c hpad b p))
      (funext fun i => funext (taps m c i)) (funext fun k => funext (wa_entry m c k)) (funext fun k => funext (wc_entry m c k))
      (funext fun k => funext (wo_entry m c k))).trans
    (stream_columns _ _ _ _ _ _ _ _ _ (fun k q => aWa m c (ix3 0 k q)) _ _)

/-- the norm of it -/
theorem norm_eq (b : Fin 8) (p : Fin 4112) : rowNorm m c b (place p)
    = normed (tokStream (aX m c) (aMeta m c) (aAttn m c) (aGate m c) (aConv m c) (aGa m c) (aGc m c) (aTaps m c) (aWa m c)
        (aWc m c) (aWo m c) b p) fun k => aGain m c (ix2 0 k) := by
  unfold rowNorm
  rw [stream_eq m c hpad]
  exact congrArg (normed _) (funext (gain m c))

/-- and the affinities. -/
theorem affinity_eq (b : Fin 8) (p : Fin 4112) : rowAff m c b (place p)
    = affinity (normed (tokStream (aX m c) (aMeta m c) (aAttn m c) (aGate m c) (aConv m c) (aGa m c) (aGc m c) (aTaps m c)
        (aWa m c) (aWc m c) (aWo m c) b p) fun k => aGain m c (ix2 0 k)) fun k f => aWr m c (ix3 0 k f) := by
  unfold rowAff
  rw [norm_eq m c hpad]
  exact congrArg (affinity _) (funext fun k => funext fun f => wr_entry m c f k)

end Cert.Proof.MixEquation

end
-- ==== Proof.ProjEntry.lean ====
/-
  What the projection's program lays out before the call, but for its tables: weights, gains, meta tokens and the matrix of
  ones that sums over heads.
-/
module

public import proofs.«01_k».proof.Proof.ProjRun
public import proofs.«01_k».proof.Proof.MixEquation
public import Idealize.ShloMosaic.Lib.Pointwise
public import Idealize.ShloMosaic.Lib.ValueIdx
public import Idealize.ShloMosaic.Lib.WordCmp
public import Idealize.ShloMosaic.Lib.Routing.Ops

@[expose] public section

set_option maxRecDepth 16384

noncomputable section

open Idealize.ShloMosaic Idealize.ShloMosaic.TcCoe Idealize.SL.Sem

namespace Cert.Proof.ProjEntry

open Cert.Kernel3Ideal Cert.Kernel3Ideal.Gen
open Idealize.ShloMosaic.Routing (shape2)
open Cert.Proof.MixEquation (headOf)

/-! ## Columns taken by number -/

theorem zero_not_mem {l : List (Fin 2)} (h : l = [1]) : (0 : Fin 2) ∉ l := by
  subst h
  decide

/-- Taking columns of a table of `nb` columns: where the index holds at `(c, 0)` a column number `b`, column `c` of the result
    is the table's column `b`. -/
theorem gather_col {α : Type} {nb B n : Nat} (d : GatherDims (shape2 B nb) (shape2 n 1) (shape2 B n)) (hoff : d.offsetDims = [0])
    (hcoll : d.collapsedSliceDims = [1]) (hob : d.operandBatchingDims = [])
    (hsim : d.startIndexMap = [1]) (hivd : d.indexVectorDim = 1) (x : (shape2 B nb).Idx → α) (idx : IVec (shape2 n 1) 32)
    (c : Fin n) (y : Fin B) (b : Fin nb) (hb : idx (ix2 c (0 : Fin 1)) = BitVec.ofNat 32 b.val) (hnb : nb < 2 ^ 31) :
    Host.gather d x idx (ix2 y c) = x (ix2 y b) := by
  unfold Host.gather
  refine congrArg x (funext fun a => Fin.ext ?_)
  have hbN : ∀ a', a' ∉ d.operandBatchingDims := fun a' => by rw [hob]; exact List.not_mem_nil
  have hk1 : ∀ k ∈ d.batchDims, k = (1 : Fin 2) := fun k hk => by
    have hk' : k ∉ d.offsetDims := of_decide_eq_true (List.mem_filter.1 hk).2
    rw [hoff] at hk'
    have h1 : k.val ≠ 0 := fun e => hk' (List.mem_singleton.2 (Fin.ext e))
    have h2 : k.val < 2 := k.isLt
    exact Fin.ext (by show k.val = 1; omega)
  have hk0 : ∀ k ∈ d.offsetDims, k = (0 : Fin 2) := fun k hk => by rw [hoff] at hk; exact List.mem_singleton.1 hk
  have e0 : ∀ X : Fin 2, X = 0 → (ix2 y c X).val = y.val := fun X h => by subst h; rfl
  have e1 : ∀ X : Fin 2, X = 1 → (ix2 y c X).val = c.val := fun X h => by subst h; rfl
  match a with
  | ⟨1, _⟩ =>
    have hk : (1 : Fin 2) ∉ d.sKept := fun h => ((d.mem_sKept 1).1 h).1 (by rw [hcoll]; exact List.mem_singleton.2 rfl)
    have hm : (1 : Fin 2) ∈ d.startIndexMap := by rw [hsim]; exact List.mem_singleton.2 rfl
    have hsl : d.sliceSizes 1 = 1 := d.slice_collapsed 1 (by rw [hcoll]; exact List.mem_singleton.2 rfl)
    show d.start (ix2 y c) idx 1 + d.batchCoord (ix2 y c) 1 + d.offCoord (ix2 y c) 1 = b.val
    rw [d.batchCoord_eq_zero _ _ (hbN 1), d.offCoord_eq_zero _ _ hk]
    simp only [Nat.add_zero]
    unfold GatherDims.start
    rw [dif_pos hm]
    have hsi : d.siIdx (ix2 y c) ⟨d.startIndexMap.idxOf 1, List.idxOf_lt_length_iff.2 hm⟩ = ix2 c (0 : Fin 1) := by
      funext b'
      apply Fin.ext
      match b' with
      | ⟨0, _⟩ =>
        unfold GatherDims.siIdx
        rw [dif_neg (by rw [hivd]; exact Nat.zero_ne_one)]
        unfold GatherDims.siCoord
        simp only [Fin.val_cast]
        exact e1 _ (hk1 _ (List.getElem_mem _))
      | ⟨1, _⟩ =>
        unfold GatherDims.siIdx
        rw [dif_pos (by rw [hivd])]
        show List.idxOf (1 : Fin 2) d.startIndexMap = 0
        rw [hsim]; simp
    have hbl := b.isLt
    rw [hsi, hb, hsl, StableHlo.Predicate.toInt_ofNat_small _ (by omega)]
    show min ((b.val : Int)).toNat (nb - 1) = b.val
    omega
  | ⟨0, _⟩ =>
    have hk : (0 : Fin 2) ∈ d.sKept := (d.mem_sKept 0).2 ⟨zero_not_mem hcoll, hbN 0⟩
    have hm : (0 : Fin 2) ∉ d.startIndexMap := zero_not_mem hsim
    show d.start (ix2 y c) idx 0 + d.batchCoord (ix2 y c) 0 + d.offCoord (ix2 y c) 0 = y.val
    rw [d.batchCoord_eq_zero _ _ (hbN 0), Nat.add_zero]
    unfold GatherDims.start GatherDims.offCoord
    rw [dif_neg hm, dif_pos hk, Nat.zero_add]
    exact e0 _ (hk0 _ (List.getElem_mem _))

variable (m : (ℓ : Loc nD τ sig) → Buf (Elt Ideal) ℓ) (c : Dev nD)

/-! ## The arguments of device `c` -/

abbrev aX : FVec Ideal S8x4096x1024 .f32 := m ((c : Thread nD τ).loc main_arg0)
abbrev aMeta : FVec Ideal S16x1024 .f32 := m ((c : Thread nD τ).loc main_arg1)
abbrev aGain : FVec Ideal S1x1024 .f32 := m ((c : Thread nD τ).loc main_arg2)
abbrev aW : FVec Ideal S1x1024x6656 .f32 := m ((c : Thread nD τ).loc main_arg3)
abbrev aGq : FVec Ideal S1x64 .f32 := m ((c : Thread nD τ).loc main_arg4)
abbrev aGk : FVec Ideal S1x64 .f32 := m ((c : Thread nD τ).loc main_arg5)

/-! ## What is laid out -/

theorem perm_word : ∀ n : Fin 1024, lit0 (S1024.rowMajor (ix1 n)) = BitVec.ofNat 32 (headOf n).val := by decide +kernel

/-- The column of the weights that column `j` of the laid out weights is. -/
def colOf (j : Fin 6656) : Fin 6656 := if h : j.val < 1024 then ⟨(headOf ⟨j.val, h⟩).val, by have := (headOf ⟨j.val, h⟩).isLt; omega⟩ else j

theorem w_entry (k : Fin 1024) (j : Fin 6656) :
    ((V m c main_v10 : FVec Ideal S1024x6656 .bf16) (ix2 k j) : EReal) = (aW m c (ix3 0 k (colOf j)) : EReal) := by
  unfold V
  simp only [List.flatten_cons, List.flatten_nil, List.append_nil, hostOps0, hostOps0_1, hostOps0_2, hostOps0_3, hostOps0_4, List.cons_append, List.nil_append]
  entry_read
  pointwise
  unfold colOf
  split
  · next h =>
    refine (gather_col gather_S1024x1024_S1024x1_S1024x1024_0_1_n_n_1_1_10241 rfl rfl rfl rfl rfl _ _ ⟨j.val, h⟩ k (headOf ⟨j.val, h⟩) ?_
      (by norm_num)).trans ?_
    · pointwise
      exact perm_word ⟨j.val, h⟩
    · pointwise
  · next h => exact congrArg (fun q => aW m c (ix3 0 k q)) (Fin.ext (by show 1024 + (j.val - 1024) = j.val; omega))

theorem gain_entry (k : Fin 1024) : ((V m c main_v12 : FVec Ideal S1x1024 .f32) (ix2 0 k) : EReal) = (aGain m c (ix2 0 k) : EReal) := by
  unfold V
  simp only [List.flatten_cons, List.flatten_nil, List.append_nil, hostOps0, hostOps0_1, hostOps0_2, hostOps0_3, hostOps0_4, List.cons_append, List.nil_append]
  entry_read
  pointwise

theorem gq_entry (l : Fin 128) : ((V m c main_v17 : FVec Ideal S1x128 .f32) (ix2 0 l) : EReal) = (aGq m c (ix2 0 ⟨l.val % 64, by omega⟩) : EReal) := by
  unfold V
  simp only [List.flatten_cons, List.flatten_nil, List.append_nil, hostOps0, hostOps0_1, hostOps0_2, hostOps0_3, hostOps0_4, List.cons_append, List.nil_append]
  entry_read
  pointwise

theorem gk_entry (l : Fin 128) : ((V m c main_v22 : FVec Ideal S1x128 .f32) (ix2 0 l) : EReal) = (aGk m c (ix2 0 ⟨l.val % 64, by omega⟩) : EReal) := by
  unfold V
  simp only [List.flatten_cons, List.flatten_nil, List.append_nil, hostOps0, hostOps0_1, hostOps0_2, hostOps0_3, hostOps0_4, List.cons_append, List.nil_append]
  entry_read
  pointwise

theorem meta_entry (r : Fin 128) (k : Fin 1024) (p : Fin 16) (h : r.val = 112 + p.val) :
    ((V m c main_v34 : FVec Ideal S128x1024 .f32) (ix2 r k) : EReal) = (aMeta m c (ix2 p k) : EReal) := by
  unfold V
  simp only [List.flatten_cons, List.flatten_nil, List.append_nil, hostOps0, hostOps0_1, hostOps0_2, hostOps0_3, hostOps0_4, List.cons_append, List.nil_append]
  entry_read
  pointwise
  rw [dif_neg (by omega)]
  exact congrArg (fun q => aMeta m c (ix2 q k)) (Fin.ext (by show r.val - 112 = p.val; omega))

theorem same_word : ∀ i l : Fin 128, IntOp.cmpi .eq (IntOp.cmpi .slt (BitVec.ofNat 32 i.val) (BitVec.ofNat 32 64))
    (IntOp.cmpi .slt (BitVec.ofNat 32 l.val) (BitVec.ofNat 32 64)) = if i.val / 64 = l.val / 64 then 1#1 else 0#1 := by
  decide +kernel

/-- The matrix of ones: one where the two columns are of one head. -/
theorem ones_entry (i l : Fin 128) :
    ((V m c main_v32 : FVec Ideal S128x128 .bf16) (ix2 i l) : EReal) = if i.val / 64 = l.val / 64 then (1 : EReal) else (0 : EReal) := by
  unfold V
  simp only [List.flatten_cons, List.flatten_nil, List.append_nil, hostOps0, hostOps0_1, hostOps0_2, hostOps0_3, hostOps0_4, List.cons_append, List.nil_append]
  entry_read
  pointwise
  rw [same_word]
  split_ifs
  · show ((((1#1 : BitVec 1).toNat : ℕ) : ℝ) : EReal) = 1
    simp
  · show ((((0#1 : BitVec 1).toNat : ℕ) : ℝ) : EReal) = 0
    simp

end Cert.Proof.ProjEntry

end
-- ==== Proof.ProjBand.lean ====
/-
  The two forms of a head, one over a band of two heads and one over the head alone, are equal.
-/
module

public import proofs.«01_k».proof.Proof.ProjSpec
public import proofs.«01_k».proof.Proof.ProjHead
public import proofs.«01_k».proof.Proof.AttentionReference
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.Proof.ProjBand

open Cert.Proof.ProjSpec Cert.Proof.ProjHead

/-! ## Constants -/

theorem word_16 : Ideal.ofBits .f32 0x41800000#32 = ((16 : ℝ) : EReal) := by
  simp [Ideal.ofBits, Ideal.ieee, -EReal.coe_mul]; norm_num
theorem word_64 : Ideal.ofBits .f32 0x42800000#32 = ((64 : ℝ) : EReal) := by
  simp [Ideal.ofBits, Ideal.ieee, -EReal.coe_mul]; norm_num
theorem word_64th : Ideal.ofBits .f32 0x3C800000#32 = ((1 / 64 : ℝ) : EReal) := by
  simp [Ideal.ofBits, Ideal.ieee, -EReal.coe_mul]; norm_num
theorem word_8th : Ideal.ofBits .f32 0x3E000000#32 = ((1 / 8 : ℝ) : EReal) := by
  simp [Ideal.ofBits, Ideal.ieee, -EReal.coe_mul]; norm_num
theorem word_neg_one : Ideal.ofBits .f32 0xBF800000#32 = -(1 : EReal) := by
  have h : Ideal.ofBits .f32 0xBF800000#32 = ((-1 : ℝ) : EReal) := by
    simp [Ideal.ofBits, Ideal.ieee, -EReal.coe_mul]; norm_num
  rw [h, EReal.coe_neg, EReal.coe_one]

/-- The scale of the queries: one eighth, over the logarithm of two. -/
theorem q_scale (z : EReal) : z * (((Real.log 256)⁻¹ : ℝ) : EReal)
    = Ideal.div (z * Ideal.ofBits .f32 0x3E000000#32) (Ideal.log (Ideal.ofBits .f32 0x40000000#32)) := by
  have h2 : Real.log 2 ≠ 0 := (Real.log_pos (by norm_num)).ne'
  have h256 : Real.log 256 = 8 * Real.log 2 := by
    rw [show (256 : ℝ) = 2 ^ 8 by norm_num, Real.log_pow]
    norm_num
  rw [AttentionReference.log_two, Ideal.div_coe h2, word_8th, mul_assoc, ← EReal.coe_mul, h256]
  congr 2
  field_simp

/-! ## A band -/

/-- The sum over a band of what lies in one head is the sum over the head. -/
theorem sum_head (f : Fin 128 → EReal) (l : Fin 128) :
    ∑ k : Fin 128, f k * (if k.val / 64 = l.val / 64 then 1 else 0) = ∑ d : Fin 64, f ⟨l.val / 64 * 64 + d.val, by omega⟩ := by
  have hs := Fin.sum_univ_add (a := 64) (b := 64) (fun k : Fin (64 + 64) => f k * (if k.val / 64 = l.val / 64 then (1 : EReal) else 0))
  refine hs.trans ?_
  rcases (show l.val / 64 = 0 ∨ l.val / 64 = 1 by omega) with h | h
  · rw [Finset.sum_eq_zero (s := Finset.univ) (f := fun i : Fin 64 => f (Fin.natAdd 64 i) * _), add_zero]
    · refine Finset.sum_congr rfl fun d _ => ?_
      rw [if_pos (by show d.val / 64 = l.val / 64; omega), mul_one]
      exact congrArg f (Fin.ext (by show d.val = l.val / 64 * 64 + d.val; omega))
    · intro d _
      rw [if_neg (by show ¬ (64 + d.val) / 64 = l.val / 64; omega), mul_zero]
  · rw [Finset.sum_eq_zero (s := Finset.univ) (f := fun i : Fin 64 => f (Fin.castAdd 64 i) * _), zero_add]
    · refine Finset.sum_congr rfl fun d _ => ?_
      rw [if_pos (by show (64 + d.val) / 64 = l.val / 64; omega), mul_one]
      exact congrArg f (Fin.ext (by show 64 + d.val = l.val / 64 * 64 + d.val; omega))
    · intro d _
      rw [if_neg (by show ¬ d.val / 64 = l.val / 64; omega), mul_zero]

variable (t g cs sn : Fin 128 → EReal) (o : Fin 128 → Fin 128 → EReal) (g' : Fin 64 → EReal) (cs' sn' : Fin 32 → EReal)

/-- The norm of a column of a band is that of the column of its head. -/
theorem norm_head (ho : ∀ k l, o k l = if k.val / 64 = l.val / 64 then 1 else 0) (hg : ∀ l, g l = g' ⟨l.val % 64, by omega⟩)
    (l : Fin 128) (n : Fin 2) (d : Fin 64) (hl : l.val = n.val * 64 + d.val) :
    headNorm t (squares t o) g l = headNormed (fun e => t ⟨n.val * 64 + e.val, by omega⟩) g' d := by
  unfold headNorm squares headNormed
  simp only [ho]
  rw [sum_head (fun k => t k * t k) l, hg l, word_64, word_64th, Ideal.div_coe (by norm_num)]
  have hn : l.val / 64 = n.val := by omega
  have hd : (⟨l.val % 64, by omega⟩ : Fin 64) = d := Fin.ext (by show l.val % 64 = d.val; omega)
  have ht : t l = t ⟨n.val * 64 + d.val, by omega⟩ := congrArg t (Fin.ext hl)
  rw [hd, ht]
  simp only [hn]

/-- A column of a band, normalised and turned, is the column of its head, normalised and turned. -/
theorem heads_head (ho : ∀ k l, o k l = if k.val / 64 = l.val / 64 then 1 else 0) (hg : ∀ l, g l = g' ⟨l.val % 64, by omega⟩)
    (hc : ∀ l, cs l = cs' ⟨l.val % 32, by omega⟩)
    (hs : ∀ l, sn l = sn' ⟨l.val % 32, by omega⟩
      * if l.val % 64 < 32 then Ideal.ofBits .f32 0xBF800000#32 else Ideal.ofBits .f32 0x3F800000#32)
    (l : Fin 128) (n : Fin 2) (d : Fin 64) (hl : l.val = n.val * 64 + d.val) :
    heads t g cs sn o l = headTurned (headNormed (fun e => t ⟨n.val * 64 + e.val, by omega⟩) g') cs' sn' d := by
  unfold heads turned headTurned
  rw [hc, hs]
  by_cases h : d.val < 32
  · have hp : (partner l).val = n.val * 64 + (32 + d.val) := by
      unfold partner
      rw [if_pos (by omega)]
      show (l.val + 32) % 128 = _
      omega
    rw [dif_pos h, if_pos (by omega), norm_head t g o g' ho hg l n d hl,
      norm_head t g o g' ho hg (partner l) n ⟨32 + d.val, by omega⟩ hp, word_neg_one, mul_neg, mul_one, mul_neg, ← sub_eq_add_neg,
      show (⟨l.val % 32, by omega⟩ : Fin 32) = ⟨d.val, h⟩ from Fin.ext (by show l.val % 32 = d.val; omega)]
  · have hp : (partner l).val = n.val * 64 + (d.val - 32) := by
      unfold partner
      rw [if_neg (by omega)]
      show (l.val + 96) % 128 = _
      omega
    rw [dif_neg h, if_neg (by omega), norm_head t g o g' ho hg l n d hl,
      norm_head t g o g' ho hg (partner l) n ⟨d.val - 32, by omega⟩ hp, Ideal.ofBits_one_f32, mul_one,
      show (⟨l.val % 32, by omega⟩ : Fin 32) = ⟨d.val - 32, by omega⟩ from Fin.ext (by show l.val % 32 = d.val - 32; omega),
      show (⟨32 + (d.val - 32), by omega⟩ : Fin 64) = d from Fin.ext (by show 32 + (d.val - 32) = d.val; omega)]

end Cert.Proof.ProjBand

end
-- ==== Proof.ProjReference.lean ====
/-
  The projection's reference, read at an element: what it computes from its arguments.
-/
module

public import proofs.«01_k».proof.Proof.Gen.Reference3Ideal.Read
public import proofs.«01_k».proof.Proof.MixReference
public import proofs.«01_k».proof.Proof.ProjHead
public import Idealize.ShloMosaic.Lib.Pointwise

@[expose] public section

set_option maxRecDepth 16384

noncomputable section

open Idealize.ShloMosaic Idealize.ShloMosaic.TcCoe Idealize.SL.Sem

namespace Cert.Proof.ProjReference

open Cert.Reference3Ideal Cert.Reference3Ideal.Gen Cert.Reference3Ideal.Read Cert.Proof.MixSpec Cert.Proof.ProjSpec Cert.Proof.ProjHead
open Cert.Proof.MixReference (place xTok)

variable (x : FVec Ideal S8x4096x1024 .f32) (mt : FVec Ideal S16x1024 .f32) (g : FVec Ideal S1x1024 .f32)
  (w : FVec Ideal S1x1024x6656 .f32) (gq gk : FVec Ideal S1x64 .f32)

/-! ## The projected row -/

/-- The projected row of position `p`. -/
def tokY (b : Fin 8) (p : Fin 4112) : Fin 6656 → EReal :=
  project (normed (xTok x mt b p) fun k => g (ix2 0 k)) fun k j => w (ix3 0 k j)

theorem v2_apply (b : Fin 8) (p : Fin 4112) (k : Fin 1024) : val_main_v2 (F := Ideal) x mt (ix3 b p k) = xTok x mt b p k := by
  unfold MixReference.xTok
  pointwise [val_main_v2, val_main_v1, val_main_v0]

theorem v36_apply (b : Fin 8) (p : Fin 4112) (k : Fin 1024) :
    val_main_v36 (F := Ideal) x mt g (ix3 b p k) = normed (xTok x mt b p) (fun k => g (ix2 0 k)) k := by
  unfold normed
  pointwise [val_main_v36, val_main_v35, val_main_v34, val_main_v33, val_main_v32, val_main_v31, val_main_v30, val_main_v29, val_main_v28, val_main_v27, val_main_v26, val_main_v25, val_main_v24, val_main_v23, val_main_cst_3, val_main_cst_4, val_main_cst_5, v2_apply]

theorem v38_apply (b : Fin 8) (p : Fin 4112) (j : Fin 6656) : val_main_v38 (F := Ideal) x mt g w (ix3 b p j) = tokY x mt g w b p j := by
  unfold tokY project
  pointwise [val_main_v38, val_main_v37, v36_apply]

/-! ## The rotation -/

theorem v18_apply (p : Fin 4112) (j : Fin 32) : val_main_v18 (F := Ideal) (ix2 p j) = angle p j := by
  unfold angle freq
  pointwise [val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1, val_main_cst_2]
theorem v20_apply (p : Fin 4112) (z : Fin 1) (j : Fin 32) : val_main_v20 (F := Ideal) (ix3 p z j) = Ideal.cos (angle p j) := by
  pointwise [val_main_v20, val_main_v19, v18_apply]
theorem v22_apply (p : Fin 4112) (z : Fin 1) (j : Fin 32) : val_main_v22 (F := Ideal) (ix3 p z j) = Ideal.sin (angle p j) := by
  pointwise [val_main_v22, val_main_v21, v18_apply]

/-! ## The heads of the queries -/

theorem sum_read16 (t : FVec Ideal S8x4112x16x64 .f32) (b : Fin 8) (p : Fin 4112) (h : Fin 16) :
    Host.reduceAdd (mulf t t) (val_main_cst_6 (F := Ideal)) reducesTo_S8x4112x16x64_S8x4112x16_d3 h_S_ (ix3 b p h)
      = ∑ k : Fin 64, t (ix4 b p h k) * t (ix4 b p h k) := by
  pointwise [val_main_cst_6]
theorem norm_read16 (t : FVec Ideal S8x4112x16x64 .f32) (r : FVec Ideal S8x4112x16x1 .f32) (g : FVec Ideal S1x64 .f32)
    (b : Fin 8) (p : Fin 4112) (h : Fin 16) (d : Fin 64) :
    mulf (mulf t (broadcastInDim S8x4112x16x64 ![0, 1, 2, 3] bcast_S8x4112x16x1_S8x4112x16x64_0_1_2_3 r))
        (broadcastInDim S8x4112x16x64 ![0, 1, 2, 3] bcast_S1x1x1x64_S8x4112x16x64_0_1_2_3
          (broadcastInDim S1x1x1x64 ![3] bcast_S64_S1x1x1x64_3 (shapeCast _ g shapeCasts_S1x64_S64))) (ix4 b p h d)
      = t (ix4 b p h d) * r (ix4 b p h 0) * g (ix2 0 d) := by
  pointwise
theorem lower_read16 (u : FVec Ideal S8x4112x16x64 .f32) (cs sn : FVec Ideal S4112x1x32 .f32) (b : Fin 8) (p : Fin 4112) (h : Fin 16) (d : Fin 32) :
    subf (mulf (extractStridedSlice S8x4112x16x32 ![0, 0, 0, 0] u slices_S8x4112x16x64_S8x4112x16x32_0_0_0_0)
          (broadcastInDim S8x4112x16x32 ![0, 1, 2, 3] bcast_S1x4112x1x32_S8x4112x16x32_0_1_2_3
            (broadcastInDim S1x4112x1x32 ![1, 2, 3] bcast_S4112x1x32_S1x4112x1x32_1_2_3 cs)))
        (mulf (extractStridedSlice S8x4112x16x32 ![0, 0, 0, 32] u slices_S8x4112x16x64_S8x4112x16x32_0_0_0_32)
          (broadcastInDim S8x4112x16x32 ![0, 1, 2, 3] bcast_S1x4112x1x32_S8x4112x16x32_0_1_2_3
            (broadcastInDim S1x4112x1x32 ![1, 2, 3] bcast_S4112x1x32_S1x4112x1x32_1_2_3 sn))) (ix4 b p h d)
      = u (ix4 b p h ⟨d.val, by omega⟩) * cs (ix3 p 0 d) - u (ix4 b p h ⟨32 + d.val, by omega⟩) * sn (ix3 p 0 d) := by
  pointwise
theorem upper_read16 (u : FVec Ideal S8x4112x16x64 .f32) (cs sn : FVec Ideal S4112x1x32 .f32) (b : Fin 8) (p : Fin 4112) (h : Fin 16) (d : Fin 32) :
    addf (mulf (extractStridedSlice S8x4112x16x32 ![0, 0, 0, 32] u slices_S8x4112x16x64_S8x4112x16x32_0_0_0_32)
          (broadcastInDim S8x4112x16x32 ![0, 1, 2, 3] bcast_S1x4112x1x32_S8x4112x16x32_0_1_2_3
            (broadcastInDim S1x4112x1x32 ![1, 2, 3] bcast_S4112x1x32_S1x4112x1x32_1_2_3 cs)))
        (mulf (extractStridedSlice S8x4112x16x32 ![0, 0, 0, 0] u slices_S8x4112x16x64_S8x4112x16x32_0_0_0_0)
          (broadcastInDim S8x4112x16x32 ![0, 1, 2, 3] bcast_S1x4112x1x32_S8x4112x16x32_0_1_2_3
            (broadcastInDim S1x4112x1x32 ![1, 2, 3] bcast_S4112x1x32_S1x4112x1x32_1_2_3 sn))) (ix4 b p h d)
      = u (ix4 b p h ⟨32 + d.val, by omega⟩) * cs (ix3 p 0 d) + u (ix4 b p h ⟨d.val, by omega⟩) * sn (ix3 p 0 d) := by
  pointwise

theorem v47_apply (b : Fin 8) (p : Fin 4112) (h : Fin 16) (d : Fin 64) :
    val_main_v47 (F := Ideal) x mt g w (ix4 b p h d) = tokY x mt g w b p ⟨h.val * 64 + d.val, by omega⟩ := by
  rw [← v38_apply]
  pointwise [val_main_v47, val_main_v39]
theorem v50_apply (b : Fin 8) (p : Fin 4112) (h : Fin 16) : val_main_v50 (F := Ideal) x mt g w (ix3 b p h)
    = ∑ k : Fin 64, tokY x mt g w b p ⟨h.val * 64 + k.val, by omega⟩ * tokY x mt g w b p ⟨h.val * 64 + k.val, by omega⟩ := by
  exact (sum_read16 _ b p h).trans (Finset.sum_congr rfl fun k _ => by rw [v47_apply])
theorem v56_apply (b : Fin 8) (p : Fin 4112) (h : Fin 16) (z : Fin 1) : val_main_v56 (F := Ideal) x mt g w (ix4 b p h z)
    = Ideal.rsqrt (Ideal.div (∑ k : Fin 64, tokY x mt g w b p ⟨h.val * 64 + k.val, by omega⟩ * tokY x mt g w b p ⟨h.val * 64 + k.val, by omega⟩)
        (Ideal.ofBits .f32 0x42800000#32) + Ideal.ofBits .f32 0x358637BD#32) := by
  pointwise [val_main_v56, val_main_v55, val_main_v54, val_main_v53, val_main_v52, val_main_v51, val_main_cst_7, val_main_cst_8, v50_apply]

/-- A head of the queries, normalised. -/
def tokQ (b : Fin 8) (p : Fin 4112) (h : Fin 16) : Fin 64 → EReal :=
  headNormed (fun d => tokY x mt g w b p ⟨h.val * 64 + d.val, by omega⟩) fun d => gq (ix2 0 d)

theorem v61_apply (b : Fin 8) (p : Fin 4112) (h : Fin 16) (d : Fin 64) :
    val_main_v61 (F := Ideal) x mt g w gq (ix4 b p h d) = tokQ x mt g w gq b p h d := by
  unfold tokQ headNormed
  refine (norm_read16 (val_main_v47 (F := Ideal) x mt g w) (val_main_v56 (F := Ideal) x mt g w) gq b p h d).trans ?_
  rw [v47_apply, v56_apply]
theorem v70_apply (b : Fin 8) (p : Fin 4112) (h : Fin 16) (d : Fin 32) : val_main_v70 (F := Ideal) x mt g w gq (ix4 b p h d)
    = tokQ x mt g w gq b p h ⟨d.val, by omega⟩ * Ideal.cos (angle p d) - tokQ x mt g w gq b p h ⟨32 + d.val, by omega⟩ * Ideal.sin (angle p d) := by
  refine (lower_read16 (val_main_v61 (F := Ideal) x mt g w gq) (val_main_v20 (F := Ideal)) (val_main_v22 (F := Ideal)) b p h d).trans ?_
  rw [v61_apply, v61_apply, v20_apply, v22_apply]
theorem v77_apply (b : Fin 8) (p : Fin 4112) (h : Fin 16) (d : Fin 32) : val_main_v77 (F := Ideal) x mt g w gq (ix4 b p h d)
    = tokQ x mt g w gq b p h ⟨32 + d.val, by omega⟩ * Ideal.cos (angle p d) + tokQ x mt g w gq b p h ⟨d.val, by omega⟩ * Ideal.sin (angle p d) := by
  refine (upper_read16 (val_main_v61 (F := Ideal) x mt g w gq) (val_main_v20 (F := Ideal)) (val_main_v22 (F := Ideal)) b p h d).trans ?_
  rw [v61_apply, v61_apply, v20_apply, v22_apply]
theorem v78_apply (b : Fin 8) (p : Fin 4112) (h : Fin 16) (d : Fin 64) : val_main_v78 (F := Ideal) x mt g w gq (ix4 b p h d)
    = headTurned (tokQ x mt g w gq b p h) (fun j => Ideal.cos (angle p j)) (fun j => Ideal.sin (angle p j)) d := by
  unfold headTurned
  pointwise [val_main_v78, v70_apply, v77_apply]

/-! ## The heads of the keys -/

theorem sum_read4 (t : FVec Ideal S8x4112x4x64 .f32) (b : Fin 8) (p : Fin 4112) (h : Fin 4) :
    Host.reduceAdd (mulf t t) (val_main_cst_9 (F := Ideal)) reducesTo_S8x4112x4x64_S8x4112x4_d3 h_S_ (ix3 b p h)
      = ∑ k : Fin 64, t (ix4 b p h k) * t (ix4 b p h k) := by
  pointwise [val_main_cst_9]
theorem norm_read4 (t : FVec Ideal S8x4112x4x64 .f32) (r : FVec Ideal S8x4112x4x1 .f32) (g : FVec Ideal S1x64 .f32)
    (b : Fin 8) (p : Fin 4112) (h : Fin 4) (d : Fin 64) :
    mulf (mulf t (broadcastInDim S8x4112x4x64 ![0, 1, 2, 3] bcast_S8x4112x4x1_S8x4112x4x64_0_1_2_3 r))
        (broadcastInDim S8x4112x4x64 ![0, 1, 2, 3] bcast_S1x1x1x64_S8x4112x4x64_0_1_2_3
          (broadcastInDim S1x1x1x64 ![3] bcast_S64_S1x1x1x64_3 (shapeCast _ g shapeCasts_S1x64_S64))) (ix4 b p h d)
      = t (ix4 b p h d) * r (ix4 b p h 0) * g (ix2 0 d) := by
  pointwise
theorem lower_read4 (u : FVec Ideal S8x4112x4x64 .f32) (cs sn : FVec Ideal S4112x1x32 .f32) (b : Fin 8) (p : Fin 4112) (h : Fin 4) (d : Fin 32) :
    subf (mulf (extractStridedSlice S8x4112x4x32 ![0, 0, 0, 0] u slices_S8x4112x4x64_S8x4112x4x32_0_0_0_0)
          (broadcastInDim S8x4112x4x32 ![0, 1, 2, 3] bcast_S1x4112x1x32_S8x4112x4x32_0_1_2_3
            (broadcastInDim S1x4112x1x32 ![1, 2, 3] bcast_S4112x1x32_S1x4112x1x32_1_2_3 cs)))
        (mulf (extractStridedSlice S8x4112x4x32 ![0, 0, 0, 32] u slices_S8x4112x4x64_S8x4112x4x32_0_0_0_32)
          (broadcastInDim S8x4112x4x32 ![0, 1, 2, 3] bcast_S1x4112x1x32_S8x4112x4x32_0_1_2_3
            (broadcastInDim S1x4112x1x32 ![1, 2, 3] bcast_S4112x1x32_S1x4112x1x32_1_2_3 sn))) (ix4 b p h d)
      = u (ix4 b p h ⟨d.val, by omega⟩) * cs (ix3 p 0 d) - u (ix4 b p h ⟨32 + d.val, by omega⟩) * sn (ix3 p 0 d) := by
  pointwise
theorem upper_read4 (u : FVec Ideal S8x4112x4x64 .f32) (cs sn : FVec Ideal S4112x1x32 .f32) (b : Fin 8) (p : Fin 4112) (h : Fin 4) (d : Fin 32) :
    addf (mulf (extractStridedSlice S8x4112x4x32 ![0, 0, 0, 32] u slices_S8x4112x4x64_S8x4112x4x32_0_0_0_32)
          (broadcastInDim S8x4112x4x32 ![0, 1, 2, 3] bcast_S1x4112x1x32_S8x4112x4x32_0_1_2_3
            (broadcastInDim S1x4112x1x32 ![1, 2, 3] bcast_S4112x1x32_S1x4112x1x32_1_2_3 cs)))
        (mulf (extractStridedSlice S8x4112x4x32 ![0, 0, 0, 0] u slices_S8x4112x4x64_S8x4112x4x32_0_0_0_0)
          (broadcastInDim S8x4112x4x32 ![0, 1, 2, 3] bcast_S1x4112x1x32_S8x4112x4x32_0_1_2_3
            (broadcastInDim S1x4112x1x32 ![1, 2, 3] bcast_S4112x1x32_S1x4112x1x32_1_2_3 sn))) (ix4 b p h d)
      = u (ix4 b p h ⟨32 + d.val, by omega⟩) * cs (ix3 p 0 d) + u (ix4 b p h ⟨d.val, by omega⟩) * sn (ix3 p 0 d) := by
  pointwise

theorem v79_apply (b : Fin 8) (p : Fin 4112) (h : Fin 4) (d : Fin 64) :
    val_main_v79 (F := Ideal) x mt g w (ix4 b p h d) = tokY x mt g w b p ⟨1024 + h.val * 64 + d.val, by omega⟩ := by
  rw [← v38_apply]
  pointwise [val_main_v79, val_main_v40]
  exact congrArg (fun q => val_main_v38 (F := Ideal) x mt g w (ix3 b p q)) (Fin.ext (by show 1024 + (h.val * 64 + d.val) = 1024 + h.val * 64 + d.val; omega))
theorem v82_apply (b : Fin 8) (p : Fin 4112) (h : Fin 4) : val_main_v82 (F := Ideal) x mt g w (ix3 b p h)
    = ∑ k : Fin 64, tokY x mt g w b p ⟨1024 + h.val * 64 + k.val, by omega⟩ * tokY x mt g w b p ⟨1024 + h.val * 64 + k.val, by omega⟩ := by
  exact (sum_read4 _ b p h).trans (Finset.sum_congr rfl fun k _ => by rw [v79_apply])
theorem v88_apply (b : Fin 8) (p : Fin 4112) (h : Fin 4) (z : Fin 1) : val_main_v88 (F := Ideal) x mt g w (ix4 b p h z)
    = Ideal.rsqrt (Ideal.div (∑ k : Fin 64, tokY x mt g w b p ⟨1024 + h.val * 64 + k.val, by omega⟩ * tokY x mt g w b p ⟨1024 + h.val * 64 + k.val, by omega⟩)
        (Ideal.ofBits .f32 0x42800000#32) + Ideal.ofBits .f32 0x358637BD#32) := by
  pointwise [val_main_v88, val_main_v87, val_main_v86, val_main_v85, val_main_v84, val_main_v83, val_main_cst_10, val_main_cst_11, v82_apply]

/-- A head of the keys, normalised. -/
def tokK (b : Fin 8) (p : Fin 4112) (h : Fin 4) : Fin 64 → EReal :=
  headNormed (fun d => tokY x mt g w b p ⟨1024 + h.val * 64 + d.val, by omega⟩) fun d => gk (ix2 0 d)

theorem v93_apply (b : Fin 8) (p : Fin 4112) (h : Fin 4) (d : Fin 64) :
    val_main_v93 (F := Ideal) x mt g w gk (ix4 b p h d) = tokK x mt g w gk b p h d := by
  unfold tokK headNormed
  refine (norm_read4 (val_main_v79 (F := Ideal) x mt g w) (val_main_v88 (F := Ideal) x mt g w) gk b p h d).trans ?_
  rw [v79_apply, v88_apply]
theorem v102_apply (b : Fin 8) (p : Fin 4112) (h : Fin 4) (d : Fin 32) : val_main_v102 (F := Ideal) x mt g w gk (ix4 b p h d)
    = tokK x mt g w gk b p h ⟨d.val, by omega⟩ * Ideal.cos (angle p d) - tokK x mt g w gk b p h ⟨32 + d.val, by omega⟩ * Ideal.sin (angle p d) := by
  refine (lower_read4 (val_main_v93 (F := Ideal) x mt g w gk) (val_main_v20 (F := Ideal)) (val_main_v22 (F := Ideal)) b p h d).trans ?_
  rw [v93_apply, v93_apply, v20_apply, v22_apply]
theorem v109_apply (b : Fin 8) (p : Fin 4112) (h : Fin 4) (d : Fin 32) : val_main_v109 (F := Ideal) x mt g w gk (ix4 b p h d)
    = tokK x mt g w gk b p h ⟨32 + d.val, by omega⟩ * Ideal.cos (angle p d) + tokK x mt g w gk b p h ⟨d.val, by omega⟩ * Ideal.sin (angle p d) := by
  refine (upper_read4 (val_main_v93 (F := Ideal) x mt g w gk) (val_main_v20 (F := Ideal)) (val_main_v22 (F := Ideal)) b p h d).trans ?_
  rw [v93_apply, v93_apply, v20_apply, v22_apply]
theorem v110_apply (b : Fin 8) (p : Fin 4112) (h : Fin 4) (d : Fin 64) : val_main_v110 (F := Ideal) x mt g w gk (ix4 b p h d)
    = headTurned (tokK x mt g w gk b p h) (fun j => Ideal.cos (angle p j)) (fun j => Ideal.sin (angle p j)) d := by
  unfold headTurned
  pointwise [val_main_v110, v102_apply, v109_apply]

/-! ## The seven results before they are laid out -/

/-- The queries' column `n`, its heads in the order of the kernel's bands; -/
def refQ (b : Fin 8) (p : Fin 4112) (n : Fin 1024) : EReal :=
  Ideal.div (headTurned (tokQ x mt g w gq b p ⟨n.val / 512 * 8 + n.val / 64 % 2 * 4 + n.val / 128 % 4, by omega⟩)
      (fun j => Ideal.cos (angle p j)) (fun j => Ideal.sin (angle p j)) ⟨n.val % 64, by omega⟩ * Ideal.ofBits .f32 0x3E000000#32)
    (Ideal.log (Ideal.ofBits .f32 0x40000000#32))
/-- the keys' -/
def refK (b : Fin 8) (p : Fin 4112) (n : Fin 256) : EReal :=
  headTurned (tokK x mt g w gk b p ⟨n.val / 64, by omega⟩) (fun j => Ideal.cos (angle p j)) (fun j => Ideal.sin (angle p j)) ⟨n.val % 64, by omega⟩
/-- and a gate, from its entry `z` of the projected row. -/
def gate (z : EReal) : EReal :=
  Ideal.div (Ideal.ofBits .f32 0x3F800000#32) (Ideal.ofBits .f32 0x3F800000#32 + Ideal.exp (-z))

theorem v115_apply (b : Fin 8) (p : Fin 4112) (h : Fin 16) (d : Fin 64) : val_main_v115 (F := Ideal) x mt g w gq (ix4 b p h d)
    = Ideal.div (headTurned (tokQ x mt g w gq b p h) (fun j => Ideal.cos (angle p j)) (fun j => Ideal.sin (angle p j)) d
        * Ideal.ofBits .f32 0x3E000000#32) (Ideal.log (Ideal.ofBits .f32 0x40000000#32)) := by
  pointwise [val_main_v115, val_main_v114, val_main_v113, val_main_v112, val_main_v111, val_main_cst_12, val_main_cst_13, v78_apply]
theorem v118_apply (b : Fin 8) (p : Fin 4112) (n : Fin 1024) : val_main_v118 (F := Ideal) x mt g w gq (ix3 b p n) = refQ x mt g w gq b p n := by
  unfold refQ
  rw [← v115_apply]
  pointwise [val_main_v118, val_main_v117, val_main_v116]
theorem v119_apply (b : Fin 8) (p : Fin 4112) (n : Fin 256) : val_main_v119 (F := Ideal) x mt g w gk (ix3 b p n) = refK x mt g w gk b p n := by
  unfold refK
  rw [← v110_apply]
  pointwise [val_main_v119]
theorem v41_apply (b : Fin 8) (p : Fin 4112) (n : Fin 256) :
    val_main_v41 (F := Ideal) x mt g w (ix3 b p n) = tokY x mt g w b p ⟨1280 + n.val, by omega⟩ := by
  pointwise [val_main_v41, v38_apply]
theorem v42_apply (b : Fin 8) (p : Fin 4112) (n : Fin 1024) :
    val_main_v42 (F := Ideal) x mt g w (ix3 b p n) = tokY x mt g w b p ⟨1536 + n.val, by omega⟩ := by
  pointwise [val_main_v42, v38_apply]
theorem v120_apply (b : Fin 8) (p : Fin 4112) (n : Fin 1024) : val_main_v120 (F := Ideal) x mt g w (ix3 b p n)
    = tokY x mt g w b p ⟨2560 + n.val, by omega⟩ * tokY x mt g w b p ⟨3584 + n.val, by omega⟩ := by
  pointwise [val_main_v120, val_main_v43, val_main_v44, v38_apply]
theorem v126_apply (b : Fin 8) (p : Fin 4112) (n : Fin 1024) :
    val_main_v126 (F := Ideal) x mt g w (ix3 b p n) = gate (tokY x mt g w b p ⟨4608 + n.val, by omega⟩) := by
  unfold gate
  pointwise [val_main_v126, val_main_v125, val_main_v124, val_main_v123, val_main_v122, val_main_v121, val_main_v45, val_main_cst_14, val_main_cst_15, v38_apply]
theorem v132_apply (b : Fin 8) (p : Fin 4112) (n : Fin 1024) :
    val_main_v132 (F := Ideal) x mt g w (ix3 b p n) = gate (tokY x mt g w b p ⟨5632 + n.val, by omega⟩) := by
  unfold gate
  pointwise [val_main_v132, val_main_v131, val_main_v130, val_main_v129, val_main_v128, val_main_v127, val_main_v46, val_main_cst_16, val_main_cst_17, v38_apply]

end Cert.Proof.ProjReference

end
-- ==== Proof.ProjEquation.lean ====
/-
  The equation: in a token's row the projection computes what its reference computes.
-/
module

public import proofs.«01_k».proof.Proof.ProjRows
public import proofs.«01_k».proof.Proof.ProjTables
public import proofs.«01_k».proof.Proof.ProjEntry
public import proofs.«01_k».proof.Proof.ProjBand
public import proofs.«01_k».proof.Proof.ProjReference

@[expose] public section

set_option maxRecDepth 16384

noncomputable section

open Idealize.ShloMosaic Idealize.ShloMosaic.TcCoe Idealize.SL.Sem

namespace Cert.Proof.ProjEquation

open Cert.Kernel3Ideal Cert.Kernel3Ideal.Gen Cert.Proof.MixSpec Cert.Proof.ProjSpec Cert.Proof.ProjHead Cert.Proof.ProjRows
open Cert.Proof.ProjTables Cert.Proof.ProjEntry Cert.Proof.ProjBand
open Cert.Proof.MixReference (place xTok)
open Cert.Proof.MixEquation (place_val headOf)
open Cert.Proof.ProjReference (tokY tokQ tokK refQ refK gate)

variable (m : (ℓ : Loc nD τ sig) → Buf (Elt Ideal) ℓ) (c : Dev nD)

/-! ## A token's row -/

theorem xRow_place (b : Fin 8) (p : Fin 4112) : xRow m c b (place p) = xTok (aX m c) (aMeta m c) b p := by
  funext k
  have hp := p.isLt
  have hv := place_val p
  generalize place p = i at hv
  unfold xRow xTok
  split_ifs at hv with h
  · rw [dif_neg (by omega), dif_pos h]
    exact meta_entry m c _ k ⟨p.val, h⟩ (by show i.val - 4096 = 112 + p.val; omega)
  · rw [dif_pos (by omega), dif_neg h]
    exact congrArg (fun q => aX m c (ix3 b q k)) (Fin.ext (by show i.val = p.val - 16; exact hv))

theorem normed_congr {x x' g g' : Fin 1024 → EReal} (hx : x = x') (hg : g = g') : normed x g = normed x' g' := by rw [hx, hg]

/-- The projected row, its columns as they are laid out. -/
theorem rowY_place (b : Fin 8) (p : Fin 4112) (j : Fin 6656) :
    rowY m c b (place p) j = tokY (aX m c) (aMeta m c) (aGain m c) (aW m c) b p (colOf j) := by
  have hn := normed_congr (xRow_place m c b p) (funext (gain_entry m c))
  unfold rowY tokY project
  exact Finset.sum_congr rfl fun k _ => congrArg₂ (· * ·) (congrFun hn k) (w_entry m c k j)

/-- From column 1024 on they lie as they are. -/
theorem rowY_late (b : Fin 8) (p : Fin 4112) (j : Fin 6656) (h : 1024 ≤ j.val) :
    rowY m c b (place p) j = tokY (aX m c) (aMeta m c) (aGain m c) (aW m c) b p j := by
  rw [rowY_place]
  unfold colOf
  rw [dif_neg (by omega)]

/-! ## Its position -/

theorem rowPos_place (p : Fin 4112) : rowPos (place p) = FloatOps.sitofp (F := Ideal) .f32 (BitVec.ofNat 32 p.val) := by
  have hp := p.isLt
  have hv := place_val p
  generalize place p = i at hv
  unfold rowPos
  split_ifs at hv with h
  · rw [dif_neg (by omega), dif_neg (by omega), show i.val - 4096 - 112 = p.val by omega]
  · rw [dif_pos (by omega), word_16]
    show ((16 : ℝ) : EReal) + ((((BitVec.ofNat 32 i.val).toInt : ℤ) : ℝ) : EReal) = ((((BitVec.ofNat 32 p.val).toInt : ℤ) : ℝ) : EReal)
    rw [AttentionReference.toInt_small _ (by omega), AttentionReference.toInt_small _ hp, ← EReal.coe_add]
    congr 1
    have : p.val = 16 + i.val := by omega
    rw [this]
    push_cast
    ring

theorem cos_place (p : Fin 4112) (l : Fin 128) :
    ((V m c main_v59 : FVec Ideal S4224x128 .f32) (ix2 (place p) l) : EReal) = Ideal.cos (angle p ⟨l.val % 32, by omega⟩) := by
  rw [cos_entry, rowPos_place]
  rfl
theorem sin_place (p : Fin 4112) (l : Fin 128) : ((V m c main_v72 : FVec Ideal S4224x128 .f32) (ix2 (place p) l) : EReal)
    = Ideal.sin (angle p ⟨l.val % 32, by omega⟩)
      * if l.val % 64 < 32 then Ideal.ofBits .f32 0xBF800000#32 else Ideal.ofBits .f32 0x3F800000#32 := by
  rw [sin_entry, rowPos_place]
  rfl

/-! ## The equations -/

/-- A head of a band: `t` is its row before the norm. -/
theorem rowHeads_place (b : Fin 8) (p : Fin 4112) (g : Fin 128 → EReal) (g' t : Fin 64 → EReal) (n : Fin 10) (l : Fin 128) (k : Fin 2)
    (d : Fin 64) (hl : l.val = k.val * 64 + d.val) (hg : ∀ l, g l = g' ⟨l.val % 64, by omega⟩)
    (ht : ∀ e : Fin 64, rowY m c b (place p) ⟨128 * n.val + (k.val * 64 + e.val), by omega⟩ = t e) :
    rowHeads m c b (place p) g n l
      = headTurned (headNormed t g') (fun j => Ideal.cos (angle p j)) (fun j => Ideal.sin (angle p j)) d := by
  have h := heads_head (bandOf (rowY m c b (place p)) n) g _ _ _ g' (fun j => Ideal.cos (angle p j)) (fun j => Ideal.sin (angle p j))
    (ones_entry m c) hg (cos_place m c p) (sin_place m c p) l k d hl
  have ht' : (fun e : Fin 64 => bandOf (rowY m c b (place p)) n ⟨k.val * 64 + e.val, by omega⟩) = t := funext ht
  rw [ht'] at h
  exact h

/-- The column of a query's head, among the columns as they are laid out. -/
theorem head_column (l e j : ℕ) (hl : l < 1024) (he : e < 64) (hj : j = 128 * (l / 128) + (l / 64 % 2 * 64 + e)) :
    j / 512 * 512 + j / 64 % 2 * 256 + j / 128 % 4 * 64 + j % 64 = (l / 512 * 8 + l / 64 % 2 * 4 + l / 128 % 4) * 64 + e := by
  have h1 : j / 512 = l / 512 := by omega
  have h2 : j / 64 % 2 = l / 64 % 2 := by omega
  have h3 : j / 128 % 4 = l / 128 % 4 := by omega
  have h4 : j % 64 = e := by omega
  rw [h1, h2, h3, h4]
  omega

/-- The queries, -/
theorem q_eq (b : Fin 8) (p : Fin 4112) (l : Fin 1024) :
    rowQ m c b (place p) l = refQ (aX m c) (aMeta m c) (aGain m c) (aW m c) (aGq m c) b p l := by
  have h := rowHeads_place m c b p (fun j => (V m c main_v17 : FVec Ideal S1x128 .f32) (ix2 0 j)) (fun d => aGq m c (ix2 0 d))
    (fun d => tokY (aX m c) (aMeta m c) (aGain m c) (aW m c) b p
      ⟨(l.val / 512 * 8 + l.val / 64 % 2 * 4 + l.val / 128 % 4) * 64 + d.val, by omega⟩)
    ⟨l.val / 128, by omega⟩ ⟨l.val % 128, by omega⟩ ⟨l.val / 64 % 2, by omega⟩ ⟨l.val % 64, by omega⟩
    (by show l.val % 128 = l.val / 64 % 2 * 64 + l.val % 64; omega) (gq_entry m c) (fun e => by
      rw [rowY_place]
      refine congrArg _ (Fin.ext ?_)
      have hl := l.isLt
      have he := e.isLt
      unfold colOf
      rw [dif_pos (by show 128 * (l.val / 128) + (l.val / 64 % 2 * 64 + e.val) < 1024; omega)]
      exact head_column l.val e.val _ hl he rfl)
  unfold rowQ refQ
  rw [h]
  exact (congrArg (_ * ·) (IdealRules.named_const.ideal_named_scalar _ _ _ _ rfl)).trans (q_scale _)
/-- the keys, -/
theorem k_eq (b : Fin 8) (p : Fin 4112) (l : Fin 256) :
    rowK m c b (place p) l = refK (aX m c) (aMeta m c) (aGain m c) (aW m c) (aGk m c) b p l := by
  unfold rowK refK
  exact rowHeads_place m c b p (fun j => (V m c main_v22 : FVec Ideal S1x128 .f32) (ix2 0 j)) (fun d => aGk m c (ix2 0 d))
    (fun d => tokY (aX m c) (aMeta m c) (aGain m c) (aW m c) b p ⟨1024 + l.val / 64 * 64 + d.val, by omega⟩)
    ⟨8 + l.val / 128, by omega⟩ ⟨l.val % 128, by omega⟩ ⟨l.val / 64 % 2, by omega⟩ ⟨l.val % 64, by omega⟩
    (by show l.val % 128 = l.val / 64 % 2 * 64 + l.val % 64; omega) (gk_entry m c) (fun e => by
      rw [rowY_late m c b p _ (by show 1024 ≤ 128 * (8 + l.val / 128) + (l.val / 64 % 2 * 64 + e.val); omega)]
      exact congrArg _ (Fin.ext (by
        show 128 * (8 + l.val / 128) + (l.val / 64 % 2 * 64 + e.val) = 1024 + l.val / 64 * 64 + e.val
        omega)))
/-- the values, -/
theorem v_eq (b : Fin 8) (p : Fin 4112) (l : Fin 256) :
    rowV m c b (place p) l = tokY (aX m c) (aMeta m c) (aGain m c) (aW m c) b p ⟨1280 + l.val, by omega⟩ :=
  rowY_late m c b p _ (by show 1024 ≤ 1280 + l.val; omega)
/-- what the convolution is multiplied by, -/
theorem cb_eq (b : Fin 8) (p : Fin 4112) (l : Fin 1024) :
    rowCb m c b (place p) l = tokY (aX m c) (aMeta m c) (aGain m c) (aW m c) b p ⟨1536 + l.val, by omega⟩ :=
  rowY_late m c b p _ (by show 1024 ≤ 1536 + l.val; omega)
/-- what it takes, -/
theorem s_eq (b : Fin 8) (p : Fin 4112) (l : Fin 1024) : rowS m c b (place p) l
    = tokY (aX m c) (aMeta m c) (aGain m c) (aW m c) b p ⟨2560 + l.val, by omega⟩
      * tokY (aX m c) (aMeta m c) (aGain m c) (aW m c) b p ⟨3584 + l.val, by omega⟩ :=
  congrArg₂ (· * ·) (rowY_late m c b p _ (by show 1024 ≤ 2560 + l.val; omega)) (rowY_late m c b p _ (by show 1024 ≤ 3584 + l.val; omega))

theorem gate_eq (z : EReal) : Ideal.logistic z = gate z := by
  unfold gate Ideal.logistic
  rw [Ideal.ofBits_one_f32]

/-- the gate of the attention -/
theorem ga_eq (b : Fin 8) (p : Fin 4112) (l : Fin 1024) :
    rowGa m c b (place p) l = gate (tokY (aX m c) (aMeta m c) (aGain m c) (aW m c) b p ⟨4608 + l.val, by omega⟩) :=
  (congrArg Ideal.logistic (rowY_late m c b p _ (by show 1024 ≤ 4608 + l.val; omega))).trans (gate_eq _)
/-- and that of the convolution. -/
theorem gc_eq (b : Fin 8) (p : Fin 4112) (l : Fin 1024) :
    rowGc m c b (place p) l = gate (tokY (aX m c) (aMeta m c) (aGain m c) (aW m c) b p ⟨5632 + l.val, by omega⟩) :=
  (congrArg Ideal.logistic (rowY_late m c b p _ (by show 1024 ≤ 5632 + l.val; omega))).trans (gate_eq _)

end Cert.Proof.ProjEquation

end
-- ==== Proof.ProjTokens.lean ====
/-
  The projection's reference's seven results, read at the rows of the tokens.
-/
module

public import proofs.«01_k».proof.Proof.ProjReference
public import proofs.«01_k».proof.Proof.MixTokens

@[expose] public section

set_option maxRecDepth 16384

noncomputable section

open Idealize.ShloMosaic Idealize.ShloMosaic.TcCoe Idealize.SL.Sem

namespace Cert.Proof.ProjReference

open Cert.Reference3Ideal Cert.Reference3Ideal.Gen Cert.Reference3Ideal.Read Cert.Proof.MixSpec Cert.Proof.ProjSpec Cert.Proof.ProjHead
open Cert.Proof.MixReference (place xTok row_token row_padding row_meta)

variable (x : FVec Ideal S8x4096x1024 .f32) (mt : FVec Ideal S16x1024 .f32) (g : FVec Ideal S1x1024 .f32)
  (w : FVec Ideal S1x1024x6656 .f32) (gq gk : FVec Ideal S1x64 .f32)

theorem v137_apply (b : Fin 8) (p : Fin 4112) (n : Fin 1024) : val_main_v137 (F := Ideal) x mt g w gq (ix3 b (place p) n)
    = refQ x mt g w gq b p n := by
  rw [← v118_apply]
  generalize hr : place p = r
  pointwise [val_main_v137, val_main_v136, val_main_v135, val_main_v134, val_main_v133]
  split
  · next h => exact congrArg (fun q => val_main_v118 (F := Ideal) x mt g w gq (ix3 b q n)) (Fin.ext (row_token p r hr h))
  · next h =>
    split
    · next h' => exact (row_padding p r hr h h').elim
    · next h' => exact congrArg (fun q => val_main_v118 (F := Ideal) x mt g w gq (ix3 b q n)) (Fin.ext (row_meta p r hr h h'))

theorem v142_apply (b : Fin 8) (p : Fin 4112) (n : Fin 256) : val_main_v142 (F := Ideal) x mt g w gk (ix3 b (place p) n)
    = refK x mt g w gk b p n := by
  rw [← v119_apply]
  generalize hr : place p = r
  pointwise [val_main_v142, val_main_v141, val_main_v140, val_main_v139, val_main_v138]
  split
  · next h => exact congrArg (fun q => val_main_v119 (F := Ideal) x mt g w gk (ix3 b q n)) (Fin.ext (row_token p r hr h))
  · next h =>
    split
    · next h' => exact (row_padding p r hr h h').elim
    · next h' => exact congrArg (fun q => val_main_v119 (F := Ideal) x mt g w gk (ix3 b q n)) (Fin.ext (row_meta p r hr h h'))

theorem v147_apply (b : Fin 8) (p : Fin 4112) (n : Fin 256) : val_main_v147 (F := Ideal) x mt g w (ix3 b (place p) n)
    = tokY x mt g w b p ⟨1280 + n.val, by omega⟩ := by
  rw [← v41_apply]
  generalize hr : place p = r
  pointwise [val_main_v147, val_main_v146, val_main_v145, val_main_v144, val_main_v143]
  split
  · next h => exact congrArg (fun q => val_main_v41 (F := Ideal) x mt g w (ix3 b q n)) (Fin.ext (row_token p r hr h))
  · next h =>
    split
    · next h' => exact (row_padding p r hr h h').elim
    · next h' => exact congrArg (fun q => val_main_v41 (F := Ideal) x mt g w (ix3 b q n)) (Fin.ext (row_meta p r hr h h'))

theorem v152_apply (b : Fin 8) (p : Fin 4112) (n : Fin 1024) : val_main_v152 (F := Ideal) x mt g w (ix3 b (place p) n)
    = tokY x mt g w b p ⟨1536 + n.val, by omega⟩ := by
  rw [← v42_apply]
  generalize hr : place p = r
  pointwise [val_main_v152, val_main_v151, val_main_v150, val_main_v149, val_main_v148]
  split
  · next h => exact congrArg (fun q => val_main_v42 (F := Ideal) x mt g w (ix3 b q n)) (Fin.ext (row_token p r hr h))
  · next h =>
    split
    · next h' => exact (row_padding p r hr h h').elim
    · next h' => exact congrArg (fun q => val_main_v42 (F := Ideal) x mt g w (ix3 b q n)) (Fin.ext (row_meta p r hr h h'))

theorem v157_apply (b : Fin 8) (p : Fin 4112) (n : Fin 1024) : val_main_v157 (F := Ideal) x mt g w (ix3 b (place p) n)
    = tokY x mt g w b p ⟨2560 + n.val, by omega⟩ * tokY x mt g w b p ⟨3584 + n.val, by omega⟩ := by
  rw [← v120_apply]
  generalize hr : place p = r
  pointwise [val_main_v157, val_main_v156, val_main_v155, val_main_v154, val_main_v153]
  split
  · next h => exact congrArg (fun q => val_main_v120 (F := Ideal) x mt g w (ix3 b q n)) (Fin.ext (row_token p r hr h))
  · next h =>
    split
    · next h' => exact (row_padding p r hr h h').elim
    · next h' => exact congrArg (fun q => val_main_v120 (F := Ideal) x mt g w (ix3 b q n)) (Fin.ext (row_meta p r hr h h'))

theorem v162_apply (b : Fin 8) (p : Fin 4112) (n : Fin 1024) : val_main_v162 (F := Ideal) x mt g w (ix3 b (place p) n)
    = gate (tokY x mt g w b p ⟨4608 + n.val, by omega⟩) := by
  rw [← v126_apply]
  generalize hr : place p = r
  pointwise [val_main_v162, val_main_v161, val_main_v160, val_main_v159, val_main_v158]
  split
  · next h => exact congrArg (fun q => val_main_v126 (F := Ideal) x mt g w (ix3 b q n)) (Fin.ext (row_token p r hr h))
  · next h =>
    split
    · next h' => exact (row_padding p r hr h h').elim
    · next h' => exact congrArg (fun q => val_main_v126 (F := Ideal) x mt g w (ix3 b q n)) (Fin.ext (row_meta p r hr h h'))

theorem v167_apply (b : Fin 8) (p : Fin 4112) (n : Fin 1024) : val_main_v167 (F := Ideal) x mt g w (ix3 b (place p) n)
    = gate (tokY x mt g w b p ⟨5632 + n.val, by omega⟩) := by
  rw [← v132_apply]
  generalize hr : place p = r
  pointwise [val_main_v167, val_main_v166, val_main_v165, val_main_v164, val_main_v163]
  split
  · next h => exact congrArg (fun q => val_main_v132 (F := Ideal) x mt g w (ix3 b q n)) (Fin.ext (row_token p r hr h))
  · next h =>
    split
    · next h' => exact (row_padding p r hr h h').elim
    · next h' => exact congrArg (fun q => val_main_v132 (F := Ideal) x mt g w (ix3 b q n)) (Fin.ext (row_meta p r hr h h'))

end Cert.Proof.ProjReference

end
-- ==== Proof.ProjValue.lean ====
/-
  The projection: what its points leave and what the result arrays hold.
-/
module

public import proofs.«01_k».proof.Proof.ProjRows
public import Idealize.ShloMosaic.Lib.Pipeline.Value

@[expose] public section

set_option maxRecDepth 16384
set_option maxHeartbeats 1000000

noncomputable section

open Idealize.ShloMosaic Idealize.ShloMosaic.TcCoe Idealize.SL.Sem
open Idealize.ShloMosaic.Pipeline (Dat)

namespace Cert.Proof.ProjValue

open Cert.Kernel3Ideal Cert.Kernel3Ideal.Gen Cert.Proof.ProjBody Cert.Proof.ProjRun Cert.Proof.ProjSpec Cert.Proof.ProjBlock
open Cert.Proof.ProjRows

variable (m : (ℓ : Loc nD τ sig) → Buf (Elt Ideal) ℓ) (ρ : Dev nD → PrngReg)

/-! ## What a point leaves -/

/-- On the last block the tables' first 128 rows are the rows' own. -/
theorem table2 (c : Dev nD) (t : Fin cfg0.N) (r : Fin 512) (j : Fin 128) (hr : r.val < 128) (h : t.val % 9 * 512 + r.val < 4224) :
    (View.ld (full2 m c t) rTableHead : Vec Ideal S128x128 .f32) (ix2 ⟨r.val, hr⟩ j)
      = (V m c main_v59 : FVec Ideal S4224x128 .f32) (ix2 (rowOf t r h) j) :=
  (head_apply (full2 m c t) ⟨r.val, hr⟩ j).trans (full2_apply m c t r j h)
theorem table3 (c : Dev nD) (t : Fin cfg0.N) (r : Fin 512) (j : Fin 128) (hr : r.val < 128) (h : t.val % 9 * 512 + r.val < 4224) :
    (View.ld (full3 m c t) rTableHead : Vec Ideal S128x128 .f32) (ix2 ⟨r.val, hr⟩ j)
      = (V m c main_v72 : FVec Ideal S4224x128 .f32) (ix2 (rowOf t r h) j) :=
  (head_apply (full3 m c t) ⟨r.val, hr⟩ j).trans (full3_apply m c t r j h)

theorem heads_congr {t g cs cs' sn sn' : Fin 128 → EReal} {o : Fin 128 → Fin 128 → EReal} {l : Fin 128} (hc : cs = cs')
    (hs : sn = sn') : heads t g cs sn o l = heads t g cs' sn' o l := by rw [hc, hs]

theorem emb_block (z : Fin 1) (r : Fin 512) (l : Fin 1024) : rBlock.emb (ix3 z r l) = (ix3 z r l : S1x512x1024.Idx) := by
  funext a
  apply Fin.ext
  match a with
  | ⟨0, _⟩ => show 0 + 1 * z.val = z.val; omega
  | ⟨1, _⟩ => show 0 + 1 * r.val = r.val; omega
  | ⟨2, _⟩ => show 0 + 1 * l.val = l.val; omega
theorem emb_head (z : Fin 1) (r : Fin 128) (l : Fin 1024) : rHead.emb (ix3 z r l) = (ix3 z ⟨r.val, by omega⟩ l : S1x512x1024.Idx) := by
  funext a
  apply Fin.ext
  match a with
  | ⟨0, _⟩ => show 0 + 1 * z.val = z.val; omega
  | ⟨1, _⟩ => show 0 + 1 * r.val = r.val; omega
  | ⟨2, _⟩ => show 0 + 1 * l.val = l.val; omega
theorem emb_narrow (z : Fin 1) (r : Fin 512) (l : Fin 256) : rNarrow.emb (ix3 z r l) = (ix3 z r l : S1x512x256.Idx) := by
  funext a
  apply Fin.ext
  match a with
  | ⟨0, _⟩ => show 0 + 1 * z.val = z.val; omega
  | ⟨1, _⟩ => show 0 + 1 * r.val = r.val; omega
  | ⟨2, _⟩ => show 0 + 1 * l.val = l.val; omega
theorem emb_narrowHead (z : Fin 1) (r : Fin 128) (l : Fin 256) : rNarrowHead.emb (ix3 z r l) = (ix3 z ⟨r.val, by omega⟩ l : S1x512x256.Idx) := by
  funext a
  apply Fin.ext
  match a with
  | ⟨0, _⟩ => show 0 + 1 * z.val = z.val; omega
  | ⟨1, _⟩ => show 0 + 1 * r.val = r.val; omega
  | ⟨2, _⟩ => show 0 + 1 * l.val = l.val; omega

/-- The queries of the rows, -/
theorem outQ_apply (c : Dev nD) (t : Fin cfg0.N) (z : Fin 1) (r : Fin 512) (l : Fin 1024) (h : t.val % 9 * 512 + r.val < 4224) :
    outQ m c t (ix3 z r l) = rowQ m c (seq t) (rowOf t r h) l := by
  have h1 := coord1 t
  unfold outQ rowQ rowHeads
  split
  · next h8 =>
    refine (congrArg _ (emb_block z r l).symm).trans ((Rect.overlay_emb ..).trans ?_)
    rw [q_rows, y_rows_eq m c t (by omega)]
    simp only [full2_apply m c t r _ h, full3_apply m c t r _ h, iblk5_apply, iblk7_apply]
  · next h8 =>
    refine (congrArg _ (emb_head z ⟨r.val, by omega⟩ l).symm).trans ((Rect.overlay_emb ..).trans ?_)
    have h8' : r.val < 128 := by omega
    rw [q_meta, y_meta_eq m c t (by omega)]
    simp only [iblk5_apply, iblk7_apply]
    exact congrArg (· * _) (heads_congr (funext fun j => table2 m c t r j h8' h) (funext fun j => table3 m c t r j h8' h))

/-- the keys, -/
theorem outK_apply (c : Dev nD) (t : Fin cfg0.N) (z : Fin 1) (r : Fin 512) (l : Fin 256) (h : t.val % 9 * 512 + r.val < 4224) :
    outK m c t (ix3 z r l) = rowK m c (seq t) (rowOf t r h) l := by
  have h1 := coord1 t
  unfold outK rowK rowHeads
  split
  · next h8 =>
    refine (congrArg _ (emb_narrow z r l).symm).trans ((Rect.overlay_emb ..).trans ?_)
    rw [k_rows, y_rows_eq m c t (by omega)]
    simp only [full2_apply m c t r _ h, full3_apply m c t r _ h, iblk6_apply, iblk7_apply]
  · next h8 =>
    refine (congrArg _ (emb_narrowHead z ⟨r.val, by omega⟩ l).symm).trans ((Rect.overlay_emb ..).trans ?_)
    have h8' : r.val < 128 := by omega
    rw [k_meta, y_meta_eq m c t (by omega)]
    simp only [iblk6_apply, iblk7_apply]
    exact (heads_congr (funext fun j => table2 m c t r j h8' h) (funext fun j => table3 m c t r j h8' h))

/-- the values, -/
theorem outV_apply (c : Dev nD) (t : Fin cfg0.N) (z : Fin 1) (r : Fin 512) (l : Fin 256) (h : t.val % 9 * 512 + r.val < 4224) :
    outV m c t (ix3 z r l) = rowV m c (seq t) (rowOf t r h) l := by
  have h1 := coord1 t
  unfold outV rowV
  split
  · next h8 =>
    refine (congrArg _ (emb_narrow z r l).symm).trans ((Rect.overlay_emb ..).trans ?_)
    rw [v_rows, y_rows_eq m c t (by omega)]
  · next h8 =>
    refine (congrArg _ (emb_narrowHead z ⟨r.val, by omega⟩ l).symm).trans ((Rect.overlay_emb ..).trans ?_)
    rw [v_meta, y_meta_eq m c t (by omega)]

/-- what the convolution is multiplied by, -/
theorem outCb_apply (c : Dev nD) (t : Fin cfg0.N) (z : Fin 1) (r : Fin 512) (l : Fin 1024) (h : t.val % 9 * 512 + r.val < 4224) :
    outCb m c t (ix3 z r l) = rowCb m c (seq t) (rowOf t r h) l := by
  have h1 := coord1 t
  unfold outCb rowCb
  split
  · next h8 =>
    refine (congrArg _ (emb_block z r l).symm).trans ((Rect.overlay_emb ..).trans ?_)
    rw [cb_rows, y_rows_eq m c t (by omega)]
  · next h8 =>
    refine (congrArg _ (emb_head z ⟨r.val, by omega⟩ l).symm).trans ((Rect.overlay_emb ..).trans ?_)
    rw [cb_meta, y_meta_eq m c t (by omega)]

/-- what it takes, -/
theorem outS_apply (c : Dev nD) (t : Fin cfg0.N) (z : Fin 1) (r : Fin 512) (l : Fin 1024) (h : t.val % 9 * 512 + r.val < 4224) :
    outS m c t (ix3 z r l) = rowS m c (seq t) (rowOf t r h) l := by
  have h1 := coord1 t
  unfold outS rowS
  split
  · next h8 =>
    refine (congrArg _ (emb_block z r l).symm).trans ((Rect.overlay_emb ..).trans ?_)
    rw [s_rows, y_rows_eq m c t (by omega)]
  · next h8 =>
    refine (congrArg _ (emb_head z ⟨r.val, by omega⟩ l).symm).trans ((Rect.overlay_emb ..).trans ?_)
    rw [s_meta, y_meta_eq m c t (by omega)]

/-- the gate of the attention -/
theorem outGa_apply (c : Dev nD) (t : Fin cfg0.N) (z : Fin 1) (r : Fin 512) (l : Fin 1024) (h : t.val % 9 * 512 + r.val < 4224) :
    outGa m c t (ix3 z r l) = rowGa m c (seq t) (rowOf t r h) l := by
  have h1 := coord1 t
  unfold outGa rowGa
  split
  · next h8 =>
    refine (congrArg _ (emb_block z r l).symm).trans ((Rect.overlay_emb ..).trans ?_)
    rw [ga_rows, y_rows_eq m c t (by omega)]
  · next h8 =>
    refine (congrArg _ (emb_head z ⟨r.val, by omega⟩ l).symm).trans ((Rect.overlay_emb ..).trans ?_)
    rw [ga_meta, y_meta_eq m c t (by omega)]

/-- and that of the convolution. -/
theorem outGc_apply (c : Dev nD) (t : Fin cfg0.N) (z : Fin 1) (r : Fin 512) (l : Fin 1024) (h : t.val % 9 * 512 + r.val < 4224) :
    outGc m c t (ix3 z r l) = rowGc m c (seq t) (rowOf t r h) l := by
  have h1 := coord1 t
  unfold outGc rowGc
  split
  · next h8 =>
    refine (congrArg _ (emb_block z r l).symm).trans ((Rect.overlay_emb ..).trans ?_)
    rw [gc_rows, y_rows_eq m c t (by omega)]
  · next h8 =>
    refine (congrArg _ (emb_head z ⟨r.val, by omega⟩ l).symm).trans ((Rect.overlay_emb ..).trans ?_)
    rw [gc_meta, y_meta_eq m c t (by omega)]

/-! ## The result arrays -/

theorem flush_9 : ∀ t : Fin cfg0.N, win0_9.flush t = true := (by decide +kernel : ∀ t : Fin grid0.N, _)
theorem flush_10 : ∀ t : Fin cfg0.N, win0_10.flush t = true := (by decide +kernel : ∀ t : Fin grid0.N, _)
theorem flush_11 : ∀ t : Fin cfg0.N, win0_11.flush t = true := (by decide +kernel : ∀ t : Fin grid0.N, _)
theorem flush_12 : ∀ t : Fin cfg0.N, win0_12.flush t = true := (by decide +kernel : ∀ t : Fin grid0.N, _)
theorem flush_13 : ∀ t : Fin cfg0.N, win0_13.flush t = true := (by decide +kernel : ∀ t : Fin grid0.N, _)
theorem flush_14 : ∀ t : Fin cfg0.N, win0_14.flush t = true := (by decide +kernel : ∀ t : Fin grid0.N, _)
theorem flush_15 : ∀ t : Fin cfg0.N, win0_15.flush t = true := (by decide +kernel : ∀ t : Fin grid0.N, _)

/-- The extents of a point's block of result 0 in its array. -/
theorem extent_9 (t : Fin cfg0.N) : win0_9.xsize (grid0.coords t) 0 = 1
    ∧ win0_9.xsize (grid0.coords t) 1 = (if t.val % 9 < 8 then 512 else 128)
    ∧ win0_9.xsize (grid0.coords t) 2 = 1024 := by
  have h1 := coord1 t
  split
  · next h => exact ⟨xsize_rows_9 t (by omega) 0, xsize_rows_9 t (by omega) 1, xsize_rows_9 t (by omega) 2⟩
  · next h => exact ⟨xsize_meta_9 t (by omega) 0, xsize_meta_9 t (by omega) 1, xsize_meta_9 t (by omega) 2⟩

theorem cover_9 (j : S8x4224x1024.Idx) : ∃ t : Fin cfg0.N, (cfg0.win 9).flush t = true ∧ j ∈ ((cfg0.win 9).blk t).view.set := by
  have hN : cfg0.N = 72 := N_0
  have b0 : (j 0 : Nat) < 8 := (j 0).isLt
  have b1 : (j 1 : Nat) < 4224 := (j 1).isLt
  have b2 : (j 2 : Nat) < 1024 := (j 2).isLt
  refine ⟨⟨(j 0 : Nat) * 9 + (j 1 : Nat) / 512, by omega⟩, flush_9 _, ?_⟩
  generalize ht : (⟨(j 0 : Nat) * 9 + (j 1 : Nat) / 512, by omega⟩ : Fin cfg0.N) = t
  have hv : t.val = (j 0 : Nat) * 9 + (j 1 : Nat) / 512 := by rw [← ht]
  obtain ⟨h0, h1, h2⟩ := index_9 t
  obtain ⟨e0, er, el⟩ := extent_9 t
  show j ∈ ((View.whole main_v73_0).slice (win0_9.rect t)).set
  rw [View.set_slice_whole, Rect.mem_set_unit]
  intro a
  match a with
  | ⟨0, _⟩ =>
    show win0_9.index t 0 * 1 ≤ (j 0 : Nat) ∧ (j 0 : Nat) < win0_9.index t 0 * 1 + win0_9.xsize (grid0.coords t) 0
    omega
  | ⟨1, _⟩ =>
    show win0_9.index t 1 * 512 ≤ (j 1 : Nat) ∧ (j 1 : Nat) < win0_9.index t 1 * 512 + win0_9.xsize (grid0.coords t) 1
    split at er <;> omega
  | ⟨2, _⟩ =>
    show win0_9.index t 2 * 1024 ≤ (j 2 : Nat) ∧ (j 2 : Nat) < win0_9.index t 2 * 1024 + win0_9.xsize (grid0.coords t) 2
    omega

/-- The first result array holds the queries of every row, -/
theorem final9 (c : Dev nD) (b : Fin 8) (i : Fin 4224) (l : Fin 1024) :
    ((dats m 0 c).arrAt 9 cfg0.N : FVec Ideal S8x4224x1024 .bf16) (ix3 b i l) = rowQ m c b i l := by
  refine (dats m 0 c).arrAt_forall_of_cover 9 (fun (j : S8x4224x1024.Idx) v => v = rowQ m c (j 0) (j 1) (j 2))
    (fun t _ y => ?_) (fun j => cover_9 j) (ix3 b i l)
  obtain ⟨h0, h1, h2⟩ := index_9 t
  obtain ⟨e0, er, el⟩ := extent_9 t
  have y0 : (y 0).val < 1 := (y 0).isLt.trans_eq e0
  have yr : (y 1).val < _ := (y 1).isLt.trans_eq er
  have yl : (y 2).val < 1024 := (y 2).isLt.trans_eq el
  have hy : t.val % 9 * 512 + (y 1).val < 4224 := by split at yr <;> omega
  have hr : (y 1).val < 512 := by split at yr <;> omega
  have hv : win0_9.xinj (grid0.coords t) y
      = (ix3 ⟨(y 0).val, y0⟩ ⟨(y 1).val, hr⟩ ⟨(y 2).val, yl⟩ : S1x512x1024.Idx) := by
    funext a
    match a with
    | ⟨0, _⟩ => rfl
    | ⟨1, _⟩ => rfl
    | ⟨2, _⟩ => rfl
  have he : (win0_9.rect t).emb y
      = (ix3 (seq t) (rowOf t (y 1).val hy) ⟨(y 2).val, yl⟩ : S8x4224x1024.Idx) := by
    funext a
    apply Fin.ext
    match a with
    | ⟨0, _⟩ => show win0_9.index t 0 * 1 + 1 * (y 0).val = t.val / 9; omega
    | ⟨1, _⟩ => show win0_9.index t 1 * 512 + 1 * (y 1).val = _; show _ = t.val % 9 * 512 + (y 1).val; omega
    | ⟨2, _⟩ => show win0_9.index t 2 * 1024 + 1 * (y 2).val = (y 2).val; omega
  show (dats m 0 c).after 9 t (win0_9.xinj (grid0.coords t) y)
    = rowQ m c ((win0_9.rect t).emb y 0) ((win0_9.rect t).emb y 1) ((win0_9.rect t).emb y 2)
  rw [he, hv, after_9]
  exact outQ_apply m c t _ _ _ hy

/-- The extents of a point's block of result 1 in its array. -/
theorem extent_10 (t : Fin cfg0.N) : win0_10.xsize (grid0.coords t) 0 = 1
    ∧ win0_10.xsize (grid0.coords t) 1 = (if t.val % 9 < 8 then 512 else 128)
    ∧ win0_10.xsize (grid0.coords t) 2 = 256 := by
  have h1 := coord1 t
  split
  · next h => exact ⟨xsize_rows_10 t (by omega) 0, xsize_rows_10 t (by omega) 1, xsize_rows_10 t (by omega) 2⟩
  · next h => exact ⟨xsize_meta_10 t (by omega) 0, xsize_meta_10 t (by omega) 1, xsize_meta_10 t (by omega) 2⟩

theorem cover_10 (j : S8x4224x256.Idx) : ∃ t : Fin cfg0.N, (cfg0.win 10).flush t = true ∧ j ∈ ((cfg0.win 10).blk t).view.set := by
  have hN : cfg0.N = 72 := N_0
  have b0 : (j 0 : Nat) < 8 := (j 0).isLt
  have b1 : (j 1 : Nat) < 4224 := (j 1).isLt
  have b2 : (j 2 : Nat) < 256 := (j 2).isLt
  refine ⟨⟨(j 0 : Nat) * 9 + (j 1 : Nat) / 512, by omega⟩, flush_10 _, ?_⟩
  generalize ht : (⟨(j 0 : Nat) * 9 + (j 1 : Nat) / 512, by omega⟩ : Fin cfg0.N) = t
  have hv : t.val = (j 0 : Nat) * 9 + (j 1 : Nat) / 512 := by rw [← ht]
  obtain ⟨h0, h1, h2⟩ := index_10 t
  obtain ⟨e0, er, el⟩ := extent_10 t
  show j ∈ ((View.whole main_v73_1).slice (win0_10.rect t)).set
  rw [View.set_slice_whole, Rect.mem_set_unit]
  intro a
  match a with
  | ⟨0, _⟩ =>
    show win0_10.index t 0 * 1 ≤ (j 0 : Nat) ∧ (j 0 : Nat) < win0_10.index t 0 * 1 + win0_10.xsize (grid0.coords t) 0
    omega
  | ⟨1, _⟩ =>
    show win0_10.index t 1 * 512 ≤ (j 1 : Nat) ∧ (j 1 : Nat) < win0_10.index t 1 * 512 + win0_10.xsize (grid0.coords t) 1
    split at er <;> omega
  | ⟨2, _⟩ =>
    show win0_10.index t 2 * 256 ≤ (j 2 : Nat) ∧ (j 2 : Nat) < win0_10.index t 2 * 256 + win0_10.xsize (grid0.coords t) 2
    omega

/-- the second the keys, -/
theorem final10 (c : Dev nD) (b : Fin 8) (i : Fin 4224) (l : Fin 256) :
    ((dats m 0 c).arrAt 10 cfg0.N : FVec Ideal S8x4224x256 .bf16) (ix3 b i l) = rowK m c b i l := by
  refine (dats m 0 c).arrAt_forall_of_cover 10 (fun (j : S8x4224x256.Idx) v => v = rowK m c (j 0) (j 1) (j 2))
    (fun t _ y => ?_) (fun j => cover_10 j) (ix3 b i l)
  obtain ⟨h0, h1, h2⟩ := index_10 t
  obtain ⟨e0, er, el⟩ := extent_10 t
  have y0 : (y 0).val < 1 := (y 0).isLt.trans_eq e0
  have yr : (y 1).val < _ := (y 1).isLt.trans_eq er
  have yl : (y 2).val < 256 := (y 2).isLt.trans_eq el
  have hy : t.val % 9 * 512 + (y 1).val < 4224 := by split at yr <;> omega
  have hr : (y 1).val < 512 := by split at yr <;> omega
  have hv : win0_10.xinj (grid0.coords t) y
      = (ix3 ⟨(y 0).val, y0⟩ ⟨(y 1).val, hr⟩ ⟨(y 2).val, yl⟩ : S1x512x256.Idx) := by
    funext a
    match a with
    | ⟨0, _⟩ => rfl
    | ⟨1, _⟩ => rfl
    | ⟨2, _⟩ => rfl
  have he : (win0_10.rect t).emb y
      = (ix3 (seq t) (rowOf t (y 1).val hy) ⟨(y 2).val, yl⟩ : S8x4224x256.Idx) := by
    funext a
    apply Fin.ext
    match a with
    | ⟨0, _⟩ => show win0_10.index t 0 * 1 + 1 * (y 0).val = t.val / 9; omega
    | ⟨1, _⟩ => show win0_10.index t 1 * 512 + 1 * (y 1).val = _; show _ = t.val % 9 * 512 + (y 1).val; omega
    | ⟨2, _⟩ => show win0_10.index t 2 * 256 + 1 * (y 2).val = (y 2).val; omega
  show (dats m 0 c).after 10 t (win0_10.xinj (grid0.coords t) y)
    = rowK m c ((win0_10.rect t).emb y 0) ((win0_10.rect t).emb y 1) ((win0_10.rect t).emb y 2)
  rw [he, hv, after_10]
  exact outK_apply m c t _ _ _ hy

/-- The extents of a point's block of result 2 in its array. -/
theorem extent_11 (t : Fin cfg0.N) : win0_11.xsize (grid0.coords t) 0 = 1
    ∧ win0_11.xsize (grid0.coords t) 1 = (if t.val % 9 < 8 then 512 else 128)
    ∧ win0_11.xsize (grid0.coords t) 2 = 256 := by
  have h1 := coord1 t
  split
  · next h => exact ⟨xsize_rows_11 t (by omega) 0, xsize_rows_11 t (by omega) 1, xsize_rows_11 t (by omega) 2⟩
  · next h => exact ⟨xsize_meta_11 t (by omega) 0, xsize_meta_11 t (by omega) 1, xsize_meta_11 t (by omega) 2⟩

theorem cover_11 (j : S8x4224x256.Idx) : ∃ t : Fin cfg0.N, (cfg0.win 11).flush t = true ∧ j ∈ ((cfg0.win 11).blk t).view.set := by
  have hN : cfg0.N = 72 := N_0
  have b0 : (j 0 : Nat) < 8 := (j 0).isLt
  have b1 : (j 1 : Nat) < 4224 := (j 1).isLt
  have b2 : (j 2 : Nat) < 256 := (j 2).isLt
  refine ⟨⟨(j 0 : Nat) * 9 + (j 1 : Nat) / 512, by omega⟩, flush_11 _, ?_⟩
  generalize ht : (⟨(j 0 : Nat) * 9 + (j 1 : Nat) / 512, by omega⟩ : Fin cfg0.N) = t
  have hv : t.val = (j 0 : Nat) * 9 + (j 1 : Nat) / 512 := by rw [← ht]
  obtain ⟨h0, h1, h2⟩ := index_11 t
  obtain ⟨e0, er, el⟩ := extent_11 t
  show j ∈ ((View.whole main_v73_2).slice (win0_11.rect t)).set
  rw [View.set_slice_whole, Rect.mem_set_unit]
  intro a
  match a with
  | ⟨0, _⟩ =>
    show win0_11.index t 0 * 1 ≤ (j 0 : Nat) ∧ (j 0 : Nat) < win0_11.index t 0 * 1 + win0_11.xsize (grid0.coords t) 0
    omega
  | ⟨1, _⟩ =>
    show win0_11.index t 1 * 512 ≤ (j 1 : Nat) ∧ (j 1 : Nat) < win0_11.index t 1 * 512 + win0_11.xsize (grid0.coords t) 1
    split at er <;> omega
  | ⟨2, _⟩ =>
    show win0_11.index t 2 * 256 ≤ (j 2 : Nat) ∧ (j 2 : Nat) < win0_11.index t 2 * 256 + win0_11.xsize (grid0.coords t) 2
    omega

/-- the third the values, -/
theorem final11 (c : Dev nD) (b : Fin 8) (i : Fin 4224) (l : Fin 256) :
    ((dats m 0 c).arrAt 11 cfg0.N : FVec Ideal S8x4224x256 .bf16) (ix3 b i l) = rowV m c b i l := by
  refine (dats m 0 c).arrAt_forall_of_cover 11 (fun (j : S8x4224x256.Idx) v => v = rowV m c (j 0) (j 1) (j 2))
    (fun t _ y => ?_) (fun j => cover_11 j) (ix3 b i l)
  obtain ⟨h0, h1, h2⟩ := index_11 t
  obtain ⟨e0, er, el⟩ := extent_11 t
  have y0 : (y 0).val < 1 := (y 0).isLt.trans_eq e0
  have yr : (y 1).val < _ := (y 1).isLt.trans_eq er
  have yl : (y 2).val < 256 := (y 2).isLt.trans_eq el
  have hy : t.val % 9 * 512 + (y 1).val < 4224 := by split at yr <;> omega
  have hr : (y 1).val < 512 := by split at yr <;> omega
  have hv : win0_11.xinj (grid0.coords t) y
      = (ix3 ⟨(y 0).val, y0⟩ ⟨(y 1).val, hr⟩ ⟨(y 2).val, yl⟩ : S1x512x256.Idx) := by
    funext a
    match a with
    | ⟨0, _⟩ => rfl
    | ⟨1, _⟩ => rfl
    | ⟨2, _⟩ => rfl
  have he : (win0_11.rect t).emb y
      = (ix3 (seq t) (rowOf t (y 1).val hy) ⟨(y 2).val, yl⟩ : S8x4224x256.Idx) := by
    funext a
    apply Fin.ext
    match a with
    | ⟨0, _⟩ => show win0_11.index t 0 * 1 + 1 * (y 0).val = t.val / 9; omega
    | ⟨1, _⟩ => show win0_11.index t 1 * 512 + 1 * (y 1).val = _; show _ = t.val % 9 * 512 + (y 1).val; omega
    | ⟨2, _⟩ => show win0_11.index t 2 * 256 + 1 * (y 2).val = (y 2).val; omega
  show (dats m 0 c).after 11 t (win0_11.xinj (grid0.coords t) y)
    = rowV m c ((win0_11.rect t).emb y 0) ((win0_11.rect t).emb y 1) ((win0_11.rect t).emb y 2)
  rw [he, hv, after_11]
  exact outV_apply m c t _ _ _ hy

/-- The extents of a point's block of result 3 in its array. -/
theorem extent_12 (t : Fin cfg0.N) : win0_12.xsize (grid0.coords t) 0 = 1
    ∧ win0_12.xsize (grid0.coords t) 1 = (if t.val % 9 < 8 then 512 else 128)
    ∧ win0_12.xsize (grid0.coords t) 2 = 1024 := by
  have h1 := coord1 t
  split
  · next h => exact ⟨xsize_rows_12 t (by omega) 0, xsize_rows_12 t (by omega) 1, xsize_rows_12 t (by omega) 2⟩
  · next h => exact ⟨xsize_meta_12 t (by omega) 0, xsize_meta_12 t (by omega) 1, xsize_meta_12 t (by omega) 2⟩

theorem cover_12 (j : S8x4224x1024.Idx) : ∃ t : Fin cfg0.N, (cfg0.win 12).flush t = true ∧ j ∈ ((cfg0.win 12).blk t).view.set := by
  have hN : cfg0.N = 72 := N_0
  have b0 : (j 0 : Nat) < 8 := (j 0).isLt
  have b1 : (j 1 : Nat) < 4224 := (j 1).isLt
  have b2 : (j 2 : Nat) < 1024 := (j 2).isLt
  refine ⟨⟨(j 0 : Nat) * 9 + (j 1 : Nat) / 512, by omega⟩, flush_12 _, ?_⟩
  generalize ht : (⟨(j 0 : Nat) * 9 + (j 1 : Nat) / 512, by omega⟩ : Fin cfg0.N) = t
  have hv : t.val = (j 0 : Nat) * 9 + (j 1 : Nat) / 512 := by rw [← ht]
  obtain ⟨h0, h1, h2⟩ := index_12 t
  obtain ⟨e0, er, el⟩ := extent_12 t
  show j ∈ ((View.whole main_v73_3).slice (win0_12.rect t)).set
  rw [View.set_slice_whole, Rect.mem_set_unit]
  intro a
  match a with
  | ⟨0, _⟩ =>
    show win0_12.index t 0 * 1 ≤ (j 0 : Nat) ∧ (j 0 : Nat) < win0_12.index t 0 * 1 + win0_12.xsize (grid0.coords t) 0
    omega
  | ⟨1, _⟩ =>
    show win0_12.index t 1 * 512 ≤ (j 1 : Nat) ∧ (j 1 : Nat) < win0_12.index t 1 * 512 + win0_12.xsize (grid0.coords t) 1
    split at er <;> omega
  | ⟨2, _⟩ =>
    show win0_12.index t 2 * 1024 ≤ (j 2 : Nat) ∧ (j 2 : Nat) < win0_12.index t 2 * 1024 + win0_12.xsize (grid0.coords t) 2
    omega

/-- the fourth what the convolution is multiplied by, -/
theorem final12 (c : Dev nD) (b : Fin 8) (i : Fin 4224) (l : Fin 1024) :
    ((dats m 0 c).arrAt 12 cfg0.N : FVec Ideal S8x4224x1024 .bf16) (ix3 b i l) = rowCb m c b i l := by
  refine (dats m 0 c).arrAt_forall_of_cover 12 (fun (j : S8x4224x1024.Idx) v => v = rowCb m c (j 0) (j 1) (j 2))
    (fun t _ y => ?_) (fun j => cover_12 j) (ix3 b i l)
  obtain ⟨h0, h1, h2⟩ := index_12 t
  obtain ⟨e0, er, el⟩ := extent_12 t
  have y0 : (y 0).val < 1 := (y 0).isLt.trans_eq e0
  have yr : (y 1).val < _ := (y 1).isLt.trans_eq er
  have yl : (y 2).val < 1024 := (y 2).isLt.trans_eq el
  have hy : t.val % 9 * 512 + (y 1).val < 4224 := by split at yr <;> omega
  have hr : (y 1).val < 512 := by split at yr <;> omega
  have hv : win0_12.xinj (grid0.coords t) y
      = (ix3 ⟨(y 0).val, y0⟩ ⟨(y 1).val, hr⟩ ⟨(y 2).val, yl⟩ : S1x512x1024.Idx) := by
    funext a
    match a with
    | ⟨0, _⟩ => rfl
    | ⟨1, _⟩ => rfl
    | ⟨2, _⟩ => rfl
  have he : (win0_12.rect t).emb y
      = (ix3 (seq t) (rowOf t (y 1).val hy) ⟨(y 2).val, yl⟩ : S8x4224x1024.Idx) := by
    funext a
    apply Fin.ext
    match a with
    | ⟨0, _⟩ => show win0_12.index t 0 * 1 + 1 * (y 0).val = t.val / 9; omega
    | ⟨1, _⟩ => show win0_12.index t 1 * 512 + 1 * (y 1).val = _; show _ = t.val % 9 * 512 + (y 1).val; omega
    | ⟨2, _⟩ => show win0_12.index t 2 * 1024 + 1 * (y 2).val = (y 2).val; omega
  show (dats m 0 c).after 12 t (win0_12.xinj (grid0.coords t) y)
    = rowCb m c ((win0_12.rect t).emb y 0) ((win0_12.rect t).emb y 1) ((win0_12.rect t).emb y 2)
  rw [he, hv, after_12]
  exact outCb_apply m c t _ _ _ hy

/-- The extents of a point's block of result 4 in its array. -/
theorem extent_13 (t : Fin cfg0.N) : win0_13.xsize (grid0.coords t) 0 = 1
    ∧ win0_13.xsize (grid0.coords t) 1 = (if t.val % 9 < 8 then 512 else 128)
    ∧ win0_13.xsize (grid0.coords t) 2 = 1024 := by
  have h1 := coord1 t
  split
  · next h => exact ⟨xsize_rows_13 t (by omega) 0, xsize_rows_13 t (by omega) 1, xsize_rows_13 t (by omega) 2⟩
  · next h => exact ⟨xsize_meta_13 t (by omega) 0, xsize_meta_13 t (by omega) 1, xsize_meta_13 t (by omega) 2⟩

theorem cover_13 (j : S8x4224x1024.Idx) : ∃ t : Fin cfg0.N, (cfg0.win 13).flush t = true ∧ j ∈ ((cfg0.win 13).blk t).view.set := by
  have hN : cfg0.N = 72 := N_0
  have b0 : (j 0 : Nat) < 8 := (j 0).isLt
  have b1 : (j 1 : Nat) < 4224 := (j 1).isLt
  have b2 : (j 2 : Nat) < 1024 := (j 2).isLt
  refine ⟨⟨(j 0 : Nat) * 9 + (j 1 : Nat) / 512, by omega⟩, flush_13 _, ?_⟩
  generalize ht : (⟨(j 0 : Nat) * 9 + (j 1 : Nat) / 512, by omega⟩ : Fin cfg0.N) = t
  have hv : t.val = (j 0 : Nat) * 9 + (j 1 : Nat) / 512 := by rw [← ht]
  obtain ⟨h0, h1, h2⟩ := index_13 t
  obtain ⟨e0, er, el⟩ := extent_13 t
  show j ∈ ((View.whole main_v73_4).slice (win0_13.rect t)).set
  rw [View.set_slice_whole, Rect.mem_set_unit]
  intro a
  match a with
  | ⟨0, _⟩ =>
    show win0_13.index t 0 * 1 ≤ (j 0 : Nat) ∧ (j 0 : Nat) < win0_13.index t 0 * 1 + win0_13.xsize (grid0.coords t) 0
    omega
  | ⟨1, _⟩ =>
    show win0_13.index t 1 * 512 ≤ (j 1 : Nat) ∧ (j 1 : Nat) < win0_13.index t 1 * 512 + win0_13.xsize (grid0.coords t) 1
    split at er <;> omega
  | ⟨2, _⟩ =>
    show win0_13.index t 2 * 1024 ≤ (j 2 : Nat) ∧ (j 2 : Nat) < win0_13.index t 2 * 1024 + win0_13.xsize (grid0.coords t) 2
    omega

/-- the fifth what it takes, -/
theorem final13 (c : Dev nD) (b : Fin 8) (i : Fin 4224) (l : Fin 1024) :
    ((dats m 0 c).arrAt 13 cfg0.N : FVec Ideal S8x4224x1024 .bf16) (ix3 b i l) = rowS m c b i l := by
  refine (dats m 0 c).arrAt_forall_of_cover 13 (fun (j : S8x4224x1024.Idx) v => v = rowS m c (j 0) (j 1) (j 2))
    (fun t _ y => ?_) (fun j => cover_13 j) (ix3 b i l)
  obtain ⟨h0, h1, h2⟩ := index_13 t
  obtain ⟨e0, er, el⟩ := extent_13 t
  have y0 : (y 0).val < 1 := (y 0).isLt.trans_eq e0
  have yr : (y 1).val < _ := (y 1).isLt.trans_eq er
  have yl : (y 2).val < 1024 := (y 2).isLt.trans_eq el
  have hy : t.val % 9 * 512 + (y 1).val < 4224 := by split at yr <;> omega
  have hr : (y 1).val < 512 := by split at yr <;> omega
  have hv : win0_13.xinj (grid0.coords t) y
      = (ix3 ⟨(y 0).val, y0⟩ ⟨(y 1).val, hr⟩ ⟨(y 2).val, yl⟩ : S1x512x1024.Idx) := by
    funext a
    match a with
    | ⟨0, _⟩ => rfl
    | ⟨1, _⟩ => rfl
    | ⟨2, _⟩ => rfl
  have he : (win0_13.rect t).emb y
      = (ix3 (seq t) (rowOf t (y 1).val hy) ⟨(y 2).val, yl⟩ : S8x4224x1024.Idx) := by
    funext a
    apply Fin.ext
    match a with
    | ⟨0, _⟩ => show win0_13.index t 0 * 1 + 1 * (y 0).val = t.val / 9; omega
    | ⟨1, _⟩ => show win0_13.index t 1 * 512 + 1 * (y 1).val = _; show _ = t.val % 9 * 512 + (y 1).val; omega
    | ⟨2, _⟩ => show win0_13.index t 2 * 1024 + 1 * (y 2).val = (y 2).val; omega
  show (dats m 0 c).after 13 t (win0_13.xinj (grid0.coords t) y)
    = rowS m c ((win0_13.rect t).emb y 0) ((win0_13.rect t).emb y 1) ((win0_13.rect t).emb y 2)
  rw [he, hv, after_13]
  exact outS_apply m c t _ _ _ hy

/-- The extents of a point's block of result 5 in its array. -/
theorem extent_14 (t : Fin cfg0.N) : win0_14.xsize (grid0.coords t) 0 = 1
    ∧ win0_14.xsize (grid0.coords t) 1 = (if t.val % 9 < 8 then 512 else 128)
    ∧ win0_14.xsize (grid0.coords t) 2 = 1024 := by
  have h1 := coord1 t
  split
  · next h => exact ⟨xsize_rows_14 t (by omega) 0, xsize_rows_14 t (by omega) 1, xsize_rows_14 t (by omega) 2⟩
  · next h => exact ⟨xsize_meta_14 t (by omega) 0, xsize_meta_14 t (by omega) 1, xsize_meta_14 t (by omega) 2⟩

theorem cover_14 (j : S8x4224x1024.Idx) : ∃ t : Fin cfg0.N, (cfg0.win 14).flush t = true ∧ j ∈ ((cfg0.win 14).blk t).view.set := by
  have hN : cfg0.N = 72 := N_0
  have b0 : (j 0 : Nat) < 8 := (j 0).isLt
  have b1 : (j 1 : Nat) < 4224 := (j 1).isLt
  have b2 : (j 2 : Nat) < 1024 := (j 2).isLt
  refine ⟨⟨(j 0 : Nat) * 9 + (j 1 : Nat) / 512, by omega⟩, flush_14 _, ?_⟩
  generalize ht : (⟨(j 0 : Nat) * 9 + (j 1 : Nat) / 512, by omega⟩ : Fin cfg0.N) = t
  have hv : t.val = (j 0 : Nat) * 9 + (j 1 : Nat) / 512 := by rw [← ht]
  obtain ⟨h0, h1, h2⟩ := index_14 t
  obtain ⟨e0, er, el⟩ := extent_14 t
  show j ∈ ((View.whole main_v73_5).slice (win0_14.rect t)).set
  rw [View.set_slice_whole, Rect.mem_set_unit]
  intro a
  match a with
  | ⟨0, _⟩ =>
    show win0_14.index t 0 * 1 ≤ (j 0 : Nat) ∧ (j 0 : Nat) < win0_14.index t 0 * 1 + win0_14.xsize (grid0.coords t) 0
    omega
  | ⟨1, _⟩ =>
    show win0_14.index t 1 * 512 ≤ (j 1 : Nat) ∧ (j 1 : Nat) < win0_14.index t 1 * 512 + win0_14.xsize (grid0.coords t) 1
    split at er <;> omega
  | ⟨2, _⟩ =>
    show win0_14.index t 2 * 1024 ≤ (j 2 : Nat) ∧ (j 2 : Nat) < win0_14.index t 2 * 1024 + win0_14.xsize (grid0.coords t) 2
    omega

/-- the sixth the gate of the attention -/
theorem final14 (c : Dev nD) (b : Fin 8) (i : Fin 4224) (l : Fin 1024) :
    ((dats m 0 c).arrAt 14 cfg0.N : FVec Ideal S8x4224x1024 .bf16) (ix3 b i l) = rowGa m c b i l := by
  refine (dats m 0 c).arrAt_forall_of_cover 14 (fun (j : S8x4224x1024.Idx) v => v = rowGa m c (j 0) (j 1) (j 2))
    (fun t _ y => ?_) (fun j => cover_14 j) (ix3 b i l)
  obtain ⟨h0, h1, h2⟩ := index_14 t
  obtain ⟨e0, er, el⟩ := extent_14 t
  have y0 : (y 0).val < 1 := (y 0).isLt.trans_eq e0
  have yr : (y 1).val < _ := (y 1).isLt.trans_eq er
  have yl : (y 2).val < 1024 := (y 2).isLt.trans_eq el
  have hy : t.val % 9 * 512 + (y 1).val < 4224 := by split at yr <;> omega
  have hr : (y 1).val < 512 := by split at yr <;> omega
  have hv : win0_14.xinj (grid0.coords t) y
      = (ix3 ⟨(y 0).val, y0⟩ ⟨(y 1).val, hr⟩ ⟨(y 2).val, yl⟩ : S1x512x1024.Idx) := by
    funext a
    match a with
    | ⟨0, _⟩ => rfl
    | ⟨1, _⟩ => rfl
    | ⟨2, _⟩ => rfl
  have he : (win0_14.rect t).emb y
      = (ix3 (seq t) (rowOf t (y 1).val hy) ⟨(y 2).val, yl⟩ : S8x4224x1024.Idx) := by
    funext a
    apply Fin.ext
    match a with
    | ⟨0, _⟩ => show win0_14.index t 0 * 1 + 1 * (y 0).val = t.val / 9; omega
    | ⟨1, _⟩ => show win0_14.index t 1 * 512 + 1 * (y 1).val = _; show _ = t.val % 9 * 512 + (y 1).val; omega
    | ⟨2, _⟩ => show win0_14.index t 2 * 1024 + 1 * (y 2).val = (y 2).val; omega
  show (dats m 0 c).after 14 t (win0_14.xinj (grid0.coords t) y)
    = rowGa m c ((win0_14.rect t).emb y 0) ((win0_14.rect t).emb y 1) ((win0_14.rect t).emb y 2)
  rw [he, hv, after_14]
  exact outGa_apply m c t _ _ _ hy

/-- The extents of a point's block of result 6 in its array. -/
theorem extent_15 (t : Fin cfg0.N) : win0_15.xsize (grid0.coords t) 0 = 1
    ∧ win0_15.xsize (grid0.coords t) 1 = (if t.val % 9 < 8 then 512 else 128)
    ∧ win0_15.xsize (grid0.coords t) 2 = 1024 := by
  have h1 := coord1 t
  split
  · next h => exact ⟨xsize_rows_15 t (by omega) 0, xsize_rows_15 t (by omega) 1, xsize_rows_15 t (by omega) 2⟩
  · next h => exact ⟨xsize_meta_15 t (by omega) 0, xsize_meta_15 t (by omega) 1, xsize_meta_15 t (by omega) 2⟩

theorem cover_15 (j : S8x4224x1024.Idx) : ∃ t : Fin cfg0.N, (cfg0.win 15).flush t = true ∧ j ∈ ((cfg0.win 15).blk t).view.set := by
  have hN : cfg0.N = 72 := N_0
  have b0 : (j 0 : Nat) < 8 := (j 0).isLt
  have b1 : (j 1 : Nat) < 4224 := (j 1).isLt
  have b2 : (j 2 : Nat) < 1024 := (j 2).isLt
  refine ⟨⟨(j 0 : Nat) * 9 + (j 1 : Nat) / 512, by omega⟩, flush_15 _, ?_⟩
  generalize ht : (⟨(j 0 : Nat) * 9 + (j 1 : Nat) / 512, by omega⟩ : Fin cfg0.N) = t
  have hv : t.val = (j 0 : Nat) * 9 + (j 1 : Nat) / 512 := by rw [← ht]
  obtain ⟨h0, h1, h2⟩ := index_15 t
  obtain ⟨e0, er, el⟩ := extent_15 t
  show j ∈ ((View.whole main_v73_6).slice (win0_15.rect t)).set
  rw [View.set_slice_whole, Rect.mem_set_unit]
  intro a
  match a with
  | ⟨0, _⟩ =>
    show win0_15.index t 0 * 1 ≤ (j 0 : Nat) ∧ (j 0 : Nat) < win0_15.index t 0 * 1 + win0_15.xsize (grid0.coords t) 0
    omega
  | ⟨1, _⟩ =>
    show win0_15.index t 1 * 512 ≤ (j 1 : Nat) ∧ (j 1 : Nat) < win0_15.index t 1 * 512 + win0_15.xsize (grid0.coords t) 1
    split at er <;> omega
  | ⟨2, _⟩ =>
    show win0_15.index t 2 * 1024 ≤ (j 2 : Nat) ∧ (j 2 : Nat) < win0_15.index t 2 * 1024 + win0_15.xsize (grid0.coords t) 2
    omega

/-- and the seventh that of the convolution. -/
theorem final15 (c : Dev nD) (b : Fin 8) (i : Fin 4224) (l : Fin 1024) :
    ((dats m 0 c).arrAt 15 cfg0.N : FVec Ideal S8x4224x1024 .bf16) (ix3 b i l) = rowGc m c b i l := by
  refine (dats m 0 c).arrAt_forall_of_cover 15 (fun (j : S8x4224x1024.Idx) v => v = rowGc m c (j 0) (j 1) (j 2))
    (fun t _ y => ?_) (fun j => cover_15 j) (ix3 b i l)
  obtain ⟨h0, h1, h2⟩ := index_15 t
  obtain ⟨e0, er, el⟩ := extent_15 t
  have y0 : (y 0).val < 1 := (y 0).isLt.trans_eq e0
  have yr : (y 1).val < _ := (y 1).isLt.trans_eq er
  have yl : (y 2).val < 1024 := (y 2).isLt.trans_eq el
  have hy : t.val % 9 * 512 + (y 1).val < 4224 := by split at yr <;> omega
  have hr : (y 1).val < 512 := by split at yr <;> omega
  have hv : win0_15.xinj (grid0.coords t) y
      = (ix3 ⟨(y 0).val, y0⟩ ⟨(y 1).val, hr⟩ ⟨(y 2).val, yl⟩ : S1x512x1024.Idx) := by
    funext a
    match a with
    | ⟨0, _⟩ => rfl
    | ⟨1, _⟩ => rfl
    | ⟨2, _⟩ => rfl
  have he : (win0_15.rect t).emb y
      = (ix3 (seq t) (rowOf t (y 1).val hy) ⟨(y 2).val, yl⟩ : S8x4224x1024.Idx) := by
    funext a
    apply Fin.ext
    match a with
    | ⟨0, _⟩ => show win0_15.index t 0 * 1 + 1 * (y 0).val = t.val / 9; omega
    | ⟨1, _⟩ => show win0_15.index t 1 * 512 + 1 * (y 1).val = _; show _ = t.val % 9 * 512 + (y 1).val; omega
    | ⟨2, _⟩ => show win0_15.index t 2 * 1024 + 1 * (y 2).val = (y 2).val; omega
  show (dats m 0 c).after 15 t (win0_15.xinj (grid0.coords t) y)
    = rowGc m c ((win0_15.rect t).emb y 0) ((win0_15.rect t).emb y 1) ((win0_15.rect t).emb y 2)
  rw [he, hv, after_15]
  exact outGc_apply m c t _ _ _ hy

end Cert.Proof.ProjValue

end
-- ==== Proof.MixValue.lean ====
/-
  The mix call: what its three result arrays hold after the run, on the rows of the tokens.
-/
module

public import proofs.«01_k».proof.Proof.MixRows

@[expose] public section

set_option maxRecDepth 16384

noncomputable section

open Idealize.ShloMosaic Idealize.ShloMosaic.TcCoe Idealize.SL.Sem
open Idealize.ShloMosaic.Pipeline (Dat)

namespace Cert.Proof.MixValue

open Cert.Kernel4Ideal Cert.Kernel4Ideal.Gen Cert.Proof.MixBody Cert.Proof.MixRun Cert.Proof.MixSpec Cert.Proof.MixBlock
open Cert.Proof.MixRows

variable (m : (ℓ : Loc nD τ sig) → Buf (Elt Ideal) ℓ) (ρ : Dev nD → PrngReg)

/-! ## The rows around a row of a block -/

theorem row_congr (x : FVec Ideal S8x4224x1024 .bf16) (b : Fin 8) (k : Fin 1024) {i i' : Fin 4224} (h : i.val = i'.val) :
    x (ix3 b i k) = x (ix3 b i' k) := by rw [Fin.ext h]

theorem before_eq {n : ℕ} (c : Dev nD) (t : Fin cfg0.N) (s : Fin n → Fin 1024 → EReal) (r : Fin n)
    (hn : t.val % 9 * 512 + n ≤ 4224)
    (hs : ∀ (r : Fin n) k, s r k = (m ((c : Thread nD τ).loc main_arg4) : FVec Ideal S8x4224x1024 .bf16)
      (ix3 (seq t) (rowOf t r (by have := r.isLt; omega)) k)) :
    rowBefore s (fun k => (iblk m c 5 t : FVec Ideal S1x16x1024 .bf16) (ix3 0 15 k)) r
      = fun k => (m ((c : Thread nD τ).loc main_arg4) : FVec Ideal S8x4224x1024 .bf16)
          (ix3 (seq t) (rowPrev (rowOf t r (by have := r.isLt; omega))) k) := by
  have hr := r.isLt
  funext k
  unfold rowBefore
  split
  · next h =>
    refine (iblk5_apply m c t k).trans ?_
    refine row_congr _ _ _ ?_
    show (t.val % 9 * 512 + 0 + 4223) % 4224 = (t.val % 9 * 512 + r.val + 4223) % 4224
    omega
  · next h =>
    rw [hs]
    refine row_congr _ _ _ ?_
    show t.val % 9 * 512 + (r.val - 1) = (t.val % 9 * 512 + r.val + 4223) % 4224
    omega

theorem after_eq {n : ℕ} (c : Dev nD) (t : Fin cfg0.N) (s : Fin n → Fin 1024 → EReal) (r : Fin n)
    (hn : n = if t.val % 9 = 8 then 128 else 512)
    (hs : ∀ (r : Fin n) k (h : t.val % 9 * 512 + r.val < 4224), s r k
      = (m ((c : Thread nD τ).loc main_arg4) : FVec Ideal S8x4224x1024 .bf16) (ix3 (seq t) (rowOf t r h) k))
    (h : t.val % 9 * 512 + r.val < 4224) :
    rowAfter s (fun k => (iblk m c 6 t : FVec Ideal S1x16x1024 .bf16) (ix3 0 0 k)) r
      = fun k => (m ((c : Thread nD τ).loc main_arg4) : FVec Ideal S8x4224x1024 .bf16)
          (ix3 (seq t) (rowNext (rowOf t r h)) k) := by
  have hr := r.isLt
  have hn' : n = 128 ∧ t.val % 9 = 8 ∨ n = 512 ∧ t.val % 9 < 8 := by split at hn <;> omega
  funext k
  unfold rowAfter
  split
  · next h' =>
    rw [hs _ _ (by show t.val % 9 * 512 + (r.val + 1) < 4224; omega)]
    refine row_congr _ _ _ ?_
    show t.val % 9 * 512 + (r.val + 1) = (t.val % 9 * 512 + r.val + 1) % 4224
    omega
  · next h' =>
    refine (iblk6_apply m c t k).trans ?_
    refine row_congr _ _ _ ?_
    show (t.val % 9 * 512 + (if t.val % 9 = 8 then 127 else 511) + 1) % 4224 = (t.val % 9 * 512 + r.val + 1) % 4224
    split <;> omega

/-! ## The rows a point computes -/

/-- On a block of token rows, -/
theorem stream_rows_eq (c : Dev nD) (t : Fin cfg0.N) (ht : t.val % 9 < 8) (r : Fin 512) :
    stream_rows (iblk m c 0 t) (full2 m c t) (full3 m c t) (full4 m c t) (iblk m c 5 t) (iblk m c 6 t) (full7 m c t)
      (full8 m c t) (iblk m c 9 t) (iblk m c 11 t) (iblk m c 12 t) (iblk m c 13 t) r
      = rowStream m c (seq t) (rowOf t r (by omega)) := by
  have h : ∀ r : Fin 512, t.val % 9 * 512 + r.val < 4224 := fun r => by omega
  unfold stream_rows rowStream
  rw [before_eq m c t _ r (by omega) fun r k => full4_apply m c t r k (h r),
    after_eq m c t _ r (by rw [if_neg (by omega)]) (fun r k h => full4_apply m c t r k h) (h r)]
  simp only [iblk0_apply m c t ht, full2_apply m c t r _ (h r), full3_apply m c t r _ (h r), full4_apply m c t r _ (h r),
    full7_apply m c t r _ (h r), full8_apply m c t r _ (h r), iblk9_apply, iblk11_apply, iblk12_apply, iblk13_apply]

/-- The head of a block holds its first 128 rows. -/
theorem head_apply (v : Vec Ideal S1x512x1024 .bf16) (r : Fin 128) (k : Fin 1024) :
    (View.ld v rHead : Vec Ideal S1x128x1024 .bf16) (ix3 0 r k) = v (ix3 0 ⟨r.val, by omega⟩ k) := by
  show v (rHead.emb (ix3 0 r k)) = _
  congr 1
  funext a
  apply Fin.ext
  match a with
  | ⟨0, _⟩ => rfl
  | ⟨1, _⟩ => show 0 + 1 * r.val = r.val; omega
  | ⟨2, _⟩ => show 0 + 1 * k.val = k.val; omega

/-- and on the last block. -/
theorem stream_meta_eq (c : Dev nD) (t : Fin cfg0.N) (ht : ¬ t.val % 9 < 8) (r : Fin 128) :
    stream_meta (iblk m c 1 t) (View.ld (full2 m c t) rHead) (View.ld (full3 m c t) rHead) (View.ld (full4 m c t) rHead)
      (iblk m c 5 t) (iblk m c 6 t) (View.ld (full7 m c t) rHead) (View.ld (full8 m c t) rHead) (iblk m c 9 t)
      (iblk m c 11 t) (iblk m c 12 t) (iblk m c 13 t) r
      = rowStream m c (seq t) (rowOf t r (by omega)) := by
  have h : ∀ r : Fin 128, t.val % 9 * 512 + r.val < 4224 := fun r => by omega
  have e2 : ∀ (r : Fin 128) k, (View.ld (full2 m c t) rHead : Vec Ideal S1x128x1024 .bf16) (ix3 0 r k) = _ := fun r k =>
    (head_apply (full2 m c t) r k).trans (full2_apply m c t ⟨r.val, by omega⟩ k (h r))
  have e3 : ∀ (r : Fin 128) k, (View.ld (full3 m c t) rHead : Vec Ideal S1x128x1024 .bf16) (ix3 0 r k) = _ := fun r k =>
    (head_apply (full3 m c t) r k).trans (full3_apply m c t ⟨r.val, by omega⟩ k (h r))
  have e4 : ∀ (r : Fin 128) k, (View.ld (full4 m c t) rHead : Vec Ideal S1x128x1024 .bf16) (ix3 0 r k) = _ := fun r k =>
    (head_apply (full4 m c t) r k).trans (full4_apply m c t ⟨r.val, by omega⟩ k (h r))
  have e7 : ∀ (r : Fin 128) k, (View.ld (full7 m c t) rHead : Vec Ideal S1x128x1024 .bf16) (ix3 0 r k) = _ := fun r k =>
    (head_apply (full7 m c t) r k).trans (full7_apply m c t ⟨r.val, by omega⟩ k (h r))
  have e8 : ∀ (r : Fin 128) k, (View.ld (full8 m c t) rHead : Vec Ideal S1x128x1024 .bf16) (ix3 0 r k) = _ := fun r k =>
    (head_apply (full8 m c t) r k).trans (full8_apply m c t ⟨r.val, by omega⟩ k (h r))
  unfold stream_meta rowStream
  rw [before_eq m c t _ r (by omega) e4,
    after_eq m c t _ r (by rw [if_pos (by omega)]) (fun r k _ => e4 r k) (h r)]
  simp only [e2, e3, e4, e7, e8, iblk1_apply m c t ht, iblk9_apply, iblk11_apply, iblk12_apply, iblk13_apply]

/-! ## What a point leaves -/

theorem emb_block (z : Fin 1) (r : Fin 512) (l : Fin 1024) : rBlock.emb (ix3 z r l) = (ix3 z r l : S1x512x1024.Idx) := by
  funext a
  apply Fin.ext
  match a with
  | ⟨0, _⟩ => show 0 + 1 * z.val = z.val; omega
  | ⟨1, _⟩ => show 0 + 1 * r.val = r.val; omega
  | ⟨2, _⟩ => show 0 + 1 * l.val = l.val; omega
theorem emb_head (z : Fin 1) (r : Fin 128) (l : Fin 1024) :
    rHead.emb (ix3 z r l) = (ix3 z ⟨r.val, by omega⟩ l : S1x512x1024.Idx) := by
  funext a
  apply Fin.ext
  match a with
  | ⟨0, _⟩ => show 0 + 1 * z.val = z.val; omega
  | ⟨1, _⟩ => show 0 + 1 * r.val = r.val; omega
  | ⟨2, _⟩ => show 0 + 1 * l.val = l.val; omega
theorem emb_aff (z : Fin 1) (e : Fin 16) (r : Fin 512) : rAff.emb (ix3 z e r) = (ix3 z e r : S1x16x512.Idx) := by
  funext a
  apply Fin.ext
  match a with
  | ⟨0, _⟩ => show 0 + 1 * z.val = z.val; omega
  | ⟨1, _⟩ => show 0 + 1 * e.val = e.val; omega
  | ⟨2, _⟩ => show 0 + 1 * r.val = r.val; omega
theorem emb_affHead (z : Fin 1) (e : Fin 16) (r : Fin 128) :
    rAffHead.emb (ix3 z e r) = (ix3 z e ⟨r.val, by omega⟩ : S1x16x512.Idx) := by
  funext a
  apply Fin.ext
  match a with
  | ⟨0, _⟩ => show 0 + 1 * z.val = z.val; omega
  | ⟨1, _⟩ => show 0 + 1 * e.val = e.val; omega
  | ⟨2, _⟩ => show 0 + 1 * r.val = r.val; omega

/-- The rows of the stream, -/
theorem outX1_apply (c : Dev nD) (t : Fin cfg0.N) (z : Fin 1) (r : Fin 512) (l : Fin 1024) (h : t.val % 9 * 512 + r.val < 4224) :
    outX1 m c t (ix3 z r l) = rowStream m c (seq t) (rowOf t r h) l := by
  have h1 := coord1 t
  unfold outX1
  split
  · next h8 =>
    refine (congrArg _ (emb_block z r l).symm).trans ((Rect.overlay_emb ..).trans ?_)
    rw [x1_rows, stream_rows_eq m c t (by omega)]
  · next h8 =>
    refine (congrArg _ (emb_head z ⟨r.val, by omega⟩ l).symm).trans ((Rect.overlay_emb ..).trans ?_)
    rw [x1_meta, stream_meta_eq m c t (by omega)]

/-- of the norm -/
theorem outH_apply (c : Dev nD) (t : Fin cfg0.N) (z : Fin 1) (r : Fin 512) (l : Fin 1024) (h : t.val % 9 * 512 + r.val < 4224) :
    outH m c t (ix3 z r l) = rowNorm m c (seq t) (rowOf t r h) l := by
  have h1 := coord1 t
  unfold outH rowNorm
  split
  · next h8 =>
    refine (congrArg _ (emb_block z r l).symm).trans ((Rect.overlay_emb ..).trans ?_)
    rw [h_rows, stream_rows_eq m c t (by omega)]
    simp only [iblk10_apply]
  · next h8 =>
    refine (congrArg _ (emb_head z ⟨r.val, by omega⟩ l).symm).trans ((Rect.overlay_emb ..).trans ?_)
    rw [h_meta, stream_meta_eq m c t (by omega)]
    simp only [iblk10_apply]

/-- and, where the row is a token's, of the affinities. -/
theorem outAff_apply (c : Dev nD) (t : Fin cfg0.N) (z : Fin 1) (e : Fin 16) (r : Fin 512) (h : t.val % 9 * 512 + r.val < 4224)
    (hp : ¬ (4096 ≤ t.val % 9 * 512 + r.val ∧ t.val % 9 * 512 + r.val < 4208)) :
    outAff m c t (ix3 z e r) = rowAff m c (seq t) (rowOf t r h) e := by
  have h1 := coord1 t
  unfold outAff rowAff rowNorm
  split
  · next h8 =>
    refine (congrArg _ (emb_aff z e r).symm).trans ((Rect.overlay_emb ..).trans ?_)
    rw [aff_rows, stream_rows_eq m c t (by omega)]
    simp only [iblk10_apply, iblk14_apply]
  · next h8 =>
    refine (congrArg _ (emb_affHead z e ⟨r.val, by omega⟩).symm).trans ((Rect.overlay_emb ..).trans ?_)
    rw [aff_meta _ _ _ _ _ _ _ _ _ _ _ _ _ _ _ _ _ (by show 112 ≤ r.val; omega), stream_meta_eq m c t (by omega)]
    simp only [iblk10_apply, iblk14_apply]

/-! ## The result arrays -/

theorem flush_15 : ∀ t : Fin cfg0.N, win0_15.flush t = true := (by decide +kernel : ∀ t : Fin grid0.N, _)
theorem flush_16 : ∀ t : Fin cfg0.N, win0_16.flush t = true := (by decide +kernel : ∀ t : Fin grid0.N, _)
theorem flush_17 : ∀ t : Fin cfg0.N, win0_17.flush t = true := (by decide +kernel : ∀ t : Fin grid0.N, _)

/-- The extents of a point's block of result 0 in its array. -/
theorem extent_15 (t : Fin cfg0.N) : win0_15.xsize (grid0.coords t) 0 = 1
    ∧ win0_15.xsize (grid0.coords t) 1 = (if t.val % 9 < 8 then 512 else 128)
    ∧ win0_15.xsize (grid0.coords t) 2 = 1024 := by
  have h1 := coord1 t
  split
  · next h => exact ⟨xsize_rows_15 t (by omega) 0, xsize_rows_15 t (by omega) 1, xsize_rows_15 t (by omega) 2⟩
  · next h => exact ⟨xsize_meta_15 t (by omega) 0, xsize_meta_15 t (by omega) 1, xsize_meta_15 t (by omega) 2⟩

theorem cover_15 (j : S8x4224x1024.Idx) : ∃ t : Fin cfg0.N, (cfg0.win 15).flush t = true ∧ j ∈ ((cfg0.win 15).blk t).view.set := by
  have hN : cfg0.N = 72 := N_0
  have b0 : (j 0 : Nat) < 8 := (j 0).isLt
  have b1 : (j 1 : Nat) < 4224 := (j 1).isLt
  have b2 : (j 2 : Nat) < 1024 := (j 2).isLt
  refine ⟨⟨(j 0 : Nat) * 9 + (j 1 : Nat) / 512, by omega⟩, flush_15 _, ?_⟩
  generalize ht : (⟨(j 0 : Nat) * 9 + (j 1 : Nat) / 512, by omega⟩ : Fin cfg0.N) = t
  have hv : t.val = (j 0 : Nat) * 9 + (j 1 : Nat) / 512 := by rw [← ht]
  obtain ⟨h0, h1, h2⟩ := index_15 t
  obtain ⟨e0, er, el⟩ := extent_15 t
  show j ∈ ((View.whole main_v19_0).slice (win0_15.rect t)).set
  rw [View.set_slice_whole, Rect.mem_set_unit]
  intro a
  match a with
  | ⟨0, _⟩ =>
    show win0_15.index t 0 * 1 ≤ (j 0 : Nat) ∧ (j 0 : Nat) < win0_15.index t 0 * 1 + win0_15.xsize (grid0.coords t) 0
    omega
  | ⟨1, _⟩ =>
    show win0_15.index t 1 * 512 ≤ (j 1 : Nat) ∧ (j 1 : Nat) < win0_15.index t 1 * 512 + win0_15.xsize (grid0.coords t) 1
    split at er <;> omega
  | ⟨2, _⟩ =>
    show win0_15.index t 2 * 1024 ≤ (j 2 : Nat) ∧ (j 2 : Nat) < win0_15.index t 2 * 1024 + win0_15.xsize (grid0.coords t) 2
    omega

/-- The first result array holds the residual stream of every row, -/
theorem final15 (c : Dev nD) (b : Fin 8) (i : Fin 4224) (l : Fin 1024) :
    ((dats m 0 c).arrAt 15 cfg0.N : FVec Ideal S8x4224x1024 .f32) (ix3 b i l) = rowStream m c b i l := by
  refine (dats m 0 c).arrAt_forall_of_cover 15 (fun (j : S8x4224x1024.Idx) v => v = rowStream m c (j 0) (j 1) (j 2))
    (fun t _ y => ?_) (fun j => cover_15 j) (ix3 b i l)
  obtain ⟨h0, h1, h2⟩ := index_15 t
  obtain ⟨e0, er, el⟩ := extent_15 t
  have y0 : (y 0).val < 1 := (y 0).isLt.trans_eq e0
  have yr : (y 1).val < _ := (y 1).isLt.trans_eq er
  have yl : (y 2).val < 1024 := (y 2).isLt.trans_eq el
  have hy : t.val % 9 * 512 + (y 1).val < 4224 := by split at yr <;> omega
  have hr : (y 1).val < 512 := by split at yr <;> omega
  have hv : win0_15.xinj (grid0.coords t) y
      = (ix3 ⟨(y 0).val, y0⟩ ⟨(y 1).val, hr⟩ ⟨(y 2).val, yl⟩ : S1x512x1024.Idx) := by
    funext a
    match a with
    | ⟨0, _⟩ => rfl
    | ⟨1, _⟩ => rfl
    | ⟨2, _⟩ => rfl
  have he : (win0_15.rect t).emb y
      = (ix3 (seq t) (rowOf t (y 1).val hy) ⟨(y 2).val, yl⟩ : S8x4224x1024.Idx) := by
    funext a
    apply Fin.ext
    match a with
    | ⟨0, _⟩ => show win0_15.index t 0 * 1 + 1 * (y 0).val = t.val / 9; omega
    | ⟨1, _⟩ => show win0_15.index t 1 * 512 + 1 * (y 1).val = _; show _ = t.val % 9 * 512 + (y 1).val; omega
    | ⟨2, _⟩ => show win0_15.index t 2 * 1024 + 1 * (y 2).val = _; show _ = (y 2).val; omega
  show (dats m 0 c).after 15 t (win0_15.xinj (grid0.coords t) y)
    = rowStream m c ((win0_15.rect t).emb y 0) ((win0_15.rect t).emb y 1) ((win0_15.rect t).emb y 2)
  rw [he, hv, after_15]
  exact outX1_apply m c t _ _ _ hy

/-- The extents of a point's block of result 1 in its array. -/
theorem extent_16 (t : Fin cfg0.N) : win0_16.xsize (grid0.coords t) 0 = 1
    ∧ win0_16.xsize (grid0.coords t) 1 = (if t.val % 9 < 8 then 512 else 128)
    ∧ win0_16.xsize (grid0.coords t) 2 = 1024 := by
  have h1 := coord1 t
  split
  · next h => exact ⟨xsize_rows_16 t (by omega) 0, xsize_rows_16 t (by omega) 1, xsize_rows_16 t (by omega) 2⟩
  · next h => exact ⟨xsize_meta_16 t (by omega) 0, xsize_meta_16 t (by omega) 1, xsize_meta_16 t (by omega) 2⟩

theorem cover_16 (j : S8x4224x1024.Idx) : ∃ t : Fin cfg0.N, (cfg0.win 16).flush t = true ∧ j ∈ ((cfg0.win 16).blk t).view.set := by
  have hN : cfg0.N = 72 := N_0
  have b0 : (j 0 : Nat) < 8 := (j 0).isLt
  have b1 : (j 1 : Nat) < 4224 := (j 1).isLt
  have b2 : (j 2 : Nat) < 1024 := (j 2).isLt
  refine ⟨⟨(j 0 : Nat) * 9 + (j 1 : Nat) / 512, by omega⟩, flush_16 _, ?_⟩
  generalize ht : (⟨(j 0 : Nat) * 9 + (j 1 : Nat) / 512, by omega⟩ : Fin cfg0.N) = t
  have hv : t.val = (j 0 : Nat) * 9 + (j 1 : Nat) / 512 := by rw [← ht]
  obtain ⟨h0, h1, h2⟩ := index_16 t
  obtain ⟨e0, er, el⟩ := extent_16 t
  show j ∈ ((View.whole main_v19_1).slice (win0_16.rect t)).set
  rw [View.set_slice_whole, Rect.mem_set_unit]
  intro a
  match a with
  | ⟨0, _⟩ =>
    show win0_16.index t 0 * 1 ≤ (j 0 : Nat) ∧ (j 0 : Nat) < win0_16.index t 0 * 1 + win0_16.xsize (grid0.coords t) 0
    omega
  | ⟨1, _⟩ =>
    show win0_16.index t 1 * 512 ≤ (j 1 : Nat) ∧ (j 1 : Nat) < win0_16.index t 1 * 512 + win0_16.xsize (grid0.coords t) 1
    split at er <;> omega
  | ⟨2, _⟩ =>
    show win0_16.index t 2 * 1024 ≤ (j 2 : Nat) ∧ (j 2 : Nat) < win0_16.index t 2 * 1024 + win0_16.xsize (grid0.coords t) 2
    omega

/-- the second the norm of it, -/
theorem final16 (c : Dev nD) (b : Fin 8) (i : Fin 4224) (l : Fin 1024) :
    ((dats m 0 c).arrAt 16 cfg0.N : FVec Ideal S8x4224x1024 .bf16) (ix3 b i l) = rowNorm m c b i l := by
  refine (dats m 0 c).arrAt_forall_of_cover 16 (fun (j : S8x4224x1024.Idx) v => v = rowNorm m c (j 0) (j 1) (j 2))
    (fun t _ y => ?_) (fun j => cover_16 j) (ix3 b i l)
  obtain ⟨h0, h1, h2⟩ := index_16 t
  obtain ⟨e0, er, el⟩ := extent_16 t
  have y0 : (y 0).val < 1 := (y 0).isLt.trans_eq e0
  have yr : (y 1).val < _ := (y 1).isLt.trans_eq er
  have yl : (y 2).val < 1024 := (y 2).isLt.trans_eq el
  have hy : t.val % 9 * 512 + (y 1).val < 4224 := by split at yr <;> omega
  have hr : (y 1).val < 512 := by split at yr <;> omega
  have hv : win0_16.xinj (grid0.coords t) y
      = (ix3 ⟨(y 0).val, y0⟩ ⟨(y 1).val, hr⟩ ⟨(y 2).val, yl⟩ : S1x512x1024.Idx) := by
    funext a
    match a with
    | ⟨0, _⟩ => rfl
    | ⟨1, _⟩ => rfl
    | ⟨2, _⟩ => rfl
  have he : (win0_16.rect t).emb y
      = (ix3 (seq t) (rowOf t (y 1).val hy) ⟨(y 2).val, yl⟩ : S8x4224x1024.Idx) := by
    funext a
    apply Fin.ext
    match a with
    | ⟨0, _⟩ => show win0_16.index t 0 * 1 + 1 * (y 0).val = t.val / 9; omega
    | ⟨1, _⟩ => show win0_16.index t 1 * 512 + 1 * (y 1).val = _; show _ = t.val % 9 * 512 + (y 1).val; omega
    | ⟨2, _⟩ => show win0_16.index t 2 * 1024 + 1 * (y 2).val = _; show _ = (y 2).val; omega
  show (dats m 0 c).after 16 t (win0_16.xinj (grid0.coords t) y)
    = rowNorm m c ((win0_16.rect t).emb y 0) ((win0_16.rect t).emb y 1) ((win0_16.rect t).emb y 2)
  rw [he, hv, after_16]
  exact outH_apply m c t _ _ _ hy

/-- The extents of a point's block of result 2 in its array. -/
theorem extent_17 (t : Fin cfg0.N) : win0_17.xsize (grid0.coords t) 0 = 1
    ∧ win0_17.xsize (grid0.coords t) 2 = (if t.val % 9 < 8 then 512 else 128)
    ∧ win0_17.xsize (grid0.coords t) 1 = 16 := by
  have h1 := coord1 t
  split
  · next h => exact ⟨xsize_rows_17 t (by omega) 0, xsize_rows_17 t (by omega) 2, xsize_rows_17 t (by omega) 1⟩
  · next h => exact ⟨xsize_meta_17 t (by omega) 0, xsize_meta_17 t (by omega) 2, xsize_meta_17 t (by omega) 1⟩

theorem cover_17 (j : S8x16x4224.Idx) : ∃ t : Fin cfg0.N, (cfg0.win 17).flush t = true ∧ j ∈ ((cfg0.win 17).blk t).view.set := by
  have hN : cfg0.N = 72 := N_0
  have b0 : (j 0 : Nat) < 8 := (j 0).isLt
  have b1 : (j 1 : Nat) < 16 := (j 1).isLt
  have b2 : (j 2 : Nat) < 4224 := (j 2).isLt
  refine ⟨⟨(j 0 : Nat) * 9 + (j 2 : Nat) / 512, by omega⟩, flush_17 _, ?_⟩
  generalize ht : (⟨(j 0 : Nat) * 9 + (j 2 : Nat) / 512, by omega⟩ : Fin cfg0.N) = t
  have hv : t.val = (j 0 : Nat) * 9 + (j 2 : Nat) / 512 := by rw [← ht]
  obtain ⟨h0, h1, h2⟩ := index_17 t
  obtain ⟨e0, er, el⟩ := extent_17 t
  show j ∈ ((View.whole main_v19_2).slice (win0_17.rect t)).set
  rw [View.set_slice_whole, Rect.mem_set_unit]
  intro a
  match a with
  | ⟨0, _⟩ =>
    show win0_17.index t 0 * 1 ≤ (j 0 : Nat) ∧ (j 0 : Nat) < win0_17.index t 0 * 1 + win0_17.xsize (grid0.coords t) 0
    omega
  | ⟨1, _⟩ =>
    show win0_17.index t 1 * 16 ≤ (j 1 : Nat) ∧ (j 1 : Nat) < win0_17.index t 1 * 16 + win0_17.xsize (grid0.coords t) 1
    omega
  | ⟨2, _⟩ =>
    show win0_17.index t 2 * 512 ≤ (j 2 : Nat) ∧ (j 2 : Nat) < win0_17.index t 2 * 512 + win0_17.xsize (grid0.coords t) 2
    split at er <;> omega

/-- and the third, in the columns of the tokens, the affinities of the norm. -/
theorem final17 (c : Dev nD) (b : Fin 8) (e : Fin 16) (i : Fin 4224) (hp : ¬ (4096 ≤ i.val ∧ i.val < 4208)) :
    ((dats m 0 c).arrAt 17 cfg0.N : FVec Ideal S8x16x4224 .f32) (ix3 b e i) = rowAff m c b i e := by
  refine (dats m 0 c).arrAt_forall_of_cover 17 (fun (j : S8x16x4224.Idx) v => ¬ (4096 ≤ (j 2).val ∧ (j 2).val < 4208) → v = rowAff m c (j 0) (j 2) (j 1))
    (fun t _ y => ?_) (fun j => cover_17 j) (ix3 b e i) hp
  obtain ⟨h0, h1, h2⟩ := index_17 t
  obtain ⟨e0, er, el⟩ := extent_17 t
  have y0 : (y 0).val < 1 := (y 0).isLt.trans_eq e0
  have yr : (y 2).val < _ := (y 2).isLt.trans_eq er
  have yl : (y 1).val < 16 := (y 1).isLt.trans_eq el
  have hy : t.val % 9 * 512 + (y 2).val < 4224 := by split at yr <;> omega
  have hr : (y 2).val < 512 := by split at yr <;> omega
  have hv : win0_17.xinj (grid0.coords t) y
      = (ix3 ⟨(y 0).val, y0⟩ ⟨(y 1).val, yl⟩ ⟨(y 2).val, hr⟩ : S1x16x512.Idx) := by
    funext a
    match a with
    | ⟨0, _⟩ => rfl
    | ⟨1, _⟩ => rfl
    | ⟨2, _⟩ => rfl
  have he : (win0_17.rect t).emb y
      = (ix3 (seq t) ⟨(y 1).val, yl⟩ (rowOf t (y 2).val hy) : S8x16x4224.Idx) := by
    funext a
    apply Fin.ext
    match a with
    | ⟨0, _⟩ => show win0_17.index t 0 * 1 + 1 * (y 0).val = t.val / 9; omega
    | ⟨1, _⟩ => show win0_17.index t 1 * 16 + 1 * (y 1).val = _; show _ = (y 1).val; omega
    | ⟨2, _⟩ => show win0_17.index t 2 * 512 + 1 * (y 2).val = _; show _ = t.val % 9 * 512 + (y 2).val; omega
  show ¬ (4096 ≤ ((win0_17.rect t).emb y 2).val ∧ ((win0_17.rect t).emb y 2).val < 4208) →
    (dats m 0 c).after 17 t (win0_17.xinj (grid0.coords t) y)
      = rowAff m c ((win0_17.rect t).emb y 0) ((win0_17.rect t).emb y 2) ((win0_17.rect t).emb y 1)
  rw [he, hv, after_17]
  exact fun hp => outAff_apply m c t _ _ _ hy hp

end Cert.Proof.MixValue

end
-- ==== Proof.MixClaims.lean ====
/-
  The claims about the mix call.
-/
module

public import proofs.«01_k».proof.Defs
public import proofs.«01_k».proof.Proof.MixEquation
public import proofs.«01_k».proof.Proof.MixValue
public import proofs.«01_k».proof.Proof.MixRunBits
public import proofs.«01_k».proof.Proof.AttentionEquation
public import proofs.«01_k».proof.Proof.Gen.Kernel4
public import proofs.«01_k».proof.Proof.Gen.Pre_padded
public import proofs.«01_k».proof.Proof.Gen.On_tokens4

@[expose] public section

set_option maxRecDepth 16384

noncomputable section

open Idealize.ShloMosaic Idealize.ShloMosaic.TcCoe Idealize.SL.Sem

namespace Cert.Proof.MixClaims

open Cert.Proof.AttentionEquation (position place_position)
open Cert.Proof.MixReference (place)

/-! ## The runs -/

/-- The kernel runs and leaves its arguments and its semaphores as they were; -/
theorem frame_kernel : Cert.quiescent_Kernel4 := fun m ρ _ => MixRunBits.frame m ρ

/-- so does the kernel on extended reals, -/
theorem frame_kernelIdeal : Cert.quiescent_Kernel4Ideal := fun m ρ _ => MixRun.frame m ρ

/-- with zeros in the rows that hold no token, too, -/
theorem frame_kernelIdeal_padded : Cert.quiescent_Kernel4Ideal_pre_padded := fun m ρ _ => MixRun.frame m ρ

/-- and the reference -/
theorem frame_referenceIdeal : Cert.quiescent_Reference4Ideal := fun m ρ _ =>
  (θ_run Cert.Reference4Ideal.defs _ _).mono (fun r h => ⟨fun c => (h c).2.2.2,
      Idealize.ShloMosaic.sem_eq_zero_of_no_sems (by decide) r.2⟩)
    (Cert.Reference4Ideal.Value.run (F := Ideal) m ρ)

/-- with and without them. -/
theorem frame_referenceIdeal_padded : Cert.quiescent_Reference4Ideal_pre_padded := fun m ρ _ => frame_referenceIdeal m ρ trivial

/-- No constant of the kernel is named. -/
theorem preserves : Cert.preserves_Kernel4_Kernel4Ideal := trivial

/-! ## The rows that hold a token, and those that hold none -/

/-- A mask of rows is set in the rows that hold a token. -/
theorem token_row (row : Fin 4224) :
    IntOp.ori (IntOp.cmpi .slt (BitVec.ofNat 32 row.val) (BitVec.ofNat 32 4096))
      (IntOp.cmpi .sge (BitVec.ofNat 32 row.val) (BitVec.ofNat 32 4208)) = 1#1 ↔ row.val < 4096 ∨ 4208 ≤ row.val := by
  have hrow := row.isLt
  have h1 : IntOp.cmpi .slt (BitVec.ofNat 32 row.val) (BitVec.ofNat 32 4096) = BitVec.ofBool (decide (row.val < 4096)) :=
    WordCmp.cmpi_slt_ofNat (by omega) (by omega)
  have h2 : IntOp.cmpi .sge (BitVec.ofNat 32 row.val) (BitVec.ofNat 32 4208) = BitVec.ofBool (decide (4208 ≤ row.val)) :=
    WordCmp.cmpi_sge_ofNat (by omega) (by omega)
  rw [h1, h2, WordCmp.ori_ofBool, ← Bool.decide_or]
  exact WordCmp.ofBool_decide_eq_one_iff _

variable (m : (ℓ : Loc Cert.Kernel4Ideal.nD Cert.Kernel4Ideal.τ Cert.Kernel4Ideal.sig) → Buf (Elt Ideal) ℓ)

/-- What the precondition states: the convolution's argument is zero in the rows that hold no token. -/
theorem padded_of (h : Cert.Pre_Kernel4Ideal_padded m) (c : Dev Cert.Kernel4Ideal.nD) : MixEquation.Padded m c := by
  intro b i k h1 h2
  have h3 : IntOp.ori (IntOp.ori (IntOp.cmpi .slt (BitVec.ofNat 32 i.val) (BitVec.ofNat 32 4096))
      (IntOp.cmpi .sge (BitVec.ofNat 32 i.val) (BitVec.ofNat 32 4208)))
      (Ideal.cmp .oeq (MixEquation.aConv m c (ix3 b i k)) (Ideal.ofBits .f32 0x00000000#32)) = 1#1 := congrFun (h c) (ix3 b i k)
  have h4 : IntOp.ori (IntOp.cmpi .slt (BitVec.ofNat 32 i.val) (BitVec.ofNat 32 4096))
      (IntOp.cmpi .sge (BitVec.ofNat 32 i.val) (BitVec.ofNat 32 4208)) = 0#1 := by
    have := (not_congr (token_row i)).mpr (by omega)
    revert this
    generalize IntOp.ori (IntOp.cmpi .slt (BitVec.ofNat 32 i.val) (BitVec.ofNat 32 4096))
      (IntOp.cmpi .sge (BitVec.ofNat 32 i.val) (BitVec.ofNat 32 4208)) = w
    revert w
    decide
  rw [h4] at h3
  have h5 : Ideal.cmp .oeq (MixEquation.aConv m c (ix3 b i k)) (Ideal.ofBits .f32 0x00000000#32) = 1#1 := by
    revert h3
    generalize Ideal.cmp .oeq (MixEquation.aConv m c (ix3 b i k)) (Ideal.ofBits .f32 0x00000000#32) = w
    revert w
    decide
  have h6 : MixEquation.aConv m c (ix3 b i k) = Ideal.ofBits .f32 0x00000000#32 := (WordCmp.ofBool_decide_eq_one_iff _).mp h5
  rw [h6]
  simp [Ideal.ofBits, Ideal.ieee]

/-! ## The equation of the runs -/

/-- The residual stream, as contents of the first result, -/
abbrev result0 (c : Dev Cert.Kernel4Ideal.nD) :
    Buf (Elt Ideal) ((c.tc : Thread Cert.Kernel4Ideal.nD Cert.Kernel4Ideal.τ).loc Cert.Kernel4Ideal.main_v19_0) :=
  fun i => MixRows.rowStream m c (i 0) (i 1) (i 2)
/-- its norm, as contents of the second, -/
abbrev result1 (c : Dev Cert.Kernel4Ideal.nD) :
    Buf (Elt Ideal) ((c.tc : Thread Cert.Kernel4Ideal.nD Cert.Kernel4Ideal.τ).loc Cert.Kernel4Ideal.main_v19_1) :=
  fun i => MixRows.rowNorm m c (i 0) (i 1) (i 2)
/-- and the affinities, as contents of the third. -/
abbrev result2 (c : Dev Cert.Kernel4Ideal.nD) :
    Buf (Elt Ideal) ((c.tc : Thread Cert.Kernel4Ideal.nD Cert.Kernel4Ideal.τ).loc Cert.Kernel4Ideal.main_v19_2) :=
  fun i => MixRows.rowAff m c (i 0) (i 2) (i 1)

/-- An index of three coordinates is made of them. -/
theorem ext3 {n₀ n₁ n₂ : Nat} (i : (⟨3, ![n₀, n₁, n₂]⟩ : Shape).Idx) :
    ∃ (a : Fin n₀) (b : Fin n₁) (c : Fin n₂), i = ix3 a b c := by
  refine ⟨i 0, i 1, i 2, funext fun a => ?_⟩
  match a with
  | ⟨0, _⟩ => rfl
  | ⟨1, _⟩ => rfl
  | ⟨2, _⟩ => rfl

/-- On extended reals, from a convolution's argument that is zero in the rows that hold no token, the kernel's three result
    arrays end equal to the reference's in the rows that hold a token. -/
theorem algebraic : Cert.algebraic_Kernel4Ideal_Reference4Ideal_on_tokens4_pre_padded := by
  intro m ρ m' ρ' hpre hagree
  refine ⟨result0 m, result1 m, result2 m, ?_, ?_⟩
  · refine (θ_run Cert.Kernel4Ideal.defs _ _).mono (fun r h c => ⟨fun i _ => ?_, fun i _ => ?_, fun i hi => ?_, h.1.1 c⟩)
      (θ_run_and (MixRun.frame m ρ) (MixRun.run_main m ρ))
    · obtain ⟨b, row, l, rfl⟩ := ext3 i
      exact (congrFun ((h.2 c).1 15) (ix3 b row l)).trans (MixValue.final15 m c b row l)
    · obtain ⟨b, row, l, rfl⟩ := ext3 i
      exact (congrFun ((h.2 c).1 16) (ix3 b row l)).trans (MixValue.final16 m c b row l)
    · obtain ⟨b, e, row, rfl⟩ := ext3 i
      have ht := (token_row row).mp hi
      exact (congrFun ((h.2 c).1 17) (ix3 b e row)).trans (MixValue.final17 m c b e row (by omega))
  · refine (θ_run Cert.Reference4Ideal.defs _ _).mono
      (fun _ h c => ⟨fun i hi => ?_, fun i hi => ?_, fun i hi => ?_, (h c).2.2.2⟩)
      (Cert.Reference4Ideal.Value.run (F := Ideal) m' ρ')
    all_goals obtain ⟨h0, h1, h2, h3, h4, h5, h6, h7, h8, h9, h10, h11, h12⟩ := hagree c
    all_goals replace h0 : StableHlo.launchContents m' c (Proc.devRef .tc Cert.Reference4Ideal.main_arg0) = _ := h0
    all_goals replace h1 : StableHlo.launchContents m' c (Proc.devRef .tc Cert.Reference4Ideal.main_arg1) = _ := h1
    all_goals replace h2 : StableHlo.launchContents m' c (Proc.devRef .tc Cert.Reference4Ideal.main_arg2) = _ := h2
    all_goals replace h3 : StableHlo.launchContents m' c (Proc.devRef .tc Cert.Reference4Ideal.main_arg3) = _ := h3
    all_goals replace h4 : StableHlo.launchContents m' c (Proc.devRef .tc Cert.Reference4Ideal.main_arg4) = _ := h4
    all_goals replace h5 : StableHlo.launchContents m' c (Proc.devRef .tc Cert.Reference4Ideal.main_arg5) = _ := h5
    all_goals replace h6 : StableHlo.launchContents m' c (Proc.devRef .tc Cert.Reference4Ideal.main_arg6) = _ := h6
    all_goals replace h7 : StableHlo.launchContents m' c (Proc.devRef .tc Cert.Reference4Ideal.main_arg7) = _ := h7
    all_goals replace h8 : StableHlo.launchContents m' c (Proc.devRef .tc Cert.Reference4Ideal.main_arg8) = _ := h8
    all_goals replace h9 : StableHlo.launchContents m' c (Proc.devRef .tc Cert.Reference4Ideal.main_arg9) = _ := h9
    all_goals replace h10 : StableHlo.launchContents m' c (Proc.devRef .tc Cert.Reference4Ideal.main_arg10) = _ := h10
    all_goals replace h11 : StableHlo.launchContents m' c (Proc.devRef .tc Cert.Reference4Ideal.main_arg11) = _ := h11
    all_goals replace h12 : StableHlo.launchContents m' c (Proc.devRef .tc Cert.Reference4Ideal.main_arg12) = _ := h12
    · refine (congrFun (h c).1 i).trans ?_
      rw [Cert.Reference4Ideal.Read.val_main_v89_eq, h0, h1, h2, h3, h4, h5, h6, h7, h8, h9, h10]
      obtain ⟨b, row, l, rfl⟩ := ext3 i
      have ht := place_position row ((token_row row).mp hi)
      change place (position row) = row at ht
      rw [← ht]
      exact (MixReference.v89_apply _ _ _ _ _ _ _ _ _ _ _ b (position row) l).trans
        (congrFun (MixEquation.stream_eq m c (padded_of m hpre c) b (position row)) l).symm
    · refine (congrFun (h c).2.1 i).trans ?_
      rw [Cert.Reference4Ideal.Read.val_main_v94_eq, h0, h1, h2, h3, h4, h5, h6, h7, h8, h9, h10, h11]
      obtain ⟨b, row, l, rfl⟩ := ext3 i
      have ht := place_position row ((token_row row).mp hi)
      change place (position row) = row at ht
      rw [← ht]
      exact (MixReference.v94_apply _ _ _ _ _ _ _ _ _ _ _ _ b (position row) l).trans
        (congrFun (MixEquation.norm_eq m c (padded_of m hpre c) b (position row)) l).symm
    · refine (congrFun (h c).2.2.1 i).trans ?_
      rw [Cert.Reference4Ideal.Read.val_main_v99_eq, h0, h1, h2, h3, h4, h5, h6, h7, h8, h9, h10, h11, h12]
      obtain ⟨b, e, row, rfl⟩ := ext3 i
      have ht := place_position row ((token_row row).mp hi)
      change place (position row) = row at ht
      rw [← ht]
      exact (MixReference.v99_apply _ _ _ _ _ _ _ _ _ _ _ _ _ b (position row) e).trans
        (congrFun (MixEquation.affinity_eq m c (padded_of m hpre c) b (position row)) e).symm

end Cert.Proof.MixClaims

end
-- ==== Proof.ProjClaims.lean ====
/-
  The claims about the projection call.
-/
module

public import proofs.«01_k».proof.Defs
public import proofs.«01_k».proof.Proof.ProjEquation
public import proofs.«01_k».proof.Proof.ProjTokens
public import proofs.«01_k».proof.Proof.ProjValue
public import proofs.«01_k».proof.Proof.ProjRunBits
public import proofs.«01_k».proof.Proof.MixClaims
public import proofs.«01_k».proof.Proof.Gen.Kernel3
public import proofs.«01_k».proof.Proof.Gen.On_tokens3

@[expose] public section

set_option maxRecDepth 16384

noncomputable section

open Idealize.ShloMosaic Idealize.ShloMosaic.TcCoe Idealize.SL.Sem

namespace Cert.Proof.ProjClaims

open Cert.Proof.AttentionEquation (position place_position)
open Cert.Proof.MixReference (place)
open Cert.Proof.MixClaims (token_row ext3)

/-! ## The runs -/

/-- The kernel runs and leaves its arguments and its semaphores as they were; -/
theorem frame_kernel : Cert.quiescent_Kernel3 := fun m ρ _ => ProjRunBits.frame m ρ

/-- so does the kernel on extended reals -/
theorem frame_kernelIdeal : Cert.quiescent_Kernel3Ideal := fun m ρ _ => ProjRun.frame m ρ

/-- and the reference. -/
theorem frame_referenceIdeal : Cert.quiescent_Reference3Ideal := fun m ρ _ =>
  (θ_run Cert.Reference3Ideal.defs _ _).mono (fun r h => ⟨fun c => (h c).2.2.2.2.2.2.2,
      Idealize.ShloMosaic.sem_eq_zero_of_no_sems (by decide) r.2⟩)
    (Cert.Reference3Ideal.Value.run (F := Ideal) m ρ)

/-- The one named constant of the kernel, the scale of the queries, stands for one over the logarithm of 256. -/
theorem preserves : Cert.preserves_Kernel3_Kernel3Ideal :=
  IdealRules.named_const.statement Cert.Kernel3Ideal.κ "q_scale" .f32 0x3E38AA3B#32 (((Real.log 256)⁻¹ : ℝ) : EReal) rfl

variable (m : (ℓ : Loc Cert.Kernel3Ideal.nD Cert.Kernel3Ideal.τ Cert.Kernel3Ideal.sig) → Buf (Elt Ideal) ℓ)

/-! ## The equation of the runs -/

/-- The queries, as contents of result 0. -/
abbrev result0 (c : Dev Cert.Kernel3Ideal.nD) :
    Buf (Elt Ideal) ((c.tc : Thread Cert.Kernel3Ideal.nD Cert.Kernel3Ideal.τ).loc Cert.Kernel3Ideal.main_v73_0) :=
  fun i => ProjRows.rowQ m c (i 0) (i 1) (i 2)

/-- The keys, as contents of result 1. -/
abbrev result1 (c : Dev Cert.Kernel3Ideal.nD) :
    Buf (Elt Ideal) ((c.tc : Thread Cert.Kernel3Ideal.nD Cert.Kernel3Ideal.τ).loc Cert.Kernel3Ideal.main_v73_1) :=
  fun i => ProjRows.rowK m c (i 0) (i 1) (i 2)

/-- The values, as contents of result 2. -/
abbrev result2 (c : Dev Cert.Kernel3Ideal.nD) :
    Buf (Elt Ideal) ((c.tc : Thread Cert.Kernel3Ideal.nD Cert.Kernel3Ideal.τ).loc Cert.Kernel3Ideal.main_v73_2) :=
  fun i => ProjRows.rowV m c (i 0) (i 1) (i 2)

/-- The convolution's factor, as contents of result 3. -/
abbrev result3 (c : Dev Cert.Kernel3Ideal.nD) :
    Buf (Elt Ideal) ((c.tc : Thread Cert.Kernel3Ideal.nD Cert.Kernel3Ideal.τ).loc Cert.Kernel3Ideal.main_v73_3) :=
  fun i => ProjRows.rowCb m c (i 0) (i 1) (i 2)

/-- The convolution's argument, as contents of result 4. -/
abbrev result4 (c : Dev Cert.Kernel3Ideal.nD) :
    Buf (Elt Ideal) ((c.tc : Thread Cert.Kernel3Ideal.nD Cert.Kernel3Ideal.τ).loc Cert.Kernel3Ideal.main_v73_4) :=
  fun i => ProjRows.rowS m c (i 0) (i 1) (i 2)

/-- The attention's gate, as contents of result 5. -/
abbrev result5 (c : Dev Cert.Kernel3Ideal.nD) :
    Buf (Elt Ideal) ((c.tc : Thread Cert.Kernel3Ideal.nD Cert.Kernel3Ideal.τ).loc Cert.Kernel3Ideal.main_v73_5) :=
  fun i => ProjRows.rowGa m c (i 0) (i 1) (i 2)

/-- The convolution's gate, as contents of result 6. -/
abbrev result6 (c : Dev Cert.Kernel3Ideal.nD) :
    Buf (Elt Ideal) ((c.tc : Thread Cert.Kernel3Ideal.nD Cert.Kernel3Ideal.τ).loc Cert.Kernel3Ideal.main_v73_6) :=
  fun i => ProjRows.rowGc m c (i 0) (i 1) (i 2)

set_option maxHeartbeats 2000000 in
/-- On extended reals the kernel's seven result arrays end equal to the reference's in the rows that hold a token. -/
theorem algebraic : Cert.algebraic_Kernel3Ideal_Reference3Ideal_on_tokens3 := by
  intro m ρ m' ρ' _ hagree
  refine ⟨result0 m, result1 m, result2 m, result3 m, result4 m, result5 m, result6 m, ?_, ?_⟩
  · refine (θ_run Cert.Kernel3Ideal.defs _ _).mono (fun r h c => ⟨fun i _ => ?_, fun i _ => ?_, fun i _ => ?_, fun i _ => ?_,
        fun i _ => ?_, fun i _ => ?_, fun i _ => ?_, h.1.1 c⟩)
      (θ_run_and (ProjRun.frame m ρ) (ProjRun.run_main m ρ))
    all_goals obtain ⟨b, row, l, rfl⟩ := ext3 i
    · exact (congrFun ((h.2 c).1 9) (ix3 b row l)).trans (ProjValue.final9 m c b row l)
    · exact (congrFun ((h.2 c).1 10) (ix3 b row l)).trans (ProjValue.final10 m c b row l)
    · exact (congrFun ((h.2 c).1 11) (ix3 b row l)).trans (ProjValue.final11 m c b row l)
    · exact (congrFun ((h.2 c).1 12) (ix3 b row l)).trans (ProjValue.final12 m c b row l)
    · exact (congrFun ((h.2 c).1 13) (ix3 b row l)).trans (ProjValue.final13 m c b row l)
    · exact (congrFun ((h.2 c).1 14) (ix3 b row l)).trans (ProjValue.final14 m c b row l)
    · exact (congrFun ((h.2 c).1 15) (ix3 b row l)).trans (ProjValue.final15 m c b row l)
  · refine (θ_run Cert.Reference3Ideal.defs _ _).mono
      (fun _ h c => ⟨fun i hi => ?_, fun i hi => ?_, fun i hi => ?_, fun i hi => ?_, fun i hi => ?_, fun i hi => ?_, fun i hi => ?_,
        (h c).2.2.2.2.2.2.2⟩)
      (Cert.Reference3Ideal.Value.run (F := Ideal) m' ρ')
    all_goals obtain ⟨h0, h1, h2, h3, h4, h5⟩ := hagree c
    all_goals replace h0 : StableHlo.launchContents m' c (Proc.devRef .tc Cert.Reference3Ideal.main_arg0) = _ := h0
    all_goals replace h1 : StableHlo.launchContents m' c (Proc.devRef .tc Cert.Reference3Ideal.main_arg1) = _ := h1
    all_goals replace h2 : StableHlo.launchContents m' c (Proc.devRef .tc Cert.Reference3Ideal.main_arg2) = _ := h2
    all_goals replace h3 : StableHlo.launchContents m' c (Proc.devRef .tc Cert.Reference3Ideal.main_arg3) = _ := h3
    all_goals replace h4 : StableHlo.launchContents m' c (Proc.devRef .tc Cert.Reference3Ideal.main_arg4) = _ := h4
    all_goals replace h5 : StableHlo.launchContents m' c (Proc.devRef .tc Cert.Reference3Ideal.main_arg5) = _ := h5
    · refine (congrFun (h c).1 i).trans ?_
      rw [Cert.Reference3Ideal.Read.val_main_v137_eq, h0, h1, h2, h3, h4]
      obtain ⟨b, row, l, rfl⟩ := ext3 i
      have ht := place_position row ((token_row row).mp hi)
      change place (position row) = row at ht
      rw [← ht]
      exact (ProjReference.v137_apply _ _ _ _ _ b (position row) l).trans (ProjEquation.q_eq m c b (position row) l).symm
    · refine (congrFun (h c).2.1 i).trans ?_
      rw [Cert.Reference3Ideal.Read.val_main_v142_eq, h0, h1, h2, h3, h5]
      obtain ⟨b, row, l, rfl⟩ := ext3 i
      have ht := place_position row ((token_row row).mp hi)
      change place (position row) = row at ht
      rw [← ht]
      exact (ProjReference.v142_apply _ _ _ _ _ b (position row) l).trans (ProjEquation.k_eq m c b (position row) l).symm
    · refine (congrFun (h c).2.2.1 i).trans ?_
      rw [Cert.Reference3Ideal.Read.val_main_v147_eq, h0, h1, h2, h3]
      obtain ⟨b, row, l, rfl⟩ := ext3 i
      have ht := place_position row ((token_row row).mp hi)
      change place (position row) = row at ht
      rw [← ht]
      exact (ProjReference.v147_apply _ _ _ _ b (position row) l).trans (ProjEquation.v_eq m c b (position row) l).symm
    · refine (congrFun (h c).2.2.2.1 i).trans ?_
      rw [Cert.Reference3Ideal.Read.val_main_v152_eq, h0, h1, h2, h3]
      obtain ⟨b, row, l, rfl⟩ := ext3 i
      have ht := place_position row ((token_row row).mp hi)
      change place (position row) = row at ht
      rw [← ht]
      exact (ProjReference.v152_apply _ _ _ _ b (position row) l).trans (ProjEquation.cb_eq m c b (position row) l).symm
    · refine (congrFun (h c).2.2.2.2.1 i).trans ?_
      rw [Cert.Reference3Ideal.Read.val_main_v157_eq, h0, h1, h2, h3]
      obtain ⟨b, row, l, rfl⟩ := ext3 i
      have ht := place_position row ((token_row row).mp hi)
      change place (position row) = row at ht
      rw [← ht]
      exact (ProjReference.v157_apply _ _ _ _ b (position row) l).trans (ProjEquation.s_eq m c b (position row) l).symm
    · refine (congrFun (h c).2.2.2.2.2.1 i).trans ?_
      rw [Cert.Reference3Ideal.Read.val_main_v162_eq, h0, h1, h2, h3]
      obtain ⟨b, row, l, rfl⟩ := ext3 i
      have ht := place_position row ((token_row row).mp hi)
      change place (position row) = row at ht
      rw [← ht]
      exact (ProjReference.v162_apply _ _ _ _ b (position row) l).trans (ProjEquation.ga_eq m c b (position row) l).symm
    · refine (congrFun (h c).2.2.2.2.2.2.1 i).trans ?_
      rw [Cert.Reference3Ideal.Read.val_main_v167_eq, h0, h1, h2, h3]
      obtain ⟨b, row, l, rfl⟩ := ext3 i
      have ht := place_position row ((token_row row).mp hi)
      change place (position row) = row at ht
      rw [← ht]
      exact (ProjReference.v167_apply _ _ _ _ b (position row) l).trans (ProjEquation.gc_eq m c b (position row) l).symm

end Cert.Proof.ProjClaims

end
-- ==== Proof.lean ====
/-
  The certificate: every claim, put together from the modules on the attention call, the expert call, the projection
  call and the mix call.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Pre_finite
public import proofs.«01_k».proof.Proof.Gen.Pre_padded
public import proofs.«01_k».proof.Proof.Gen.On_tokens
public import proofs.«01_k».proof.Proof.Gen.On_tokens3
public import proofs.«01_k».proof.Proof.Gen.On_tokens4
public import proofs.«01_k».proof.Proof.AttentionFrames
public import proofs.«01_k».proof.Proof.AttentionClaims
public import proofs.«01_k».proof.Proof.ExpertClaims
public import proofs.«01_k».proof.Proof.ProjClaims
public import proofs.«01_k».proof.Proof.MixClaims

@[expose] public section

noncomputable section

namespace Cert.Proof

/-- The facts that the programs state, then the claims in the order of `Cert.Claim`. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts,
    Cert.Reference4Ideal.Gen.facts, Cert.Pre_finite.Gen.facts, Cert.Pre_padded.Gen.facts, Cert.On_tokens.Gen.facts,
    Cert.On_tokens3.Gen.facts, Cert.On_tokens4.Gen.facts,
    AttentionFrames.frame_kernel, AttentionFrames.frame_kernelIdeal, AttentionClaims.frame_kernelIdeal_finite,
    AttentionFrames.frame_referenceIdeal, AttentionClaims.frame_referenceIdeal_finite,
    ExpertClaims.frame_kernel, ExpertClaims.frame_kernelIdeal, ExpertClaims.frame_referenceIdeal,
    ProjClaims.frame_kernel, ProjClaims.frame_kernelIdeal, ProjClaims.frame_referenceIdeal,
    MixClaims.frame_kernel, MixClaims.frame_kernelIdeal, MixClaims.frame_kernelIdeal_padded,
    MixClaims.frame_referenceIdeal, MixClaims.frame_referenceIdeal_padded,
    AttentionFrames.preserves, AttentionClaims.algebraic, ExpertClaims.preserves, ExpertClaims.algebraic,
    ProjClaims.preserves, ProjClaims.algebraic, MixClaims.preserves, MixClaims.algebraic⟩

end Cert.Proof

end
